-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_loss_finite [hPre_loss_finite : Cert.Pre_loss_finite.Facts] (m : (ℓ : Loc Cert.KernelIdeal.nD Cert.KernelIdeal.τ Cert.KernelIdeal.sig) → Buf (Elt Ideal) ℓ) : Prop :=
  ∀ c : Dev Cert.KernelIdeal.nD,
    (Cert.Pre_loss_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_loss_finite [hPre_loss_finite : Cert.Pre_loss_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_loss_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_attn_finite [hPre_attn_finite : Cert.Pre_attn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_attn_finite [hPre_attn_finite : Cert.Pre_attn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_ffn_finite [hPre_ffn_finite : Cert.Pre_ffn_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_ffn_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_ffn_finite [hPre_ffn_finite : Cert.Pre_ffn_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_ffn_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_mix_finite [hPre_mix_finite : Cert.Pre_mix_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_mix_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_mix_finite [hPre_mix_finite : Cert.Pre_mix_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_mix_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_conv_finite [hPre_conv_finite : Cert.Pre_conv_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_conv_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_conv_finite [hPre_conv_finite : Cert.Pre_conv_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_conv_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_loss_finite [hKernelIdeal : Cert.KernelIdeal.Facts] [hPre_loss_finite : Cert.Pre_loss_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_loss_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_loss_finite [hReferenceIdeal : Cert.ReferenceIdeal.Facts] [hPre_loss_finite : Cert.Pre_loss_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_loss_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_attn_finite [hKernel2Ideal : Cert.Kernel2Ideal.Facts] [hPre_attn_finite : Cert.Pre_attn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_attn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_attn_finite [hReference2Ideal : Cert.Reference2Ideal.Facts] [hPre_attn_finite : Cert.Pre_attn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_attn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_ffn_finite [hKernel3Ideal : Cert.Kernel3Ideal.Facts] [hPre_ffn_finite : Cert.Pre_ffn_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_ffn_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_ffn_finite [hReference3Ideal : Cert.Reference3Ideal.Facts] [hPre_ffn_finite : Cert.Pre_ffn_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_ffn_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_mix_finite [hKernel5Ideal : Cert.Kernel5Ideal.Facts] [hPre_mix_finite : Cert.Pre_mix_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_mix_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_mix_finite [hReference5Ideal : Cert.Reference5Ideal.Facts] [hPre_mix_finite : Cert.Pre_mix_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_mix_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_conv_finite [hKernel6Ideal : Cert.Kernel6Ideal.Facts] [hPre_conv_finite : Cert.Pre_conv_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_conv_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_conv_finite [hReference6Ideal : Cert.Reference6Ideal.Facts] [hPre_conv_finite : Cert.Pre_conv_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_conv_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_loss_finite [hKernelIdeal : Cert.KernelIdeal.Facts] [hReferenceIdeal : Cert.ReferenceIdeal.Facts] [hPre_loss_finite : Cert.Pre_loss_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_loss_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_attn_finite [hKernel2Ideal : Cert.Kernel2Ideal.Facts] [hReference2Ideal : Cert.Reference2Ideal.Facts] [hPre_attn_finite : Cert.Pre_attn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_attn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v97_0)) (v1 : (c : Dev Cert.Kernel2Ideal.nD) → Buf (Elt Ideal) ((c.tc : Thread Cert.Kernel2Ideal.nD Cert.Kernel2Ideal.τ).loc Cert.Kernel2Ideal.main_v106)) (v2 : (c : Dev Cert.Kernel2Ideal.nD) → Buf (Elt Ideal) ((c.tc : Thread Cert.Kernel2Ideal.nD Cert.Kernel2Ideal.τ).loc Cert.Kernel2Ideal.main_v115)) (v3 : (c : Dev Cert.Kernel2Ideal.nD) → Buf (Elt Ideal) ((c.tc : Thread Cert.Kernel2Ideal.nD Cert.Kernel2Ideal.τ).loc Cert.Kernel2Ideal.main_v117)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v97_0) = v0 c
          ∧ r.2.mem ((c.tc : Thread Cert.Kernel2Ideal.nD Cert.Kernel2Ideal.τ).loc Cert.Kernel2Ideal.main_v106) = v1 c
          ∧ r.2.mem ((c.tc : Thread Cert.Kernel2Ideal.nD Cert.Kernel2Ideal.τ).loc Cert.Kernel2Ideal.main_v115) = v2 c
          ∧ r.2.mem ((c.tc : Thread Cert.Kernel2Ideal.nD Cert.Kernel2Ideal.τ).loc Cert.Kernel2Ideal.main_v117) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v179) = v0 c
          ∧ r.2.mem ((c.tc : Thread Cert.Reference2Ideal.nD Cert.Reference2Ideal.τ).loc Cert.Reference2Ideal.main_v177) = v1 c
          ∧ r.2.mem ((c.tc : Thread Cert.Reference2Ideal.nD Cert.Reference2Ideal.τ).loc Cert.Reference2Ideal.main_v170) = v2 c
          ∧ r.2.mem ((c.tc : Thread Cert.Reference2Ideal.nD Cert.Reference2Ideal.τ).loc Cert.Reference2Ideal.main_v155) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_ffn_finite [hKernel3Ideal : Cert.Kernel3Ideal.Facts] [hReference3Ideal : Cert.Reference3Ideal.Facts] [hPre_ffn_finite : Cert.Pre_ffn_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_ffn_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)) (v2 : (c : Dev Cert.Kernel3Ideal.nD) → Buf (Elt Ideal) ((c.tc : Thread Cert.Kernel3Ideal.nD Cert.Kernel3Ideal.τ).loc Cert.Kernel3Ideal.main_v21_2)) (v3 : (c : Dev Cert.Kernel3Ideal.nD) → Buf (Elt Ideal) ((c.tc : Thread Cert.Kernel3Ideal.nD Cert.Kernel3Ideal.τ).loc Cert.Kernel3Ideal.main_v21_3)) (v4 : (c : Dev Cert.Kernel3Ideal.nD) → Buf (Elt Ideal) ((c.tc : Thread Cert.Kernel3Ideal.nD Cert.Kernel3Ideal.τ).loc Cert.Kernel3Ideal.main_v21_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_v21_2) = v2 c
          ∧ r.2.mem ((c.tc : Thread Cert.Kernel3Ideal.nD Cert.Kernel3Ideal.τ).loc Cert.Kernel3Ideal.main_v21_3) = v3 c
          ∧ r.2.mem ((c.tc : Thread Cert.Kernel3Ideal.nD Cert.Kernel3Ideal.τ).loc Cert.Kernel3Ideal.main_v21_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_v83) = v1 c
          ∧ r.2.mem ((c.tc : Thread Cert.Reference3Ideal.nD Cert.Reference3Ideal.τ).loc Cert.Reference3Ideal.main_v84) = v2 c
          ∧ r.2.mem ((c.tc : Thread Cert.Reference3Ideal.nD Cert.Reference3Ideal.τ).loc Cert.Reference3Ideal.main_v85) = v3 c
          ∧ r.2.mem ((c.tc : Thread Cert.Reference3Ideal.nD Cert.Reference3Ideal.τ).loc Cert.Reference3Ideal.main_v88) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v34_0)) (v1 : (c : Dev Cert.Kernel4Ideal.nD) → Buf (Elt Ideal) ((c.tc : Thread Cert.Kernel4Ideal.nD Cert.Kernel4Ideal.τ).loc Cert.Kernel4Ideal.main_v34_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v34_0) = v0 c
          ∧ r.2.mem ((c.tc : Thread Cert.Kernel4Ideal.nD Cert.Kernel4Ideal.τ).loc Cert.Kernel4Ideal.main_v34_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_mix_finite [hKernel5Ideal : Cert.Kernel5Ideal.Facts] [hReference5Ideal : Cert.Reference5Ideal.Facts] [hPre_mix_finite : Cert.Pre_mix_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_mix_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v34_0)) (v1 : (c : Dev Cert.Kernel5Ideal.nD) → Buf (Elt Ideal) ((c.tc : Thread Cert.Kernel5Ideal.nD Cert.Kernel5Ideal.τ).loc Cert.Kernel5Ideal.main_v54)) (v2 : (c : Dev Cert.Kernel5Ideal.nD) → Buf (Elt Ideal) ((c.tc : Thread Cert.Kernel5Ideal.nD Cert.Kernel5Ideal.τ).loc Cert.Kernel5Ideal.main_v55)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v34_0) = v0 c
          ∧ r.2.mem ((c.tc : Thread Cert.Kernel5Ideal.nD Cert.Kernel5Ideal.τ).loc Cert.Kernel5Ideal.main_v54) = v1 c
          ∧ r.2.mem ((c.tc : Thread Cert.Kernel5Ideal.nD Cert.Kernel5Ideal.τ).loc Cert.Kernel5Ideal.main_v55) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_conv_finite [hKernel6Ideal : Cert.Kernel6Ideal.Facts] [hReference6Ideal : Cert.Reference6Ideal.Facts] [hPre_conv_finite : Cert.Pre_conv_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_conv_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v252)) (v1 : (c : Dev Cert.Kernel6Ideal.nD) → Buf (Elt Ideal) ((c.tc : Thread Cert.Kernel6Ideal.nD Cert.Kernel6Ideal.τ).loc Cert.Kernel6Ideal.main_v254)) (v2 : (c : Dev Cert.Kernel6Ideal.nD) → Buf (Elt Ideal) ((c.tc : Thread Cert.Kernel6Ideal.nD Cert.Kernel6Ideal.τ).loc Cert.Kernel6Ideal.main_v256)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v252) = v0 c
          ∧ r.2.mem ((c.tc : Thread Cert.Kernel6Ideal.nD Cert.Kernel6Ideal.τ).loc Cert.Kernel6Ideal.main_v254) = v1 c
          ∧ r.2.mem ((c.tc : Thread Cert.Kernel6Ideal.nD Cert.Kernel6Ideal.τ).loc Cert.Kernel6Ideal.main_v256) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v298) = v0 c
          ∧ r.2.mem ((c.tc : Thread Cert.Reference6Ideal.nD Cert.Reference6Ideal.τ).loc Cert.Reference6Ideal.main_v271) = v1 c
          ∧ r.2.mem ((c.tc : Thread Cert.Reference6Ideal.nD Cert.Reference6Ideal.τ).loc Cert.Reference6Ideal.main_v265) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_loss_finite : Cert.Pre_loss_finite.Facts) (hPre_attn_finite : Cert.Pre_attn_finite.Facts) (hPre_ffn_finite : Cert.Pre_ffn_finite.Facts) (hPre_mix_finite : Cert.Pre_mix_finite.Facts) (hPre_conv_finite : Cert.Pre_conv_finite.Facts),
    quiescent_Kernel (hKernel := hKernel)
    ∧ quiescent_KernelIdeal (hKernelIdeal := hKernelIdeal)
    ∧ quiescent_KernelIdeal_pre_loss_finite (hKernelIdeal := hKernelIdeal) (hPre_loss_finite := hPre_loss_finite)
    ∧ quiescent_ReferenceIdeal (hReferenceIdeal := hReferenceIdeal)
    ∧ quiescent_ReferenceIdeal_pre_loss_finite (hReferenceIdeal := hReferenceIdeal) (hPre_loss_finite := hPre_loss_finite)
    ∧ quiescent_Kernel2 (hKernel2 := hKernel2)
    ∧ quiescent_Kernel2Ideal (hKernel2Ideal := hKernel2Ideal)
    ∧ quiescent_Kernel2Ideal_pre_attn_finite (hKernel2Ideal := hKernel2Ideal) (hPre_attn_finite := hPre_attn_finite)
    ∧ quiescent_Reference2Ideal (hReference2Ideal := hReference2Ideal)
    ∧ quiescent_Reference2Ideal_pre_attn_finite (hReference2Ideal := hReference2Ideal) (hPre_attn_finite := hPre_attn_finite)
    ∧ quiescent_Kernel3 (hKernel3 := hKernel3)
    ∧ quiescent_Kernel3Ideal (hKernel3Ideal := hKernel3Ideal)
    ∧ quiescent_Kernel3Ideal_pre_ffn_finite (hKernel3Ideal := hKernel3Ideal) (hPre_ffn_finite := hPre_ffn_finite)
    ∧ quiescent_Reference3Ideal (hReference3Ideal := hReference3Ideal)
    ∧ quiescent_Reference3Ideal_pre_ffn_finite (hReference3Ideal := hReference3Ideal) (hPre_ffn_finite := hPre_ffn_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_mix_finite (hKernel5Ideal := hKernel5Ideal) (hPre_mix_finite := hPre_mix_finite)
    ∧ quiescent_Reference5Ideal (hReference5Ideal := hReference5Ideal)
    ∧ quiescent_Reference5Ideal_pre_mix_finite (hReference5Ideal := hReference5Ideal) (hPre_mix_finite := hPre_mix_finite)
    ∧ quiescent_Kernel6 (hKernel6 := hKernel6)
    ∧ quiescent_Kernel6Ideal (hKernel6Ideal := hKernel6Ideal)
    ∧ quiescent_Kernel6Ideal_pre_conv_finite (hKernel6Ideal := hKernel6Ideal) (hPre_conv_finite := hPre_conv_finite)
    ∧ quiescent_Reference6Ideal (hReference6Ideal := hReference6Ideal)
    ∧ quiescent_Reference6Ideal_pre_conv_finite (hReference6Ideal := hReference6Ideal) (hPre_conv_finite := hPre_conv_finite)
    ∧ preserves_Kernel_KernelIdeal
    ∧ algebraic_KernelIdeal_ReferenceIdeal_pre_loss_finite (hKernelIdeal := hKernelIdeal) (hReferenceIdeal := hReferenceIdeal) (hPre_loss_finite := hPre_loss_finite)
    ∧ preserves_Kernel2_Kernel2Ideal
    ∧ algebraic_Kernel2Ideal_Reference2Ideal_pre_attn_finite (hKernel2Ideal := hKernel2Ideal) (hReference2Ideal := hReference2Ideal) (hPre_attn_finite := hPre_attn_finite)
    ∧ preserves_Kernel3_Kernel3Ideal
    ∧ algebraic_Kernel3Ideal_Reference3Ideal_pre_ffn_finite (hKernel3Ideal := hKernel3Ideal) (hReference3Ideal := hReference3Ideal) (hPre_ffn_finite := hPre_ffn_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_mix_finite (hKernel5Ideal := hKernel5Ideal) (hReference5Ideal := hReference5Ideal) (hPre_mix_finite := hPre_mix_finite)
    ∧ preserves_Kernel6_Kernel6Ideal
    ∧ algebraic_Kernel6Ideal_Reference6Ideal_pre_conv_finite (hKernel6Ideal := hKernel6Ideal) (hReference6Ideal := hReference6Ideal) (hPre_conv_finite := hPre_conv_finite)
-- ==== Pre_attn_finite.lean ====
abbrev S4096x1792 : Shape := ⟨2, ![4096, 1792]⟩
abbrev S4096x1024 : Shape := ⟨2, ![4096, 1024]⟩
abbrev S8 : Shape := ⟨1, ![8]⟩
abbrev S_ : Shape := ⟨0, ![]⟩

class Facts : Prop where
  bcast_S_S4096x1792 : S_.BroadcastsInDim S4096x1792 (![] : Fin 0 → Fin S4096x1792.rank)
  reducesTo_S4096x1792_S_d0_1 : S4096x1792.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S4096x1792 .f32) (main_arg1 : FVec F S4096x1024 .f32) (main_arg2 : FVec F S8 .f32) : IVec S_ 1 :=
  let main_v0 : FVec F S4096x1792 .f32 := Host.absf main_arg0
  let main_cst : FVec F S_ .f32 := constant S_ .f32 0x7F800000#32
  let main_v1 : FVec F S4096x1792 .f32 := broadcastInDim S4096x1792 ![] bcast_S_S4096x1792 main_cst
  let main_v2 : IVec S4096x1792 1 := cmpf .olt main_v0 main_v1
  let main_c : IVec S_ 1 := constantI S_ 1 1#1
  let main_v3 : IVec S_ 1 := (fun x v => Host.reduce IntOp.andi x v reducesTo_S4096x1792_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_conv_finite.lean ====
abbrev S4096x1792 : Shape := ⟨2, ![4096, 1792]⟩
abbrev S4096x1024 : Shape := ⟨2, ![4096, 1024]⟩
abbrev S31x512 : Shape := ⟨2, ![31, 512]⟩
abbrev S512 : Shape := ⟨1, ![512]⟩
abbrev S_ : Shape := ⟨0, ![]⟩

class Facts : Prop where
  bcast_S_S4096x1792 : S_.BroadcastsInDim S4096x1792 (![] : Fin 0 → Fin S4096x1792.rank)
  reducesTo_S4096x1792_S_d0_1 : S4096x1792.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S31x512 : S_.BroadcastsInDim S31x512 (![] : Fin 0 → Fin S31x512.rank)
  reducesTo_S31x512_S_d0_1 : S31x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S4096x1792 .f32) (main_arg1 : FVec F S4096x1024 .f32) (main_arg2 : FVec F S31x512 .f32) (main_arg3 : FVec F S512 .f32) (main_arg4 : FVec F S512 .f32) (main_arg5 : FVec F S512 .f32) : IVec S_ 1 :=
  let main_v0 : FVec F S4096x1792 .f32 := Host.absf main_arg0
  let main_cst : FVec F S_ .f32 := constant S_ .f32 0x7F800000#32
  let main_v1 : FVec F S4096x1792 .f32 := broadcastInDim S4096x1792 ![] bcast_S_S4096x1792 main_cst
  let main_v2 : IVec S4096x1792 1 := cmpf .olt main_v0 main_v1
  let main_c : IVec S_ 1 := constantI S_ 1 1#1
  let main_v3 : IVec S_ 1 := (fun x v => Host.reduce IntOp.andi x v reducesTo_S4096x1792_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S31x512 .f32 := Host.absf main_arg2
  let main_cst_2 : FVec F S_ .f32 := constant S_ .f32 0x7F800000#32
  let main_v10 : FVec F S31x512 .f32 := broadcastInDim S31x512 ![] bcast_S_S31x512 main_cst_2
  let main_v11 : IVec S31x512 1 := cmpf .olt main_v9 main_v10
  let main_c_3 : IVec S_ 1 := constantI S_ 1 1#1
  let main_v12 : IVec S_ 1 := (fun x v => Host.reduce IntOp.andi x v reducesTo_S31x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Pre_ffn_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  main_v23

def fn {F : FTy → Type} [FloatOps F] (main_arg0 : FVec F S4096x1024 .f32) (main_arg1 : FVec F S1024 .f32) (main_arg2 : FVec F S4096x1024 .f32) (main_arg3 : FVec F S1024x5632 .f32) (main_arg4 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg4 main_v13 main_v16
-- ==== Pre_loss_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_mix_finite.lean ====
abbrev S4096x1024 : Shape := ⟨2, ![4096, 1024]⟩
abbrev S1024 : Shape := ⟨1, ![1024]⟩
abbrev S4096x1792 : Shape := ⟨2, ![4096, 1792]⟩
abbrev S1024x1792 : Shape := ⟨2, ![1024, 1792]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S4096x1792 : S_.BroadcastsInDim S4096x1792 (![] : Fin 0 → Fin S4096x1792.rank)
  reducesTo_S4096x1792_S_d0_1 : S4096x1792.ReducesTo [0, 1] S_
  bcast_S_S1024x1792 : S_.BroadcastsInDim S1024x1792 (![] : Fin 0 → Fin S1024x1792.rank)
  reducesTo_S1024x1792_S_d0_1 : S1024x1792.ReducesTo [0, 1] S_

variable [Facts]

def fn_part1 {F : FTy → Type} [FloatOps F] (main_arg4 : FVec F S1024x1792 .f32) (main_v13 : IVec S_ 1) (main_v16 : IVec S4096x1792 1) : IVec S_ 1 :=
  let main_c_5 : IVec S_ 1 := constantI S_ 1 1#1
  let main_v17 : IVec S_ 1 := (fun x v => Host.reduce IntOp.andi x v reducesTo_S4096x1792_S_d0_1 h_S_) main_v16 main_c_5
  let main_v18 : IVec S_ 1 := andi main_v13 main_v17
  let main_v19 : FVec F S1024x1792 .f32 := Host.absf main_arg4
  let main_cst_6 : FVec F S_ .f32 := constant S_ .f32 0x7F800000#32
  let main_v20 : FVec F S1024x1792 .f32 := broadcastInDim S1024x1792 ![] bcast_S_S1024x1792 main_cst_6
  let main_v21 : IVec S1024x1792 1 := cmpf .olt main_v19 main_v20
  let main_c_7 : IVec S_ 1 := constantI S_ 1 1#1
  let main_v22 : IVec S_ 1 := (fun x v => Host.reduce IntOp.andi x v reducesTo_S1024x1792_S_d0_1 h_S_) main_v21 main_c_7
  let main_v23 : IVec S_ 1 := andi main_v18 main_v22
  main_v23

def fn {F : FTy → Type} [FloatOps F] (main_arg0 : FVec F S4096x1024 .f32) (main_arg1 : FVec F S1024 .f32) (main_arg2 : FVec F S4096x1024 .f32) (main_arg3 : FVec F S4096x1792 .f32) (main_arg4 : FVec F S1024x1792 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1792 .f32 := Host.absf main_arg3
  let main_cst_4 : FVec F S_ .f32 := constant S_ .f32 0x7F800000#32
  let main_v15 : FVec F S4096x1792 .f32 := broadcastInDim S4096x1792 ![] bcast_S_S4096x1792 main_cst_4
  let main_v16 : IVec S4096x1792 1 := cmpf .olt main_v14 main_v15
  fn_part1 (F := F) main_arg4 main_v13 main_v16
-- ==== Kernel.lean ====
abbrev S4096x1024 : Shape := ⟨2, ![4096, 1024]⟩
abbrev S1024 : Shape := ⟨1, ![1024]⟩
abbrev S1x1024 : Shape := ⟨2, ![1, 1024]⟩
abbrev S8x1x128 : Shape := ⟨3, ![8, 1, 128]⟩
abbrev S512x1024 : Shape := ⟨2, ![512, 1024]⟩
abbrev S1x1x128 : Shape := ⟨3, ![1, 1, 128]⟩
abbrev S512 : Shape := ⟨1, ![512]⟩
abbrev S512x1 : Shape := ⟨2, ![512, 1]⟩
abbrev S1x128 : Shape := ⟨2, ![1, 128]⟩
abbrev S1x512x1 : Shape := ⟨3, ![1, 512, 1]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x1x128, .f32⟩
  | .hbm, ⟨6, _⟩ => ⟨S1x1024, .f32⟩
  | .hbm, ⟨7, _⟩ => ⟨S8x1x1, .f32⟩
  | .hbm, ⟨8, _⟩ => ⟨S8, .f32⟩
  | .hbm, ⟨9, _⟩ => ⟨S_, .f32⟩
  | .hbm, ⟨10, _⟩ => ⟨S_, .f32⟩
  | .hbm, ⟨11, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x128, .f32⟩
  | .local _ .vmem, ⟨8, _⟩ => ⟨S1x1x128, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_23 : BitVec 32 := 0#32
  let v55 : BitVec 1 := Scalar.cmpi .ne v54 c0_i32_23
  v55

def k0_cond2 (i : grid0.Coords) : BitVec 1 :=
  let arg0 : BitVec 32 := BitVec.ofNat 32 (i 0).val
  let c0_i32_24 : BitVec 32 := 0#32
  let v56 : BitVec 1 := Scalar.cmpi .sgt arg0 c0_i32_24
  let v57 : BitVec 32 := Scalar.extui v56
  let c0_i32_25 : BitVec 32 := 0#32
  let v58 : BitVec 1 := Scalar.cmpi .ne v57 c0_i32_25
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel2.lean ====
abbrev S4096x1792 : Shape := ⟨2, ![4096, 1792]⟩
abbrev S4096x1024 : Shape := ⟨2, ![4096, 1024]⟩
abbrev S8 : Shape := ⟨1, ![8]⟩
abbrev S4 : Shape := ⟨1, ![4]⟩
abbrev S4096x512 : Shape := ⟨2, ![4096, 512]⟩
abbrev S4096x128 : Shape := ⟨2, ![4096, 128]⟩
abbrev S4096x64 : Shape := ⟨2, ![4096, 64]⟩
abbrev S4096x256 : Shape := ⟨2, ![4096, 256]⟩
abbrev S4096x2048 : Shape := ⟨2, ![4096, 2048]⟩
abbrev S512 : Shape := ⟨1, ![512]⟩
abbrev S512x1 : Shape := ⟨2, ![512, 1]⟩
abbrev S256 : Shape := ⟨1, ![256]⟩
abbrev S1x256 : Shape := ⟨2, ![1, 256]⟩
abbrev S_ : Shape := ⟨0, ![]⟩
abbrev S512x256 : Shape := ⟨2, ![512, 256]⟩
abbrev S512x1x1 : Shape := ⟨3, ![512, 1, 1]⟩
abbrev S1x512x256 : Shape := ⟨3, ![1, 512, 256]⟩
abbrev S2x512x256 : Shape := ⟨3, ![2, 512, 256]⟩
abbrev S1x2x512x256 : Shape := ⟨4, ![1, 2, 512, 256]⟩
abbrev S2x2x512x256 : Shape := ⟨4, ![2, 2, 512, 256]⟩
abbrev S1x128 : Shape := ⟨2, ![1, 128]⟩
abbrev S256x512 : Shape := ⟨2, ![256, 512]⟩
abbrev S256x256 : Shape := ⟨2, ![256, 256]⟩
abbrev S128x256 : Shape := ⟨2, ![128, 256]⟩
abbrev S2x128x512 : Shape := ⟨3, ![2, 128, 512]⟩
abbrev S128x128 : Shape := ⟨2, ![128, 128]⟩
abbrev S1 : Shape := ⟨1, ![1]⟩
abbrev S256x128 : Shape := ⟨2, ![256, 128]⟩
abbrev S512x128 : Shape := ⟨2, ![512, 128]⟩
abbrev S1x1x512x256 : Shape := ⟨4, ![1, 1, 512, 256]⟩
abbrev S128x1 : Shape := ⟨2, ![128, 1]⟩
abbrev S1x128x1 : Shape := ⟨3, ![1, 128, 1]⟩
abbrev S1x1x1 : Shape := ⟨3, ![1, 1, 1]⟩
abbrev S1x128x512 : Shape := ⟨3, ![1, 128, 512]⟩
abbrev S128x512 : Shape := ⟨2, ![128, 512]⟩
abbrev S1x8 : Shape := ⟨2, ![1, 8]⟩

abbrev nBuf : Space → Nat
  | .hbm => 240
  | .vmem => 19
  | .smem => 1
  | _ => 0

abbrev hbmTy0_0 (i : Nat) : BufTy := match i % 128 with
  | 0 => ⟨S4096x1792, .f32⟩
  | 1 => ⟨S4096x1024, .f32⟩
  | 2 => ⟨S8, .f32⟩
  | 3 => ⟨S4, .f32⟩
  | 4 => ⟨S4, .f32⟩
  | 5 => ⟨S4, .f32⟩
  | 6 => ⟨S4, .f32⟩
  | 7 => ⟨S4096x512, .f32⟩
  | 8 => ⟨S4096x128, .f32⟩
  | 9 => ⟨S4096x64, .f32⟩
  | 10 => ⟨S4096x64, .f32⟩
  | 11 => ⟨S4096x64, .f32⟩
  | 12 => ⟨S4096x64, .f32⟩
  | 13 => ⟨S4096x256, .f32⟩
  | 14 => ⟨S4096x128, .f32⟩
  | 15 => ⟨S4096x64, .f32⟩
  | 16 => ⟨S4096x64, .f32⟩
  | 17 => ⟨S4096x64, .f32⟩
  | 18 => ⟨S4096x64, .f32⟩
  | 19 => ⟨S4096x256, .f32⟩
  | 20 => ⟨S4096x1024, .f32⟩
  | 21 => ⟨S4096x2048, .f32⟩
  | 22 => ⟨S4096x2048, .bf16⟩
  | 23 => ⟨S4096x1024, .bf16⟩
  | 24 => ⟨S512, .i32⟩
  | 25 => ⟨S512x1, .i32⟩
  | 26 => ⟨S256, .i32⟩
  | 27 => ⟨S1x256, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S512x1, .i32⟩
  | 35 => ⟨S512x1, .i32⟩
  | 36 => ⟨S_, .i32⟩
  | 37 => ⟨S512x1, .i32⟩
  | 38 => ⟨S512x1, .i1⟩
  | 39 => ⟨S_, .i32⟩
  | 40 => ⟨S512x1, .i32⟩
  | 41 => ⟨S512x1, .i1⟩
  | 42 => ⟨S_, .i32⟩
  | 43 => ⟨S_, .i1⟩
  | 44 => ⟨S512x1, .i1⟩
  | 45 => ⟨S512x1, .i1⟩
  | 46 => ⟨S512x1, .i1⟩
  | 47 => ⟨S512x1, .i32⟩
  | 48 => ⟨S512x1, .i32⟩
  | 49 => ⟨S512x1, .i32⟩
  | 50 => ⟨S_, .i32⟩
  | 51 => ⟨S512x1, .i32⟩
  | 52 => ⟨S512x1, .i32⟩
  | 53 => ⟨S512x256, .i32⟩
  | 54 => ⟨S512x256, .i32⟩
  | 55 => ⟨S512x256, .i32⟩
  | 56 => ⟨S_, .i32⟩
  | 57 => ⟨S512x256, .i32⟩
  | 58 => ⟨S512x256, .i1⟩
  | 59 => ⟨S_, .i32⟩
  | 60 => ⟨S512x256, .i32⟩
  | 61 => ⟨S512x256, .i1⟩
  | 62 => ⟨S512x256, .i1⟩
  | 63 => ⟨S_, .i32⟩
  | 64 => ⟨S1x256, .i32⟩
  | 65 => ⟨S1x256, .i1⟩
  | 66 => ⟨S512x256, .i1⟩
  | 67 => ⟨S512x256, .i1⟩
  | 68 => ⟨S_, .i32⟩
  | 69 => ⟨S_, .i32⟩
  | 70 => ⟨S512x1, .i32⟩
  | 71 => ⟨S512x1, .i32⟩
  | 72 => ⟨S512x1, .i32⟩
  | 73 => ⟨S_, .i32⟩
  | 74 => ⟨S512x1, .i32⟩
  | 75 => ⟨S512x1, .i1⟩
  | 76 => ⟨S512x1, .i32⟩
  | 77 => ⟨S512x1, .i32⟩
  | 78 => ⟨S_, .i32⟩
  | 79 => ⟨S512x1, .i32⟩
  | 80 => ⟨S512x1, .i1⟩
  | 81 => ⟨S512x1, .i1⟩
  | 82 => ⟨S_, .i32⟩
  | 83 => ⟨S512x1, .i32⟩
  | 84 => ⟨S512x1, .i32⟩
  | 85 => ⟨S512x1, .i32⟩
  | 86 => ⟨S_, .i32⟩
  | 87 => ⟨S512x1, .i32⟩
  | 88 => ⟨S512x1, .i1⟩
  | 89 => ⟨S_, .i32⟩
  | 90 => ⟨S512x1, .i32⟩
  | 91 => ⟨S512x1, .i32⟩
  | 92 => ⟨S512x1, .i32⟩
  | 93 => ⟨S512x1x1, .i32⟩
  | 94 => ⟨S512x1, .f32⟩
  | 95 => ⟨S512x1, .f32⟩
  | 96 => ⟨S512x256, .f32⟩
  | 97 => ⟨S512x256, .f32⟩
  | 98 => ⟨S512x256, .f32⟩
  | 99 => ⟨S_, .f32⟩
  | 100 => ⟨S_, .f32⟩
  | 101 => ⟨S512x256, .f32⟩
  | 102 => ⟨S512x256, .f32⟩
  | 103 => ⟨S_, .i32⟩
  | 104 => ⟨S_, .i32⟩
  | 105 => ⟨S512x1, .i32⟩
  | 106 => ⟨S512x1, .i32⟩
  | 107 => ⟨S512x1, .i32⟩
  | 108 => ⟨S_, .i32⟩
  | 109 => ⟨S512x1, .i32⟩
  | 110 => ⟨S512x1, .i1⟩
  | 111 => ⟨S512x1, .i32⟩
  | 112 => ⟨S512x1, .i32⟩
  | 113 => ⟨S_, .i32⟩
  | 114 => ⟨S512x1, .i32⟩
  | 115 => ⟨S512x1, .i1⟩
  | 116 => ⟨S512x1, .i1⟩
  | 117 => ⟨S_, .i32⟩
  | 118 => ⟨S512x1, .i32⟩
  | 119 => ⟨S512x1, .i32⟩
  | 120 => ⟨S512x1, .i32⟩
  | 121 => ⟨S_, .i32⟩
  | 122 => ⟨S512x1, .i32⟩
  | 123 => ⟨S512x1, .i1⟩
  | 124 => ⟨S_, .i32⟩
  | 125 => ⟨S512x1, .i32⟩
  | 126 => ⟨S512x1, .i32⟩
  | 127 => ⟨S512x1, .i32⟩
  | _ => ⟨S4096x1792, .f32⟩

abbrev hbmTy0_1 (i : Nat) : BufTy := match i % 128 with
  | 0 => ⟨S512x1x1, .i32⟩
  | 1 => ⟨S512x1, .f32⟩
  | 2 => ⟨S512x1, .f32⟩
  | 3 => ⟨S512x256, .f32⟩
  | 4 => ⟨S512x256, .f32⟩
  | 5 => ⟨S512x256, .f32⟩
  | 6 => ⟨S_, .f32⟩
  | 7 => ⟨S_, .f32⟩
  | 8 => ⟨S512x256, .f32⟩
  | 9 => ⟨S512x256, .f32⟩
  | 10 => ⟨S1x512x256, .f32⟩
  | 11 => ⟨S1x512x256, .f32⟩
  | 12 => ⟨S2x512x256, .f32⟩
  | 13 => ⟨S_, .i32⟩
  | 14 => ⟨S_, .i32⟩
  | 15 => ⟨S512x1, .i32⟩
  | 16 => ⟨S512x1, .i32⟩
  | 17 => ⟨S512x1, .i32⟩
  | 18 => ⟨S_, .i32⟩
  | 19 => ⟨S512x1, .i32⟩
  | 20 => ⟨S512x1, .i1⟩
  | 21 => ⟨S512x1, .i32⟩
  | 22 => ⟨S512x1, .i32⟩
  | 23 => ⟨S_, .i32⟩
  | 24 => ⟨S512x1, .i32⟩
  | 25 => ⟨S512x1, .i1⟩
  | 26 => ⟨S512x1, .i1⟩
  | 27 => ⟨S_, .i32⟩
  | 28 => ⟨S512x1, .i32⟩
  | 29 => ⟨S512x1, .i32⟩
  | 30 => ⟨S512x1, .i32⟩
  | 31 => ⟨S_, .i32⟩
  | 32 => ⟨S512x1, .i32⟩
  | 33 => ⟨S512x1, .i1⟩
  | 34 => ⟨S_, .i32⟩
  | 35 => ⟨S512x1, .i32⟩
  | 36 => ⟨S512x1, .i32⟩
  | 37 => ⟨S512x1, .i32⟩
  | 38 => ⟨S512x1x1, .i32⟩
  | 39 => ⟨S512x1, .f32⟩
  | 40 => ⟨S512x1, .f32⟩
  | 41 => ⟨S512x256, .f32⟩
  | 42 => ⟨S512x256, .f32⟩
  | 43 => ⟨S512x256, .f32⟩
  | 44 => ⟨S_, .f32⟩
  | 45 => ⟨S_, .f32⟩
  | 46 => ⟨S512x256, .f32⟩
  | 47 => ⟨S512x256, .f32⟩
  | 48 => ⟨S_, .i32⟩
  | 49 => ⟨S_, .i32⟩
  | 50 => ⟨S512x1, .i32⟩
  | 51 => ⟨S512x1, .i32⟩
  | 52 => ⟨S512x1, .i32⟩
  | 53 => ⟨S_, .i32⟩
  | 54 => ⟨S512x1, .i32⟩
  | 55 => ⟨S512x1, .i1⟩
  | 56 => ⟨S512x1, .i32⟩
  | 57 => ⟨S512x1, .i32⟩
  | 58 => ⟨S_, .i32⟩
  | 59 => ⟨S512x1, .i32⟩
  | 60 => ⟨S512x1, .i1⟩
  | 61 => ⟨S512x1, .i1⟩
  | 62 => ⟨S_, .i32⟩
  | 63 => ⟨S512x1, .i32⟩
  | 64 => ⟨S512x1, .i32⟩
  | 65 => ⟨S512x1, .i32⟩
  | 66 => ⟨S_, .i32⟩
  | 67 => ⟨S512x1, .i32⟩
  | 68 => ⟨S512x1, .i1⟩
  | 69 => ⟨S_, .i32⟩
  | 70 => ⟨S512x1, .i32⟩
  | 71 => ⟨S512x1, .i32⟩
  | 72 => ⟨S512x1, .i32⟩
  | 73 => ⟨S512x1x1, .i32⟩
  | 74 => ⟨S512x1, .f32⟩
  | 75 => ⟨S512x1, .f32⟩
  | 76 => ⟨S512x256, .f32⟩
  | 77 => ⟨S512x256, .f32⟩
  | 78 => ⟨S512x256, .f32⟩
  | 79 => ⟨S_, .f32⟩
  | 80 => ⟨S_, .f32⟩
  | 81 => ⟨S512x256, .f32⟩
  | 82 => ⟨S512x256, .f32⟩
  | 83 => ⟨S1x512x256, .f32⟩
  | 84 => ⟨S1x512x256, .f32⟩
  | 85 => ⟨S2x512x256, .f32⟩
  | 86 => ⟨S1x2x512x256, .f32⟩
  | 87 => ⟨S1x2x512x256, .f32⟩
  | 88 => ⟨S2x2x512x256, .f32⟩
  | 89 => ⟨S4096x512, .bf16⟩
  | 90 => ⟨S4096x512, .bf16⟩
  | 91 => ⟨S1x128, .f32⟩
  | 92 => ⟨S4096x256, .bf16⟩
  | 93 => ⟨S4096x256, .f32⟩
  | 94 => ⟨S4096x64, .f32⟩
  | 95 => ⟨S4096x64, .f32⟩
  | 96 => ⟨S4096x64, .f32⟩
  | 97 => ⟨S4096x64, .f32⟩
  | 98 => ⟨S4096x64, .f32⟩
  | 99 => ⟨S4096x64, .f32⟩
  | 100 => ⟨S4096x128, .f32⟩
  | 101 => ⟨S4096x256, .bf16⟩
  | 102 => ⟨S4096x256, .f32⟩
  | 103 => ⟨S4096x64, .f32⟩
  | 104 => ⟨S4096x64, .f32⟩
  | 105 => ⟨S4096x64, .f32⟩
  | 106 => ⟨S4096x64, .f32⟩
  | 107 => ⟨S4096x64, .f32⟩
  | 108 => ⟨S4096x64, .f32⟩
  | 109 => ⟨S4096x128, .f32⟩
  | 110 => ⟨S1x8, .f32⟩
  | 111 => ⟨S8, .f32⟩
  | _ => ⟨S4096x1792, .f32⟩

abbrev hbmTy (i : Nat) : BufTy := match i / 128 with
  | 0 => hbmTy0_0 i
  | 1 => hbmTy0_1 i
  | _ => ⟨S4096x1792, .f32⟩

abbrev bufTy : (tb : Table) → Fin (tcTables nBuf tb) → BufTy
  | .hbm, ⟨i, _⟩ => hbmTy i
  | .local _ .vmem, ⟨0, _⟩ => ⟨S2x2x512x256, .f32⟩
  | .local _ .vmem, ⟨1, _⟩ => ⟨S256x512, .bf16⟩
  | .local _ .vmem, ⟨2, _⟩ => ⟨S256x512, .bf16⟩
  | .local _ .vmem, ⟨3, _⟩ => ⟨S256x256, .bf16⟩
  | .local _ .vmem, ⟨4, _⟩ => ⟨S256x256, .bf16⟩
  | .local _ .vmem, ⟨5, _⟩ => ⟨S128x256, .bf16⟩
  | .local _ .vmem, ⟨6, _⟩ => ⟨S128x256, .bf16⟩
  | .local _ .vmem, ⟨7, _⟩ => ⟨S256x256, .bf16⟩
  | .local _ .vmem, ⟨8, _⟩ => ⟨S256x256, .bf16⟩
  | .local _ .vmem, ⟨9, _⟩ => ⟨S128x256, .bf16⟩
  | .local _ .vmem, ⟨10, _⟩ => ⟨S128x256, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S1x128, .f32⟩
  | .local _ .vmem, ⟨18, _⟩ => ⟨S2x128x512, .f32⟩
  | .local _ .smem, ⟨0, _⟩ => ⟨S8, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v21 : Ref sig .tc := ⟨.hbm, 49, rfl⟩
abbrev main_c_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_4 : Ref sig .tc := ⟨.hbm, 56, rfl⟩
abbrev main_v27 : Ref sig .tc := ⟨.hbm, 57, rfl⟩
abbrev main_v28 : Ref sig .tc := ⟨.hbm, 58, rfl⟩
abbrev main_c_5 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_7 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_c : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_0 : Ref sig .tc := ⟨.hbm, 82, rfl⟩
abbrev main_call1_v12 : Ref sig .tc := ⟨.hbm, 83, rfl⟩
abbrev main_call1_v13 : Ref sig .tc := ⟨.hbm, 84, rfl⟩
abbrev main_v36 : Ref sig .tc := ⟨.hbm, 85, rfl⟩
abbrev main_c_8 : Ref sig .tc := ⟨.hbm, 86, rfl⟩
abbrev main_v37 : Ref sig .tc := ⟨.hbm, 87, rfl⟩
abbrev main_v38 : Ref sig .tc := ⟨.hbm, 88, rfl⟩
abbrev main_c_9 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_10 : Ref sig .tc := ⟨.hbm, 99, rfl⟩
abbrev main_call2_v0 : Ref sig .tc := ⟨.hbm, 100, rfl⟩
abbrev main_call2_v1 : Ref sig .tc := ⟨.hbm, 101, rfl⟩
abbrev main_v48 : Ref sig .tc := ⟨.hbm, 102, rfl⟩
abbrev main_c_11 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_c : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_c_0 : Ref sig .tc := ⟨.hbm, 117, rfl⟩
abbrev main_call3_v12 : Ref sig .tc := ⟨.hbm, 118, rfl⟩
abbrev main_call3_v13 : Ref sig .tc := ⟨.hbm, 119, rfl⟩
abbrev main_v49 : Ref sig .tc := ⟨.hbm, 120, rfl⟩
abbrev main_c_12 : Ref sig .tc := ⟨.hbm, 121, rfl⟩
abbrev main_v50 : Ref sig .tc := ⟨.hbm, 122, rfl⟩
abbrev main_v51 : Ref sig .tc := ⟨.hbm, 123, rfl⟩
abbrev main_c_13 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_cst_14 : Ref sig .tc := ⟨.hbm, 134, rfl⟩
abbrev main_call4_v0 : Ref sig .tc := ⟨.hbm, 135, rfl⟩
abbrev main_call4_v1 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_c_15 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_v5 : Ref sig .tc := ⟨.hbm, 147, rfl⟩
abbrev main_call5_v6 : Ref sig .tc := ⟨.hbm, 148, rfl⟩
abbrev main_call5_v7 : Ref sig .tc := ⟨.hbm, 149, rfl⟩
abbrev main_call5_v8 : Ref sig .tc := ⟨.hbm, 150, rfl⟩
abbrev main_call5_c : Ref sig .tc := ⟨.hbm, 151, rfl⟩
abbrev main_call5_v9 : Ref sig .tc := ⟨.hbm, 152, rfl⟩
abbrev main_call5_v10 : Ref sig .tc := ⟨.hbm, 153, rfl⟩
abbrev main_call5_v11 : Ref sig .tc := ⟨.hbm, 154, rfl⟩
abbrev main_call5_c_0 : Ref sig .tc := ⟨.hbm, 155, rfl⟩
abbrev main_call5_v12 : Ref sig .tc := ⟨.hbm, 156, rfl⟩
abbrev main_call5_v13 : Ref sig .tc := ⟨.hbm, 157, rfl⟩
abbrev main_v65 : Ref sig .tc := ⟨.hbm, 158, rfl⟩
abbrev main_c_16 : Ref sig .tc := ⟨.hbm, 159, rfl⟩
abbrev main_v66 : Ref sig .tc := ⟨.hbm, 160, rfl⟩
abbrev main_v67 : Ref sig .tc := ⟨.hbm, 161, rfl⟩
abbrev main_c_17 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_cst_18 : Ref sig .tc := ⟨.hbm, 172, rfl⟩
abbrev main_call6_v0 : Ref sig .tc := ⟨.hbm, 173, rfl⟩
abbrev main_call6_v1 : Ref sig .tc := ⟨.hbm, 174, rfl⟩
abbrev main_v77 : Ref sig .tc := ⟨.hbm, 175, rfl⟩
abbrev main_c_19 : Ref sig .tc := ⟨.hbm, 176, rfl⟩
abbrev main_call7_v0 : Ref sig .tc := ⟨.hbm, 177, rfl⟩
abbrev main_call7_v1 : Ref sig .tc := ⟨.hbm, 178, rfl⟩
abbrev main_call7_v2 : Ref sig .tc := ⟨.hbm, 179, rfl⟩
abbrev main_call7_v3 : Ref sig .tc := ⟨.hbm, 180, rfl⟩
abbrev main_call7_v4 : Ref sig .tc := ⟨.hbm, 181, rfl⟩
abbrev main_call7_v5 : Ref sig .tc := ⟨.hbm, 182, rfl⟩
abbrev main_call7_v6 : Ref sig .tc := ⟨.hbm, 183, rfl⟩
abbrev main_call7_v7 : Ref sig .tc := ⟨.hbm, 184, rfl⟩
abbrev main_call7_v8 : Ref sig .tc := ⟨.hbm, 185, rfl⟩
abbrev main_call7_c : Ref sig .tc := ⟨.hbm, 186, rfl⟩
abbrev main_call7_v9 : Ref sig .tc := ⟨.hbm, 187, rfl⟩
abbrev main_call7_v10 : Ref sig .tc := ⟨.hbm, 188, rfl⟩
abbrev main_call7_v11 : Ref sig .tc := ⟨.hbm, 189, rfl⟩
abbrev main_call7_c_0 : Ref sig .tc := ⟨.hbm, 190, rfl⟩
abbrev main_call7_v12 : Ref sig .tc := ⟨.hbm, 191, rfl⟩
abbrev main_call7_v13 : Ref sig .tc := ⟨.hbm, 192, rfl⟩
abbrev main_v78 : Ref sig .tc := ⟨.hbm, 193, rfl⟩
abbrev main_c_20 : Ref sig .tc := ⟨.hbm, 194, rfl⟩
abbrev main_v79 : Ref sig .tc := ⟨.hbm, 195, rfl⟩
abbrev main_v80 : Ref sig .tc := ⟨.hbm, 196, rfl⟩
abbrev main_c_21 : Ref sig .tc := ⟨.hbm, 197, rfl⟩
abbrev main_v81 : Ref sig .tc := ⟨.hbm, 198, rfl⟩
abbrev main_v82 : Ref sig .tc := ⟨.hbm, 199, rfl⟩
abbrev main_v83 : Ref sig .tc := ⟨.hbm, 200, rfl⟩
abbrev main_v84 : Ref sig .tc := ⟨.hbm, 201, rfl⟩
abbrev main_v85 : Ref sig .tc := ⟨.hbm, 202, rfl⟩
abbrev main_v86 : Ref sig .tc := ⟨.hbm, 203, rfl⟩
abbrev main_v87 : Ref sig .tc := ⟨.hbm, 204, rfl⟩
abbrev main_v88 : Ref sig .tc := ⟨.hbm, 205, rfl⟩
abbrev main_v89 : Ref sig .tc := ⟨.hbm, 206, rfl⟩
abbrev main_cst_22 : Ref sig .tc := ⟨.hbm, 207, rfl⟩
abbrev main_call8_v0 : Ref sig .tc := ⟨.hbm, 208, rfl⟩
abbrev main_call8_v1 : Ref sig .tc := ⟨.hbm, 209, rfl⟩
abbrev main_v90 : Ref sig .tc := ⟨.hbm, 210, rfl⟩
abbrev main_v91 : Ref sig .tc := ⟨.hbm, 211, rfl⟩
abbrev main_v92 : Ref sig .tc := ⟨.hbm, 212, rfl⟩
abbrev main_v93 : Ref sig .tc := ⟨.hbm, 213, rfl⟩
abbrev main_v94 : Ref sig .tc := ⟨.hbm, 214, rfl⟩
abbrev main_v95 : Ref sig .tc := ⟨.hbm, 215, rfl⟩
abbrev main_v96 : Ref sig .tc := ⟨.hbm, 216, rfl⟩
abbrev main_v97_0 : Ref sig .tc := ⟨.hbm, 217, rfl⟩
abbrev main_v97_1 : Ref sig .tc := ⟨.hbm, 218, rfl⟩
abbrev main_v97_2 : Ref sig .tc := ⟨.hbm, 219, rfl⟩
abbrev main_v98 : Ref sig .tc := ⟨.hbm, 220, rfl⟩
abbrev main_v99 : Ref sig .tc := ⟨.hbm, 221, rfl⟩
abbrev main_v100 : Ref sig .tc := ⟨.hbm, 222, rfl⟩
abbrev main_v101 : Ref sig .tc := ⟨.hbm, 223, rfl⟩
abbrev main_v102 : Ref sig .tc := ⟨.hbm, 224, rfl⟩
abbrev main_v103 : Ref sig .tc := ⟨.hbm, 225, rfl⟩
abbrev main_v104 : Ref sig .tc := ⟨.hbm, 226, rfl⟩
abbrev main_v105 : Ref sig .tc := ⟨.hbm, 227, rfl⟩
abbrev main_v106 : Ref sig .tc := ⟨.hbm, 228, rfl⟩
abbrev main_v107 : Ref sig .tc := ⟨.hbm, 229, rfl⟩
abbrev main_v108 : Ref sig .tc := ⟨.hbm, 230, rfl⟩
abbrev main_v109 : Ref sig .tc := ⟨.hbm, 231, rfl⟩
abbrev main_v110 : Ref sig .tc := ⟨.hbm, 232, rfl⟩
abbrev main_v111 : Ref sig .tc := ⟨.hbm, 233, rfl⟩
abbrev main_v112 : Ref sig .tc := ⟨.hbm, 234, rfl⟩
abbrev main_v113 : Ref sig .tc := ⟨.hbm, 235, rfl⟩
abbrev main_v114 : Ref sig .tc := ⟨.hbm, 236, rfl⟩
abbrev main_v115 : Ref sig .tc := ⟨.hbm, 237, rfl⟩
abbrev main_v116 : Ref sig .tc := ⟨.hbm, 238, rfl⟩
abbrev main_v117 : Ref sig .tc := ⟨.hbm, 239, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_off1 (i : grid0.Coords) : Fin 4 → Nat :=
  let arg0 : BitVec 32 := BitVec.ofNat 32 (i 0).val
  let c1_i32_73 : BitVec 32 := 1#32
  let v178 : BitVec 32 := Scalar.minsi arg0 c1_i32_73
  let v179 : Index := Scalar.indexCast v178
  let c0_74 : Index := 0#32
  let c0_75 : Index := 0#32
  let c0_76 : Index := 0#32
  ![v179.toNat, 0, 0, 0]
def k0_off2 (i : grid0.Coords) : Fin 4 → Nat :=
  let arg0 : BitVec 32 := BitVec.ofNat 32 (i 0).val
  let c1_i32_78 : BitVec 32 := 1#32
  let v184 : BitVec 32 := Scalar.minsi arg0 c1_i32_78
  let v185 : Index := Scalar.indexCast v184
  let c1_79 : Index := 1#32
  let c0_80 : Index := 0#32
  let c0_81 : Index := 0#32
  ![v185.toNat, 1, 0, 0]
def k0_cond3 (i : grid0.Coords) : BitVec 1 :=
  let arg0 : BitVec 32 := BitVec.ofNat 32 (i 0).val
  let c16_i32_2 : BitVec 32 := 16#32
  let v6 : BitVec 1 := Scalar.cmpi .eq arg0 c16_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c2_i32_0 : BitVec 32 := 2#32
  let c0_i32_1 : BitVec 32 := 0#32
  ![v3.toNat, c2_i32_0.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c3_i32 : BitVec 32 := 3#32
  let c0_i32 : BitVec 32 := 0#32
  ![v0.toNat, c3_i32.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c3_i32 : BitVec 32 := 3#32
  let c0_i32_0 : BitVec 32 := 0#32
  ![v3.toNat, c3_i32.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x1792 : Shape := ⟨2, ![4096, 1792]⟩
abbrev S4096x1024 : Shape := ⟨2, ![4096, 1024]⟩
abbrev S8 : Shape := ⟨1, ![8]⟩
abbrev S4096x512 : Shape := ⟨2, ![4096, 512]⟩
abbrev S4096x128 : Shape := ⟨2, ![4096, 128]⟩
abbrev S32x128x2x4x64 : Shape := ⟨5, ![32, 128, 2, 4, 64]⟩
abbrev S32x128x2x64 : Shape := ⟨4, ![32, 128, 2, 64]⟩
abbrev S_ : Shape := ⟨0, ![]⟩
abbrev S1x128x2x64 : Shape := ⟨4, ![1, 128, 2, 64]⟩
abbrev S31x128x2x64 : Shape := ⟨4, ![31, 128, 2, 64]⟩
abbrev S32x256x2x64 : Shape := ⟨4, ![32, 256, 2, 64]⟩
abbrev S2x32x256x128x4 : Shape := ⟨5, ![2, 32, 256, 128, 4]⟩
abbrev S2x4x32x128x256 : Shape := ⟨5, ![2, 4, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1 : Shape := ⟨1, ![1]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x1x32x128x256 : Shape := ⟨5, ![1, 1, 32, 128, 256]⟩
abbrev S2x4x1x128x256 : Shape := ⟨5, ![2, 4, 1, 128, 256]⟩
abbrev S2x4x32x128 : Shape := ⟨4, ![2, 4, 32, 128]⟩
abbrev S2x4x32x128x1 : Shape := ⟨5, ![2, 4, 32, 128, 1]⟩
abbrev S32x2x64x4x128 : Shape := ⟨5, ![32, 2, 64, 4, 128]⟩
abbrev S32x2x4x128x256 : Shape := ⟨5, ![32, 2, 4, 128, 256]⟩
abbrev S32x2x64x256 : Shape := ⟨4, ![32, 2, 64, 256]⟩
abbrev S2x32x128x4x64 : Shape := ⟨5, ![2, 32, 128, 4, 64]⟩
abbrev S2x32x256x64 : Shape := ⟨4, ![2, 32, 256, 64]⟩

abbrev nBuf : Space → Nat
  | .hbm => 229
  | .vmem => 0
  | .smem => 0
  | _ => 0

abbrev hbmTy0_0 (i : Nat) : BufTy := match i % 128 with
  | 0 => ⟨S4096x1792, .f32⟩
  | 1 => ⟨S4096x1024, .f32⟩
  | 2 => ⟨S8, .f32⟩
  | 3 => ⟨S4096x512, .f32⟩
  | 4 => ⟨S4096x128, .f32⟩
  | 5 => ⟨S4096x128, .f32⟩
  | 6 => ⟨S32x128x2x4x64, .f32⟩
  | 7 => ⟨S32x128x2x64, .f32⟩
  | 8 => ⟨S_, .f32⟩
  | 9 => ⟨S1x128x2x64, .f32⟩
  | 10 => ⟨S31x128x2x64, .f32⟩
  | 11 => ⟨S32x128x2x64, .f32⟩
  | 12 => ⟨S_, .f32⟩
  | 13 => ⟨S1x128x2x64, .f32⟩
  | 14 => ⟨S32x256x2x64, .f32⟩
  | 15 => ⟨S32x128x2x64, .f32⟩
  | 16 => ⟨S_, .f32⟩
  | 17 => ⟨S1x128x2x64, .f32⟩
  | 18 => ⟨S31x128x2x64, .f32⟩
  | 19 => ⟨S32x128x2x64, .f32⟩
  | 20 => ⟨S_, .f32⟩
  | 21 => ⟨S1x128x2x64, .f32⟩
  | 22 => ⟨S32x256x2x64, .f32⟩
  | 23 => ⟨S2x32x256x128x4, .f32⟩
  | 24 => ⟨S2x4x32x128x256, .f32⟩
  | 25 => ⟨S_, .f32⟩
  | 26 => ⟨S2x4x32x128x256, .f32⟩
  | 27 => ⟨S2x4x32x128x256, .f32⟩
  | 28 => ⟨S128, .i32⟩
  | 29 => ⟨S128x1, .i32⟩
  | 30 => ⟨S256, .i32⟩
  | 31 => ⟨S1x256, .i32⟩
  | 32 => ⟨S_, .i32⟩
  | 33 => ⟨S128x1, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S32, .i32⟩
  | 46 => ⟨S32x1x1, .i32⟩
  | 47 => ⟨S1x128x256, .i1⟩
  | 48 => ⟨S_, .i32⟩
  | 49 => ⟨S32x1x1, .i32⟩
  | 50 => ⟨S32x1x1, .i1⟩
  | 51 => ⟨S_, .i32⟩
  | 52 => ⟨S1x256, .i32⟩
  | 53 => ⟨S1x256, .i1⟩
  | 54 => ⟨S1x1x256, .i1⟩
  | 55 => ⟨S32x1x256, .i1⟩
  | 56 => ⟨S32x1x256, .i1⟩
  | 57 => ⟨S32x1x256, .i1⟩
  | 58 => ⟨S32x128x256, .i1⟩
  | 59 => ⟨S32x128x256, .i1⟩
  | 60 => ⟨S32x128x256, .i1⟩
  | 61 => ⟨S_, .f32⟩
  | 62 => ⟨S1, .f32⟩
  | 63 => ⟨S_, .f32⟩
  | 64 => ⟨S1, .f32⟩
  | 65 => ⟨S_, .f32⟩
  | 66 => ⟨S1, .f32⟩
  | 67 => ⟨S_, .f32⟩
  | 68 => ⟨S1, .f32⟩
  | 69 => ⟨S_, .f32⟩
  | 70 => ⟨S1, .f32⟩
  | 71 => ⟨S_, .f32⟩
  | 72 => ⟨S1, .f32⟩
  | 73 => ⟨S_, .f32⟩
  | 74 => ⟨S1, .f32⟩
  | 75 => ⟨S_, .f32⟩
  | 76 => ⟨S1, .f32⟩
  | 77 => ⟨S8, .f32⟩
  | 78 => ⟨S2x4, .f32⟩
  | 79 => ⟨S2x4x1x1, .f32⟩
  | 80 => ⟨S2x4x1x1, .f32⟩
  | 81 => ⟨S128x256, .i32⟩
  | 82 => ⟨S128x256, .f32⟩
  | 83 => ⟨S1x1x128x256, .f32⟩
  | 84 => ⟨S2x4x128x256, .f32⟩
  | 85 => ⟨S2x4x128x256, .f32⟩
  | 86 => ⟨S2x4x128x256, .f32⟩
  | 87 => ⟨S1x1x32x128x256, .i1⟩
  | 88 => ⟨S2x4x1x128x256, .f32⟩
  | 89 => ⟨S2x4x32x128x256, .f32⟩
  | 90 => ⟨S2x4x32x128x256, .f32⟩
  | 91 => ⟨S_, .f32⟩
  | 92 => ⟨S_, .f32⟩
  | 93 => ⟨S2x4x32x128x256, .i1⟩
  | 94 => ⟨S2x4x32x128x256, .f32⟩
  | 95 => ⟨S2x4x32x128x256, .f32⟩
  | 96 => ⟨S_, .f32⟩
  | 97 => ⟨S2x4x32x128x256, .f32⟩
  | 98 => ⟨S2x4, .f32⟩
  | 99 => ⟨S2x4x1x1, .f32⟩
  | 100 => ⟨S_, .f32⟩
  | 101 => ⟨S2x4x32x128, .f32⟩
  | 102 => ⟨S2x4x32x128x1, .f32⟩
  | 103 => ⟨S2x4x32x128x256, .f32⟩
  | 104 => ⟨S2x4x32x128x256, .i1⟩
  | 105 => ⟨S2x4x32x128x256, .f32⟩
  | 106 => ⟨S_, .f32⟩
  | 107 => ⟨S2x4x32x128, .f32⟩
  | 108 => ⟨S2x4x32x128, .f32⟩
  | 109 => ⟨S2x4x32x128, .f32⟩
  | 110 => ⟨S2x4x32x128, .f32⟩
  | 111 => ⟨S2x4x32x128, .i1⟩
  | 112 => ⟨S2x4x32x128, .f32⟩
  | 113 => ⟨S2x4x32x128, .i1⟩
  | 114 => ⟨S_, .f32⟩
  | 115 => ⟨S2x4x32x128, .f32⟩
  | 116 => ⟨S_, .f32⟩
  | 117 => ⟨S2x4x32x128, .f32⟩
  | 118 => ⟨S_, .f32⟩
  | 119 => ⟨S2x4x32x128, .f32⟩
  | 120 => ⟨S2x4x32x128, .f32⟩
  | 121 => ⟨S2x4x32x128, .f32⟩
  | 122 => ⟨S2x4x32x128, .f32⟩
  | 123 => ⟨S2x4x32x128, .i1⟩
  | 124 => ⟨S2x4x32x128, .f32⟩
  | 125 => ⟨S2x4x32x128, .i1⟩
  | 126 => ⟨S_, .f32⟩
  | 127 => ⟨S2x4x32x128, .f32⟩
  | _ => ⟨S4096x1792, .f32⟩

abbrev hbmTy0_1 (i : Nat) : BufTy := match i % 128 with
  | 0 => ⟨S_, .f32⟩
  | 1 => ⟨S2x4x32x128, .f32⟩
  | 2 => ⟨S_, .f32⟩
  | 3 => ⟨S2x4x32x128, .f32⟩
  | 4 => ⟨S2x4x32x128, .f32⟩
  | 5 => ⟨S2x4x32x128, .f32⟩
  | 6 => ⟨S2x4x32x128x1, .f32⟩
  | 7 => ⟨S2x4x32x128x256, .f32⟩
  | 8 => ⟨S2x4x32x128x256, .f32⟩
  | 9 => ⟨S2x4x32x128x256, .f32⟩
  | 10 => ⟨S_, .f32⟩
  | 11 => ⟨S2x4x32x128, .f32⟩
  | 12 => ⟨S2x4x32x128, .f32⟩
  | 13 => ⟨S2x4x32x128, .f32⟩
  | 14 => ⟨S2x4x32x128, .f32⟩
  | 15 => ⟨S2x4x32x128, .f32⟩
  | 16 => ⟨S2x4x32x128x1, .f32⟩
  | 17 => ⟨S2x4x32x128x256, .f32⟩
  | 18 => ⟨S2x4x32x128x256, .f32⟩
  | 19 => ⟨S2x4x32x128x1, .f32⟩
  | 20 => ⟨S_, .f32⟩
  | 21 => ⟨S2x4x32x128x1, .f32⟩
  | 22 => ⟨S2x4x32x128x1, .f32⟩
  | 23 => ⟨S32x2x64x4x128, .f32⟩
  | 24 => ⟨S32x128x2x4x64, .f32⟩
  | 25 => ⟨S4096x512, .f32⟩
  | 26 => ⟨S4096x512, .f32⟩
  | 27 => ⟨S32x128x2x4x64, .f32⟩
  | 28 => ⟨S32x2x64x4x128, .f32⟩
  | 29 => ⟨S32x2x4x128x256, .f32⟩
  | 30 => ⟨S2x4x32x128x256, .f32⟩
  | 31 => ⟨S32x2x64x256, .f32⟩
  | 32 => ⟨S32x256x2x64, .f32⟩
  | 33 => ⟨S2x4x32x128x256, .f32⟩
  | 34 => ⟨S2x4x32x128x256, .f32⟩
  | 35 => ⟨S2x4x32x128x256, .f32⟩
  | 36 => ⟨S_, .f32⟩
  | 37 => ⟨S2x4x32x128, .f32⟩
  | 38 => ⟨S2x4x32x128x1, .f32⟩
  | 39 => ⟨S2x4x32x128x1, .f32⟩
  | 40 => ⟨S2x4x32x128x256, .f32⟩
  | 41 => ⟨S2x4x32x128x256, .f32⟩
  | 42 => ⟨S_, .f32⟩
  | 43 => ⟨S2x4x32x128, .f32⟩
  | 44 => ⟨S2x4x32x128, .f32⟩
  | 45 => ⟨S_, .f32⟩
  | 46 => ⟨S2x4, .f32⟩
  | 47 => ⟨S2x4x1x1, .f32⟩
  | 48 => ⟨S2x4x32x128, .f32⟩
  | 49 => ⟨S2x4x32x128x256, .f32⟩
  | 50 => ⟨S2x4x32x128x256, .f32⟩
  | 51 => ⟨S2x4x32x128x256, .f32⟩
  | 52 => ⟨S2x4x32x128x256, .f32⟩
  | 53 => ⟨S_, .f32⟩
  | 54 => ⟨S2x4x32x128, .f32⟩
  | 55 => ⟨S2x4x32x128x1, .f32⟩
  | 56 => ⟨S_, .f32⟩
  | 57 => ⟨S2x4x32x128, .f32⟩
  | 58 => ⟨S2x4x32x128, .f32⟩
  | 59 => ⟨S2x4x32x128, .f32⟩
  | 60 => ⟨S_, .f32⟩
  | 61 => ⟨S2x4, .f32⟩
  | 62 => ⟨S2x4x1x1, .f32⟩
  | 63 => ⟨S2x4x1x1, .f32⟩
  | 64 => ⟨S2x4x32x128, .f32⟩
  | 65 => ⟨S2x4x32x128, .f32⟩
  | 66 => ⟨S2x4x32x128x256, .f32⟩
  | 67 => ⟨S2x4x32x128x256, .f32⟩
  | 68 => ⟨S2x4x32x128x256, .f32⟩
  | 69 => ⟨S_, .f32⟩
  | 70 => ⟨S2x4, .f32⟩
  | 71 => ⟨S8, .f32⟩
  | 72 => ⟨S_, .f32⟩
  | 73 => ⟨S2x4x32x128x256, .f32⟩
  | 74 => ⟨S2x4x32x128x256, .f32⟩
  | 75 => ⟨S_, .f32⟩
  | 76 => ⟨S2x4x32x128x256, .f32⟩
  | 77 => ⟨S2x4x32x128x256, .f32⟩
  | 78 => ⟨S2x32x256x128x4, .f32⟩
  | 79 => ⟨S2x32x128x4x64, .f32⟩
  | 80 => ⟨S32x128x2x4x64, .f32⟩
  | 81 => ⟨S2x32x256x64, .f32⟩
  | 82 => ⟨S32x256x2x64, .f32⟩
  | 83 => ⟨S32x128x2x64, .f32⟩
  | 84 => ⟨S32x128x2x64, .f32⟩
  | 85 => ⟨S1x128x2x64, .f32⟩
  | 86 => ⟨S31x128x2x64, .f32⟩
  | 87 => ⟨S_, .f32⟩
  | 88 => ⟨S32x128x2x64, .f32⟩
  | 89 => ⟨S32x128x2x64, .f32⟩
  | 90 => ⟨S4096x128, .f32⟩
  | 91 => ⟨S32x128x2x64, .f32⟩
  | 92 => ⟨S32x128x2x64, .f32⟩
  | 93 => ⟨S1x128x2x64, .f32⟩
  | 94 => ⟨S31x128x2x64, .f32⟩
  | 95 => ⟨S_, .f32⟩
  | 96 => ⟨S32x128x2x64, .f32⟩
  | 97 => ⟨S32x128x2x64, .f32⟩
  | 98 => ⟨S4096x128, .f32⟩
  | 99 => ⟨S4096x512, .f32⟩
  | 100 => ⟨S4096x512, .bf16⟩
  | _ => ⟨S4096x1792, .f32⟩

abbrev hbmTy (i : Nat) : BufTy := match i / 128 with
  | 0 => hbmTy0_0 i
  | 1 => hbmTy0_1 i
  | _ => ⟨S4096x1792, .f32⟩

abbrev bufTy : (tb : Table) → Fin (tcTables nBuf tb) → BufTy
  | .hbm, ⟨i, _⟩ => hbmTy i
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_6 : Ref sig .tc := ⟨.hbm, 48, rfl⟩
abbrev main_v37 : Ref sig .tc := ⟨.hbm, 49, rfl⟩
abbrev main_v38 : Ref sig .tc := ⟨.hbm, 50, rfl⟩
abbrev main_c_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_16 : Ref sig .tc := ⟨.hbm, 91, rfl⟩
abbrev main_call0_v0 : Ref sig .tc := ⟨.hbm, 92, rfl⟩
abbrev main_v70_1 : Ref sig .tc := ⟨.hbm, 93, rfl⟩
abbrev main_call0_v2 : Ref sig .tc := ⟨.hbm, 94, rfl⟩
abbrev main_v70_0 : Ref sig .tc := ⟨.hbm, 95, rfl⟩
abbrev main_call0_cst : Ref sig .tc := ⟨.hbm, 96, rfl⟩
abbrev main_v70_2 : Ref sig .tc := ⟨.hbm, 97, rfl⟩
abbrev main_v71 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_18 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_19 : Ref sig .tc := ⟨.hbm, 114, rfl⟩
abbrev main_v85 : Ref sig .tc := ⟨.hbm, 115, rfl⟩
abbrev main_cst_20 : Ref sig .tc := ⟨.hbm, 116, rfl⟩
abbrev main_v86 : Ref sig .tc := ⟨.hbm, 117, rfl⟩
abbrev main_cst_21 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_22 : Ref sig .tc := ⟨.hbm, 126, rfl⟩
abbrev main_v94 : Ref sig .tc := ⟨.hbm, 127, rfl⟩
abbrev main_cst_23 : Ref sig .tc := ⟨.hbm, 128, rfl⟩
abbrev main_v95 : Ref sig .tc := ⟨.hbm, 129, rfl⟩
abbrev main_cst_24 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_25 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_26 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_27 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_28 : Ref sig .tc := ⟨.hbm, 170, rfl⟩
abbrev main_v132 : Ref sig .tc := ⟨.hbm, 171, rfl⟩
abbrev main_v133 : Ref sig .tc := ⟨.hbm, 172, rfl⟩
abbrev main_cst_29 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_30 : Ref sig .tc := ⟨.hbm, 181, rfl⟩
abbrev main_v141 : Ref sig .tc := ⟨.hbm, 182, rfl⟩
abbrev main_v142 : Ref sig .tc := ⟨.hbm, 183, rfl⟩
abbrev main_cst_31 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_32 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_cst_33 : Ref sig .tc := ⟨.hbm, 197, rfl⟩
abbrev main_v154 : Ref sig .tc := ⟨.hbm, 198, rfl⟩
abbrev main_v155 : Ref sig .tc := ⟨.hbm, 199, rfl⟩
abbrev main_call1_cst : Ref sig .tc := ⟨.hbm, 200, rfl⟩
abbrev main_call1_v0 : Ref sig .tc := ⟨.hbm, 201, rfl⟩
abbrev main_v156 : Ref sig .tc := ⟨.hbm, 202, rfl⟩
abbrev main_cst_34 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_cst_35 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_cst_36 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S5632x1024 : Shape := ⟨2, ![5632, 1024]⟩
abbrev S256x1024 : Shape := ⟨2, ![256, 1024]⟩
abbrev S256x5632 : Shape := ⟨2, ![256, 5632]⟩
abbrev S512x1024 : Shape := ⟨2, ![512, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 34
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1024x5632, .bf16⟩
  | .hbm, ⟨23, _⟩ => ⟨S4096x5632, .f32⟩
  | .hbm, ⟨24, _⟩ => ⟨S4096x5632, .bf16⟩
  | .hbm, ⟨25, _⟩ => ⟨S1x1024, .f32⟩
  | .hbm, ⟨26, _⟩ => ⟨S5632x1024, .f32⟩
  | .hbm, ⟨27, _⟩ => ⟨S5632x1024, .bf16⟩
  | .hbm, ⟨28, _⟩ => ⟨S2816x1024, .bf16⟩
  | .hbm, ⟨29, _⟩ => ⟨S4096x1024, .f32⟩
  | .hbm, ⟨30, _⟩ => ⟨S4096x5632, .bf16⟩
  | .hbm, ⟨31, _⟩ => ⟨S1x1024, .f32⟩
  | .hbm, ⟨32, _⟩ => ⟨S4096x1024, .bf16⟩
  | .hbm, ⟨33, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x5632, .bf16⟩
  | .local _ .vmem, ⟨6, _⟩ => ⟨S256x5632, .bf16⟩
  | .local _ .vmem, ⟨7, _⟩ => ⟨S5632x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev main_v21_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v227 : BitVec 1 := Scalar.cmpi .eq arg0 c0_i32
  let v228 : BitVec 32 := Scalar.extui v227
  let c0_i32_111 : BitVec 32 := 0#32
  let v229 : BitVec 1 := Scalar.cmpi .ne v228 c0_i32_111
  v229

def k0_cond2 (i : grid0.Coords) : BitVec 1 :=
  let arg0 : BitVec 32 := BitVec.ofNat 32 (i 0).val
  let c0_i32_112 : BitVec 32 := 0#32
  let v230 : BitVec 1 := Scalar.cmpi .sgt arg0 c0_i32_112
  let v231 : BitVec 32 := Scalar.extui v230
  let c0_i32_113 : BitVec 32 := 0#32
  let v232 : BitVec 1 := Scalar.cmpi .ne v231 c0_i32_113
  v232

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S1024, .f32⟩
  | 2 => ⟨S4096x1024, .f32⟩
  | 3 => ⟨S1024x5632, .f32⟩
  | 4 => ⟨S2816x1024, .f32⟩
  | 5 => ⟨S4096x1024, .f32⟩
  | 6 => ⟨S_, .f32⟩
  | 7 => ⟨S4096, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096x1, .f32⟩
  | 14 => ⟨S4096x1, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1024, .f32⟩
  | 21 => ⟨S4096x1024, .f32⟩
  | 22 => ⟨S1x1024, .f32⟩
  | 23 => ⟨S4096x1024, .f32⟩
  | 24 => ⟨S4096x1024, .f32⟩
  | 25 => ⟨S4096x5632, .f32⟩
  | 26 => ⟨S4096x2816, .f32⟩
  | 27 => ⟨S4096x2816, .f32⟩
  | 28 => ⟨S4096x2816, .f32⟩
  | 29 => ⟨S4096x2816, .f32⟩
  | 30 => ⟨S_, .f32⟩
  | 31 => ⟨S4096x2816, .f32⟩
  | 32 => ⟨S4096x2816, .f32⟩
  | 33 => ⟨S_, .f32⟩
  | 34 => ⟨S4096x2816, .f32⟩
  | 35 => ⟨S4096x2816, .f32⟩
  | 36 => ⟨S_, .f32⟩
  | 37 => ⟨S4096x2816, .f32⟩
  | 38 => ⟨S4096x2816, .f32⟩
  | 39 => ⟨S4096x2816, .f32⟩
  | 40 => ⟨S4096x2816, .f32⟩
  | 41 => ⟨S4096x2816, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S4096x2816, .f32⟩
  | 52 => ⟨S4096x2816, .f32⟩
  | 53 => ⟨S4096x2816, .f32⟩
  | 54 => ⟨S4096x2816, .f32⟩
  | 55 => ⟨S4096x2816, .f32⟩
  | 56 => ⟨S4096x2816, .f32⟩
  | 57 => ⟨S4096x2816, .f32⟩
  | 58 => ⟨S4096x5632, .f32⟩
  | 59 => ⟨S4096x1024, .f32⟩
  | 60 => ⟨S4096x1024, .f32⟩
  | 61 => ⟨S_, .f32⟩
  | 62 => ⟨S1024, .f32⟩
  | 63 => ⟨S1x1024, .f32⟩
  | 64 => ⟨S4096x1024, .f32⟩
  | 65 => ⟨S4096x1024, .f32⟩
  | 66 => ⟨S_, .f32⟩
  | 67 => ⟨S1024, .f32⟩
  | 68 => ⟨S4096x1024, .f32⟩
  | 69 => ⟨S_, .f32⟩
  | 70 => ⟨S4096, .f32⟩
  | 71 => ⟨S4096x1, .f32⟩
  | 72 => ⟨S4096x1024, .f32⟩
  | 73 => ⟨S4096x1024, .f32⟩
  | 74 => ⟨S4096x1024, .f32⟩
  | 75 => ⟨S4096x1, .f32⟩
  | 76 => ⟨S_, .f32⟩
  | 77 => ⟨S4096x1, .f32⟩
  | 78 => ⟨S4096x1, .f32⟩
  | 79 => ⟨S_, .f32⟩
  | 80 => ⟨S4096, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S_, .f32⟩
  | 88 => ⟨S4096, .f32⟩
  | 89 => ⟨S4096x1, .f32⟩
  | 90 => ⟨S_, .f32⟩
  | 91 => ⟨S4096x1, .f32⟩
  | 92 => ⟨S4096x1, .f32⟩
  | 93 => ⟨S_, .f32⟩
  | 94 => ⟨S4096x1, .f32⟩
  | 95 => ⟨S4096x1, .f32⟩
  | 96 => ⟨S4096x1, .f32⟩
  | 97 => ⟨S4096x1024, .f32⟩
  | 98 => ⟨S4096x1024, .f32⟩
  | 99 => ⟨S1x1024, .f32⟩
  | 100 => ⟨S4096x1024, .f32⟩
  | 101 => ⟨S4096x1024, .f32⟩
  | 102 => ⟨S4096x5632, .f32⟩
  | 103 => ⟨S4096x2816, .f32⟩
  | 104 => ⟨S4096x2816, .f32⟩
  | 105 => ⟨S4096x2816, .f32⟩
  | 106 => ⟨S4096x2816, .f32⟩
  | 107 => ⟨S_, .f32⟩
  | 108 => ⟨S4096x2816, .f32⟩
  | 109 => ⟨S4096x2816, .f32⟩
  | 110 => ⟨S_, .f32⟩
  | 111 => ⟨S4096x2816, .f32⟩
  | 112 => ⟨S4096x2816, .f32⟩
  | 113 => ⟨S_, .f32⟩
  | 114 => ⟨S4096x2816, .f32⟩
  | 115 => ⟨S4096x2816, .f32⟩
  | 116 => ⟨S4096x2816, .f32⟩
  | 117 => ⟨S4096x2816, .f32⟩
  | 118 => ⟨S4096x2816, .f32⟩
  | 119 => ⟨S4096x1024, .f32⟩
  | 120 => ⟨S_, .f32⟩
  | 121 => ⟨S4096x1024, .f32⟩
  | 122 => ⟨S4096x1024, .f32⟩
  | 123 => ⟨S_, .f32⟩
  | 124 => ⟨S4096x1024, .f32⟩
  | 125 => ⟨S4096x1024, .f32⟩
  | 126 => ⟨S4096x2816, .f32⟩
  | 127 => ⟨S4096x2816, .f32⟩
  | _ => ⟨S4096x1024, .f32⟩

abbrev hbmTy0_1 (i : Nat) : BufTy := match i % 128 with
  | 0 => ⟨S4096x2816, .f32⟩
  | 1 => ⟨S4096x2816, .f32⟩
  | 2 => ⟨S4096x2816, .f32⟩
  | 3 => ⟨S4096x2816, .f32⟩
  | 4 => ⟨S4096x2816, .f32⟩
  | 5 => ⟨S4096x5632, .f32⟩
  | 6 => ⟨S4096x5632, .bf16⟩
  | 7 => ⟨S1x1024, .f32⟩
  | 8 => ⟨S4096x1024, .bf16⟩
  | 9 => ⟨S_, .f32⟩
  | 10 => ⟨S4096x1024, .f32⟩
  | 11 => ⟨S4096x1024, .f32⟩
  | 12 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v71_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v71_1 : Ref sig .tc := ⟨.hbm, 116, rfl⟩
abbrev main_v71_0 : Ref sig .tc := ⟨.hbm, 117, rfl⟩
abbrev main_v72 : Ref sig .tc := ⟨.hbm, 118, rfl⟩
abbrev main_v73 : Ref sig .tc := ⟨.hbm, 119, rfl⟩
abbrev main_cst_13 : Ref sig .tc := ⟨.hbm, 120, rfl⟩
abbrev main_v74 : Ref sig .tc := ⟨.hbm, 121, rfl⟩
abbrev main_v75 : Ref sig .tc := ⟨.hbm, 122, rfl⟩
abbrev main_cst_14 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_15 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S2x2816x1024 : Shape := ⟨3, ![2, 2816, 1024]⟩
abbrev S512x1024 : Shape := ⟨2, ![512, 1024]⟩
abbrev S512x1408 : Shape := ⟨2, ![512, 1408]⟩
abbrev S2x1408x1024 : Shape := ⟨3, ![2, 1408, 1024]⟩
abbrev S1408x1024 : Shape := ⟨2, ![1408, 1024]⟩
abbrev S512x384 : Shape := ⟨2, ![512, 384]⟩
abbrev S1x384x1024 : Shape := ⟨3, ![1, 384, 1024]⟩
abbrev S384x1024 : Shape := ⟨2, ![384, 1024]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 62
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x5632, .f32⟩
  | .hbm, ⟨53, _⟩ => ⟨S4096x1024, .bf16⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S4096x5632, .bf16⟩
  | .hbm, ⟨59, _⟩ => ⟨S4096x5632, .bf16⟩
  | .hbm, ⟨60, _⟩ => ⟨S2x2816x1024, .bf16⟩
  | .hbm, ⟨61, _⟩ => ⟨S2816x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S2x1408x1024, .bf16⟩
  | .local _ .vmem, ⟨13, _⟩ => ⟨S1408x1024, .bf16⟩
  | .local _ .vmem, ⟨14, _⟩ => ⟨S2x1408x1024, .f32⟩
  | .local _ .vmem, ⟨15, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34_0 : Ref sig .tc := ⟨.hbm, 60, rfl⟩
abbrev main_v34_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v167 : BitVec 1 := Scalar.cmpi .eq arg1 c7_i32
  let v168 : BitVec 32 := Scalar.extui v167
  let c0_i32_119 : BitVec 32 := 0#32
  let v169 : BitVec 1 := Scalar.cmpi .ne v168 c0_i32_119
  v169

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x1408x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1408x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference4Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1024x2816 : Shape := ⟨2, ![1024, 2816]⟩
abbrev S5632x1024 : Shape := ⟨2, ![5632, 1024]⟩
abbrev S2x2816x1024 : Shape := ⟨3, ![2, 2816, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S1024x2816, .f32⟩
  | .hbm, ⟨47, _⟩ => ⟨S2816x1024, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x5632, .f32⟩
  | .hbm, ⟨56, _⟩ => ⟨S5632x1024, .f32⟩
  | .hbm, ⟨57, _⟩ => ⟨S1024x5632, .f32⟩
  | .hbm, ⟨58, _⟩ => ⟨S5632x1024, .f32⟩
  | .hbm, ⟨59, _⟩ => ⟨S2x2816x1024, .f32⟩
  | .hbm, ⟨60, _⟩ => ⟨S2x2816x1024, .bf16⟩
  | .hbm, ⟨61, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S4096x1792 : Shape := ⟨2, ![4096, 1792]⟩
abbrev S1024x1792 : Shape := ⟨2, ![1024, 1792]⟩
abbrev S4096x128 : Shape := ⟨2, ![4096, 128]⟩
abbrev S_ : Shape := ⟨0, ![]⟩
abbrev S4096x64 : Shape := ⟨2, ![4096, 64]⟩
abbrev S4096x256 : Shape := ⟨2, ![4096, 256]⟩
abbrev S4096x512 : Shape := ⟨2, ![4096, 512]⟩
abbrev S1x1024 : Shape := ⟨2, ![1, 1024]⟩
abbrev S1792x1024 : Shape := ⟨2, ![1792, 1024]⟩
abbrev S512x1024 : Shape := ⟨2, ![512, 1024]⟩
abbrev S128x1024 : Shape := ⟨2, ![128, 1024]⟩
abbrev S64x1024 : Shape := ⟨2, ![64, 1024]⟩
abbrev S256x1024 : Shape := ⟨2, ![256, 1024]⟩
abbrev S1024x1024 : Shape := ⟨2, ![1024, 1024]⟩
abbrev S2048x1024 : Shape := ⟨2, ![2048, 1024]⟩
abbrev S512x512 : Shape := ⟨2, ![512, 512]⟩
abbrev S512 : Shape := ⟨1, ![512]⟩
abbrev S512x1 : Shape := ⟨2, ![512, 1]⟩

abbrev nBuf : Space → Nat
  | .hbm => 65
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1792, .f32⟩
  | .hbm, ⟨4, _⟩ => ⟨S1024x1792, .f32⟩
  | .hbm, ⟨5, _⟩ => ⟨S4096x128, .f32⟩
  | .hbm, ⟨6, _⟩ => ⟨S_, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x256, .f32⟩
  | .hbm, ⟨11, _⟩ => ⟨S4096x128, .f32⟩
  | .hbm, ⟨12, _⟩ => ⟨S_, .f32⟩
  | .hbm, ⟨13, _⟩ => ⟨S4096x64, .f32⟩
  | .hbm, ⟨14, _⟩ => ⟨S4096x64, .f32⟩
  | .hbm, ⟨15, _⟩ => ⟨S4096x64, .f32⟩
  | .hbm, ⟨16, _⟩ => ⟨S4096x256, .f32⟩
  | .hbm, ⟨17, _⟩ => ⟨S4096x512, .f32⟩
  | .hbm, ⟨18, _⟩ => ⟨S1x1024, .f32⟩
  | .hbm, ⟨19, _⟩ => ⟨S4096x512, .f32⟩
  | .hbm, ⟨20, _⟩ => ⟨S4096x512, .bf16⟩
  | .hbm, ⟨21, _⟩ => ⟨S4096x512, .bf16⟩
  | .hbm, ⟨22, _⟩ => ⟨S4096x1024, .f32⟩
  | .hbm, ⟨23, _⟩ => ⟨S4096x1024, .bf16⟩
  | .hbm, ⟨24, _⟩ => ⟨S1792x1024, .f32⟩
  | .hbm, ⟨25, _⟩ => ⟨S1792x1024, .bf16⟩
  | .hbm, ⟨26, _⟩ => ⟨S512x1024, .bf16⟩
  | .hbm, ⟨27, _⟩ => ⟨S128x1024, .bf16⟩
  | .hbm, ⟨28, _⟩ => ⟨S64x1024, .bf16⟩
  | .hbm, ⟨29, _⟩ => ⟨S64x1024, .bf16⟩
  | .hbm, ⟨30, _⟩ => ⟨S64x1024, .bf16⟩
  | .hbm, ⟨31, _⟩ => ⟨S64x1024, .bf16⟩
  | .hbm, ⟨32, _⟩ => ⟨S256x1024, .bf16⟩
  | .hbm, ⟨33, _⟩ => ⟨S128x1024, .bf16⟩
  | .hbm, ⟨34, _⟩ => ⟨S64x1024, .bf16⟩
  | .hbm, ⟨35, _⟩ => ⟨S64x1024, .bf16⟩
  | .hbm, ⟨36, _⟩ => ⟨S64x1024, .bf16⟩
  | .hbm, ⟨37, _⟩ => ⟨S64x1024, .bf16⟩
  | .hbm, ⟨38, _⟩ => ⟨S256x1024, .bf16⟩
  | .hbm, ⟨39, _⟩ => ⟨S1024x1024, .bf16⟩
  | .hbm, ⟨40, _⟩ => ⟨S2048x1024, .bf16⟩
  | .hbm, ⟨41, _⟩ => ⟨S4096x1024, .f32⟩
  | .hbm, ⟨42, _⟩ => ⟨S1x1024, .f32⟩
  | .hbm, ⟨43, _⟩ => ⟨S2048x1024, .f32⟩
  | .hbm, ⟨44, _⟩ => ⟨S512x1024, .f32⟩
  | .hbm, ⟨45, _⟩ => ⟨S256x1024, .f32⟩
  | .hbm, ⟨46, _⟩ => ⟨S64x1024, .f32⟩
  | .hbm, ⟨47, _⟩ => ⟨S64x1024, .f32⟩
  | .hbm, ⟨48, _⟩ => ⟨S64x1024, .f32⟩
  | .hbm, ⟨49, _⟩ => ⟨S64x1024, .f32⟩
  | .hbm, ⟨50, _⟩ => ⟨S64x1024, .f32⟩
  | .hbm, ⟨51, _⟩ => ⟨S64x1024, .f32⟩
  | .hbm, ⟨52, _⟩ => ⟨S128x1024, .f32⟩
  | .hbm, ⟨53, _⟩ => ⟨S256x1024, .f32⟩
  | .hbm, ⟨54, _⟩ => ⟨S64x1024, .f32⟩
  | .hbm, ⟨55, _⟩ => ⟨S64x1024, .f32⟩
  | .hbm, ⟨56, _⟩ => ⟨S64x1024, .f32⟩
  | .hbm, ⟨57, _⟩ => ⟨S64x1024, .f32⟩
  | .hbm, ⟨58, _⟩ => ⟨S64x1024, .f32⟩
  | .hbm, ⟨59, _⟩ => ⟨S64x1024, .f32⟩
  | .hbm, ⟨60, _⟩ => ⟨S128x1024, .f32⟩
  | .hbm, ⟨61, _⟩ => ⟨S1024x1024, .f32⟩
  | .hbm, ⟨62, _⟩ => ⟨S1792x1024, .f32⟩
  | .hbm, ⟨63, _⟩ => ⟨S1024, .f32⟩
  | .hbm, ⟨64, _⟩ => ⟨S1792x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S2048x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34_0 : Ref sig .tc := ⟨.hbm, 41, rfl⟩
abbrev main_v34_1 : Ref sig .tc := ⟨.hbm, 42, rfl⟩
abbrev main_v34_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_27 : BitVec 32 := 0#32
  let v55 : BitVec 1 := Scalar.cmpi .ne v54 c0_i32_27
  v55

def k0_cond2 (i : grid0.Coords) : BitVec 1 :=
  let arg0 : BitVec 32 := BitVec.ofNat 32 (i 0).val
  let c0_i32_28 : BitVec 32 := 0#32
  let v56 : BitVec 1 := Scalar.cmpi .sgt arg0 c0_i32_28
  let v57 : BitVec 32 := Scalar.extui v56
  let c0_i32_29 : BitVec 32 := 0#32
  let v58 : BitVec 1 := Scalar.cmpi .ne v57 c0_i32_29
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S4096x1024 : Shape := ⟨2, ![4096, 1024]⟩
abbrev S1024 : Shape := ⟨1, ![1024]⟩
abbrev S4096x1792 : Shape := ⟨2, ![4096, 1792]⟩
abbrev S1024x1792 : Shape := ⟨2, ![1024, 1792]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1792x1024 : Shape := ⟨2, ![1792, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1792, .f32⟩
  | .hbm, ⟨4, _⟩ => ⟨S1024x1792, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1792, .f32⟩
  | .hbm, ⟨26, _⟩ => ⟨S1792x1024, .f32⟩
  | .hbm, ⟨27, _⟩ => ⟨S1024x1792, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1792x1024, .f32⟩
  | .hbm, ⟨56, _⟩ => ⟨S1792x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel6.lean ====
abbrev S4096x1792 : Shape := ⟨2, ![4096, 1792]⟩
abbrev S4096x1024 : Shape := ⟨2, ![4096, 1024]⟩
abbrev S31x512 : Shape := ⟨2, ![31, 512]⟩
abbrev S512 : Shape := ⟨1, ![512]⟩
abbrev S_ : Shape := ⟨0, ![]⟩
abbrev S30x512 : Shape := ⟨2, ![30, 512]⟩
abbrev S4096x512 : Shape := ⟨2, ![4096, 512]⟩
abbrev S4126x512 : Shape := ⟨2, ![4126, 512]⟩
abbrev S1x512 : Shape := ⟨2, ![1, 512]⟩
abbrev S4096x128 : Shape := ⟨2, ![4096, 128]⟩
abbrev S4096x64 : Shape := ⟨2, ![4096, 64]⟩
abbrev S4096x256 : Shape := ⟨2, ![4096, 256]⟩
abbrev S4096x2048 : Shape := ⟨2, ![4096, 2048]⟩
abbrev S32x512 : Shape := ⟨2, ![32, 512]⟩
abbrev S8x512 : Shape := ⟨2, ![8, 512]⟩
abbrev S512x512 : Shape := ⟨2, ![512, 512]⟩
abbrev S512x1024 : Shape := ⟨2, ![512, 1024]⟩
abbrev S544x512 : Shape := ⟨2, ![544, 512]⟩
abbrev S31x8x512 : Shape := ⟨3, ![31, 8, 512]⟩
abbrev S7x544x512 : Shape := ⟨3, ![7, 544, 512]⟩
abbrev S512x1 : Shape := ⟨2, ![512, 1]⟩
abbrev S32 : Shape := ⟨1, ![32]⟩
abbrev S32x1 : Shape := ⟨2, ![32, 1]⟩
abbrev S536x512 : Shape := ⟨2, ![536, 512]⟩
abbrev S1x536x512 : Shape := ⟨3, ![1, 536, 512]⟩
abbrev S1x32x512 : Shape := ⟨3, ![1, 32, 512]⟩
abbrev S1x8x512 : Shape := ⟨3, ![1, 8, 512]⟩
abbrev S4x8x512 : Shape := ⟨3, ![4, 8, 512]⟩

abbrev nBuf : Space → Nat
  | .hbm => 268
  | .vmem => 28
  | .smem => 0
  | _ => 0

abbrev hbmTy0_0 (i : Nat) : BufTy := match i % 128 with
  | 0 => ⟨S4096x1792, .f32⟩
  | 1 => ⟨S4096x1024, .f32⟩
  | 2 => ⟨S31x512, .f32⟩
  | 3 => ⟨S512, .f32⟩
  | 4 => ⟨S512, .f32⟩
  | 5 => ⟨S512, .f32⟩
  | 6 => ⟨S4096x1024, .f32⟩
  | 7 => ⟨S_, .f32⟩
  | 8 => ⟨S30x512, .f32⟩
  | 9 => ⟨S4096x512, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S4096x512, .f32⟩
  | 20 => ⟨S4126x512, .f32⟩
  | 21 => ⟨S4096x512, .f32⟩
  | 22 => ⟨S1x512, .f32⟩
  | 23 => ⟨S512, .f32⟩
  | 24 => ⟨S1x512, .f32⟩
  | 25 => ⟨S4096x512, .f32⟩
  | 26 => ⟨S4096x512, .f32⟩
  | 27 => ⟨S4096x512, .f32⟩
  | 28 => ⟨S1x512, .f32⟩
  | 29 => ⟨S512, .f32⟩
  | 30 => ⟨S1x512, .f32⟩
  | 31 => ⟨S4096x512, .f32⟩
  | 32 => ⟨S4096x512, .f32⟩
  | 33 => ⟨S4096x512, .f32⟩
  | 34 => ⟨S1x512, .f32⟩
  | 35 => ⟨S512, .f32⟩
  | 36 => ⟨S1x512, .f32⟩
  | 37 => ⟨S4096x512, .f32⟩
  | 38 => ⟨S4096x512, .f32⟩
  | 39 => ⟨S4096x512, .f32⟩
  | 40 => ⟨S1x512, .f32⟩
  | 41 => ⟨S512, .f32⟩
  | 42 => ⟨S1x512, .f32⟩
  | 43 => ⟨S4096x512, .f32⟩
  | 44 => ⟨S4096x512, .f32⟩
  | 45 => ⟨S4096x512, .f32⟩
  | 46 => ⟨S1x512, .f32⟩
  | 47 => ⟨S512, .f32⟩
  | 48 => ⟨S1x512, .f32⟩
  | 49 => ⟨S4096x512, .f32⟩
  | 50 => ⟨S4096x512, .f32⟩
  | 51 => ⟨S4096x512, .f32⟩
  | 52 => ⟨S1x512, .f32⟩
  | 53 => ⟨S512, .f32⟩
  | 54 => ⟨S1x512, .f32⟩
  | 55 => ⟨S4096x512, .f32⟩
  | 56 => ⟨S4096x512, .f32⟩
  | 57 => ⟨S4096x512, .f32⟩
  | 58 => ⟨S1x512, .f32⟩
  | 59 => ⟨S512, .f32⟩
  | 60 => ⟨S1x512, .f32⟩
  | 61 => ⟨S4096x512, .f32⟩
  | 62 => ⟨S4096x512, .f32⟩
  | 63 => ⟨S4096x512, .f32⟩
  | 64 => ⟨S1x512, .f32⟩
  | 65 => ⟨S512, .f32⟩
  | 66 => ⟨S1x512, .f32⟩
  | 67 => ⟨S4096x512, .f32⟩
  | 68 => ⟨S4096x512, .f32⟩
  | 69 => ⟨S4096x512, .f32⟩
  | 70 => ⟨S1x512, .f32⟩
  | 71 => ⟨S512, .f32⟩
  | 72 => ⟨S1x512, .f32⟩
  | 73 => ⟨S4096x512, .f32⟩
  | 74 => ⟨S4096x512, .f32⟩
  | 75 => ⟨S4096x512, .f32⟩
  | 76 => ⟨S1x512, .f32⟩
  | 77 => ⟨S512, .f32⟩
  | 78 => ⟨S1x512, .f32⟩
  | 79 => ⟨S4096x512, .f32⟩
  | 80 => ⟨S4096x512, .f32⟩
  | 81 => ⟨S4096x512, .f32⟩
  | 82 => ⟨S1x512, .f32⟩
  | 83 => ⟨S512, .f32⟩
  | 84 => ⟨S1x512, .f32⟩
  | 85 => ⟨S4096x512, .f32⟩
  | 86 => ⟨S4096x512, .f32⟩
  | 87 => ⟨S4096x512, .f32⟩
  | 88 => ⟨S1x512, .f32⟩
  | 89 => ⟨S512, .f32⟩
  | 90 => ⟨S1x512, .f32⟩
  | 91 => ⟨S4096x512, .f32⟩
  | 92 => ⟨S4096x512, .f32⟩
  | 93 => ⟨S4096x512, .f32⟩
  | 94 => ⟨S1x512, .f32⟩
  | 95 => ⟨S512, .f32⟩
  | 96 => ⟨S1x512, .f32⟩
  | 97 => ⟨S4096x512, .f32⟩
  | 98 => ⟨S4096x512, .f32⟩
  | 99 => ⟨S4096x512, .f32⟩
  | 100 => ⟨S1x512, .f32⟩
  | 101 => ⟨S512, .f32⟩
  | 102 => ⟨S1x512, .f32⟩
  | 103 => ⟨S4096x512, .f32⟩
  | 104 => ⟨S4096x512, .f32⟩
  | 105 => ⟨S4096x512, .f32⟩
  | 106 => ⟨S1x512, .f32⟩
  | 107 => ⟨S512, .f32⟩
  | 108 => ⟨S1x512, .f32⟩
  | 109 => ⟨S4096x512, .f32⟩
  | 110 => ⟨S4096x512, .f32⟩
  | 111 => ⟨S4096x512, .f32⟩
  | 112 => ⟨S1x512, .f32⟩
  | 113 => ⟨S512, .f32⟩
  | 114 => ⟨S1x512, .f32⟩
  | 115 => ⟨S4096x512, .f32⟩
  | 116 => ⟨S4096x512, .f32⟩
  | 117 => ⟨S4096x512, .f32⟩
  | 118 => ⟨S1x512, .f32⟩
  | 119 => ⟨S512, .f32⟩
  | 120 => ⟨S1x512, .f32⟩
  | 121 => ⟨S4096x512, .f32⟩
  | 122 => ⟨S4096x512, .f32⟩
  | 123 => ⟨S4096x512, .f32⟩
  | 124 => ⟨S1x512, .f32⟩
  | 125 => ⟨S512, .f32⟩
  | 126 => ⟨S1x512, .f32⟩
  | 127 => ⟨S4096x512, .f32⟩
  | _ => ⟨S4096x1792, .f32⟩

abbrev hbmTy0_1 (i : Nat) : BufTy := match i % 128 with
  | 0 => ⟨S4096x512, .f32⟩
  | 1 => ⟨S4096x512, .f32⟩
  | 2 => ⟨S1x512, .f32⟩
  | 3 => ⟨S512, .f32⟩
  | 4 => ⟨S1x512, .f32⟩
  | 5 => ⟨S4096x512, .f32⟩
  | 6 => ⟨S4096x512, .f32⟩
  | 7 => ⟨S4096x512, .f32⟩
  | 8 => ⟨S1x512, .f32⟩
  | 9 => ⟨S512, .f32⟩
  | 10 => ⟨S1x512, .f32⟩
  | 11 => ⟨S4096x512, .f32⟩
  | 12 => ⟨S4096x512, .f32⟩
  | 13 => ⟨S4096x512, .f32⟩
  | 14 => ⟨S1x512, .f32⟩
  | 15 => ⟨S512, .f32⟩
  | 16 => ⟨S1x512, .f32⟩
  | 17 => ⟨S4096x512, .f32⟩
  | 18 => ⟨S4096x512, .f32⟩
  | 19 => ⟨S4096x512, .f32⟩
  | 20 => ⟨S1x512, .f32⟩
  | 21 => ⟨S512, .f32⟩
  | 22 => ⟨S1x512, .f32⟩
  | 23 => ⟨S4096x512, .f32⟩
  | 24 => ⟨S4096x512, .f32⟩
  | 25 => ⟨S4096x512, .f32⟩
  | 26 => ⟨S1x512, .f32⟩
  | 27 => ⟨S512, .f32⟩
  | 28 => ⟨S1x512, .f32⟩
  | 29 => ⟨S4096x512, .f32⟩
  | 30 => ⟨S4096x512, .f32⟩
  | 31 => ⟨S4096x512, .f32⟩
  | 32 => ⟨S1x512, .f32⟩
  | 33 => ⟨S512, .f32⟩
  | 34 => ⟨S1x512, .f32⟩
  | 35 => ⟨S4096x512, .f32⟩
  | 36 => ⟨S4096x512, .f32⟩
  | 37 => ⟨S4096x512, .f32⟩
  | 38 => ⟨S1x512, .f32⟩
  | 39 => ⟨S512, .f32⟩
  | 40 => ⟨S1x512, .f32⟩
  | 41 => ⟨S4096x512, .f32⟩
  | 42 => ⟨S4096x512, .f32⟩
  | 43 => ⟨S4096x512, .f32⟩
  | 44 => ⟨S1x512, .f32⟩
  | 45 => ⟨S512, .f32⟩
  | 46 => ⟨S1x512, .f32⟩
  | 47 => ⟨S4096x512, .f32⟩
  | 48 => ⟨S4096x512, .f32⟩
  | 49 => ⟨S4096x512, .f32⟩
  | 50 => ⟨S1x512, .f32⟩
  | 51 => ⟨S512, .f32⟩
  | 52 => ⟨S1x512, .f32⟩
  | 53 => ⟨S4096x512, .f32⟩
  | 54 => ⟨S4096x512, .f32⟩
  | 55 => ⟨S4096x512, .f32⟩
  | 56 => ⟨S1x512, .f32⟩
  | 57 => ⟨S512, .f32⟩
  | 58 => ⟨S1x512, .f32⟩
  | 59 => ⟨S4096x512, .f32⟩
  | 60 => ⟨S4096x512, .f32⟩
  | 61 => ⟨S4096x512, .f32⟩
  | 62 => ⟨S1x512, .f32⟩
  | 63 => ⟨S512, .f32⟩
  | 64 => ⟨S1x512, .f32⟩
  | 65 => ⟨S4096x512, .f32⟩
  | 66 => ⟨S4096x512, .f32⟩
  | 67 => ⟨S4096x512, .f32⟩
  | 68 => ⟨S1x512, .f32⟩
  | 69 => ⟨S512, .f32⟩
  | 70 => ⟨S1x512, .f32⟩
  | 71 => ⟨S4096x512, .f32⟩
  | 72 => ⟨S4096x512, .f32⟩
  | 73 => ⟨S4096x512, .f32⟩
  | 74 => ⟨S1x512, .f32⟩
  | 75 => ⟨S512, .f32⟩
  | 76 => ⟨S1x512, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S4096x512, .f32⟩
  | 86 => ⟨S4096x512, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S4096x512, .f32⟩
  | 108 => ⟨S4096x512, .f32⟩
  | 109 => ⟨S1x512, .f32⟩
  | 110 => ⟨S4096x512, .f32⟩
  | 111 => ⟨S4096x512, .f32⟩
  | 112 => ⟨S4096x512, .f32⟩
  | 113 => ⟨S4096x128, .f32⟩
  | 114 => ⟨S4096x64, .f32⟩
  | 115 => ⟨S4096x64, .f32⟩
  | 116 => ⟨S4096x64, .f32⟩
  | 117 => ⟨S4096x64, .f32⟩
  | 118 => ⟨S4096x256, .f32⟩
  | 119 => ⟨S4096x128, .f32⟩
  | 120 => ⟨S4096x64, .f32⟩
  | 121 => ⟨S4096x64, .f32⟩
  | 122 => ⟨S4096x64, .f32⟩
  | 123 => ⟨S4096x64, .f32⟩
  | 124 => ⟨S4096x256, .f32⟩
  | 125 => ⟨S4096x1024, .f32⟩
  | 126 => ⟨S4096x2048, .f32⟩
  | 127 => ⟨S4096x2048, .bf16⟩
  | _ => ⟨S4096x1792, .f32⟩

abbrev hbmTy0_2 (i : Nat) : BufTy := match i % 128 with
  | 0 => ⟨S4096x1024, .bf16⟩
  | 1 => ⟨S1x512, .f32⟩
  | 2 => ⟨S1x512, .f32⟩
  | 3 => ⟨S4096x1024, .bf16⟩
  | 4 => ⟨S32x512, .f32⟩
  | 5 => ⟨S8x512, .f32⟩
  | 6 => ⟨S1x512, .f32⟩
  | 7 => ⟨S512, .f32⟩
  | 8 => ⟨S1x512, .f32⟩
  | 9 => ⟨S512, .f32⟩
  | 10 => ⟨S1x512, .f32⟩
  | 11 => ⟨S512, .f32⟩
  | _ => ⟨S4096x1792, .f32⟩

abbrev hbmTy (i : Nat) : BufTy := match i / 128 with
  | 0 => hbmTy0_0 i
  | 1 => hbmTy0_1 i
  | 2 => hbmTy0_2 i
  | _ => ⟨S4096x1792, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S32x512, .bf16⟩
  | .local _ .vmem, ⟨3, _⟩ => ⟨S32x512, .bf16⟩
  | .local _ .vmem, ⟨4, _⟩ => ⟨S512x512, .f32⟩
  | .local _ .vmem, ⟨5, _⟩ => ⟨S512x512, .f32⟩
  | .local _ .vmem, ⟨6, _⟩ => ⟨S32x512, .f32⟩
  | .local _ .vmem, ⟨7, _⟩ => ⟨S32x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S32x512, .bf16⟩
  | .local _ .vmem, ⟨13, _⟩ => ⟨S32x512, .bf16⟩
  | .local _ .vmem, ⟨14, _⟩ => ⟨S32x512, .bf16⟩
  | .local _ .vmem, ⟨15, _⟩ => ⟨S32x512, .bf16⟩
  | .local _ .vmem, ⟨16, _⟩ => ⟨S31x512, .f32⟩
  | .local _ .vmem, ⟨17, _⟩ => ⟨S1x512, .f32⟩
  | .local _ .vmem, ⟨18, _⟩ => ⟨S1x512, .f32⟩
  | .local _ .vmem, ⟨19, _⟩ => ⟨S512x1024, .bf16⟩
  | .local _ .vmem, ⟨20, _⟩ => ⟨S512x1024, .bf16⟩
  | .local _ .vmem, ⟨21, _⟩ => ⟨S32x512, .f32⟩
  | .local _ .vmem, ⟨22, _⟩ => ⟨S8x512, .f32⟩
  | .local _ .vmem, ⟨23, _⟩ => ⟨S544x512, .f32⟩
  | .local _ .vmem, ⟨24, _⟩ => ⟨S544x512, .f32⟩
  | .local _ .vmem, ⟨25, _⟩ => ⟨S31x8x512, .f32⟩
  | .local _ .vmem, ⟨26, _⟩ => ⟨S7x544x512, .f32⟩
  | .local _ .vmem, ⟨27, _⟩ => ⟨S7x544x512, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_v240 : Ref sig .tc := ⟨.hbm, 249, rfl⟩
abbrev main_v241 : Ref sig .tc := ⟨.hbm, 250, rfl⟩
abbrev main_v242 : Ref sig .tc := ⟨.hbm, 251, rfl⟩
abbrev main_v243 : Ref sig .tc := ⟨.hbm, 252, rfl⟩
abbrev main_v244 : Ref sig .tc := ⟨.hbm, 253, rfl⟩
abbrev main_v245 : Ref sig .tc := ⟨.hbm, 254, rfl⟩
abbrev main_v246 : Ref sig .tc := ⟨.hbm, 255, rfl⟩
abbrev main_v247 : Ref sig .tc := ⟨.hbm, 256, rfl⟩
abbrev main_v248 : Ref sig .tc := ⟨.hbm, 257, rfl⟩
abbrev main_v249 : Ref sig .tc := ⟨.hbm, 258, rfl⟩
abbrev main_v250_0 : Ref sig .tc := ⟨.hbm, 259, rfl⟩
abbrev main_v250_1 : Ref sig .tc := ⟨.hbm, 260, rfl⟩
abbrev main_v250_2 : Ref sig .tc := ⟨.hbm, 261, rfl⟩
abbrev main_v251 : Ref sig .tc := ⟨.hbm, 262, rfl⟩
abbrev main_v252 : Ref sig .tc := ⟨.hbm, 263, rfl⟩
abbrev main_v253 : Ref sig .tc := ⟨.hbm, 264, rfl⟩
abbrev main_v254 : Ref sig .tc := ⟨.hbm, 265, rfl⟩
abbrev main_v255 : Ref sig .tc := ⟨.hbm, 266, rfl⟩
abbrev main_v256 : Ref sig .tc := ⟨.hbm, 267, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_7610 : BitVec 32 := 7#32
  let v8946 : BitVec 1 := Scalar.cmpi .eq arg0 c7_i32_7610
  let v8947 : BitVec 32 := Scalar.extui v8946
  let c0_i32_7611 : BitVec 32 := 0#32
  let v8948 : BitVec 1 := Scalar.cmpi .ne v8947 c0_i32_7611
  v8948

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S31x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference6Ideal.lean ====
abbrev S4096x1792 : Shape := ⟨2, ![4096, 1792]⟩
abbrev S4096x1024 : Shape := ⟨2, ![4096, 1024]⟩
abbrev S31x512 : Shape := ⟨2, ![31, 512]⟩
abbrev S512 : Shape := ⟨1, ![512]⟩
abbrev S_ : Shape := ⟨0, ![]⟩
abbrev S30x512 : Shape := ⟨2, ![30, 512]⟩
abbrev S4096x512 : Shape := ⟨2, ![4096, 512]⟩
abbrev S4126x512 : Shape := ⟨2, ![4126, 512]⟩
abbrev S1x512 : Shape := ⟨2, ![1, 512]⟩
abbrev S4096 : Shape := ⟨1, ![4096]⟩
abbrev S4096x1 : Shape := ⟨2, ![4096, 1]⟩

abbrev nBuf : Space → Nat
  | .hbm => 343
  | .vmem => 0
  | .smem => 0
  | _ => 0

abbrev hbmTy0_0 (i : Nat) : BufTy := match i % 128 with
  | 0 => ⟨S4096x1792, .f32⟩
  | 1 => ⟨S4096x1024, .f32⟩
  | 2 => ⟨S31x512, .f32⟩
  | 3 => ⟨S512, .f32⟩
  | 4 => ⟨S512, .f32⟩
  | 5 => ⟨S512, .f32⟩
  | 6 => ⟨S4096x1024, .f32⟩
  | 7 => ⟨S_, .f32⟩
  | 8 => ⟨S30x512, .f32⟩
  | 9 => ⟨S4096x512, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S4096x512, .f32⟩
  | 20 => ⟨S4126x512, .f32⟩
  | 21 => ⟨S4096x512, .f32⟩
  | 22 => ⟨S1x512, .f32⟩
  | 23 => ⟨S512, .f32⟩
  | 24 => ⟨S1x512, .f32⟩
  | 25 => ⟨S4096x512, .f32⟩
  | 26 => ⟨S4096x512, .f32⟩
  | 27 => ⟨S4096x512, .f32⟩
  | 28 => ⟨S1x512, .f32⟩
  | 29 => ⟨S512, .f32⟩
  | 30 => ⟨S1x512, .f32⟩
  | 31 => ⟨S4096x512, .f32⟩
  | 32 => ⟨S4096x512, .f32⟩
  | 33 => ⟨S4096x512, .f32⟩
  | 34 => ⟨S1x512, .f32⟩
  | 35 => ⟨S512, .f32⟩
  | 36 => ⟨S1x512, .f32⟩
  | 37 => ⟨S4096x512, .f32⟩
  | 38 => ⟨S4096x512, .f32⟩
  | 39 => ⟨S4096x512, .f32⟩
  | 40 => ⟨S1x512, .f32⟩
  | 41 => ⟨S512, .f32⟩
  | 42 => ⟨S1x512, .f32⟩
  | 43 => ⟨S4096x512, .f32⟩
  | 44 => ⟨S4096x512, .f32⟩
  | 45 => ⟨S4096x512, .f32⟩
  | 46 => ⟨S1x512, .f32⟩
  | 47 => ⟨S512, .f32⟩
  | 48 => ⟨S1x512, .f32⟩
  | 49 => ⟨S4096x512, .f32⟩
  | 50 => ⟨S4096x512, .f32⟩
  | 51 => ⟨S4096x512, .f32⟩
  | 52 => ⟨S1x512, .f32⟩
  | 53 => ⟨S512, .f32⟩
  | 54 => ⟨S1x512, .f32⟩
  | 55 => ⟨S4096x512, .f32⟩
  | 56 => ⟨S4096x512, .f32⟩
  | 57 => ⟨S4096x512, .f32⟩
  | 58 => ⟨S1x512, .f32⟩
  | 59 => ⟨S512, .f32⟩
  | 60 => ⟨S1x512, .f32⟩
  | 61 => ⟨S4096x512, .f32⟩
  | 62 => ⟨S4096x512, .f32⟩
  | 63 => ⟨S4096x512, .f32⟩
  | 64 => ⟨S1x512, .f32⟩
  | 65 => ⟨S512, .f32⟩
  | 66 => ⟨S1x512, .f32⟩
  | 67 => ⟨S4096x512, .f32⟩
  | 68 => ⟨S4096x512, .f32⟩
  | 69 => ⟨S4096x512, .f32⟩
  | 70 => ⟨S1x512, .f32⟩
  | 71 => ⟨S512, .f32⟩
  | 72 => ⟨S1x512, .f32⟩
  | 73 => ⟨S4096x512, .f32⟩
  | 74 => ⟨S4096x512, .f32⟩
  | 75 => ⟨S4096x512, .f32⟩
  | 76 => ⟨S1x512, .f32⟩
  | 77 => ⟨S512, .f32⟩
  | 78 => ⟨S1x512, .f32⟩
  | 79 => ⟨S4096x512, .f32⟩
  | 80 => ⟨S4096x512, .f32⟩
  | 81 => ⟨S4096x512, .f32⟩
  | 82 => ⟨S1x512, .f32⟩
  | 83 => ⟨S512, .f32⟩
  | 84 => ⟨S1x512, .f32⟩
  | 85 => ⟨S4096x512, .f32⟩
  | 86 => ⟨S4096x512, .f32⟩
  | 87 => ⟨S4096x512, .f32⟩
  | 88 => ⟨S1x512, .f32⟩
  | 89 => ⟨S512, .f32⟩
  | 90 => ⟨S1x512, .f32⟩
  | 91 => ⟨S4096x512, .f32⟩
  | 92 => ⟨S4096x512, .f32⟩
  | 93 => ⟨S4096x512, .f32⟩
  | 94 => ⟨S1x512, .f32⟩
  | 95 => ⟨S512, .f32⟩
  | 96 => ⟨S1x512, .f32⟩
  | 97 => ⟨S4096x512, .f32⟩
  | 98 => ⟨S4096x512, .f32⟩
  | 99 => ⟨S4096x512, .f32⟩
  | 100 => ⟨S1x512, .f32⟩
  | 101 => ⟨S512, .f32⟩
  | 102 => ⟨S1x512, .f32⟩
  | 103 => ⟨S4096x512, .f32⟩
  | 104 => ⟨S4096x512, .f32⟩
  | 105 => ⟨S4096x512, .f32⟩
  | 106 => ⟨S1x512, .f32⟩
  | 107 => ⟨S512, .f32⟩
  | 108 => ⟨S1x512, .f32⟩
  | 109 => ⟨S4096x512, .f32⟩
  | 110 => ⟨S4096x512, .f32⟩
  | 111 => ⟨S4096x512, .f32⟩
  | 112 => ⟨S1x512, .f32⟩
  | 113 => ⟨S512, .f32⟩
  | 114 => ⟨S1x512, .f32⟩
  | 115 => ⟨S4096x512, .f32⟩
  | 116 => ⟨S4096x512, .f32⟩
  | 117 => ⟨S4096x512, .f32⟩
  | 118 => ⟨S1x512, .f32⟩
  | 119 => ⟨S512, .f32⟩
  | 120 => ⟨S1x512, .f32⟩
  | 121 => ⟨S4096x512, .f32⟩
  | 122 => ⟨S4096x512, .f32⟩
  | 123 => ⟨S4096x512, .f32⟩
  | 124 => ⟨S1x512, .f32⟩
  | 125 => ⟨S512, .f32⟩
  | 126 => ⟨S1x512, .f32⟩
  | 127 => ⟨S4096x512, .f32⟩
  | _ => ⟨S4096x1792, .f32⟩

abbrev hbmTy0_1 (i : Nat) : BufTy := match i % 128 with
  | 0 => ⟨S4096x512, .f32⟩
  | 1 => ⟨S4096x512, .f32⟩
  | 2 => ⟨S1x512, .f32⟩
  | 3 => ⟨S512, .f32⟩
  | 4 => ⟨S1x512, .f32⟩
  | 5 => ⟨S4096x512, .f32⟩
  | 6 => ⟨S4096x512, .f32⟩
  | 7 => ⟨S4096x512, .f32⟩
  | 8 => ⟨S1x512, .f32⟩
  | 9 => ⟨S512, .f32⟩
  | 10 => ⟨S1x512, .f32⟩
  | 11 => ⟨S4096x512, .f32⟩
  | 12 => ⟨S4096x512, .f32⟩
  | 13 => ⟨S4096x512, .f32⟩
  | 14 => ⟨S1x512, .f32⟩
  | 15 => ⟨S512, .f32⟩
  | 16 => ⟨S1x512, .f32⟩
  | 17 => ⟨S4096x512, .f32⟩
  | 18 => ⟨S4096x512, .f32⟩
  | 19 => ⟨S4096x512, .f32⟩
  | 20 => ⟨S1x512, .f32⟩
  | 21 => ⟨S512, .f32⟩
  | 22 => ⟨S1x512, .f32⟩
  | 23 => ⟨S4096x512, .f32⟩
  | 24 => ⟨S4096x512, .f32⟩
  | 25 => ⟨S4096x512, .f32⟩
  | 26 => ⟨S1x512, .f32⟩
  | 27 => ⟨S512, .f32⟩
  | 28 => ⟨S1x512, .f32⟩
  | 29 => ⟨S4096x512, .f32⟩
  | 30 => ⟨S4096x512, .f32⟩
  | 31 => ⟨S4096x512, .f32⟩
  | 32 => ⟨S1x512, .f32⟩
  | 33 => ⟨S512, .f32⟩
  | 34 => ⟨S1x512, .f32⟩
  | 35 => ⟨S4096x512, .f32⟩
  | 36 => ⟨S4096x512, .f32⟩
  | 37 => ⟨S4096x512, .f32⟩
  | 38 => ⟨S1x512, .f32⟩
  | 39 => ⟨S512, .f32⟩
  | 40 => ⟨S1x512, .f32⟩
  | 41 => ⟨S4096x512, .f32⟩
  | 42 => ⟨S4096x512, .f32⟩
  | 43 => ⟨S4096x512, .f32⟩
  | 44 => ⟨S1x512, .f32⟩
  | 45 => ⟨S512, .f32⟩
  | 46 => ⟨S1x512, .f32⟩
  | 47 => ⟨S4096x512, .f32⟩
  | 48 => ⟨S4096x512, .f32⟩
  | 49 => ⟨S4096x512, .f32⟩
  | 50 => ⟨S1x512, .f32⟩
  | 51 => ⟨S512, .f32⟩
  | 52 => ⟨S1x512, .f32⟩
  | 53 => ⟨S4096x512, .f32⟩
  | 54 => ⟨S4096x512, .f32⟩
  | 55 => ⟨S4096x512, .f32⟩
  | 56 => ⟨S1x512, .f32⟩
  | 57 => ⟨S512, .f32⟩
  | 58 => ⟨S1x512, .f32⟩
  | 59 => ⟨S4096x512, .f32⟩
  | 60 => ⟨S4096x512, .f32⟩
  | 61 => ⟨S4096x512, .f32⟩
  | 62 => ⟨S1x512, .f32⟩
  | 63 => ⟨S512, .f32⟩
  | 64 => ⟨S1x512, .f32⟩
  | 65 => ⟨S4096x512, .f32⟩
  | 66 => ⟨S4096x512, .f32⟩
  | 67 => ⟨S4096x512, .f32⟩
  | 68 => ⟨S1x512, .f32⟩
  | 69 => ⟨S512, .f32⟩
  | 70 => ⟨S1x512, .f32⟩
  | 71 => ⟨S4096x512, .f32⟩
  | 72 => ⟨S4096x512, .f32⟩
  | 73 => ⟨S4096x512, .f32⟩
  | 74 => ⟨S1x512, .f32⟩
  | 75 => ⟨S512, .f32⟩
  | 76 => ⟨S1x512, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S4096x512, .f32⟩
  | 86 => ⟨S4096x512, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S4096x512, .f32⟩
  | 108 => ⟨S4096x512, .f32⟩
  | 109 => ⟨S1x512, .f32⟩
  | 110 => ⟨S4096x512, .f32⟩
  | 111 => ⟨S4096x512, .f32⟩
  | 112 => ⟨S_, .f32⟩
  | 113 => ⟨S4096, .f32⟩
  | 114 => ⟨S4096x1, .f32⟩
  | 115 => ⟨S_, .f32⟩
  | 116 => ⟨S4096x1, .f32⟩
  | 117 => ⟨S4096x1, .f32⟩
  | 118 => ⟨S4096x512, .f32⟩
  | 119 => ⟨S4096x512, .f32⟩
  | 120 => ⟨S4096x512, .f32⟩
  | 121 => ⟨S_, .f32⟩
  | 122 => ⟨S4096x512, .f32⟩
  | 123 => ⟨S4096x512, .f32⟩
  | 124 => ⟨S_, .f32⟩
  | 125 => ⟨S4096, .f32⟩
  | 126 => ⟨S4096x1, .f32⟩
  | 127 => ⟨S_, .f32⟩
  | _ => ⟨S4096x1792, .f32⟩

abbrev hbmTy0_2 (i : Nat) : BufTy := match i % 128 with
  | 0 => ⟨S4096x1, .f32⟩
  | 1 => ⟨S4096x1, .f32⟩
  | 2 => ⟨S4096x512, .f32⟩
  | 3 => ⟨S4096x512, .f32⟩
  | 4 => ⟨S_, .f32⟩
  | 5 => ⟨S4096x1, .f32⟩
  | 6 => ⟨S4096x1, .f32⟩
  | 7 => ⟨S4096x1, .f32⟩
  | 8 => ⟨S4096x1, .f32⟩
  | 9 => ⟨S_, .f32⟩
  | 10 => ⟨S4096x1, .f32⟩
  | 11 => ⟨S4096x1, .f32⟩
  | 12 => ⟨S4096x512, .f32⟩
  | 13 => ⟨S4096x512, .f32⟩
  | 14 => ⟨S1x512, .f32⟩
  | 15 => ⟨S4096x512, .f32⟩
  | 16 => ⟨S4096x512, .f32⟩
  | 17 => ⟨S1x512, .f32⟩
  | 18 => ⟨S4096x512, .f32⟩
  | 19 => ⟨S4096x512, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S_, .f32⟩
  | 39 => ⟨S512, .f32⟩
  | 40 => ⟨S1x512, .f32⟩
  | 41 => ⟨S_, .f32⟩
  | 42 => ⟨S512, .f32⟩
  | 43 => ⟨S4096x512, .f32⟩
  | 44 => ⟨S_, .f32⟩
  | 45 => ⟨S512, .f32⟩
  | 46 => ⟨S1x512, .f32⟩
  | 47 => ⟨S4096x512, .f32⟩
  | 48 => ⟨S4096x512, .f32⟩
  | 49 => ⟨S_, .f32⟩
  | 50 => ⟨S512, .f32⟩
  | 51 => ⟨S4096x512, .f32⟩
  | 52 => ⟨S_, .f32⟩
  | 53 => ⟨S4096, .f32⟩
  | 54 => ⟨S4096x1, .f32⟩
  | 55 => ⟨S4096x512, .f32⟩
  | 56 => ⟨S4096x512, .f32⟩
  | 57 => ⟨S4096x1, .f32⟩
  | 58 => ⟨S4096x512, .f32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .f32⟩
  | 65 => ⟨S_, .f32⟩
  | 66 => ⟨S4096, .f32⟩
  | 67 => ⟨S4096x512, .f32⟩
  | 68 => ⟨S4096x512, .f32⟩
  | 69 => ⟨S4096x512, .f32⟩
  | 70 => ⟨S_, .f32⟩
  | 71 => ⟨S4096, .f32⟩
  | 72 => ⟨S4096x1, .f32⟩
  | 73 => ⟨S4096x512, .f32⟩
  | 74 => ⟨S4096x1, .f32⟩
  | 75 => ⟨S_, .f32⟩
  | 76 => ⟨S4096x1, .f32⟩
  | 77 => ⟨S4096x1, .f32⟩
  | 78 => ⟨S_, .f32⟩
  | 79 => ⟨S4096, .f32⟩
  | 80 => ⟨S4096x512, .f32⟩
  | 81 => ⟨S4096x512, .f32⟩
  | 82 => ⟨S_, .f32⟩
  | 83 => ⟨S512, .f32⟩
  | 84 => ⟨S1x512, .f32⟩
  | 85 => ⟨S_, .f32⟩
  | 86 => ⟨S512, .f32⟩
  | _ => ⟨S4096x1792, .f32⟩

abbrev hbmTy (i : Nat) : BufTy := match i / 128 with
  | 0 => hbmTy0_0 i
  | 1 => hbmTy0_1 i
  | 2 => hbmTy0_2 i
  | _ => ⟨S4096x1792, .f32⟩

abbrev bufTy : (tb : Table) → Fin (tcTables nBuf tb) → BufTy
  | .hbm, ⟨i, _⟩ => hbmTy i
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_2 : Ref sig .tc := ⟨.hbm, 240, rfl⟩
abbrev main_v231 : Ref sig .tc := ⟨.hbm, 241, rfl⟩
abbrev main_v232 : Ref sig .tc := ⟨.hbm, 242, rfl⟩
abbrev main_cst_3 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_cst_4 : Ref sig .tc := ⟨.hbm, 249, rfl⟩
abbrev main_v238 : Ref sig .tc := ⟨.hbm, 250, rfl⟩
abbrev main_v239 : Ref sig .tc := ⟨.hbm, 251, rfl⟩
abbrev main_cst_5 : Ref sig .tc := ⟨.hbm, 252, rfl⟩
abbrev main_v240 : Ref sig .tc := ⟨.hbm, 253, rfl⟩
abbrev main_v241 : Ref sig .tc := ⟨.hbm, 254, rfl⟩
abbrev main_cst_6 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_cst_7 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_cst_8 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_call0_v0 : Ref sig .tc := ⟨.hbm, 276, rfl⟩
abbrev main_call0_v1 : Ref sig .tc := ⟨.hbm, 277, rfl⟩
abbrev main_call0_cst : Ref sig .tc := ⟨.hbm, 278, rfl⟩
abbrev main_call0_v2 : Ref sig .tc := ⟨.hbm, 279, rfl⟩
abbrev main_call0_v3 : Ref sig .tc := ⟨.hbm, 280, rfl⟩
abbrev main_call0_cst_0 : Ref sig .tc := ⟨.hbm, 281, rfl⟩
abbrev main_call0_v4 : Ref sig .tc := ⟨.hbm, 282, rfl⟩
abbrev main_v260_2 : Ref sig .tc := ⟨.hbm, 283, rfl⟩
abbrev main_call0_cst_1 : Ref sig .tc := ⟨.hbm, 284, rfl⟩
abbrev main_call0_v6 : Ref sig .tc := ⟨.hbm, 285, rfl⟩
abbrev main_call0_v7 : Ref sig .tc := ⟨.hbm, 286, rfl⟩
abbrev main_v260_1 : Ref sig .tc := ⟨.hbm, 287, rfl⟩
abbrev main_v260_0 : Ref sig .tc := ⟨.hbm, 288, rfl⟩
abbrev main_v261 : Ref sig .tc := ⟨.hbm, 289, rfl⟩
abbrev main_call1_v0 : Ref sig .tc := ⟨.hbm, 290, rfl⟩
abbrev main_call1_v1 : Ref sig .tc := ⟨.hbm, 291, rfl⟩
abbrev main_call1_v2 : Ref sig .tc := ⟨.hbm, 292, rfl⟩
abbrev main_v262 : Ref sig .tc := ⟨.hbm, 293, rfl⟩
abbrev main_cst_9 : Ref sig .tc := ⟨.hbm, 294, rfl⟩
abbrev main_v263 : Ref sig .tc := ⟨.hbm, 295, rfl⟩
abbrev main_v264 : Ref sig .tc := ⟨.hbm, 296, rfl⟩
abbrev main_cst_10 : Ref sig .tc := ⟨.hbm, 297, rfl⟩
abbrev main_v265 : Ref sig .tc := ⟨.hbm, 298, rfl⟩
abbrev main_v266 : Ref sig .tc := ⟨.hbm, 299, rfl⟩
abbrev main_cst_11 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_cst_12 : Ref sig .tc := ⟨.hbm, 305, rfl⟩
abbrev main_v271 : Ref sig .tc := ⟨.hbm, 306, rfl⟩
abbrev main_v272 : Ref sig .tc := ⟨.hbm, 307, rfl⟩
abbrev main_cst_13 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_cst_14 : Ref sig .tc := ⟨.hbm, 315, rfl⟩
abbrev main_v279 : Ref sig .tc := ⟨.hbm, 316, rfl⟩
abbrev main_v280 : Ref sig .tc := ⟨.hbm, 317, rfl⟩
abbrev main_cst_15 : Ref sig .tc := ⟨.hbm, 318, rfl⟩
abbrev main_v281 : Ref sig .tc := ⟨.hbm, 319, rfl⟩
abbrev main_v282 : Ref sig .tc := ⟨.hbm, 320, rfl⟩
abbrev main_cst_16 : Ref sig .tc := ⟨.hbm, 321, rfl⟩
abbrev main_v283 : Ref sig .tc := ⟨.hbm, 322, rfl⟩
abbrev main_v284 : Ref sig .tc := ⟨.hbm, 323, rfl⟩
abbrev main_v285 : Ref sig .tc := ⟨.hbm, 324, rfl⟩
abbrev main_v286 : Ref sig .tc := ⟨.hbm, 325, rfl⟩
abbrev main_cst_17 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_cst_18 : Ref sig .tc := ⟨.hbm, 331, rfl⟩
abbrev main_v291 : Ref sig .tc := ⟨.hbm, 332, rfl⟩
abbrev main_v292 : Ref sig .tc := ⟨.hbm, 333, rfl⟩
abbrev main_cst_19 : Ref sig .tc := ⟨.hbm, 334, rfl⟩
abbrev main_v293 : Ref sig .tc := ⟨.hbm, 335, rfl⟩
abbrev main_v294 : Ref sig .tc := ⟨.hbm, 336, rfl⟩
abbrev main_v295 : Ref sig .tc := ⟨.hbm, 337, rfl⟩
abbrev main_cst_20 : Ref sig .tc := ⟨.hbm, 338, rfl⟩
abbrev main_v296 : Ref sig .tc := ⟨.hbm, 339, rfl⟩
abbrev main_v297 : Ref sig .tc := ⟨.hbm, 340, rfl⟩
abbrev main_cst_21 : Ref sig .tc := ⟨.hbm, 341, rfl⟩
abbrev main_v298 : Ref sig .tc := ⟨.hbm, 342, rfl⟩

abbrev nD : Nat := 1
abbrev τ : Topo := Topo.v7x

variable {F : FTy → Type} [FloatOps F]
-- ==== Proof.Reals.lean ====
/- Facts about real numbers inside the extended reals that the value proofs share: sums, quotients, reciprocal
   square roots and the printed constants of real arguments are real. -/
module

public import Idealize.ShloMosaic.PureOps.Ideal
public import Mathlib.Tactic.Ring
public import Mathlib.Tactic.NormNum
public import Mathlib.Tactic.FieldSimp
public import Mathlib.Tactic.Linarith

@[expose] public section

noncomputable section

namespace Cert.Reals

open Idealize.ShloMosaic

/-- A finite sum of reals, taken in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero, is the real quotient. -/
theorem div_coe_coe (x : ℝ) {y : ℝ} (h : y ≠ 0) : Ideal.div (x : EReal) (y : EReal) = ((x / y : ℝ) : EReal) := by
  rw [Ideal.div_coe h, ← EReal.coe_mul, mul_one_div]

/-- The reciprocal square root of a positive real. -/
theorem rsqrt_pos {x : ℝ} (h : 0 < x) : Ideal.rsqrt (x : EReal) = (((Real.sqrt x)⁻¹ : ℝ) : EReal) := by
  rw [Ideal.rsqrt_coe, if_neg (not_lt.mpr h.le), if_neg h.ne']

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

/-- The real the printed word of the norms' 1e-6 denotes. -/
def eps : ℝ := 8796093 / 2 ^ 43

theorem ofBits_eps : Ideal.ofBits .f32 0x358637BD#32 = (eps : EReal) := by
  simp [Ideal.ofBits, Ideal.ieee, eps, -EReal.coe_mul]; norm_num

theorem eps_pos : 0 < eps := by unfold eps; norm_num

/-- An extended real that is neither infinite is a real. -/
theorem coe_toReal {x : EReal} (h : x ≠ ⊤ ∧ x ≠ ⊥) : ((x.toReal : ℝ) : EReal) = x := EReal.coe_toReal h.1 h.2

/-! ## The gradient of a row norm

`v` is the row's mean square with `eps`, `r` its reciprocal root. Both programs write the gradient of `x · r` against
`u`; the one divides by `v`, the other multiplies by `r` once more. -/

/-- The reciprocal root squared is the reciprocal. -/
theorem inv_sqrt_sq {v : ℝ} (h : 0 < v) : (Real.sqrt v)⁻¹ * (Real.sqrt v)⁻¹ = 1 / v := by
  rw [← mul_inv, Real.mul_self_sqrt h.le, one_div]

/-- The gradient of `x · rsqrt(v)` as automatic differentiation writes it is the kernel's closed form; `s` is the row's
    sum of `u · x`. -/
theorem rms_grad {v : ℝ} (h : 0 < v) (u x s n : ℝ) :
    (u * (Real.sqrt v)⁻¹ + x * (s * (-(1 / 2) * ((Real.sqrt v)⁻¹ / v)) / n)) + (s * (-(1 / 2) * ((Real.sqrt v)⁻¹ / v)) / n) * x
      = (Real.sqrt v)⁻¹ * (u - (x * (Real.sqrt v)⁻¹) * (s * (Real.sqrt v)⁻¹ / n)) := by
  have e := inv_sqrt_sq h
  rw [div_eq_mul_one_div _ v, ← e]
  ring

end Cert.Reals

end
-- ==== Proof.LossSpec.lean ====
/- The loss head over the reals: the loss of the normalised rows against their targets, and its gradients. -/
module

public import proofs.«01_k».proof.Proof.Reals

@[expose] public section

noncomputable section

namespace Cert.LossSpec

open Cert.Reals

/-- A row's mean square, `eps` added. -/
def ms (x : Fin 1024 → ℝ) : ℝ := (∑ k, x k * x k) / 1024 + eps

/-- The reciprocal of its root. -/
def ri (x : Fin 1024 → ℝ) : ℝ := (Real.sqrt (ms x))⁻¹

/-- The row's error: the normalised row scaled by the gain, less the target. -/
def er (x g y : Fin 1024 → ℝ) (j : Fin 1024) : ℝ := x j * ri x * g j - y j

/-- The gradient that reaches the scaled row. -/
def gy (x g y : Fin 1024 → ℝ) (j : Fin 1024) : ℝ := er x g y j * (1 / 1024)

/-- The gradient of the row. -/
def gx (x g y : Fin 1024 → ℝ) (j : Fin 1024) : ℝ :=
  ri x * (gy x g y j * g j - x j * ri x * ((∑ k, gy x g y k * g k * (x k * ri x)) / 1024))

/-- A row's part of the loss. -/
def rowLoss (x g y : Fin 1024 → ℝ) : ℝ := (∑ k, er x g y k * er x g y k) / 1024

/-- A row's part of the gain's gradient. -/
def rowGain (x g y : Fin 1024 → ℝ) (j : Fin 1024) : ℝ := gy x g y j * (x j * ri x)

/-- A mean square with `eps` is positive. -/
theorem ms_pos (x : Fin 1024 → ℝ) : 0 < ms x :=
  add_pos_of_nonneg_of_pos (div_nonneg (Finset.sum_nonneg fun k _ => mul_self_nonneg (x k)) (by norm_num)) eps_pos

end Cert.LossSpec

end
-- ==== Proof.LossBody.lean ====
/- What the loss head's body stores, on a block of real rows. -/
module

public import proofs.«01_k».proof.Proof.Gen.KernelIdeal.Skeleton
public import proofs.«01_k».proof.Proof.LossSpec
public import Idealize.ShloMosaic.Lib.Pointwise

@[expose] public section

set_option maxRecDepth 16384

noncomputable section

namespace Cert.LossBody

open Idealize.ShloMosaic Cert.Reals Cert.LossSpec Cert.KernelIdeal Cert.KernelIdeal.Gen

variable {x0 x2 : Vec Ideal S512x1024 .f32} {x1 : Vec Ideal S1x1024 .f32} {X Y : Fin 512 → Fin 1024 → ℝ} {G : Fin 1024 → ℝ}

/-- 1024 is not zero. -/
theorem n_ne : (1024 : ℝ) ≠ 0 := by norm_num

theorem pay4 (h0 : ∀ r k, x0 (ix2 r k) = (X r k : EReal)) (r : Fin 512) : k0_pay4 (F := Ideal) x0 (ix2 r 0) = (ri (X r) : EReal) := by
  pointwise [k0_pay4]
  simp only [h0, ofBits_1024, ofBits_eps, ← EReal.coe_mul, coe_sum, div_coe_coe _ n_ne, ← EReal.coe_add]
  rw [← ms, rsqrt_pos (ms_pos _), ri]

theorem pay5 (h0 : ∀ r k, x0 (ix2 r k) = (X r k : EReal)) (r : Fin 512) (j : Fin 1024) :
    k0_pay5 (F := Ideal) x0 (ix2 r j) = ((X r j * ri (X r) : ℝ) : EReal) := by
  pointwise [k0_pay5]
  simp only [h0, pay4 h0, ← EReal.coe_mul]

theorem pay6 (h0 : ∀ r k, x0 (ix2 r k) = (X r k : EReal)) (h1 : ∀ k, x1 (ix2 0 k) = (G k : EReal))
    (h2 : ∀ r k, x2 (ix2 r k) = (Y r k : EReal)) (r : Fin 512) (j : Fin 1024) :
    k0_pay6 (F := Ideal) x0 x1 x2 (ix2 r j) = (er (X r) G (Y r) j : EReal) := by
  pointwise [k0_pay6]
  simp only [h1, h2, pay5 h0, ← EReal.coe_mul, ← EReal.coe_sub, er]

/-- The block's part of the loss, on every lane. -/
theorem pay7 (h0 : ∀ r k, x0 (ix2 r k) = (X r k : EReal)) (h1 : ∀ k, x1 (ix2 0 k) = (G k : EReal))
    (h2 : ∀ r k, x2 (ix2 r k) = (Y r k : EReal)) (l : Fin 128) :
    k0_pay7 (F := Ideal) x0 x1 x2 (ix3 0 0 l) = ((1 / 2 * ∑ r, rowLoss (X r) G (Y r) : ℝ) : EReal) := by
  pointwise [k0_pay7]
  simp only [pay6 h0 h1 h2, ofBits_half, ofBits_1024, ← EReal.coe_mul, coe_sum, div_coe_coe _ n_ne]
  simp only [Fin.sum_univ_one, rowLoss]

theorem pay8 (h0 : ∀ r k, x0 (ix2 r k) = (X r k : EReal)) (h1 : ∀ k, x1 (ix2 0 k) = (G k : EReal))
    (h2 : ∀ r k, x2 (ix2 r k) = (Y r k : EReal)) (r : Fin 512) (j : Fin 1024) :
    k0_pay8 (F := Ideal) x0 x1 x2 (ix2 r j) = (gy (X r) G (Y r) j : EReal) := by
  pointwise [k0_pay8]
  simp only [pay6 h0 h1 h2, ofBits_inv_1024, ← EReal.coe_mul, gy]

/-- The block's rows of the first result. -/
theorem pay1 (h0 : ∀ r k, x0 (ix2 r k) = (X r k : EReal)) (h1 : ∀ k, x1 (ix2 0 k) = (G k : EReal))
    (h2 : ∀ r k, x2 (ix2 r k) = (Y r k : EReal)) (r : Fin 512) (j : Fin 1024) :
    k0_pay1 (F := Ideal) (k0_pay4 x0) (k0_pay5 x0) (k0_pay8 x0 x1 x2) (k0_pay9 x1) (ix2 r j) = (gx (X r) G (Y r) j : EReal) := by
  pointwise [k0_pay1, k0_pay9]
  simp only [pay8 h0 h1 h2, pay5 h0, pay4 h0, h1, ofBits_1024, ← EReal.coe_mul, coe_sum, div_coe_coe _ n_ne, ← EReal.coe_sub]
  rw [gx]

/-- The block's part of the gain's gradient. -/
theorem pay2 (h0 : ∀ r k, x0 (ix2 r k) = (X r k : EReal)) (h1 : ∀ k, x1 (ix2 0 k) = (G k : EReal))
    (h2 : ∀ r k, x2 (ix2 r k) = (Y r k : EReal)) (j : Fin 1024) :
    k0_pay2 (F := Ideal) (k0_pay5 x0) (k0_pay8 x0 x1 x2) (ix2 0 j) = ((∑ r, rowGain (X r) G (Y r) j : ℝ) : EReal) := by
  pointwise [k0_pay2]
  simp only [pay8 h0 h1 h2, pay5 h0, ← EReal.coe_mul, coe_sum, rowGain]

end Cert.LossBody

end
-- ==== Proof.LossKer.lean ====
/- What the loss head leaves in its result arrays, on real arguments. -/
module

public import proofs.«01_k».proof.Proof.Gen.KernelIdeal.Frame
public import proofs.«01_k».proof.Proof.LossBody
public import Idealize.ShloMosaic.Lib.Pipeline.ValueKit
public import Idealize.ShloMosaic.Lib.Pipeline.Value

@[expose] public section

set_option maxRecDepth 16384

noncomputable section

namespace Cert.LossKer

open Idealize.ShloMosaic Idealize.ShloMosaic.TcCoe Idealize.SL.Sem Idealize.ShloMosaic.Pipeline
open Cert.Reals Cert.LossSpec Cert.LossBody Cert.KernelIdeal Cert.KernelIdeal.Gen

variable (m : (ℓ : Loc nD τ sig) → Buf (Elt Ideal) ℓ) (c : Dev nD) {X Y : Fin 4096 → Fin 1024 → ℝ} {G : Fin 1024 → ℝ}

/-- Row `r` of the block of grid point `t`. -/
def row (t : ℕ) (ht : t < 8) (r : Fin 512) : Fin 4096 := ⟨t * 512 + r.val, by omega⟩

/-- The rows of all blocks are all rows. -/
theorem sum_rows {N : ℕ} (hN : N = 8) (f : Fin 4096 → ℝ) :
    ∑ t : Fin N, ∑ r : Fin 512, f (row t.val (lt_of_lt_of_eq t.isLt hN) r) = ∑ i, f i := by
  subst hN
  have h := Fin.sum_univ_univ_mul_add 8 512 (fun n => if h : n < 4096 then f ⟨n, h⟩ else 0)
  refine Eq.trans ?_ (h.trans ?_)
  · refine Finset.sum_congr rfl fun t _ => Finset.sum_congr rfl fun r _ => ?_
    rw [dif_pos (by omega)]
    rfl
  · exact Finset.sum_congr rfl fun i _ => dif_pos i.isLt

theorem idx' : ∀ t : Fin grid0.N, win0_0.index t = ![t.val, 0] ∧ win0_1.index t = ![0, 0] ∧ win0_2.index t = ![t.val, 0]
   ∧ win0_3.index t = ![t.val, 0] ∧ win0_4.index t = ![t.val, 0, 0] ∧ win0_5.index t = ![0, 0] := by
  decide +kernel

theorem blk0 (hX : ∀ i k, m ((c.tc : Thread nD τ).loc main_arg0) (ix2 i k) = (X i k : EReal)) (t : Fin cfg0.N) (ht : t.val < 8) (r : Fin 512) (k : Fin 1024) :
    iblk m c 0 t (ix2 r k) = (X (row t.val ht r) k : EReal) := by
  rw [← hX]
  blk_ext [iblk, V, idx' t, row]

theorem blk2 (hY : ∀ i k, m ((c.tc : Thread nD τ).loc main_arg2) (ix2 i k) = (Y i k : EReal)) (t : Fin cfg0.N) (ht : t.val < 8) (r : Fin 512) (k : Fin 1024) :
    iblk m c 2 t (ix2 r k) = (Y (row t.val ht r) k : EReal) := by
  rw [← hY]
  blk_ext [iblk, V, idx' t, row]

/-- The gain's one row, as the host lays it out. -/
theorem gain_row (i : S1x1024.Idx) : V m c main_v0 i = m ((c.tc : Thread nD τ).loc main_arg1) (ix1 (i 1)) := by
  idx_vars i
  show StableHlo.after hostOps0 (fun b => m (c, b)) (Proc.devRef .tc main_v0) _ = _
  after_results
  pointwise

theorem blk1 (hG : ∀ k, m ((c.tc : Thread nD τ).loc main_arg1) (ix1 k) = (G k : EReal)) (t : Fin cfg0.N) (k : Fin 1024) :
    iblk m c 1 t (ix2 0 k) = (G k : EReal) := by
  rw [← hG]
  refine (gain_row m c _).trans ?_
  blk_ext [iblk, idx' t]

variable (hX : ∀ i k, m ((c.tc : Thread nD τ).loc main_arg0) (ix2 i k) = (X i k : EReal)) (hG : ∀ k, m ((c.tc : Thread nD τ).loc main_arg1) (ix1 k) = (G k : EReal))
  (hY : ∀ i k, m ((c.tc : Thread nD τ).loc main_arg2) (ix2 i k) = (Y i k : EReal))

include hX hG hY

/-- The block of the first result after point `t`. -/
theorem out3 (t : Fin cfg0.N) (ht : t.val < 8) (r : Fin 512) (j : Fin 1024) :
    (outsAt0 m c t.val t.isLt).1 (ix2 r j) = (gx (X (row t.val ht r)) G (Y (row t.val ht r)) j : EReal) := by
  by_cases h0 : t.val % 8 = 0
  · rw [outsAt0_A m c t h0 (by omega)]
    frame_out
    exact pay1 (blk0 m c hX t ht) (blk1 m c hG t) (blk2 m c hY t ht) r j
  · rw [outsAt0_B m c t h0 (by omega)]
    frame_out
    exact pay1 (blk0 m c hX t ht) (blk1 m c hG t) (blk2 m c hY t ht) r j

/-- The block of the second result after point `t`. -/
theorem out4 (t : Fin cfg0.N) (ht : t.val < 8) (l : Fin 128) :
    (outsAt0 m c t.val t.isLt).2.1 (ix3 0 0 l) = ((1 / 2 * ∑ r, rowLoss (X (row t.val ht r)) G (Y (row t.val ht r)) : ℝ) : EReal) := by
  by_cases h0 : t.val % 8 = 0
  · rw [outsAt0_A m c t h0 (by omega)]
    frame_out
    exact pay7 (blk0 m c hX t ht) (blk1 m c hG t) (blk2 m c hY t ht) l
  · rw [outsAt0_B m c t h0 (by omega)]
    frame_out
    exact pay7 (blk0 m c hX t ht) (blk1 m c hG t) (blk2 m c hY t ht) l

/-- The third result after the last point: the blocks' parts added. -/
theorem out5 (j : Fin 1024) :
    (outsAt0 m c t0_7.val t0_7.isLt).2.2 (ix2 0 j) = ((∑ i, rowGain (X i) G (Y i) j : ℝ) : EReal) := by
  have key := Pipeline.eq_sum_fin_of_reset_step_apply_last (fun n h => (outsAt0 m c n h).2.2) 8 0 (fun t (y : S1x1024.Idx) => k0_pay2 (F := Ideal) (k0_pay5 (iblk m c 0 t)) (k0_pay8 (iblk m c 0 t) (iblk m c 1 t) (iblk m c 2 t)) y)
    (fun t h y => by
      rw [outsAt0_A m c t h (by have := lt_of_lt_of_eq t.isLt N_0; omega)]
      frame_out
      exact (zero_add _).symm)
    (fun t h y => by
      rw [outsAt0_B m c t h (by rcases Nat.eq_zero_or_pos t.val with h' | h'; exacts [absurd (by rw [h']) h, h'])]
      frame_out
      idx_vars y
      pointwise [k0_pay3])
    (by decide) t0_7 (by decide) (ix2 0 j)
  refine key.trans ?_
  rw [show (0 : S1x1024.Idx → EReal) (ix2 0 j) = 0 from rfl, zero_add]
  have hN : cfg0.N = 8 := N_0
  have e : ∀ t : Fin cfg0.N, k0_pay2 (F := Ideal) (k0_pay5 (iblk m c 0 t)) (k0_pay8 (iblk m c 0 t) (iblk m c 1 t) (iblk m c 2 t)) (ix2 0 j)
      = ((∑ r, rowGain (X (row t.val (lt_of_lt_of_eq t.isLt hN) r)) G (Y (row t.val (lt_of_lt_of_eq t.isLt hN) r)) j : ℝ) : EReal) := fun t =>
    pay2 (blk0 m c hX t _) (blk1 m c hG t) (blk2 m c hY t _) j
  refine (Finset.sum_congr rfl fun t _ => e t).trans ?_
  rw [coe_sum, sum_rows hN fun i => rowGain (X i) G (Y i) j]

/-- The first result array after the run. -/
theorem arr3 : (dats m 0 c).arrAt 3 cfg0.N = (fun i => (gx (X (i 0)) G (Y (i 0)) (i 1) : EReal) : FVec Ideal S4096x1024 .f32) := by
  refine (dats m 0 c).arrAt_eq_of_covers 3 _ (by decide +kernel) fun t hf y => ?_
  have e : ((cfg0.win 3).blk t).view.emb y = (ix2 (row t.val (lt_of_lt_of_eq t.isLt N_0) (y 0)) (y 1) : S4096x1024.Idx) := by
    blk_ext [idx' t, row]
  rw [e, after0_3]
  refine Eq.trans ?_ (out3 m c hX hG hY t (lt_of_lt_of_eq t.isLt N_0) (y 0) (y 1))
  exact congrArg (outsAt0 m c t.val t.isLt).1 (eq_ix2 y)

/-- The second result array after the run: a block's part of the loss on every lane of its row. -/
theorem arr4 : (dats m 0 c).arrAt 4 cfg0.N
    = (fun i => ((1 / 2 * ∑ r, rowLoss (X (row (i 0).val (i 0).isLt r)) G (Y (row (i 0).val (i 0).isLt r)) : ℝ) : EReal) : FVec Ideal S8x1x128 .f32) := by
  refine (dats m 0 c).arrAt_eq_of_covers 4 _ (by decide +kernel) fun t hf y => ?_
  have e : ((cfg0.win 4).blk t).view.emb y = (ix3 ⟨t.val, lt_of_lt_of_eq t.isLt N_0⟩ 0 (y 2) : S8x1x128.Idx) := by
    blk_ext [idx' t, row]
  rw [e, after0_4]
  refine Eq.trans ?_ (out4 m c hX hG hY t (lt_of_lt_of_eq t.isLt N_0) (y 2))
  refine congrArg (outsAt0 m c t.val t.isLt).2.1 ?_
  blk_ext []

/-- The third result array after the run. -/
theorem arr5 : (dats m 0 c).arrAt 5 cfg0.N = (fun i => ((∑ r, rowGain (X r) G (Y r) (i 1) : ℝ) : EReal) : FVec Ideal S1x1024 .f32) := by
  refine (dats m 0 c).arrAt_eq_of_after_last 5 t0_7 (by decide +kernel) _ fun y => ?_
  rw [after0_5]
  refine Eq.trans ?_ (out5 m c hX hG hY (y 1))
  refine congrArg (outsAt0 m c t0_7.val t0_7.isLt).2.2 ?_
  blk_ext []

omit hX hG hY in
/-- Each window's array is its own. -/
theorem spec_inj : Function.Injective (Pipeline.arrRef (sig := sig) spec0) := by decide

/-- The loss, the sum of the blocks' parts, after the host's last operations. -/
theorem tail4 (i : S_.Idx) : Pipeline.afterTail₀ cfgs (dats m) 0 (V0 m) [hostOps1] c main_v4 i
    = ((1 / 2 * ∑ r, rowLoss (X r) G (Y r) : ℝ) : EReal) := by
  show StableHlo.after hostOps1 _ (Proc.devRef .tc main_v4) i = _
  after_results
  rw [show Pipeline.withArrays (cfgs 0).spec c (V0 m c) (fun w => (dats m 0 c).arrAt w (cfgs 0).N) (Proc.devRef .tc main_v1_1) = (dats m 0 c).arrAt 4 cfg0.N
    from Pipeline.withArrays_arr spec0 spec_inj c (V0 m c) (fun w => (dats m 0 c).arrAt w (cfgs 0).N) 4, arr4 m c hX hG hY]
  pointwise
  rw [coe_sum, ← Finset.mul_sum]
  exact congrArg (fun z : ℝ => ((1 / 2 * z : ℝ) : EReal)) (sum_rows rfl fun i => rowLoss (X i) G (Y i))

/-- The gain's gradient, its unit axis dropped by the host. -/
theorem tail5 (j : Fin 1024) : Pipeline.afterTail₀ cfgs (dats m) 0 (V0 m) [hostOps1] c main_v5 (ix1 j)
    = ((∑ r, rowGain (X r) G (Y r) j : ℝ) : EReal) := by
  show StableHlo.after hostOps1 _ (Proc.devRef .tc main_v5) (ix1 j) = _
  after_results
  rw [show Pipeline.withArrays (cfgs 0).spec c (V0 m c) (fun w => (dats m 0 c).arrAt w (cfgs 0).N) (Proc.devRef .tc main_v1_2) = (dats m 0 c).arrAt 5 cfg0.N
    from Pipeline.withArrays_arr spec0 spec_inj c (V0 m c) (fun w => (dats m 0 c).arrAt w (cfgs 0).N) 5, arr5 m c hX hG hY]
  pointwise

end Cert.LossKer

end
-- ==== Proof.LossRef.lean ====
/- What the reference of the loss head computes on real arguments. -/
module

public import proofs.«01_k».proof.Proof.Gen.ReferenceIdeal.Read
public import proofs.«01_k».proof.Proof.LossSpec
public import Idealize.ShloMosaic.Lib.Pointwise

@[expose] public section

set_option maxRecDepth 16384

noncomputable section

namespace Cert.LossRef

open Idealize.ShloMosaic Cert.Reals Cert.LossSpec Cert.ReferenceIdeal Cert.ReferenceIdeal.Gen Cert.ReferenceIdeal.Read

variable (X Y : Fin 4096 → Fin 1024 → ℝ) (G : Fin 1024 → ℝ)

/-- A table of reals as an array. -/
def arr (X : Fin 4096 → Fin 1024 → ℝ) : FVec Ideal S4096x1024 .f32 := fun i => (X (i 0) (i 1) : EReal)
/-- A vector of reals as an array. -/
def vec (G : Fin 1024 → ℝ) : FVec Ideal S1024 .f32 := fun i => (G (i 0) : EReal)

theorem arr_ix2 (i : Fin 4096) (j : Fin 1024) : arr X (ix2 i j) = (X i j : EReal) := rfl
theorem vec_ix1 (j : Fin 1024) : vec G (ix1 j) = (G j : EReal) := rfl

/-- 1024 is not zero. -/
theorem n_ne : (1024 : ℝ) ≠ 0 := by norm_num

theorem v6 (i : Fin 4096) : val_main_v6 (F := Ideal) (arr X) (ix2 i 0) = (ms (X i) : EReal) := by
  pointwise [val_main_v6, val_main_v4, val_main_v5, val_main_v2, val_main_v3, val_main_v1, val_main_v0, val_main_cst, val_main_cst_0, val_main_cst_1, arr]
  simp only [ofBits_1024, ofBits_eps, ← EReal.coe_mul, coe_sum, div_coe_coe _ n_ne, ← EReal.coe_add, ms]

theorem v7 (i : Fin 4096) : val_main_v7 (F := Ideal) (arr X) (ix2 i 0) = (ri (X i) : EReal) := by
  unfold val_main_v7
  pointwise
  rw [v6, rsqrt_pos (ms_pos _), ri]

theorem v10 (i : Fin 4096) : val_main_v10 (F := Ideal) (arr X) (ix2 i 0) = ((-(1 / 2) * (ri (X i) / ms (X i)) : ℝ) : EReal) := by
  pointwise [val_main_v10, val_main_v9, val_main_v8, val_main_cst_2]
  simp only [v6, v7, ofBits_neg_half, div_coe_coe _ (ms_pos _).ne', ← EReal.coe_mul]

theorem v12 (i : Fin 4096) (j : Fin 1024) : val_main_v12 (F := Ideal) (arr X) (ix2 i j) = ((X i j * ri (X i) : ℝ) : EReal) := by
  pointwise [val_main_v12, val_main_v11]
  simp only [v7, arr_ix2, ← EReal.coe_mul]

theorem v16 (i : Fin 4096) (j : Fin 1024) : val_main_v16 (F := Ideal) (arr X) (vec G) (arr Y) (ix2 i j) = (er (X i) G (Y i) j : EReal) := by
  pointwise [val_main_v16, val_main_v15, val_main_v14, val_main_v13]
  simp only [v12, arr_ix2, vec_ix1, ← EReal.coe_mul, ← EReal.coe_sub, er]

theorem v24 (i : S_.Idx) : val_main_v24 (F := Ideal) (arr X) (vec G) (arr Y) i = ((1 / 2 * ∑ i, rowLoss (X i) G (Y i) : ℝ) : EReal) := by
  pointwise [val_main_v24, val_main_v23, val_main_v22, val_main_v21, val_main_v20, val_main_v17, val_main_cst_7, val_main_cst_6, val_main_cst_5, val_main_cst_4]
  simp only [v16, ofBits_half, ofBits_1024, ← EReal.coe_mul, coe_sum, div_coe_coe _ n_ne, rowLoss]

theorem v30 (i : Fin 4096) (j : Fin 1024) : val_main_v30 (F := Ideal) (arr X) (vec G) (arr Y) (ix2 i j) = (gy (X i) G (Y i) j : EReal) := by
  pointwise [val_main_v30, val_main_v29, val_main_v28, val_main_v27, val_main_v26, val_main_v25, val_main_v19, val_main_v18, val_main_cst_3, val_main_cst_8, val_main_cst_9, val_main_cst_10]
  simp only [v16, ofBits_half, ofBits_one, ofBits_two, ofBits_1024, ← EReal.coe_mul, div_coe_coe _ n_ne, gy]
  congr 1; ring

theorem v36 (j : Fin 1024) : val_main_v36 (F := Ideal) (arr X) (vec G) (arr Y) (ix1 j) = ((∑ i, rowGain (X i) G (Y i) j : ℝ) : EReal) := by
  pointwise [val_main_v36, val_main_v33, val_main_v32, val_main_v31, val_main_cst_11, val_main_cst_12]
  simp only [v12, v30, ← EReal.coe_mul, coe_sum, rowGain, mul_comm, Fin.sum_univ_one]

theorem v35 (i : Fin 4096) (j : Fin 1024) : val_main_v35 (F := Ideal) (arr X) (vec G) (arr Y) (ix2 i j) = ((gy (X i) G (Y i) j * G j : ℝ) : EReal) := by
  pointwise [val_main_v35, val_main_v34, val_main_v13]
  simp only [v30, vec_ix1, ← EReal.coe_mul]

theorem v44 (i : Fin 4096) : val_main_v44 (F := Ideal) (arr X) (vec G) (arr Y) (ix2 i 0)
    = (((∑ k, gy (X i) G (Y i) k * G k * X i k) * (-(1 / 2) * (ri (X i) / ms (X i))) / 1024 : ℝ) : EReal) := by
  pointwise [val_main_v44, val_main_v43, val_main_v42, val_main_v39, val_main_v38, val_main_v37, val_main_cst_13, val_main_cst_14]
  simp only [v10, v35, ofBits_1024, arr_ix2, ← EReal.coe_mul, coe_sum, div_coe_coe _ n_ne]
  simp only [mul_comm (X i _)]

theorem v50 (i : Fin 4096) (j : Fin 1024) : val_main_v50 (F := Ideal) (arr X) (vec G) (arr Y) (ix2 i j) = (gx (X i) G (Y i) j : EReal) := by
  pointwise [val_main_v50, val_main_v49, val_main_v48, val_main_v47, val_main_v46, val_main_v45, val_main_v41, val_main_v40, val_main_cst_15]
  simp only [Fin.sum_univ_one, v44, v35, v7, arr_ix2, ← EReal.coe_mul, coe_sum, ← EReal.coe_add]
  rw [ri, rms_grad (ms_pos _), ← ri, gx]
  congr 3
  simp only [← mul_assoc, ← Finset.sum_mul]

end Cert.LossRef

end
-- ==== Proof.Finite.lean ====
/- What the precondition on finite arguments says of one entry. -/
module

public import Idealize.ShloMosaic.Lib.ReduceAll
public import Idealize.ShloMosaic.Lib.Pointwise

@[expose] public section

noncomputable section

namespace Cert.Finite

open Idealize.ShloMosaic

/-- An extended real whose absolute value is below the infinite word is neither infinite. -/
theorem of_abs_lt {x : EReal} (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  constructor
  · rintro rfl
    simp [Ideal.cmp] at h
  · rintro rfl
    simp [Ideal.cmp] at h

/-- The test of a whole array, true, says so of every entry. -/
theorem all {s t u : Shape} [Subsingleton t.Idx] {axes : List (Fin s.rank)} (x : FVec Ideal s .f32) (B : FVec Ideal s .f32) (hB : ∀ i, B i = Ideal.ofBits .f32 0x7F800000#32)
    (init : IVec u 1) (h : s.ReducesTo axes t) (hu : 0 < u.numel) (j : t.Idx)
    (e : Host.reduce IntOp.andi (cmpf .olt (Host.absf x) B) init h hu j = 1#1) (i : s.Idx) : x i ≠ ⊤ ∧ x i ≠ ⊥ := by
  have := Host.reduce_andi_all _ init h hu j e i
  pointwise [hB] at this
  exact of_abs_lt this

/-- A matrix of finite entries is one of reals. -/
theorem reals2 {n k : ℕ} {X : FVec Ideal ⟨2, ![n, k]⟩ .f32} (f : ∀ i, X i ≠ ⊤ ∧ X i ≠ ⊥) :
    ∃ x : ℕ → ℕ → ℝ, ∀ (i : Fin n) (j : Fin k), X (ix2 i j) = (x i.val j.val : EReal) := by
  refine ⟨fun i j => if h : i < n ∧ j < k then EReal.toReal (X (ix2 ⟨i, h.1⟩ ⟨j, h.2⟩)) else 0, fun i j => ?_⟩
  beta_reduce
  rw [dif_pos ⟨i.isLt, j.isLt⟩]
  exact (EReal.coe_toReal (f _).1 (f _).2).symm

/-- A vector of finite entries is one of reals. -/
theorem reals1 {n : ℕ} {X : FVec Ideal ⟨1, ![n]⟩ .f32} (f : ∀ i, X i ≠ ⊤ ∧ X i ≠ ⊥) :
    ∃ x : ℕ → ℝ, ∀ i : Fin n, X (ix1 i) = (x i.val : EReal) := by
  refine ⟨fun i => if h : i < n then EReal.toReal (X (ix1 ⟨i, h⟩)) else 0, fun i => ?_⟩
  beta_reduce
  rw [dif_pos i.isLt]
  exact (EReal.coe_toReal (f _).1 (f _).2).symm

end Cert.Finite

end
-- ==== Proof.LossClaim.lean ====
/- The loss head's claims: its frame, the reference's, and the equality of their results on finite arguments. -/
module

public import proofs.«01_k».proof.Defs
public import proofs.«01_k».proof.Proof.Gen.Pre_loss_finite
public import proofs.«01_k».proof.Proof.LossKer
public import proofs.«01_k».proof.Proof.LossRef
public import proofs.«01_k».proof.Proof.Finite
public import Idealize.ShloMosaic.Lib.Quiescent

@[expose] public section

set_option maxRecDepth 16384

noncomputable section

namespace Cert.LossClaim

open Idealize.ShloMosaic Idealize.ShloMosaic.TcCoe Idealize.SL.Sem
open Cert.Reals Cert.LossSpec

/-- The reference runs, keeps its arguments and leaves every counter at zero. -/
theorem frame_ri : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- An entry of an argument that passed the test is the real it denotes. -/
theorem entries (m : (ℓ : Loc Cert.KernelIdeal.nD Cert.KernelIdeal.τ Cert.KernelIdeal.sig) → Buf (Elt Ideal) ℓ)
    (hp : Cert.Pre_KernelIdeal_loss_finite m) (c : Dev Cert.KernelIdeal.nD) :
    ∃ (X Y : Fin 4096 → Fin 1024 → ℝ) (G : Fin 1024 → ℝ),
      m ((c.tc : Thread Cert.KernelIdeal.nD Cert.KernelIdeal.τ).loc Cert.KernelIdeal.main_arg0) = LossRef.arr X
      ∧ m ((c.tc : Thread Cert.KernelIdeal.nD Cert.KernelIdeal.τ).loc Cert.KernelIdeal.main_arg1) = LossRef.vec G
      ∧ m ((c.tc : Thread Cert.KernelIdeal.nD Cert.KernelIdeal.τ).loc Cert.KernelIdeal.main_arg2) = LossRef.arr Y := by
  have h := congrFun (hp c) ix0
  unfold Cert.Pre_loss_finite.fn at h
  obtain ⟨h', h2⟩ := IntOp.andi_eq_one.1 h
  obtain ⟨h0, h1⟩ := IntOp.andi_eq_one.1 h'
  haveI : Subsingleton Cert.Pre_loss_finite.S_.Idx := ⟨fun a b => funext fun x => x.elim0⟩
  have f0 := Finite.all _ _ (fun _ => by pointwise) _ _ _ _ h0
  have f1 := Finite.all _ _ (fun _ => by pointwise) _ _ _ _ h1
  have f2 := Finite.all _ _ (fun _ => by pointwise) _ _ _ _ h2
  refine ⟨fun i j => EReal.toReal (m ((c.tc : Thread Cert.KernelIdeal.nD Cert.KernelIdeal.τ).loc Cert.KernelIdeal.main_arg0) (ix2 i j)),
    fun i j => EReal.toReal (m ((c.tc : Thread Cert.KernelIdeal.nD Cert.KernelIdeal.τ).loc Cert.KernelIdeal.main_arg2) (ix2 i j)),
    fun j => EReal.toReal (m ((c.tc : Thread Cert.KernelIdeal.nD Cert.KernelIdeal.τ).loc Cert.KernelIdeal.main_arg1) (ix1 j)), ?_, ?_, ?_⟩
  · funext i
    idx_vars i
    exact (coe_toReal (f0 _)).symm
  · funext i
    idx_vars i
    exact (coe_toReal (f1 _)).symm
  · funext i
    idx_vars i
    exact (coe_toReal (f2 _)).symm

/-- On finite arguments the kernel's loss and gradients are the reference's. -/
theorem value : Cert.algebraic_KernelIdeal_ReferenceIdeal_pre_loss_finite := by
  intro m g m' g' hp ha
  let A (c : Dev Cert.ReferenceIdeal.nD) (b : Ref Cert.ReferenceIdeal.sig .tc) := m' ((c.tc : Thread Cert.ReferenceIdeal.nD Cert.ReferenceIdeal.τ).loc b)
  refine ⟨fun c => Cert.ReferenceIdeal.Read.val_main_v50 (F := Ideal) (A c Cert.ReferenceIdeal.main_arg0) (A c Cert.ReferenceIdeal.main_arg1) (A c Cert.ReferenceIdeal.main_arg2),
    fun c => Cert.ReferenceIdeal.Read.val_main_v24 (F := Ideal) (A c Cert.ReferenceIdeal.main_arg0) (A c Cert.ReferenceIdeal.main_arg1) (A c Cert.ReferenceIdeal.main_arg2),
    fun c => Cert.ReferenceIdeal.Read.val_main_v36 (F := Ideal) (A c Cert.ReferenceIdeal.main_arg0) (A c Cert.ReferenceIdeal.main_arg1) (A c Cert.ReferenceIdeal.main_arg2), ?_,
    (θ_run Cert.ReferenceIdeal.defs _ _).mono (fun r h c => ⟨(h c).1.trans (Cert.ReferenceIdeal.Read.val_main_v50_eq m' c),
      (h c).2.1.trans (Cert.ReferenceIdeal.Read.val_main_v24_eq _ _ _), (h c).2.2.1.trans (Cert.ReferenceIdeal.Read.val_main_v36_eq _ _ _), (h c).2.2.2⟩)
      (Cert.ReferenceIdeal.Value.run (F := Ideal) m' g')⟩
  refine (θ_run Cert.KernelIdeal.defs _ _).mono (fun r h c => ?_) (θ_run_and (Cert.KernelIdeal.Gen.run_main (F := Ideal) m g) (Cert.KernelIdeal.Gen.unchanged (F := Ideal) m g))
  obtain ⟨X, Y, G, hX, hG, hY⟩ := entries m hp c
  have kX : ∀ i k, m ((c.tc : Thread Cert.KernelIdeal.nD Cert.KernelIdeal.τ).loc Cert.KernelIdeal.main_arg0) (ix2 i k) = (X i k : EReal) := fun i k => by rw [hX]; rfl
  have kY : ∀ i k, m ((c.tc : Thread Cert.KernelIdeal.nD Cert.KernelIdeal.τ).loc Cert.KernelIdeal.main_arg2) (ix2 i k) = (Y i k : EReal) := fun i k => by rw [hY]; rfl
  have kG : ∀ k, m ((c.tc : Thread Cert.KernelIdeal.nD Cert.KernelIdeal.τ).loc Cert.KernelIdeal.main_arg1) (ix1 k) = (G k : EReal) := fun k => by rw [hG]; rfl
  obtain ⟨a0, a1, a2⟩ := ha c
  rw [hX] at a0; rw [hG] at a1; rw [hY] at a2
  refine ⟨?_, ?_, ?_, (h.2 c)⟩
  · refine ((h.1 c).1 3).trans ((LossKer.arr3 m c kX kG kY).trans ?_)
    simp only [A, a0, a1, a2]
    funext i
    idx_vars i
    exact (LossRef.v50 X Y G _ _).symm
  · refine ((h.1 c).2 Cert.KernelIdeal.main_v4 (Pipeline.mem_restRefs_of _ (by decide) (by decide))).trans ?_
    simp only [A, a0, a1, a2]
    funext i
    exact (LossKer.tail4 m c kX kG kY i).trans (LossRef.v24 X Y G i).symm
  · refine ((h.1 c).2 Cert.KernelIdeal.main_v5 (Pipeline.mem_restRefs_of _ (by decide) (by decide))).trans ?_
    simp only [A, a0, a1, a2]
    funext i
    idx_vars i
    exact (LossKer.tail5 m c kX kG kY _).trans (LossRef.v36 X Y G _).symm

end Cert.LossClaim

end
-- ==== Proof.AttnRunA.lean ====
module

public import proofs.«01_k».proof.Proof.Gen.Kernel2Ideal.Frame
public import proofs.«01_k».proof.Proof.Gen.Kernel2Ideal.Skeleton

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- The body's first branch is taken. -/
abbrev cond0 (i : grid0.Coords) : Prop := k0_cond1 i = 1#1
/-- The body's second branch is taken. -/
abbrev cond1 (i : grid0.Coords) : Prop := k0_cond2 i = 1#1
/-- The body's third branch is taken. -/
abbrev cond2 (i : grid0.Coords) : Prop := k0_cond3 i = 1#1
/-- The first branch is taken at the first point only. -/
theorem hcond0 : ∀ t : Fin cfg0.N, cond0 (grid0.coords t) ↔ t.val = 0 :=
  (by decide +kernel : ∀ t : Fin grid0.N, cond0 (grid0.coords t) ↔ t.val = 0)
/-- The second branch is taken at every point but the last. -/
theorem hcond1 : ∀ t : Fin cfg0.N, cond1 (grid0.coords t) ↔ t.val < 16 :=
  (by decide +kernel : ∀ t : Fin grid0.N, cond1 (grid0.coords t) ↔ t.val < 16)
/-- The third branch is taken at the last point only. -/
theorem hcond2 : ∀ t : Fin cfg0.N, cond2 (grid0.coords t) ↔ t.val = 16 :=
  (by decide +kernel : ∀ t : Fin grid0.N, cond2 (grid0.coords t) ↔ t.val = 16)

section
variable (a1 : Memref sig .tc .smem S8 .f32) (h1 : a1.IsWhole) (a2 : Memref sig .tc .vmem S2x2x512x256 .f32) (h2 : a2.IsWhole) (a3 : Memref sig .tc .vmem S256x512 .bf16) (h3 : a3.IsWhole) (a4 : Memref sig .tc .vmem S256x256 .bf16) (h4 : a4.IsWhole) (a5 : Memref sig .tc .vmem S128x256 .bf16) (h5 : a5.IsWhole) (a6 : Memref sig .tc .vmem S256x256 .bf16) (h6 : a6.IsWhole) (a7 : Memref sig .tc .vmem S128x256 .bf16) (h7 : a7.IsWhole) (a8 : Memref sig .tc .vmem S256x512 .bf16) (h8 : a8.IsWhole) (a9 : Memref sig .tc .vmem S256x512 .bf16) (h9 : a9.IsWhole) (a10 : Memref sig .tc .vmem S256x512 .bf16) (h10 : a10.IsWhole) (a11 : Memref sig .tc .vmem S1x128 .f32) (h11 : a11.IsWhole) (a12 : Memref sig .tc .vmem S2x128x512 .f32) (h12 : a12.IsWhole)

set_option maxHeartbeats 2000000 in
/-- The body at the first point, from a carry holding anything: it runs with the inputs unchanged and the stated buffers ending with the lists of
    stores (last first) that the run finds. -/
def runA (c : Dev nD) (i : grid0.Coords) (hc0 : cond0 i) (hc1 : cond1 i) (hc2 : ¬cond2 i) (x0 : Vec F S8 .f32) (x1 : Vec F S2x2x512x256 .f32) (x2 : Vec F S256x512 .bf16) (x3 : Vec F S256x256 .bf16) (x4 : Vec F S128x256 .bf16) (x5 : Vec F S256x256 .bf16) (x6 : Vec F S128x256 .bf16) (x7 : Vec F S256x512 .bf16) :
    Σ' (L8 : List (View.Piece (Elt F) S256x512 .bf16)), Σ' (L9 : List (View.Piece (Elt F) S256x512 .bf16)), Σ' (L10 : List (View.Piece (Elt F) S1x128 .f32)), { LS : List (View.Piece (Elt F) S2x128x512 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
          ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ f, a9.view.loc (c : Thread nD τ) ↦[a9.view.set]{fullShare} a9.view.writes (Elt F) f L8) ∗ (∃ f, a10.view.loc (c : Thread nD τ) ↦[a10.view.set]{fullShare} a10.view.writes (Elt F) f L9) ∗ (∃ f, a11.view.loc (c : Thread nD τ) ↦[a11.view.set]{fullShare} a11.view.writes (Elt F) f L10) ∗ (∃ f, a12.view.loc (c : Thread nD τ) ↦[a12.view.set]{fullShare} a12.view.writes (Elt F) f LS)) -∗ K ⟨⟩))
        ⊢ wp frame (wpE (defs₀ (F := F)) Variants.none c none) E (cc0_attn_bwd i a1 h1 a2 h2 a3 h3 a4 h4 a5 h5 a6 h6 a7 h7 a8 h8 a9 h9 a10 h10 a11 h11 a12 h12) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7
    sl_exec (disch := first | sl_exact hc0 | sl_exact hc1 | sl_exact hc2)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]; · iexists _; iexact H8
    isplitl [H9]; · iexists _; iexact H9
    isplitl [H10]; · iexists _; iexact H10
    iexists _; iexact H11

end

end Cert.Attn

end
-- ==== Proof.AttnRunB.lean ====
module

public import proofs.«01_k».proof.Proof.AttnRunA

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

section
variable (a1 : Memref sig .tc .smem S8 .f32) (h1 : a1.IsWhole) (a2 : Memref sig .tc .vmem S2x2x512x256 .f32) (h2 : a2.IsWhole) (a3 : Memref sig .tc .vmem S256x512 .bf16) (h3 : a3.IsWhole) (a4 : Memref sig .tc .vmem S256x256 .bf16) (h4 : a4.IsWhole) (a5 : Memref sig .tc .vmem S128x256 .bf16) (h5 : a5.IsWhole) (a6 : Memref sig .tc .vmem S256x256 .bf16) (h6 : a6.IsWhole) (a7 : Memref sig .tc .vmem S128x256 .bf16) (h7 : a7.IsWhole) (a8 : Memref sig .tc .vmem S256x512 .bf16) (h8 : a8.IsWhole) (a9 : Memref sig .tc .vmem S256x512 .bf16) (h9 : a9.IsWhole) (a10 : Memref sig .tc .vmem S256x512 .bf16) (h10 : a10.IsWhole) (a11 : Memref sig .tc .vmem S1x128 .f32) (h11 : a11.IsWhole) (a12 : Memref sig .tc .vmem S2x128x512 .f32) (h12 : a12.IsWhole)

set_option maxHeartbeats 2000000 in
/-- The body at a middle point, from the sums `xo10` and the carry `xs0` the point before left: it runs with the inputs unchanged and the stated buffers ending with the lists of
    stores (last first) that the run finds. -/
def runB (c : Dev nD) (i : grid0.Coords) (hc0 : ¬cond0 i) (hc1 : cond1 i) (hc2 : ¬cond2 i) (x0 : Vec F S8 .f32) (x1 : Vec F S2x2x512x256 .f32) (x2 : Vec F S256x512 .bf16) (x3 : Vec F S256x256 .bf16) (x4 : Vec F S128x256 .bf16) (x5 : Vec F S256x256 .bf16) (x6 : Vec F S128x256 .bf16) (x7 : Vec F S256x512 .bf16) (xo10 : Vec F S1x128 .f32) (xs0 : Vec F S2x128x512 .f32) :
    Σ' (L8 : List (View.Piece (Elt F) S256x512 .bf16)), Σ' (L9 : List (View.Piece (Elt F) S256x512 .bf16)), Σ' (L10 : List (View.Piece (Elt F) S1x128 .f32)), { LS : List (View.Piece (Elt F) S2x128x512 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d) ∗ (∃ d, owns (c : Thread nD τ) a10 fullShare d) ∗ owns (c : Thread nD τ) a11 fullShare xo10 ∗ owns (c : Thread nD τ) a12 fullShare xs0
          ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ f, a9.view.loc (c : Thread nD τ) ↦[a9.view.set]{fullShare} a9.view.writes (Elt F) f L8) ∗ (∃ f, a10.view.loc (c : Thread nD τ) ↦[a10.view.set]{fullShare} a10.view.writes (Elt F) f L9) ∗ (∃ f, a11.view.loc (c : Thread nD τ) ↦[a11.view.set]{fullShare} a11.view.writes (Elt F) f L10) ∗ (∃ f, a12.view.loc (c : Thread nD τ) ↦[a12.view.set]{fullShare} a12.view.writes (Elt F) f LS)) -∗ K ⟨⟩))
        ⊢ wp frame (wpE (defs₀ (F := F)) Variants.none c none) E (cc0_attn_bwd i a1 h1 a2 h2 a3 h3 a4 h4 a5 h5 a6 h6 a7 h7 a8 h8 a9 h9 a10 h10 a11 h11 a12 h12) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
    obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7; obtain rfl := h11.eq_unread hf10; obtain rfl := h12.eq_unread hf11
    sl_exec (disch := first | sl_exact hc0 | sl_exact hc1 | sl_exact hc2)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]; · iexists _; iexact H8
    isplitl [H9]; · iexists _; iexact H9
    isplitl [H10]; · iexists _; iexact H10
    iexists _; iexact H11

set_option maxHeartbeats 2000000 in
/-- The body at the last point, which only writes the carry `xs0` to output 9 and leaves outputs 8 and 10: it runs with the inputs unchanged and the stated buffers ending with the lists of
    stores (last first) that the run finds. -/
def runC (c : Dev nD) (i : grid0.Coords) (hc0 : ¬cond0 i) (hc1 : ¬cond1 i) (hc2 : cond2 i) (x0 : Vec F S8 .f32) (x1 : Vec F S2x2x512x256 .f32) (x2 : Vec F S256x512 .bf16) (x3 : Vec F S256x256 .bf16) (x4 : Vec F S128x256 .bf16) (x5 : Vec F S256x256 .bf16) (x6 : Vec F S128x256 .bf16) (x7 : Vec F S256x512 .bf16) (xs0 : Vec F S2x128x512 .f32) :
    { L9 : List (View.Piece (Elt F) S256x512 .bf16) //
      ∀ (xi8 : Vec F S256x512 .bf16) (xi10 : Vec F S1x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare xi8 ∗ (∃ d, owns (c : Thread nD τ) a10 fullShare d) ∗ owns (c : Thread nD τ) a11 fullShare xi10 ∗ owns (c : Thread nD τ) a12 fullShare xs0
          ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare xi8 ∗ (∃ f, a10.view.loc (c : Thread nD τ) ↦[a10.view.set]{fullShare} a10.view.writes (Elt F) f L9) ∗ owns (c : Thread nD τ) a11 fullShare xi10 ∗ owns (c : Thread nD τ) a12 fullShare xs0) -∗ K ⟨⟩))
        ⊢ wp frame (wpE (defs₀ (F := F)) Variants.none c none) E (cc0_attn_bwd i a1 h1 a2 h2 a3 h3 a4 h4 a5 h5 a6 h6 a7 h7 a8 h8 a9 h9 a10 h10 a11 h11 a12 h12) K } := by
  refine ⟨?_, fun xi8 xi10 E K => ?run⟩
  case run =>
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
    obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7; obtain rfl := h9.eq_unread hf8; obtain rfl := h11.eq_unread hf10; obtain rfl := h12.eq_unread hf11
    sl_exec (disch := first | sl_exact hc0 | sl_exact hc1 | sl_exact hc2)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; · ipureintro; exact h9.read_unread _
      iexact H8
    isplitl [H9]; · iexists _; iexact H9
    isplitl [H10]
    · iexists _; isplitr; · ipureintro; exact h11.read_unread _
      iexact H10
    iexists _; isplitr; · ipureintro; exact h12.read_unread _
    iexact H11

end

end Cert.Attn

end
-- ==== Proof.AttnFrame.lean ====
module

public import proofs.«01_k».proof.Proof.AttnRunB
public import Idealize.ShloMosaic.Lib.Pipeline.TableIdle
public import Idealize.ShloMosaic.Lib.Claim

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging buffer at point `t`. -/
abbrev ms0 (t : Fin cfg0.N) : Memref sig .tc .smem S8 .f32 := win0_0.stage (cfg0.slots t 0)
/-- It is a whole buffer. -/
abbrev hs0 (t : Fin cfg0.N) : (ms0 t).IsWhole := hstage0_0 ((cfg0.slots t 0).cast nbuf0_0)
/-- Window 1's staging buffer at point `t`. -/
abbrev ms1 (t : Fin cfg0.N) : Memref sig .tc .vmem S2x2x512x256 .f32 := win0_1.stage (cfg0.slots t 1)
/-- It is a whole buffer. -/
abbrev hs1 (t : Fin cfg0.N) : (ms1 t).IsWhole := hstage0_1 ((cfg0.slots t 1).cast nbuf0_1)
/-- Window 2's staging buffer at point `t`. -/
abbrev ms2 (t : Fin cfg0.N) : Memref sig .tc .vmem S256x512 .bf16 := win0_2.stage (cfg0.slots t 2)
/-- It is a whole buffer. -/
abbrev hs2 (t : Fin cfg0.N) : (ms2 t).IsWhole := hstage0_2 ((cfg0.slots t 2).cast nbuf0_2)
/-- Window 3's staging buffer at point `t`. -/
abbrev ms3 (t : Fin cfg0.N) : Memref sig .tc .vmem S256x256 .bf16 := win0_3.stage (cfg0.slots t 3)
/-- It is a whole buffer. -/
abbrev hs3 (t : Fin cfg0.N) : (ms3 t).IsWhole := hstage0_3 ((cfg0.slots t 3).cast nbuf0_3)
/-- Window 4's staging buffer at point `t`. -/
abbrev ms4 (t : Fin cfg0.N) : Memref sig .tc .vmem S128x256 .bf16 := win0_4.stage (cfg0.slots t 4)
/-- It is a whole buffer. -/
abbrev hs4 (t : Fin cfg0.N) : (ms4 t).IsWhole := hstage0_4 ((cfg0.slots t 4).cast nbuf0_4)
/-- Window 5's staging buffer at point `t`. -/
abbrev ms5 (t : Fin cfg0.N) : Memref sig .tc .vmem S256x256 .bf16 := win0_5.stage (cfg0.slots t 5)
/-- It is a whole buffer. -/
abbrev hs5 (t : Fin cfg0.N) : (ms5 t).IsWhole := hstage0_5 ((cfg0.slots t 5).cast nbuf0_5)
/-- Window 6's staging buffer at point `t`. -/
abbrev ms6 (t : Fin cfg0.N) : Memref sig .tc .vmem S128x256 .bf16 := win0_6.stage (cfg0.slots t 6)
/-- It is a whole buffer. -/
abbrev hs6 (t : Fin cfg0.N) : (ms6 t).IsWhole := hstage0_6 ((cfg0.slots t 6).cast nbuf0_6)
/-- Window 7's staging buffer at point `t`. -/
abbrev ms7 (t : Fin cfg0.N) : Memref sig .tc .vmem S256x512 .bf16 := win0_7.stage (cfg0.slots t 7)
/-- It is a whole buffer. -/
abbrev hs7 (t : Fin cfg0.N) : (ms7 t).IsWhole := hstage0_7 ((cfg0.slots t 7).cast nbuf0_7)
/-- Window 8's staging buffer at point `t`. -/
abbrev ms8 (t : Fin cfg0.N) : Memref sig .tc .vmem S256x512 .bf16 := win0_8.stage (cfg0.slots t 8)
/-- It is a whole buffer. -/
abbrev hs8 (t : Fin cfg0.N) : (ms8 t).IsWhole := hstage0_8 ((cfg0.slots t 8).cast nbuf0_8)
/-- Window 9's staging buffer at point `t`. -/
abbrev ms9 (t : Fin cfg0.N) : Memref sig .tc .vmem S256x512 .bf16 := win0_9.stage (cfg0.slots t 9)
/-- It is a whole buffer. -/
abbrev hs9 (t : Fin cfg0.N) : (ms9 t).IsWhole := hstage0_9 ((cfg0.slots t 9).cast nbuf0_9)
/-- Window 10's staging buffer at point `t`. -/
abbrev ms10 (t : Fin cfg0.N) : Memref sig .tc .vmem S1x128 .f32 := win0_10.stage (cfg0.slots t 10)
/-- It is a whole buffer. -/
abbrev hs10 (t : Fin cfg0.N) : (ms10 t).IsWhole := hstage0_10 ((cfg0.slots t 10).cast nbuf0_10)
/-- The carry's buffer. -/
abbrev msS : Memref sig .tc .vmem S2x128x512 .f32 := Memref.whole cc0_scratch0
/-- A buffer through which output 8's contents are stated. -/
abbrev VO8 : View sig .tc .vmem S256x512 .bf16 := (Memref.whole cc0_stg8_0 : Memref sig .tc .vmem S256x512 .bf16).view
/-- A buffer through which output 9's contents are stated. -/
abbrev VO9 : View sig .tc .vmem S256x512 .bf16 := (Memref.whole cc0_stg9_0 : Memref sig .tc .vmem S256x512 .bf16).view
/-- A buffer through which output 10's contents are stated. -/
abbrev VO10 : View sig .tc .vmem S1x128 .f32 := (Memref.whole cc0_stg10_0 : Memref sig .tc .vmem S1x128 .f32).view
/-- A buffer through which the carry's contents are stated. -/
abbrev VOS : View sig .tc .vmem S2x128x512 .f32 := (Memref.whole cc0_scratch0 : Memref sig .tc .vmem S2x128x512 .f32).view

/-- The invariant handed to the region, with the carry as a memref owned at some contents. -/
theorem PhiA_eq (c : Dev nD) :
    (Pipeline.ΦA spec0 c : sProp 𝕄) = iprop(iprop((∃ d, owns (c : Thread nD τ) msS fullShare d)) ∗ (∃ r, prngReg c r)) := by
  unfold Pipeline.ΦA; rw [scopedRest0_eq]; simp only [msS, owns_whole]; try rfl

section
variable (a1 : Memref sig .tc .smem S8 .f32) (h1 : a1.IsWhole) (a2 : Memref sig .tc .vmem S2x2x512x256 .f32) (h2 : a2.IsWhole) (a3 : Memref sig .tc .vmem S256x512 .bf16) (h3 : a3.IsWhole) (a4 : Memref sig .tc .vmem S256x256 .bf16) (h4 : a4.IsWhole) (a5 : Memref sig .tc .vmem S128x256 .bf16) (h5 : a5.IsWhole) (a6 : Memref sig .tc .vmem S256x256 .bf16) (h6 : a6.IsWhole) (a7 : Memref sig .tc .vmem S128x256 .bf16) (h7 : a7.IsWhole) (a8 : Memref sig .tc .vmem S256x512 .bf16) (h8 : a8.IsWhole) (a9 : Memref sig .tc .vmem S256x512 .bf16) (h9 : a9.IsWhole) (a10 : Memref sig .tc .vmem S256x512 .bf16) (h10 : a10.IsWhole) (a11 : Memref sig .tc .vmem S1x128 .f32) (h11 : a11.IsWhole) (a12 : Memref sig .tc .vmem S2x128x512 .f32) (h12 : a12.IsWhole)

/-- The stores at the first point into output 8 cover it. -/
theorem coverA8 (c : Dev nD) (i : grid0.Coords) (hc0 : cond0 i) (hc1 : cond1 i) (hc2 : ¬cond2 i) (x0 : Vec F S8 .f32) (x1 : Vec F S2x2x512x256 .f32) (x2 : Vec F S256x512 .bf16) (x3 : Vec F S256x256 .bf16) (x4 : Vec F S128x256 .bf16) (x5 : Vec F S256x256 .bf16) (x6 : Vec F S128x256 .bf16) (x7 : Vec F S256x512 .bf16) (y : S256x512.Idx) :
    ∃ pc ∈ (runA a1 h1 a2 h2 a3 h3 a4 h4 a5 h5 a6 h6 a7 h7 a8 h8 a9 h9 a10 h10 a11 h11 a12 h12 c i hc0 hc1 hc2 x0 x1 x2 x3 x4 x5 x6 x7).1, y ∈ pc.1.set :=
  View.cover_of_tiledBy (runA a1 h1 a2 h2 a3 h3 a4 h4 a5 h5 a6 h6 a7 h7 a8 h8 a9 h9 a10 h10 a11 h11 a12 h12 c i hc0 hc1 hc2 x0 x1 x2 x3 x4 x5 x6 x7).1 ![128, 128] (by sl_kernel_rfl) y
/-- The stores at the first point into output 9 cover it. -/
theorem coverA9 (c : Dev nD) (i : grid0.Coords) (hc0 : cond0 i) (hc1 : cond1 i) (hc2 : ¬cond2 i) (x0 : Vec F S8 .f32) (x1 : Vec F S2x2x512x256 .f32) (x2 : Vec F S256x512 .bf16) (x3 : Vec F S256x256 .bf16) (x4 : Vec F S128x256 .bf16) (x5 : Vec F S256x256 .bf16) (x6 : Vec F S128x256 .bf16) (x7 : Vec F S256x512 .bf16) (y : S256x512.Idx) :
    ∃ pc ∈ (runA a1 h1 a2 h2 a3 h3 a4 h4 a5 h5 a6 h6 a7 h7 a8 h8 a9 h9 a10 h10 a11 h11 a12 h12 c i hc0 hc1 hc2 x0 x1 x2 x3 x4 x5 x6 x7).2.1, y ∈ pc.1.set :=
  View.cover_of_tiledBy (runA a1 h1 a2 h2 a3 h3 a4 h4 a5 h5 a6 h6 a7 h7 a8 h8 a9 h9 a10 h10 a11 h11 a12 h12 c i hc0 hc1 hc2 x0 x1 x2 x3 x4 x5 x6 x7).2.1 ![128, 512] (by sl_kernel_rfl) y
/-- The stores at the first point into output 10 cover it. -/
theorem coverA10 (c : Dev nD) (i : grid0.Coords) (hc0 : cond0 i) (hc1 : cond1 i) (hc2 : ¬cond2 i) (x0 : Vec F S8 .f32) (x1 : Vec F S2x2x512x256 .f32) (x2 : Vec F S256x512 .bf16) (x3 : Vec F S256x256 .bf16) (x4 : Vec F S128x256 .bf16) (x5 : Vec F S256x256 .bf16) (x6 : Vec F S128x256 .bf16) (x7 : Vec F S256x512 .bf16) (y : S1x128.Idx) :
    ∃ pc ∈ (runA a1 h1 a2 h2 a3 h3 a4 h4 a5 h5 a6 h6 a7 h7 a8 h8 a9 h9 a10 h10 a11 h11 a12 h12 c i hc0 hc1 hc2 x0 x1 x2 x3 x4 x5 x6 x7).2.2.1, y ∈ pc.1.set :=
  View.cover_of_wholeMem (runA a1 h1 a2 h2 a3 h3 a4 h4 a5 h5 a6 h6 a7 h7 a8 h8 a9 h9 a10 h10 a11 h11 a12 h12 c i hc0 hc1 hc2 x0 x1 x2 x3 x4 x5 x6 x7).2.2.1 (by sl_whole_mem) y
/-- The stores at the first point into the carry cover it. -/
theorem coverAS (c : Dev nD) (i : grid0.Coords) (hc0 : cond0 i) (hc1 : cond1 i) (hc2 : ¬cond2 i) (x0 : Vec F S8 .f32) (x1 : Vec F S2x2x512x256 .f32) (x2 : Vec F S256x512 .bf16) (x3 : Vec F S256x256 .bf16) (x4 : Vec F S128x256 .bf16) (x5 : Vec F S256x256 .bf16) (x6 : Vec F S128x256 .bf16) (x7 : Vec F S256x512 .bf16) (y : S2x128x512.Idx) :
    ∃ pc ∈ (runA a1 h1 a2 h2 a3 h3 a4 h4 a5 h5 a6 h6 a7 h7 a8 h8 a9 h9 a10 h10 a11 h11 a12 h12 c i hc0 hc1 hc2 x0 x1 x2 x3 x4 x5 x6 x7).2.2.2.1, y ∈ pc.1.set :=
  View.cover_of_tiledBy (runA a1 h1 a2 h2 a3 h3 a4 h4 a5 h5 a6 h6 a7 h7 a8 h8 a9 h9 a10 h10 a11 h11 a12 h12 c i hc0 hc1 hc2 x0 x1 x2 x3 x4 x5 x6 x7).2.2.2.1 ![1, 128, 512] (by sl_kernel_rfl) y
/-- The stores at a middle point into output 8 cover it. -/
theorem coverB8 (c : Dev nD) (i : grid0.Coords) (hc0 : ¬cond0 i) (hc1 : cond1 i) (hc2 : ¬cond2 i) (x0 : Vec F S8 .f32) (x1 : Vec F S2x2x512x256 .f32) (x2 : Vec F S256x512 .bf16) (x3 : Vec F S256x256 .bf16) (x4 : Vec F S128x256 .bf16) (x5 : Vec F S256x256 .bf16) (x6 : Vec F S128x256 .bf16) (x7 : Vec F S256x512 .bf16) (xo10 : Vec F S1x128 .f32) (xs0 : Vec F S2x128x512 .f32) (y : S256x512.Idx) :
    ∃ pc ∈ (runB a1 h1 a2 h2 a3 h3 a4 h4 a5 h5 a6 h6 a7 h7 a8 h8 a9 h9 a10 h10 a11 h11 a12 h12 c i hc0 hc1 hc2 x0 x1 x2 x3 x4 x5 x6 x7 xo10 xs0).1, y ∈ pc.1.set :=
  View.cover_of_tiledBy (runB a1 h1 a2 h2 a3 h3 a4 h4 a5 h5 a6 h6 a7 h7 a8 h8 a9 h9 a10 h10 a11 h11 a12 h12 c i hc0 hc1 hc2 x0 x1 x2 x3 x4 x5 x6 x7 xo10 xs0).1 ![128, 128] (by sl_kernel_rfl) y
/-- The stores at a middle point into output 9 cover it. -/
theorem coverB9 (c : Dev nD) (i : grid0.Coords) (hc0 : ¬cond0 i) (hc1 : cond1 i) (hc2 : ¬cond2 i) (x0 : Vec F S8 .f32) (x1 : Vec F S2x2x512x256 .f32) (x2 : Vec F S256x512 .bf16) (x3 : Vec F S256x256 .bf16) (x4 : Vec F S128x256 .bf16) (x5 : Vec F S256x256 .bf16) (x6 : Vec F S128x256 .bf16) (x7 : Vec F S256x512 .bf16) (xo10 : Vec F S1x128 .f32) (xs0 : Vec F S2x128x512 .f32) (y : S256x512.Idx) :
    ∃ pc ∈ (runB a1 h1 a2 h2 a3 h3 a4 h4 a5 h5 a6 h6 a7 h7 a8 h8 a9 h9 a10 h10 a11 h11 a12 h12 c i hc0 hc1 hc2 x0 x1 x2 x3 x4 x5 x6 x7 xo10 xs0).2.1, y ∈ pc.1.set :=
  View.cover_of_tiledBy (runB a1 h1 a2 h2 a3 h3 a4 h4 a5 h5 a6 h6 a7 h7 a8 h8 a9 h9 a10 h10 a11 h11 a12 h12 c i hc0 hc1 hc2 x0 x1 x2 x3 x4 x5 x6 x7 xo10 xs0).2.1 ![128, 512] (by sl_kernel_rfl) y
/-- The stores at a middle point into output 10 cover it. -/
theorem coverB10 (c : Dev nD) (i : grid0.Coords) (hc0 : ¬cond0 i) (hc1 : cond1 i) (hc2 : ¬cond2 i) (x0 : Vec F S8 .f32) (x1 : Vec F S2x2x512x256 .f32) (x2 : Vec F S256x512 .bf16) (x3 : Vec F S256x256 .bf16) (x4 : Vec F S128x256 .bf16) (x5 : Vec F S256x256 .bf16) (x6 : Vec F S128x256 .bf16) (x7 : Vec F S256x512 .bf16) (xo10 : Vec F S1x128 .f32) (xs0 : Vec F S2x128x512 .f32) (y : S1x128.Idx) :
    ∃ pc ∈ (runB a1 h1 a2 h2 a3 h3 a4 h4 a5 h5 a6 h6 a7 h7 a8 h8 a9 h9 a10 h10 a11 h11 a12 h12 c i hc0 hc1 hc2 x0 x1 x2 x3 x4 x5 x6 x7 xo10 xs0).2.2.1, y ∈ pc.1.set :=
  View.cover_of_wholeMem (runB a1 h1 a2 h2 a3 h3 a4 h4 a5 h5 a6 h6 a7 h7 a8 h8 a9 h9 a10 h10 a11 h11 a12 h12 c i hc0 hc1 hc2 x0 x1 x2 x3 x4 x5 x6 x7 xo10 xs0).2.2.1 (by sl_whole_mem) y
/-- The stores at a middle point into the carry cover it. -/
theorem coverBS (c : Dev nD) (i : grid0.Coords) (hc0 : ¬cond0 i) (hc1 : cond1 i) (hc2 : ¬cond2 i) (x0 : Vec F S8 .f32) (x1 : Vec F S2x2x512x256 .f32) (x2 : Vec F S256x512 .bf16) (x3 : Vec F S256x256 .bf16) (x4 : Vec F S128x256 .bf16) (x5 : Vec F S256x256 .bf16) (x6 : Vec F S128x256 .bf16) (x7 : Vec F S256x512 .bf16) (xo10 : Vec F S1x128 .f32) (xs0 : Vec F S2x128x512 .f32) (y : S2x128x512.Idx) :
    ∃ pc ∈ (runB a1 h1 a2 h2 a3 h3 a4 h4 a5 h5 a6 h6 a7 h7 a8 h8 a9 h9 a10 h10 a11 h11 a12 h12 c i hc0 hc1 hc2 x0 x1 x2 x3 x4 x5 x6 x7 xo10 xs0).2.2.2.1, y ∈ pc.1.set :=
  View.cover_of_tiledBy (runB a1 h1 a2 h2 a3 h3 a4 h4 a5 h5 a6 h6 a7 h7 a8 h8 a9 h9 a10 h10 a11 h11 a12 h12 c i hc0 hc1 hc2 x0 x1 x2 x3 x4 x5 x6 x7 xo10 xs0).2.2.2.1 ![1, 128, 512] (by sl_kernel_rfl) y
/-- The stores at the last point into output 9 cover it. -/
theorem coverC9 (c : Dev nD) (i : grid0.Coords) (hc0 : ¬cond0 i) (hc1 : ¬cond1 i) (hc2 : cond2 i) (x0 : Vec F S8 .f32) (x1 : Vec F S2x2x512x256 .f32) (x2 : Vec F S256x512 .bf16) (x3 : Vec F S256x256 .bf16) (x4 : Vec F S128x256 .bf16) (x5 : Vec F S256x256 .bf16) (x6 : Vec F S128x256 .bf16) (x7 : Vec F S256x512 .bf16) (xs0 : Vec F S2x128x512 .f32) (y : S256x512.Idx) :
    ∃ pc ∈ (runC a1 h1 a2 h2 a3 h3 a4 h4 a5 h5 a6 h6 a7 h7 a8 h8 a9 h9 a10 h10 a11 h11 a12 h12 c i hc0 hc1 hc2 x0 x1 x2 x3 x4 x5 x6 x7 xs0).1, y ∈ pc.1.set :=
  View.cover_of_tiledBy (runC a1 h1 a2 h2 a3 h3 a4 h4 a5 h5 a6 h6 a7 h7 a8 h8 a9 h9 a10 h10 a11 h11 a12 h12 c i hc0 hc1 hc2 x0 x1 x2 x3 x4 x5 x6 x7 xs0).1 ![128, 512] (by sl_kernel_rfl) y
end

/-- What a point leaves: outputs 8, 9 and 10's staging buffers and the carry. -/
abbrev Left (F : FTy → Type) [FloatOps F] : Type := Vec F S256x512 .bf16 × Vec F S256x512 .bf16 × Vec F S1x128 .f32 × Vec F S2x128x512 .f32

/-- The run at the first point, on the pipeline's buffers and blocks. -/
abbrev atA (c : Dev nD) (t : Fin cfg0.N) (h : t.val = 0) :=
  runA (F := F) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) msS (Memref.isWhole_whole _) c (grid0.coords t) ((hcond0 t).mpr h) ((hcond1 t).mpr (by omega)) (fun e => absurd ((hcond2 t).mp e) (by omega)) (iblk m c 0 t) (iblk m c 1 t) (iblk m c 2 t) (iblk m c 3 t) (iblk m c 4 t) (iblk m c 5 t) (iblk m c 6 t) (iblk m c 7 t)
/-- The run at a middle point. -/
abbrev atB (c : Dev nD) (t : Fin cfg0.N) (h0 : ¬t.val = 0) (h1 : t.val < 16) (xo10 : Vec F S1x128 .f32) (xs0 : Vec F S2x128x512 .f32) :=
  runB (F := F) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) msS (Memref.isWhole_whole _) c (grid0.coords t) (fun e => h0 ((hcond0 t).mp e)) ((hcond1 t).mpr h1) (fun e => absurd ((hcond2 t).mp e) (by omega)) (iblk m c 0 t) (iblk m c 1 t) (iblk m c 2 t) (iblk m c 3 t) (iblk m c 4 t) (iblk m c 5 t) (iblk m c 6 t) (iblk m c 7 t) xo10 xs0
/-- The run at the last point. -/
abbrev atC (c : Dev nD) (t : Fin cfg0.N) (h : t.val = 16) (xs0 : Vec F S2x128x512 .f32) :=
  runC (F := F) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) msS (Memref.isWhole_whole _) c (grid0.coords t) (fun e => absurd ((hcond0 t).mp e) (by omega)) (fun e => absurd ((hcond1 t).mp e) (by omega)) ((hcond2 t).mpr h) (iblk m c 0 t) (iblk m c 1 t) (iblk m c 2 t) (iblk m c 3 t) (iblk m c 4 t) (iblk m c 5 t) (iblk m c 6 t) (iblk m c 7 t) xs0

/-- What the first point leaves. -/
def leftA (c : Dev nD) (t : Fin cfg0.N) (h : t.val = 0) : Left F :=
  (VO8.read (Elt F) (VO8.writes (Elt F) VO8.junk (atA m c t h).1),
   VO9.read (Elt F) (VO9.writes (Elt F) VO9.junk (atA m c t h).2.1),
   VO10.read (Elt F) (VO10.writes (Elt F) VO10.junk (atA m c t h).2.2.1),
   VOS.read (Elt F) (VOS.writes (Elt F) VOS.junk (atA m c t h).2.2.2.1))
/-- What a middle point leaves, from what the point before left. -/
def leftB (c : Dev nD) (t : Fin cfg0.N) (h0 : ¬t.val = 0) (h1 : t.val < 16) (p : Left F) : Left F :=
  (VO8.read (Elt F) (VO8.writes (Elt F) VO8.junk (atB m c t h0 h1 p.2.2.1 p.2.2.2).1),
   VO9.read (Elt F) (VO9.writes (Elt F) VO9.junk (atB m c t h0 h1 p.2.2.1 p.2.2.2).2.1),
   VO10.read (Elt F) (VO10.writes (Elt F) VO10.junk (atB m c t h0 h1 p.2.2.1 p.2.2.2).2.2.1),
   VOS.read (Elt F) (VOS.writes (Elt F) VOS.junk (atB m c t h0 h1 p.2.2.1 p.2.2.2).2.2.2.1))
/-- What the last point leaves, from what the point before left: only output 9 is stored into. -/
def leftC (c : Dev nD) (t : Fin cfg0.N) (h : t.val = 16) (p : Left F) : Left F :=
  (p.1, VO9.read (Elt F) (VO9.writes (Elt F) VO9.junk (atC m c t h p.2.2.2).1), p.2.2.1, p.2.2.2)

/-- What each point leaves, by the points before it. -/
def left (c : Dev nD) : (n : ℕ) → n < cfg0.N → Left F
  | 0, hn => leftA m c ⟨0, hn⟩ rfl
  | n + 1, hn =>
    if h1 : n + 1 < 16 then leftB m c ⟨n + 1, hn⟩ (Nat.succ_ne_zero n) h1 (left c n (by omega))
    else leftC m c ⟨n + 1, hn⟩ (by have : n + 1 < 17 := lt_of_lt_of_eq hn N_0; show n + 1 = 16; omega) (left c n (by omega))

/-- `left` at the first point. -/
theorem left_A (c : Dev nD) (t : Fin cfg0.N) (h : t.val = 0) : left m c t.val t.isLt = leftA m c t h := by
  obtain ⟨n, hn⟩ := t
  cases n with
  | zero => rfl
  | succ n => exact absurd h (Nat.succ_ne_zero n)
theorem left_B (c : Dev nD) (t : Fin cfg0.N) (h0 : ¬t.val = 0) (h1 : t.val < 16) :
    left m c t.val t.isLt = leftB m c t h0 h1 (left m c (t.val - 1) (by omega)) := by
  obtain ⟨n, hn⟩ := t
  cases n with
  | zero => exact absurd rfl h0
  | succ n => exact dif_pos h1
theorem left_C (c : Dev nD) (t : Fin cfg0.N) (h : t.val = 16) :
    left m c t.val t.isLt = leftC m c t h (left m c (t.val - 1) (by omega)) := by
  obtain ⟨n, hn⟩ := t
  cases n with
  | zero => exact absurd (show (0:ℕ) = 16 from h) (by decide)
  | succ n => exact dif_neg (by simp only at h; omega)

/-- The invariant before point `n`: the carry holds what the point before left. -/
def Inv (c : Dev nD) : (n : ℕ) → n ≤ cfg0.N → sProp 𝕄
  | 0, _ => Pipeline.ΦA spec0 c
  | n + 1, hn => iprop(owns (c : Thread nD τ) msS fullShare ((left m c n hn).2.2.2) ∗ (∃ r, prngReg c r))
theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(owns (c : Thread nD τ) msS fullShare ((left m c n hn).2.2.2) ∗ (∃ r, prngReg c r)) := rfl
theorem Inv_pos (c : Dev nD) (n : ℕ) (h : n ≤ cfg0.N) (hz : n ≠ 0) :
    Inv m c n h = iprop(owns (c : Thread nD τ) msS fullShare ((left m c (n - 1) (by omega)).2.2.2) ∗ (∃ r, prngReg c r)) := by
  cases n with
  | zero => exact absurd rfl hz
  | succ n => rfl

/-- The proof data of the region: the inputs' blocks stay, the outputs and the carry hold what each point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (left m c t.val t.isLt).1
    | ⟨9, _⟩ => (left m c t.val t.isLt).2.1
    | ⟨10, _⟩ => (left m c t.val t.isLt).2.2.1
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Inv_castSucc (c : Dev nD) (t : Fin cfg0.N) : (dats m 0 c).Φ t.castSucc = Inv m c t.val (Nat.le_of_lt t.isLt) := by
  dsimp only [dats]; exact Pipeline.Dat.Φ_castSucc (Inv m c) t
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t := before0_0_of m (dats m 0 c) (A_eq m c 0) (after_0 m c) t d
theorem live_0 : ∀ t : Fin cfg0.N, cfg0.idle 0 (grid0.coords t) = false := fun _ => rfl
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t := before0_1_of m (dats m 0 c) (A_eq m c 1) (after_1 m c) t d
theorem live_1 : ∀ t : Fin cfg0.N, cfg0.idle 1 (grid0.coords t) = false := fun _ => rfl
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t := before0_2_of m (dats m 0 c) (A_eq m c 2) (after_2 m c) t d
theorem live_2 : ∀ t : Fin cfg0.N, cfg0.idle 2 (grid0.coords t) = false := fun _ => rfl
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t := before0_3_of m (dats m 0 c) (A_eq m c 3) (after_3 m c) t d
theorem live_3 : ∀ t : Fin cfg0.N, cfg0.idle 3 (grid0.coords t) = false := fun _ => rfl
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t := before0_4_of m (dats m 0 c) (A_eq m c 4) (after_4 m c) t d
theorem live_4 : ∀ t : Fin cfg0.N, cfg0.idle 4 (grid0.coords t) = false := fun _ => rfl
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t := before0_5_of m (dats m 0 c) (A_eq m c 5) (after_5 m c) t d
theorem live_5 : ∀ t : Fin cfg0.N, cfg0.idle 5 (grid0.coords t) = false := fun _ => rfl
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t := before0_6_of m (dats m 0 c) (A_eq m c 6) (after_6 m c) t d
theorem live_6 : ∀ t : Fin cfg0.N, cfg0.idle 6 (grid0.coords t) = false := fun _ => rfl
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t := before0_7_of m (dats m 0 c) (A_eq m c 7) (after_7 m c) t d
theorem live_7 : ∀ t : Fin cfg0.N, cfg0.idle 7 (grid0.coords t) = false := fun _ => rfl
theorem after_8 (c : Dev nD) (t : Fin cfg0.N) : (dats m 0 c).after 8 t = (left m c t.val t.isLt).1 := by dsimp only [dats]
theorem after_9 (c : Dev nD) (t : Fin cfg0.N) : (dats m 0 c).after 9 t = (left m c t.val t.isLt).2.1 := by dsimp only [dats]
theorem after_10 (c : Dev nD) (t : Fin cfg0.N) : (dats m 0 c).after 10 t = (left m c t.val t.isLt).2.2.1 := by dsimp only [dats]

/-- Outputs 8 and 10 are stored into before the last point, and written back, unchanged, at the last one. -/
theorem live_8 : ∀ t : Fin cfg0.N, t.val < 16 → cfg0.idle 8 (grid0.coords t) = false := by decide +kernel
theorem live_10 : ∀ t : Fin cfg0.N, t.val < 16 → cfg0.idle 10 (grid0.coords t) = false := by decide +kernel
theorem live_9 : ∀ t : Fin cfg0.N, cfg0.idle 9 (grid0.coords t) = false := by decide +kernel
theorem idle_8 : ∀ t : Fin cfg0.N, t.val = 16 → cfg0.idle 8 (grid0.coords t) = true := by decide +kernel
theorem idle_10 : ∀ t : Fin cfg0.N, t.val = 16 → cfg0.idle 10 (grid0.coords t) = true := by decide +kernel
theorem flush_8 : ∀ t : Fin cfg0.N, t.val = 16 → (cfg0.win 8).flush t = true := by decide +kernel
theorem flush_10 : ∀ t : Fin cfg0.N, t.val = 16 → (cfg0.win 10).flush t = true := by decide +kernel
theorem old_8 : ∀ t : Fin cfg0.N, t.val = 16 → cfg0.fresh 8 t.val = false := by decide +kernel
theorem old_10 : ∀ t : Fin cfg0.N, t.val ≠ 0 → cfg0.fresh 10 t.val = false := by decide +kernel
theorem idle_last_8 : ∀ t : Fin cfg0.N, cfg0.idle 8 (grid0.coords t) = true → t.val = 16 := by decide +kernel
theorem idle_last_10 : ∀ t : Fin cfg0.N, cfg0.idle 10 (grid0.coords t) = true → t.val = 16 := by decide +kernel

/-- At the last point output 8's buffer is left as the point before left it. -/
theorem carry_8 (c : Dev nD) (t : Fin cfg0.N) (_ : t.val ≠ 0) (hi : cfg0.idle 8 (grid0.coords t) = true) (_ : cfg0.fresh 8 t.val = false) :
    (dats m 0 c).after 8 t = (dats m 0 c).after 8 ⟨t.val - 1, by omega⟩ := by
  rw [after_8, after_8, left_C m c t (idle_last_8 t hi)]; unfold leftC; rfl
/-- At the last point output 10's buffer is left as the point before left it. -/
theorem carry_10 (c : Dev nD) (t : Fin cfg0.N) (_ : t.val ≠ 0) (hi : cfg0.idle 10 (grid0.coords t) = true) (_ : cfg0.fresh 10 t.val = false) :
    (dats m 0 c).after 10 t = (dats m 0 c).after 10 ⟨t.val - 1, by omega⟩ := by
  rw [after_10, after_10, left_C m c t (idle_last_10 t hi)]; unfold leftC; rfl
/-- The last point finds output 8's buffer as the point before left it. -/
theorem before_8 (c : Dev nD) (t : Fin cfg0.N) (h : t.val = 16) (d) :
    (dats m 0 c).before 8 t d = (left m c (t.val - 1) (by omega)).1 := by
  rw [Dat.before_out_traj _ 8 rfl (fun _ _ => rfl) (carry_8 m c) t.val t rfl d, if_neg (by rw [old_8 t h]; exact Bool.false_ne_true)]
  exact after_8 m c _
/-- Every point but the first finds output 10's buffer as the point before left it. -/
theorem before_10 (c : Dev nD) (t : Fin cfg0.N) (h : t.val ≠ 0) (d) :
    (dats m 0 c).before 10 t d = (left m c (t.val - 1) (by omega)).2.2.1 := by
  rw [Dat.before_out_traj _ 10 rfl (fun _ _ => rfl) (carry_10 m c) t.val t rfl d, if_neg (by rw [old_10 t h]; exact Bool.false_ne_true)]
  exact after_10 m c _

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))
/-- What the body hands back at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_0 (c : Dev nD) (t : Fin cfg0.N) : (dats m 0 c).leavesExact 0 t = owns (c : Thread nD τ) (ms0 t) fullShare (iblk m c 0 t) := by
  unfold Dat.leavesExact; rw [live_0 t, after_0]
theorem leaves_1 (c : Dev nD) (t : Fin cfg0.N) : (dats m 0 c).leavesExact 1 t = owns (c : Thread nD τ) (ms1 t) fullShare (iblk m c 1 t) := by
  unfold Dat.leavesExact; rw [live_1 t, after_1]
theorem leaves_2 (c : Dev nD) (t : Fin cfg0.N) : (dats m 0 c).leavesExact 2 t = owns (c : Thread nD τ) (ms2 t) fullShare (iblk m c 2 t) := by
  unfold Dat.leavesExact; rw [live_2 t, after_2]
theorem leaves_3 (c : Dev nD) (t : Fin cfg0.N) : (dats m 0 c).leavesExact 3 t = owns (c : Thread nD τ) (ms3 t) fullShare (iblk m c 3 t) := by
  unfold Dat.leavesExact; rw [live_3 t, after_3]
theorem leaves_4 (c : Dev nD) (t : Fin cfg0.N) : (dats m 0 c).leavesExact 4 t = owns (c : Thread nD τ) (ms4 t) fullShare (iblk m c 4 t) := by
  unfold Dat.leavesExact; rw [live_4 t, after_4]
theorem leaves_5 (c : Dev nD) (t : Fin cfg0.N) : (dats m 0 c).leavesExact 5 t = owns (c : Thread nD τ) (ms5 t) fullShare (iblk m c 5 t) := by
  unfold Dat.leavesExact; rw [live_5 t, after_5]
theorem leaves_6 (c : Dev nD) (t : Fin cfg0.N) : (dats m 0 c).leavesExact 6 t = owns (c : Thread nD τ) (ms6 t) fullShare (iblk m c 6 t) := by
  unfold Dat.leavesExact; rw [live_6 t, after_6]
theorem leaves_7 (c : Dev nD) (t : Fin cfg0.N) : (dats m 0 c).leavesExact 7 t = owns (c : Thread nD τ) (ms7 t) fullShare (iblk m c 7 t) := by
  unfold Dat.leavesExact; rw [live_7 t, after_7]
theorem leaves_8 (c : Dev nD) (t : Fin cfg0.N) : (dats m 0 c).leavesExact 8 t = owns (c : Thread nD τ) (ms8 t) fullShare (left m c t.val t.isLt).1 := by
  have hN : t.val < 17 := lt_of_lt_of_eq t.isLt N_0
  by_cases h : t.val < 16
  · unfold Dat.leavesExact; rw [live_8 t h, after_8]
  · unfold Dat.leavesExact; rw [idle_8 t (by omega), flush_8 t (by omega), after_8]
theorem leaves_9 (c : Dev nD) (t : Fin cfg0.N) : (dats m 0 c).leavesExact 9 t = owns (c : Thread nD τ) (ms9 t) fullShare (left m c t.val t.isLt).2.1 := by
  unfold Dat.leavesExact; rw [live_9 t, after_9]
theorem leaves_10 (c : Dev nD) (t : Fin cfg0.N) : (dats m 0 c).leavesExact 10 t = owns (c : Thread nD τ) (ms10 t) fullShare (left m c t.val t.isLt).2.2.1 := by
  have hN : t.val < 17 := lt_of_lt_of_eq t.isLt N_0
  by_cases h : t.val < 16
  · unfold Dat.leavesExact; rw [live_10 t h, after_10]
  · unfold Dat.leavesExact; rw [idle_10 t (by omega), flush_10 t (by omega), after_10]

set_option maxHeartbeats 2000000 in
/-- The body at every point: what it is called with gives what it hands back. -/
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = Inv m c (t.val + 1) t.isLt from rfl, Inv_succ]
  rw [leaves_0, leaves_1, leaves_2, leaves_3, leaves_4, leaves_5, leaves_6, leaves_7, leaves_8, leaves_9, leaves_10]
  rw [Inv_castSucc m c t]
  have hN : t.val < 17 := lt_of_lt_of_eq t.isLt N_0
  by_cases h : t.val = 0
  · rw [Inv_zero m c _ _ h, PhiA_eq, left_A m c t h]
    unfold leftA; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((atA m c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, ⟨%e8, H8⟩, ⟨%e9, H9⟩, ⟨%e10, H10⟩, ⟨%eS, HS⟩⟩
    isplitl [HS Hg]
    · isplitl [HS]
      · unfold owns; iexists _; isplitr
        swap; · iexact HS
        ipureintro; exact View.read_writes_of_cover _ _ _ _ _ (coverAS _ _ _ _ _ _ _ _ _ _ _ _ _ _ _ _ _ _ _ _ _ _ _ _ c _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverA8 _ _ _ _ _ _ _ _ _ _ _ _ _ _ _ _ _ _ _ _ _ _ _ _ c _ _ _ _ _ _ _ _ _ _ _ _)
    isplitl [H9]
    · unfold owns; iexists _; isplitr
      swap; · iexact H9
      ipureintro; exact View.read_writes_of_cover _ _ _ _ _ (coverA9 _ _ _ _ _ _ _ _ _ _ _ _ _ _ _ _ _ _ _ _ _ _ _ _ c _ _ _ _ _ _ _ _ _ _ _ _)
    unfold owns; iexists _; isplitr
    swap; · iexact H10
    ipureintro; exact View.read_writes_of_cover _ _ _ _ _ (coverA10 _ _ _ _ _ _ _ _ _ _ _ _ _ _ _ _ _ _ _ _ _ _ _ _ c _ _ _ _ _ _ _ _ _ _ _ _)
  · by_cases h1 : t.val < 16
    · rw [Inv_pos m c _ _ h, left_B m c t h h1]
      simp only [before_10 m c t h]
      generalize left m c (t.val - 1) _ = p
      unfold leftB; dsimp only
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((atB m c t h h1 p.2.2.1 p.2.2.2).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [HS]; · iexact HS
      iintro ⟨H0, H1, H2, H3, H4, H5, H6, H7, ⟨%e8, H8⟩, ⟨%e9, H9⟩, ⟨%e10, H10⟩, ⟨%eS, HS⟩⟩
      isplitl [HS Hg]
      · isplitl [HS]
        · unfold owns; iexists _; isplitr
          swap; · iexact HS
          ipureintro; exact View.read_writes_of_cover _ _ _ _ _ (coverBS _ _ _ _ _ _ _ _ _ _ _ _ _ _ _ _ _ _ _ _ _ _ _ _ c _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverB8 _ _ _ _ _ _ _ _ _ _ _ _ _ _ _ _ _ _ _ _ _ _ _ _ c _ _ _ _ _ _ _ _ _ _ _ _ _ _)
      isplitl [H9]
      · unfold owns; iexists _; isplitr
        swap; · iexact H9
        ipureintro; exact View.read_writes_of_cover _ _ _ _ _ (coverB9 _ _ _ _ _ _ _ _ _ _ _ _ _ _ _ _ _ _ _ _ _ _ _ _ c _ _ _ _ _ _ _ _ _ _ _ _ _ _)
      unfold owns; iexists _; isplitr
      swap; · iexact H10
      ipureintro; exact View.read_writes_of_cover _ _ _ _ _ (coverB10 _ _ _ _ _ _ _ _ _ _ _ _ _ _ _ _ _ _ _ _ _ _ _ _ c _ _ _ _ _ _ _ _ _ _ _ _ _ _)
    · have h2 : t.val = 16 := by omega
      rw [Inv_pos m c _ _ h, left_C m c t h2]
      simp only [before_8 m c t h2, before_10 m c t h]
      generalize left m c (t.val - 1) _ = p
      unfold leftC; dsimp only
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((atC m c t h2 p.2.2.2).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS]; · iexact HS
      iintro ⟨H0, H1, H2, H3, H4, H5, H6, H7, H8, ⟨%e9, H9⟩, H10, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · iexact H8
      isplitl [H9]
      · unfold owns; iexists _; isplitr
        swap; · iexact H9
        ipureintro; exact View.read_writes_of_cover _ _ _ _ _ (coverC9 _ _ _ _ _ _ _ _ _ _ _ _ _ _ _ _ _ _ _ _ _ _ _ _ c _ _ _ _ _ _ _ _ _ _ _ _ _)
      iexact H10

/-- The body table's row at point `t` is the body. -/
theorem row_body (t : Fin cfg0.N) : defs₀ (F := F) .tc cfg0.body (cfg0.bodyArgs t (cfg0.slots t)) = bodyAt0 t := by
  unfold defs₀; rw [Defs.onTc_tc]
/-- The body's obligation at every point. -/
theorem obligation (c : Dev nD) : BodyObligation (dats (F := F) m 0 c) (defs₀ (F := F)) Variants.none () Set.univ := fun t => by
  rw [bigSep_W0, bigSep_W0, row_body]
  exact triple_restated (sound m c t) rfl .rfl fun _ => .rfl
/-- What the launch hands the region is the invariant before the first point. -/
theorem inv_in (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _
/-- After the last point the carry's contents are forgotten. -/
theorem inv_out (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 17 := N_0; omega), PhiA_eq]
  iintro ⟨HS, Hg⟩
  isplitl [HS]
  · iexists _; iexact HS
  iexact Hg

set_option backward.isDefEq.respectTransparency.types false in
/-- The whole program runs, every array of the region ends at what the points left, and no semaphore is left raised. -/
theorem run_main_sem : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := inv_in m) (hout := inv_out m)
/-- The same without the semaphores. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_sem m ρ)
/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)
/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_sem m ρ))

end Cert.Attn

end
-- ==== Proof.AttnSame.lean ====
/- The frame of the attention backward at the float words, taken from the one run of its text. -/
module
public import proofs.«01_k».proof.Proof.AttnFrame
public import proofs.«01_k».proof.Proof.Gen.Kernel2
public import proofs.«01_k».proof.Defs
@[expose] public section
set_option maxRecDepth 16384
noncomputable section
namespace Cert.Attn
open Cert.Kernel2Ideal Cert.Kernel2Ideal.Gen Idealize.ShloMosaic Idealize.ShloMosaic.TcCoe Idealize.SL.Sem Idealize.ShloMosaic.Pipeline

/-- The frame of the idealized program's text, at the float words. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- The program as it is printed for the float words has the idealized program's text. -/
theorem frame_bits_eq : FrameBits = Cert.quiescent_Kernel2 (hKernel2 := Cert.Kernel2.Gen.facts) := by
  sl_kernel_rfl

/-- The frame claim of the program as it is printed for the float words. -/
theorem frame_bits : Cert.quiescent_Kernel2 (hKernel2 := Cert.Kernel2.Gen.facts) :=
  frame_bits_eq ▸ fun m ρ _ => frame (F := Bits) m ρ
end Cert.Attn
end
-- ==== Proof.AttnSpec.lean ====
/- The windowed attention with sinks and a distance bias, and its gradient, on real arrays indexed by natural
   numbers: the formulas both programs are compared with. -/
module

public import proofs.«01_k».proof.Proof.Reals
public import Idealize.ShloMosaic.Lib.Pipeline.ValueKit
public import Mathlib.Analysis.SpecialFunctions.Exp

@[expose] public section

noncomputable section

namespace Cert.AttnSpec

open Idealize.ShloMosaic Cert.Reals

/-! ## One row of the softmax with a sink -/

/-- The maximum of the unmasked scores and the sink is real. -/
theorem max_real {ι : Type} [Fintype ι] (ok : ι → Prop) [DecidablePred ok] (f : ι → ℝ) (b : ℝ) :
    ∃ M : ℝ, max (Finset.univ.fold max ⊥ (fun i => if ok i then (f i : EReal) else ⊥)) (b : EReal) = (M : EReal) := by
  refine ⟨_, (coe_toReal ⟨ne_of_lt (max_lt ?_ (EReal.coe_lt_top b)), ?_⟩).symm⟩
  · refine (Finset.fold_max_lt _).2 ⟨bot_lt_top, fun i _ => ?_⟩
    split
    · exact EReal.coe_lt_top _
    · exact bot_lt_top
  · exact ne_of_gt (lt_of_lt_of_le (EReal.bot_lt_coe b) (le_max_right _ _))

/-- The exponential of a masked score, shifted. -/
theorem exp_shift (p : Prop) [Decidable p] (f M : ℝ) :
    Ideal.exp ((if p then (f : EReal) else ⊥) - (M : EReal)) = ((if p then Real.exp f else 0) * Real.exp (-M) : ℝ) := by
  split
  · rw [← EReal.coe_sub, Ideal.exp_coe, ← Real.exp_add, sub_eq_add_neg]
  · rw [EReal.bot_sub, Ideal.exp_bot, zero_mul, EReal.coe_zero]

/-- The exponential of the sink, shifted. -/
theorem exp_sink (b M : ℝ) : Ideal.exp ((b : EReal) - (M : EReal)) = (Real.exp b * Real.exp (-M) : ℝ) := by
  rw [← EReal.coe_sub, Ideal.exp_coe, ← Real.exp_add, sub_eq_add_neg]

/-! ## The attention -/

/-- The bias of head `h` falls off with the distance by `2 ^ -(h + 1)`. -/
def slp (h : ℕ) : ℝ := (1 / 2) ^ (h + 1)

/-- Query `t` of block `n` sees key `s` of the band (the previous block's 128 keys, then its own): not in its future,
    nearer than 128, and there is no block before the first. -/
def Ok (n t s : ℕ) : Prop := s ≤ t + 128 ∧ t < s ∧ (0 < n ∨ 128 ≤ s)

instance (n t s : ℕ) : Decidable (Ok n t s) := by unfold Ok; infer_instance

/-- The row of key `s` of block `n`'s band (for the first block the missing half is a row that is masked). -/
def key (n s : ℕ) : ℕ := if n = 0 then s % 128 else 128 * (n - 1) + s

variable (x y : ℕ → ℕ → ℝ) (b : ℕ → ℝ)

/-- The score of head `h`, query `t`, key `s` in block `n`. -/
def sc (n h t s : ℕ) : ℝ :=
  (∑ d : Fin 64, x (128 * n + t) (64 * h + d.val) * x (key n s) (512 + 64 * (h / 4) + d.val)) * (1 / 8)
    + -(slp h * ((t : ℝ) + 128 - s))

def ex (n h t s : ℕ) : ℝ := if Ok n t s then Real.exp (sc x n h t s) else 0

/-- The normaliser: the row's exponentials and the sink's. -/
def nz (n h t : ℕ) : ℝ := (∑ s : Fin 256, ex x n h t s.val) + Real.exp (b h)

/-- The weight of a key. -/
def pr (n h t s : ℕ) : ℝ := ex x n h t s / nz x b n h t

/-- The weight of the sink. -/
def ps (n h t : ℕ) : ℝ := Real.exp (b h) / nz x b n h t

/-- The gradient of the weights. -/
def dp (n h t s : ℕ) : ℝ := ∑ d : Fin 64, y (128 * n + t) (64 * h + d.val) * x (key n s) (640 + 64 * (h / 4) + d.val)

/-- The row's sum of weight times gradient. -/
def dl (n h t : ℕ) : ℝ := ∑ s : Fin 256, pr x b n h t s.val * dp x y n h t s.val

/-- The gradient of the scores. -/
def ds (n h t s : ℕ) : ℝ := pr x b n h t s * (dp x y n h t s - dl x y b n h t)

/-- The gradient of the queries. -/
def dq (n h t d : ℕ) : ℝ := (∑ s : Fin 256, ds x y b n h t s.val * x (key n s.val) (512 + 64 * (h / 4) + d)) * (1 / 8)

/-- What block `n`'s queries of key head `kh` give the key `s` of the band. -/
def dkc (n kh s d : ℕ) : ℝ :=
  (∑ g : Fin 4, ∑ t : Fin 128, ds x y b n (4 * kh + g.val) t.val s * x (128 * n + t.val) (64 * (4 * kh + g.val) + d)) * (1 / 8)

/-- What block `n`'s queries of key head `kh` give the value `s` of the band. -/
def dvc (n kh s d : ℕ) : ℝ :=
  ∑ g : Fin 4, ∑ t : Fin 128, pr x b n (4 * kh + g.val) t.val s * y (128 * n + t.val) (64 * (4 * kh + g.val) + d)

/-- The gradient of a key: of its own block and of the next one's band. -/
def dk (n kh s d : ℕ) : ℝ := dkc x y b n kh (128 + s) d + if n < 31 then dkc x y b (n + 1) kh s d else 0

/-- The gradient of a value. -/
def dv (n kh s d : ℕ) : ℝ := dvc x y b n kh (128 + s) d + if n < 31 then dvc x y b (n + 1) kh s d else 0

/-- The gradient of a sink. -/
def dsk (h : ℕ) : ℝ := -∑ n : Fin 32, ∑ t : Fin 128, ps x b n.val h t.val * dl x y b n.val h t.val

theorem ite_ex (n h t s : ℕ) : (if Ok n t s then Real.exp (sc x n h t s) else 0) = ex x n h t s := rfl

theorem ex_nonneg (n h t s : ℕ) : 0 ≤ ex x n h t s := by
  unfold ex; split
  · exact (Real.exp_pos _).le
  · exact le_rfl

theorem nz_pos (n h t : ℕ) : 0 < nz x b n h t :=
  add_pos_of_nonneg_of_pos (Finset.sum_nonneg fun _ _ => ex_nonneg x _ _ _ _) (Real.exp_pos _)

/-- A masked key has weight zero. -/
theorem pr_masked {n h t s : ℕ} (e : ¬Ok n t s) : pr x b n h t s = 0 := by rw [pr, ex, if_neg e, zero_div]

theorem ds_masked {n h t s : ℕ} (e : ¬Ok n t s) : ds x y b n h t s = 0 := by rw [ds, pr_masked x b e, zero_mul]

/-- A shift by `M` of all exponents cancels in the normaliser. -/
theorem nz_shift (n h t : ℕ) (M : ℝ) :
    (∑ s : Fin 256, ex x n h t s.val * Real.exp (-M)) + Real.exp (b h) * Real.exp (-M) = nz x b n h t * Real.exp (-M) := by
  rw [← Finset.sum_mul, ← add_mul, nz]

/-! ## Rows stacked by head, two heads per tile of 128 lanes

Row `r` of a stack is query `r % 128` of head `r / 128` of the four heads of a key head; the tile's other half of lanes is
zero. -/

/-- The stacked rows of `x`. -/
def stk (n kh r l : ℕ) : ℝ := if l / 64 = r / 128 % 2 then x (128 * n + r % 128) (64 * (4 * kh + r / 128) + l % 64) else 0

/-- The lanes of the other half give nothing. -/
theorem sum_lanes (p : ℕ) (hp : p < 2) (f : ℕ → ℝ) :
    ∑ l : Fin 128, (if l.val / 64 = p then f (l.val % 64) else 0) = ∑ d : Fin 64, f d.val := by
  refine (Fin.sum_univ_univ_mul_add 2 64 (fun l => if l / 64 = p then f (l % 64) else 0)).symm.trans ?_
  have e (g : Fin 2) (d : Fin 64) : (if (g.val * 64 + d.val) / 64 = p then f ((g.val * 64 + d.val) % 64) else 0)
      = if g.val = p then f d.val else 0 := by
    rw [show (g.val * 64 + d.val) / 64 = g.val by omega, show (g.val * 64 + d.val) % 64 = d.val by omega]
  simp only [e, Fin.sum_univ_two]
  rcases (show p = 0 ∨ p = 1 by omega) with rfl | rfl <;> simp

/-- The part of the keys' gradient one half of the lanes holds. -/
def dkh (n kh s l : ℕ) : ℝ :=
  (∑ r : Fin 512, ds x y b n (4 * kh + r.val / 128) (r.val % 128) s * stk x n kh r.val l) * (1 / 8)

/-- The part of the values' gradient one half of the lanes holds. -/
def dvh (n kh s l : ℕ) : ℝ := ∑ r : Fin 512, pr x b n (4 * kh + r.val / 128) (r.val % 128) s * stk y n kh r.val l

/-- The stacked rows, head by head. -/
theorem sum_stack (f : ℕ → ℕ → ℝ) : ∑ r : Fin 512, f (r.val / 128) (r.val % 128) = ∑ g : Fin 4, ∑ t : Fin 128, f g.val t.val := by
  refine (Fin.sum_univ_univ_mul_add 4 128 (fun r => f (r / 128) (r % 128))).symm.trans ?_
  refine Finset.sum_congr rfl fun g _ => Finset.sum_congr rfl fun t _ => ?_
  rw [show (g.val * 128 + t.val) / 128 = g.val by omega, show (g.val * 128 + t.val) % 128 = t.val by omega]

/-- The two halves of the lanes of a stacked row. -/
theorem stk_halves (n kh r d : ℕ) (hd : d < 64) :
    stk x n kh r d + stk x n kh r (d + 64) = x (128 * n + r % 128) (64 * (4 * kh + r / 128) + d) := by
  unfold stk
  rw [show d / 64 = 0 by omega, show (d + 64) / 64 = 1 by omega, show d % 64 = d by omega, show (d + 64) % 64 = d by omega]
  rcases Nat.mod_two_eq_zero_or_one (r / 128) with e | e <;> simp [e]

theorem dk_halves (n kh s d : ℕ) (hd : d < 64) : dkh x y b n kh s d + dkh x y b n kh s (d + 64) = dkc x y b n kh s d := by
  rw [dkh, dkh, dkc, ← add_mul, ← Finset.sum_add_distrib, ← sum_stack (fun g t => ds x y b n (4 * kh + g) t s * x (128 * n + t) (64 * (4 * kh + g) + d))]
  congr 1
  exact Finset.sum_congr rfl fun r _ => by rw [← mul_add, stk_halves x n kh r d hd]

theorem dv_halves (n kh s d : ℕ) (hd : d < 64) : dvh x y b n kh s d + dvh x y b n kh s (d + 64) = dvc x y b n kh s d := by
  rw [dvh, dvh, dvc, ← Finset.sum_add_distrib, ← sum_stack (fun g t => pr x b n (4 * kh + g) t s * y (128 * n + t) (64 * (4 * kh + g) + d))]
  exact Finset.sum_congr rfl fun r _ => by rw [← mul_add, stk_halves y n kh r d hd]

end Cert.AttnSpec

end
-- ==== Proof.AttnBody.lean ====
/- What the attention backward's body computes at one grid point, on blocks of reals: one chain is one block of 128
   queries and one key head, its four query heads stacked into 512 rows. -/
module

public import proofs.«01_k».proof.Proof.Gen.Kernel2Ideal.Skeleton
public import proofs.«01_k».proof.Proof.AttnSpec
public import Idealize.ShloMosaic.Lib.Pointwise
public import Mathlib.Tactic.IntervalCases

@[expose] public section

set_option maxRecDepth 16384

noncomputable section

namespace Cert.AttnBody

open Idealize.ShloMosaic Cert.Reals Cert.AttnSpec Cert.Kernel2Ideal Cert.Kernel2Ideal.Gen

theorem ofBits_eighth : Ideal.ofBits .bf16 0x3E00#16 = ((1 / 8 : ℝ) : EReal) := by
  simp [Ideal.ofBits, Ideal.ieee, -EReal.coe_mul]; norm_num

theorem ofBits_eighth' : Ideal.ofBits .f32 0x3E000000#32 = ((1 / 8 : ℝ) : EReal) := by
  simp [Ideal.ofBits, Ideal.ieee, -EReal.coe_mul]; norm_num

theorem ofBits_bot : Ideal.ofBits .f32 0xFF800000#32 = ⊥ := by
  simp [Ideal.ofBits, Ideal.ieee]

theorem lane_lt (l : Fin 128) : IntOp.cmpi .slt (BitVec.ofNat 32 l.val) 64#32 = if l.val < 64 then 1#1 else 0#1 := by
  revert l; decide +kernel

theorem row_head : ∀ (r : Fin 512) (g : Fin 4), IntOp.cmpi .eq (IntOp.shrui .vector (BitVec.ofNat 32 r.val) 7#32) (BitVec.ofNat 32 g.val)
    = if r.val / 128 = g.val then 1#1 else 0#1 := by
  decide +kernel

theorem select_ite {α : Type} (p : Prop) [Decidable p] (u v : α) : Scalar.select (if p then 1#1 else 0#1) u v = if p then u else v := by
  split <;> rfl

theorem coe_ite (p : Prop) [Decidable p] (u v : ℝ) : (if p then (u : EReal) else (v : EReal)) = ((if p then u else v : ℝ) : EReal) := by
  split <;> rfl

theorem pay8 (t l : Fin 128) : k0_pay8 (F := Ideal) (ix2 t l) = ((if l.val < 64 then 1 else 0 : ℝ) : EReal) := by
  pointwise [k0_pay8, k0_pay7]
  rw [lane_lt, select_ite, ← coe_ite]; rfl

theorem pay9 (t l : Fin 128) : k0_pay9 (F := Ideal) (ix2 t l) = ((if l.val < 64 then 0 else 1 : ℝ) : EReal) := by
  pointwise [k0_pay9, k0_pay7]
  rw [lane_lt, select_ite, ← coe_ite]; rfl

variable {x y : ℕ → ℕ → ℝ} {b : ℕ → ℝ} {n kh : ℕ}

section Stack

variable {u v : Vec Ideal S128x128 .bf16}

/-- Two tiles of two heads each, stacked. -/
theorem stack (hu : ∀ t l : Fin 128, u (ix2 t l) = (x (128 * n + t.val) (256 * kh + l.val) : EReal))
    (hv : ∀ t l : Fin 128, v (ix2 t l) = (x (128 * n + t.val) (256 * kh + 128 + l.val) : EReal)) (r : Fin 512) (l : Fin 128) :
    k0_pay21 (F := Ideal) k0_pay8 k0_pay9 u v (ix2 r l) = (stk x n kh r.val l.val : EReal) := by
  pointwise [k0_pay21]
  simp only [hu, hv, pay8, pay9, ← EReal.coe_mul, stk]
  have hr := r.isLt
  have hl := l.isLt
  have key (g : ℕ) (hg : r.val / 128 = g) (c : ℕ) (hc : c = if g < 2 then 0 else 128) (q : ℕ) (hq : q = r.val % 128) (e : ℝ)
      (he : e = if l.val / 64 = g % 2 then 1 else 0) :
      ((x (128 * n + q) (256 * kh + c + l.val) * e : ℝ) : EReal)
        = ((if l.val / 64 = r.val / 128 % 2 then x (128 * n + r.val % 128) (64 * (4 * kh + r.val / 128) + l.val % 64) else 0 : ℝ) : EReal) := by
    subst hg hc hq he
    by_cases h2 : l.val / 64 = r.val / 128 % 2
    · rw [if_pos h2, if_pos h2, mul_one]; congr 2; split_ifs <;> omega
    · rw [if_neg h2, if_neg h2, mul_zero]
  have lo (p : ℕ) (hp : p = 0) : (if l.val < 64 then (1 : ℝ) else 0) = if l.val / 64 = p then 1 else 0 := by
    subst hp; split_ifs <;> first | rfl | omega
  have hi (p : ℕ) (hp : p = 1) : (if l.val < 64 then (0 : ℝ) else 1) = if l.val / 64 = p then 1 else 0 := by
    subst hp; split_ifs <;> first | rfl | omega
  by_cases h1 : r.val < 128
  · rw [dif_pos h1]; exact key 0 (by omega) 0 rfl _ (by omega) _ (lo _ rfl)
  rw [dif_neg h1]
  by_cases h2 : r.val - 128 < 128
  · rw [dif_pos h2]; exact key 1 (by omega) 0 rfl _ (by omega) _ (hi _ rfl)
  rw [dif_neg h2]
  by_cases h3 : r.val - 128 - 128 < 128
  · rw [dif_pos h3]; exact key 2 (by omega) 128 rfl _ (by omega) _ (lo _ rfl)
  rw [dif_neg h3]
  exact key 3 (by omega) 128 rfl _ (by omega) _ (hi _ rfl)

/-- The keys of the first block of a pair: the previous block's, then its own, scaled. -/
theorem keys0 (hu : ∀ s l : Fin 128, u (ix2 s l) = (x (key n s.val) (512 + 64 * kh + l.val % 64) : EReal))
    (hv : ∀ s l : Fin 128, v (ix2 s l) = (x (key n (128 + s.val)) (512 + 64 * kh + l.val % 64) : EReal)) (s : Fin 256) (l : Fin 128) :
    k0_pay12 (F := Ideal) u v (ix2 s l) = ((x (key n s.val) (512 + 64 * kh + l.val % 64) * (1 / 8) : ℝ) : EReal) := by
  pointwise [k0_pay12]
  simp only [hu, hv, ofBits_eighth]
  split_ifs with h
  · rw [← EReal.coe_mul]
  · rw [show 128 + (s.val - 128) = s.val by omega, ← EReal.coe_mul]

/-- The values of the first block of a pair. -/
theorem vals0 (hu : ∀ s l : Fin 128, u (ix2 s l) = (x (key n s.val) (640 + 64 * kh + l.val % 64) : EReal))
    (hv : ∀ s l : Fin 128, v (ix2 s l) = (x (key n (128 + s.val)) (640 + 64 * kh + l.val % 64) : EReal)) (s : Fin 256) (l : Fin 128) :
    k0_pay17 (F := Ideal) u v (ix2 s l) = (x (key n s.val) (640 + 64 * kh + l.val % 64) : EReal) := by
  pointwise [k0_pay17]
  simp only [hu, hv]
  split_ifs with h
  · rfl
  · rw [show 128 + (s.val - 128) = s.val by omega]

variable {w : Vec Ideal S256x128 .bf16}

/-- The keys of the second block of a pair, scaled. -/
theorem keys1 (hw : ∀ (s : Fin 256) (l : Fin 128), w (ix2 s l) = (x (key n s.val) (512 + 64 * kh + l.val % 64) : EReal))
    (s : Fin 256) (l : Fin 128) :
    k0_pay14 (F := Ideal) w (ix2 s l) = ((x (key n s.val) (512 + 64 * kh + l.val % 64) * (1 / 8) : ℝ) : EReal) := by
  pointwise [k0_pay14]
  rw [hw, ofBits_eighth, ← EReal.coe_mul]

/-- The values of the second block of a pair. -/
theorem vals1 (hw : ∀ (s : Fin 256) (l : Fin 128), w (ix2 s l) = (x (key n s.val) (640 + 64 * kh + l.val % 64) : EReal))
    (s : Fin 256) (l : Fin 128) : k0_pay19 (F := Ideal) w (ix2 s l) = (x (key n s.val) (640 + 64 * kh + l.val % 64) : EReal) := by
  pointwise [k0_pay19]
  exact hw s l

end Stack

/-- The sinks of the four heads of a key head, one per stacked row. -/
theorem sinks (s0 s1 s2 s3 : Elt Ideal .f32) (h0 : s0 = (b (4 * kh) : EReal)) (h1 : s1 = (b (4 * kh + 1) : EReal)) (h2 : s2 = (b (4 * kh + 2) : EReal))
    (h3 : s3 = (b (4 * kh + 3) : EReal)) (r : Fin 512) :
    k0_pay10 (F := Ideal) s0 s1 s2 s3 (ix2 r 0) = (b (4 * kh + r.val / 128) : EReal) := by
  pointwise [k0_pay10]
  rw [show (3#32) = BitVec.ofNat 32 (3 : Fin 4).val from rfl, show (2#32) = BitVec.ofNat 32 (2 : Fin 4).val from rfl,
    show (1#32) = BitVec.ofNat 32 (1 : Fin 4).val from rfl, show (0#32) = BitVec.ofNat 32 (0 : Fin 4).val from rfl]
  simp only [row_head, select_ite]
  have hr := r.isLt
  split_ifs with e3 e2 e1 e0
  · rw [e3]; exact h3
  · rw [e2]; exact h2
  · rw [e1]; exact h1
  · rw [e0]; exact h0
  · exact absurd hr (by change ¬r.val / 128 = 3 at e3; change ¬r.val / 128 = 2 at e2; change ¬r.val / 128 = 1 at e1; change ¬r.val / 128 = 0 at e0; omega)

section Chain

variable {K V : Vec Ideal S256x128 .bf16} {Q D : FVec Ideal S512x128 .bf16} {B : Vec Ideal S1x1x512x256 .f32} {S : FVec Ideal S512x1 .f32}
  {C P G : FVec Ideal S512x256 .f32}

/-- The scores, masked. -/
theorem scores (hK : ∀ s l, K (ix2 s l) = ((x (key n s.val) (512 + 64 * kh + l.val % 64) * (1 / 8) : ℝ) : EReal))
    (hQ : ∀ r l, Q (ix2 r l) = (stk x n kh r.val l.val : EReal))
    (hB : ∀ (r : Fin 512) (s : Fin 256), B (ix4 0 0 r s) = if Ok n (r.val % 128) s.val
      then ((-(slp (4 * kh + r.val / 128) * (((r.val % 128 : ℕ) : ℝ) + 128 - s.val)) : ℝ) : EReal) else ⊥) (r : Fin 512) (s : Fin 256) :
    k0_pay31 (F := Ideal) K Q B (ix2 r s)
      = if Ok n (r.val % 128) s.val then (sc x n (4 * kh + r.val / 128) (r.val % 128) s.val : EReal) else ⊥ := by
  pointwise [k0_pay31]
  simp only [hK, hQ, hB, ← EReal.coe_mul, coe_sum]
  split_ifs with h
  · rw [← EReal.coe_add, sc]
    congr 2
    rw [Finset.sum_mul, ← sum_lanes (r.val / 128 % 2) (by omega) (fun d => x (128 * n + r.val % 128) (64 * (4 * kh + r.val / 128) + d)
      * x (key n s.val) (512 + 64 * ((4 * kh + r.val / 128) / 4) + d) * (1 / 8))]
    refine Finset.sum_congr rfl fun l _ => ?_
    rw [stk, show (4 * kh + r.val / 128) / 4 = kh by omega]
    split_ifs
    · ring
    · ring
  · exact EReal.add_bot _

variable (hC : ∀ r s, C (ix2 r s) = if Ok n (r.val % 128) s.val then (sc x n (4 * kh + r.val / 128) (r.val % 128) s.val : EReal) else ⊥)
  (hS : ∀ r, S (ix2 r 0) = (b (4 * kh + r.val / 128) : EReal))

include hC hS

/-- The weights. -/
theorem weights (r : Fin 512) (s : Fin 256) :
    k0_pay43 (F := Ideal) S C (ix2 r s) = (pr x b n (4 * kh + r.val / 128) (r.val % 128) s.val : EReal) := by
  pointwise [k0_pay43, k0_pay39, k0_pay40, k0_pay41, k0_pay42]
  simp only [hC, hS, ofBits_bot]
  obtain ⟨M, hM⟩ := max_real (fun s : Fin 256 => Ok n (r.val % 128) s.val) (fun s => sc x n (4 * kh + r.val / 128) (r.val % 128) s.val) (b (4 * kh + r.val / 128))
  simp only [hM, exp_shift, exp_sink, coe_sum, ← EReal.coe_add, ite_ex, nz_shift]
  have h1 := nz_pos x b n (4 * kh + r.val / 128) (r.val % 128)
  have h2 := Real.exp_pos (-M)
  rw [← EReal.coe_one, div_coe_coe _ (mul_pos h1 h2).ne', ← EReal.coe_mul, pr]
  congr 1
  field_simp

/-- The weight of the sink. -/
theorem sink_weight (r : Fin 512) : k0_pay44 (F := Ideal) S C (ix2 r 0) = (ps x b n (4 * kh + r.val / 128) (r.val % 128) : EReal) := by
  pointwise [k0_pay44, k0_pay39, k0_pay40, k0_pay41, k0_pay42]
  simp only [hC, hS, ofBits_bot]
  obtain ⟨M, hM⟩ := max_real (fun s : Fin 256 => Ok n (r.val % 128) s.val) (fun s => sc x n (4 * kh + r.val / 128) (r.val % 128) s.val) (b (4 * kh + r.val / 128))
  simp only [hM, exp_shift, exp_sink, coe_sum, ← EReal.coe_add, ite_ex, nz_shift]
  have h1 := nz_pos x b n (4 * kh + r.val / 128) (r.val % 128)
  have h2 := Real.exp_pos (-M)
  rw [← EReal.coe_one, div_coe_coe _ (mul_pos h1 h2).ne', ← EReal.coe_mul, ps]
  congr 1
  field_simp

omit hC hS

/-- The gradient of the weights. -/
theorem dweights (hV : ∀ s l, V (ix2 s l) = (x (key n s.val) (640 + 64 * kh + l.val % 64) : EReal))
    (hD : ∀ r l, D (ix2 r l) = (stk y n kh r.val l.val : EReal)) (r : Fin 512) (s : Fin 256) :
    k0_pay35 (F := Ideal) V D (ix2 r s) = (dp x y n (4 * kh + r.val / 128) (r.val % 128) s.val : EReal) := by
  pointwise [k0_pay35]
  simp only [hV, hD, ← EReal.coe_mul, coe_sum]
  rw [dp, ← sum_lanes (r.val / 128 % 2) (by omega) (fun d => y (128 * n + r.val % 128) (64 * (4 * kh + r.val / 128) + d)
      * x (key n s.val) (640 + 64 * ((4 * kh + r.val / 128) / 4) + d))]
  congr 1
  refine Finset.sum_congr rfl fun l _ => ?_
  rw [stk, show (4 * kh + r.val / 128) / 4 = kh by omega]
  split_ifs
  · ring
  · ring

variable (hG : ∀ r s, G (ix2 r s) = (dp x y n (4 * kh + r.val / 128) (r.val % 128) s.val : EReal))
  (hP : ∀ r s, P (ix2 r s) = (pr x b n (4 * kh + r.val / 128) (r.val % 128) s.val : EReal))

include hG hP

/-- The row sums of weight times gradient. -/
theorem deltas (r : Fin 512) : k0_pay64 (F := Ideal) G P (ix2 r 0) = (dl x y b n (4 * kh + r.val / 128) (r.val % 128) : EReal) := by
  pointwise [k0_pay64]
  simp only [hG, hP, ← EReal.coe_mul, coe_sum]
  rfl

/-- The gradient of the scores. -/
theorem dscores (r : Fin 512) (s : Fin 256) :
    k0_pay68 (F := Ideal) G P (ix2 r s) = (ds x y b n (4 * kh + r.val / 128) (r.val % 128) s.val : EReal) := by
  pointwise [k0_pay68]
  simp only [hG, hP, deltas hG hP, ← EReal.coe_mul, ← EReal.coe_sub]
  rfl

/-- The gradient of the queries, on both halves of the lanes. -/
theorem dqueries (hK : ∀ s l, K (ix2 s l) = ((x (key n s.val) (512 + 64 * kh + l.val % 64) * (1 / 8) : ℝ) : EReal)) (r : Fin 512) (l : Fin 128) :
    k0_pay72 (F := Ideal) K G P (ix2 r l) = (dq x y b n (4 * kh + r.val / 128) (r.val % 128) (l.val % 64) : EReal) := by
  pointwise [k0_pay72]
  simp only [hK, dscores hG hP, ← EReal.coe_mul, coe_sum]
  rw [dq, Finset.sum_mul, show (4 * kh + r.val / 128) / 4 = kh by omega]
  congr 1
  exact Finset.sum_congr rfl fun s _ => (mul_assoc _ _ _).symm

/-- The gradient of the keys, half by half. -/
theorem dkeys (hQ : ∀ r l, Q (ix2 r l) = (stk x n kh r.val l.val : EReal)) (s : Fin 256) (l : Fin 128) :
    k0_pay77 (F := Ideal) (k0_pay76 Q G P) (Scalar.ofBits .f32 0x3E000000#32) (ix2 s l) = (dkh x y b n kh s.val l.val : EReal) := by
  pointwise [k0_pay77, k0_pay76]
  simp only [hQ, dscores hG hP, ofBits_eighth', ← EReal.coe_mul, coe_sum]
  rfl

omit hG

/-- The gradient of the values, half by half. -/
theorem dvalues (hD : ∀ r l, D (ix2 r l) = (stk y n kh r.val l.val : EReal)) (s : Fin 256) (l : Fin 128) :
    k0_pay81 (F := Ideal) D P (ix2 s l) = (dvh x y b n kh s.val l.val : EReal) := by
  pointwise [k0_pay81]
  simp only [hD, hP, ← EReal.coe_mul, coe_sum]
  rfl

end Chain

theorem lane_eq : ∀ (l : Fin 128) (k : Fin 8), IntOp.cmpi .eq (BitVec.ofNat 32 l.val) (BitVec.ofNat 32 k.val) = if l.val = k.val then 1#1 else 0#1 := by
  decide +kernel

/-- What the queries of block `n` give the sink of head `h`. -/
def snk (x y : ℕ → ℕ → ℝ) (b : ℕ → ℝ) (n h : ℕ) : ℝ := ∑ t : Fin 128, ps x b n h t.val * dl x y b n h t.val

/-- The sum over the rows of one head. -/
theorem head_sum {e d : FVec Ideal S512x1 .f32} (he : ∀ r, e (ix2 r 0) = (ps x b n (4 * kh + r.val / 128) (r.val % 128) : EReal))
    (hd : ∀ r, d (ix2 r 0) = (dl x y b n (4 * kh + r.val / 128) (r.val % 128) : EReal)) (g o : ℕ) (ho : o = 128 * g) (f : Fin 128 → Fin 512)
    (hf : ∀ t, (f t).val = o + t.val) :
    ∑ t : Fin 128, ∑ _ : Fin 1, e (ix2 (f t) 0) * d (ix2 (f t) 0) = (snk x y b n (4 * kh + g) : EReal) := by
  simp only [Fin.sum_univ_one, he, hd, ← EReal.coe_mul, coe_sum]
  congr 1
  refine Finset.sum_congr rfl fun t _ => ?_
  rw [hf, show (o + t.val) / 128 = g by omega, show (o + t.val) % 128 = t.val by omega]

variable {N : ℕ} {e0 d0 e1 d1 e2 d2 e3 d3 : FVec Ideal S512x1 .f32}

/-- The sinks' gradient a point adds to what it found: of the pair of blocks `n`, `n'`, a lane per head. -/
theorem dsinks {n' : ℕ} (he0 : ∀ r, e0 (ix2 r 0) = (ps x b n (4 * 0 + r.val / 128) (r.val % 128) : EReal))
    (hd0 : ∀ r, d0 (ix2 r 0) = (dl x y b n (4 * 0 + r.val / 128) (r.val % 128) : EReal))
    (he1 : ∀ r, e1 (ix2 r 0) = (ps x b n (4 * 1 + r.val / 128) (r.val % 128) : EReal))
    (hd1 : ∀ r, d1 (ix2 r 0) = (dl x y b n (4 * 1 + r.val / 128) (r.val % 128) : EReal))
    (he2 : ∀ r, e2 (ix2 r 0) = (ps x b n' (4 * 0 + r.val / 128) (r.val % 128) : EReal))
    (hd2 : ∀ r, d2 (ix2 r 0) = (dl x y b n' (4 * 0 + r.val / 128) (r.val % 128) : EReal))
    (he3 : ∀ r, e3 (ix2 r 0) = (ps x b n' (4 * 1 + r.val / 128) (r.val % 128) : EReal))
    (hd3 : ∀ r, d3 (ix2 r 0) = (dl x y b n' (4 * 1 + r.val / 128) (r.val % 128) : EReal))
    (p : Vec Ideal S1x128 .f32) (l : Fin 128) (hl : l.val < 8) :
    k0_pay105 (F := Ideal) (k0_pay100 (iota .tc S1x128 32 [1] iota_S1x128_d1_w32) e3 d3 (k0_pay96 (iota .tc S1x128 32 [1] iota_S1x128_d1_w32)
      (k0_pay91 (iota .tc S1x128 32 [1] iota_S1x128_d1_w32) (k0_pay89 e1 d1) (k0_pay90 (iota .tc S1x128 32 [1] iota_S1x128_d1_w32) e1 d1
        (k0_pay85 e0 d0) (k0_pay86 (iota .tc S1x128 32 [1] iota_S1x128_d1_w32) e0 d0)) 5#32) (k0_pay94 e2 d2) k0_pay95))
      (k0_pay101 (iota .tc S1x128 32 [1] iota_S1x128_d1_w32)) (k0_pay102 e3 d3) p (ix2 0 l)
    = p (ix2 0 l) + ((-(snk x y b n l.val + snk x y b n' l.val) : ℝ) : EReal) := by
  pointwise [k0_pay105, k0_pay100, k0_pay96, k0_pay91, k0_pay89, k0_pay90, k0_pay85, k0_pay86, k0_pay94, k0_pay95, k0_pay101, k0_pay102, k0_pay99]
  have L (k : Fin 8) := lane_eq l k
  have L0 := L 0
  have L1 := L 1
  have L2 := L 2
  have L3 := L 3
  have L4 := L 4
  have L5 := L 5
  have L6 := L 6
  have L7 := L 7
  simp only [show ((0 : Fin 8).val) = 0 from rfl, show ((1 : Fin 8).val) = 1 from rfl, show ((2 : Fin 8).val) = 2 from rfl,
    show ((3 : Fin 8).val) = 3 from rfl, show ((4 : Fin 8).val) = 4 from rfl, show ((5 : Fin 8).val) = 5 from rfl,
    show ((6 : Fin 8).val) = 6 from rfl, show ((7 : Fin 8).val) = 7 from rfl] at L0 L1 L2 L3 L4 L5 L6 L7
  simp only [L0, L1, L2, L3, L4, L5, L6, L7, select_ite]
  rw [head_sum he0 hd0 0 0 rfl _ (fun t => (Nat.zero_add _).symm), head_sum he0 hd0 1 128 rfl _ (fun t => rfl), head_sum he0 hd0 2 256 rfl _ (fun t => rfl),
    head_sum he0 hd0 3 384 rfl _ (fun t => rfl), head_sum he1 hd1 0 0 rfl _ (fun t => (Nat.zero_add _).symm), head_sum he1 hd1 1 128 rfl _ (fun t => rfl),
    head_sum he1 hd1 2 256 rfl _ (fun t => rfl), head_sum he1 hd1 3 384 rfl _ (fun t => rfl), head_sum he2 hd2 0 0 rfl _ (fun t => (Nat.zero_add _).symm),
    head_sum he2 hd2 1 128 rfl _ (fun t => rfl), head_sum he2 hd2 2 256 rfl _ (fun t => rfl), head_sum he2 hd2 3 384 rfl _ (fun t => rfl),
    head_sum he3 hd3 0 0 rfl _ (fun t => (Nat.zero_add _).symm), head_sum he3 hd3 1 128 rfl _ (fun t => rfl), head_sum he3 hd3 2 256 rfl _ (fun t => rfl),
    head_sum he3 hd3 3 384 rfl _ (fun t => rfl)]
  congr 1
  simp only [← EReal.coe_zero, coe_ite, ← EReal.coe_sub]
  congr 1
  generalize l.val = h at hl
  interval_cases h <;> norm_num <;> ring

/-! ## The chain's payloads are the same text four times -/

end Cert.AttnBody

end
-- ==== Proof.AttnHost.lean ====
module

public import proofs.«01_k».proof.Proof.Gen.Kernel2Ideal.Frame
public import proofs.«01_k».proof.Proof.AttnBody
public import Idealize.ShloMosaic.Lib.Pointwise
public import Idealize.ShloMosaic.Lib.StableHlo.ReadAt
public import Idealize.ShloMosaic.Lib.Tactic.WordOmega
public import Idealize.ShloMosaic.Lib.Pipeline.ValueKit
public import Idealize.ShloMosaic.Lib.Pipeline.Value

@[expose] public section

set_option maxRecDepth 16384

noncomputable section
namespace Cert.AttnHost
open Idealize.ShloMosaic Idealize.ShloMosaic.TcCoe Idealize.SL.Sem Idealize.ShloMosaic.Pipeline
open Cert.AttnSpec Cert.AttnBody Cert.Kernel2Ideal Cert.Kernel2Ideal.Gen

variable {m : (ℓ : Loc nD τ sig) → Buf (Elt Ideal) ℓ} {c : Dev nD}

/-- The row's place in its block of 128, as the word arithmetic computes it. -/
theorem rem_word : ∀ i : Fin 512, (Scalar.select (IntOp.andi (IntOp.cmpi CmpIPredicate.ne (IntOp.cmpi CmpIPredicate.slt (IntOp.remsi ArithUnit.host (BitVec.ofNat 32 i.val) (Scalar.select (IntOp.cmpi CmpIPredicate.eq 128#32 0#32) (1#32) 128#32)) 0#32) (IntOp.cmpi CmpIPredicate.slt (Scalar.select (IntOp.cmpi CmpIPredicate.eq 128#32 0#32) (1#32) 128#32) 0#32))
        (IntOp.cmpi CmpIPredicate.ne (IntOp.remsi ArithUnit.host (BitVec.ofNat 32 i.val) (Scalar.select (IntOp.cmpi CmpIPredicate.eq 128#32 0#32) (1#32) 128#32)) 0#32)) (IntOp.addi (IntOp.remsi ArithUnit.host (BitVec.ofNat 32 i.val) (Scalar.select (IntOp.cmpi CmpIPredicate.eq 128#32 0#32) (1#32) 128#32)) (Scalar.select (IntOp.cmpi CmpIPredicate.eq 128#32 0#32) (1#32) 128#32)) (IntOp.remsi ArithUnit.host (BitVec.ofNat 32 i.val) (Scalar.select (IntOp.cmpi CmpIPredicate.eq 128#32 0#32) (1#32) 128#32)))
      = BitVec.ofNat 32 (i.val % 128) := by
  decide +kernel

theorem sub_word (t : Fin 128) (j : Fin 256) : IntOp.subi (IntOp.addi (BitVec.ofNat 32 t.val) 128#32) (BitVec.ofNat 32 j.val)
    = BitVec.ofNat 32 (t.val + 256 - j.val) - 128#32 := by
  show BitVec.ofNat 32 t.val + 128#32 - BitVec.ofNat 32 j.val = _
  have ht := t.isLt
  have hj := j.isLt
  apply BitVec.eq_of_toNat_eq
  simp only [BitVec.toNat_sub, BitVec.toNat_add, BitVec.toNat_ofNat]
  omega

theorem diff_word : ∀ e : Fin 384, (BitVec.ofNat 32 e.val - 128#32).toInt = (e.val : Int) - 128
    ∧ IntOp.andi (IntOp.cmpi CmpIPredicate.sge (BitVec.ofNat 32 e.val - 128#32) 0#32) (IntOp.cmpi CmpIPredicate.slt (BitVec.ofNat 32 e.val - 128#32) 128#32)
      = if 128 ≤ e.val ∧ e.val < 256 then 1#1 else 0#1 := by
  decide +kernel

/-- The signed distance of a query to a key of the band. -/
theorem dist_word (t : Fin 128) (j : Fin 256) : (IntOp.subi (IntOp.addi (BitVec.ofNat 32 t.val) 128#32) (BitVec.ofNat 32 j.val)).toInt
    = (t.val : Int) + 128 - (j.val : Int) := by
  have ht := t.isLt
  have hj := j.isLt
  rw [sub_word, (diff_word ⟨t.val + 256 - j.val, by omega⟩).1]
  show ((t.val + 256 - j.val : ℕ) : Int) - 128 = _
  omega

/-- The window of 128 keys as a bit. -/
theorem window_word (t : Fin 128) (j : Fin 256) :
    IntOp.andi (IntOp.cmpi CmpIPredicate.sge (IntOp.subi (IntOp.addi (BitVec.ofNat 32 t.val) 128#32) (BitVec.ofNat 32 j.val)) 0#32)
      (IntOp.cmpi CmpIPredicate.slt (IntOp.subi (IntOp.addi (BitVec.ofNat 32 t.val) 128#32) (BitVec.ofNat 32 j.val)) 128#32)
    = if Ok 1 t.val j.val then 1#1 else 0#1 := by
  have ht := t.isLt
  have hj := j.isLt
  rw [sub_word, (diff_word ⟨t.val + 256 - j.val, by omega⟩).2]
  refine if_congr ?_ rfl rfl
  show 128 ≤ t.val + 256 - j.val ∧ t.val + 256 - j.val < 256 ↔ j.val ≤ t.val + 128 ∧ t.val < j.val ∧ (0 < 1 ∨ 128 ≤ j.val)
  omega

theorem own_word : ∀ j : Fin 256, IntOp.cmpi CmpIPredicate.sge (BitVec.ofNat 32 j.val) 128#32 = if 128 ≤ j.val then 1#1 else 0#1 := by
  decide +kernel

theorem and_bits (p q : Prop) [Decidable p] [Decidable q] : IntOp.andi (if p then 1#1 else 0#1) (if q then 1#1 else 0#1) = if p ∧ q then 1#1 else 0#1 := by
  by_cases p <;> by_cases q <;> simp_all <;> rfl

/-- The window of the first block, whose previous block does not exist, as a bit. -/
theorem window_word0 (t : Fin 128) (j : Fin 256) :
    IntOp.andi (IntOp.andi (IntOp.cmpi CmpIPredicate.sge (IntOp.subi (IntOp.addi (BitVec.ofNat 32 t.val) 128#32) (BitVec.ofNat 32 j.val)) 0#32)
      (IntOp.cmpi CmpIPredicate.slt (IntOp.subi (IntOp.addi (BitVec.ofNat 32 t.val) 128#32) (BitVec.ofNat 32 j.val)) 128#32))
      (IntOp.cmpi CmpIPredicate.sge (BitVec.ofNat 32 j.val) 128#32)
    = if Ok 0 t.val j.val then 1#1 else 0#1 := by
  rw [window_word, own_word, and_bits]
  refine if_congr ?_ rfl rfl
  unfold Ok
  omega

/-- A row's slope, read from the table of four at the row's head. -/
theorem gather_row {α : Type} (x : S4.Idx → α) (w : IVec S512x1x1 32) (i : Fin 512)
    (h : w (ix3 i 0 0) = BitVec.ofNat 32 (i.val / 128)) :
    Host.gather gather_S4_S512x1x1_S512x1_n_0_n_n_0_2_1 x w (ix2 i 0) = x (ix1 ⟨i.val / 128, by omega⟩) := by
  refine (ValueIdx.gather_take_apply (N := 4) (R := 512) (C := 1) (by decide) gather_S4_S512x1x1_S512x1_n_0_n_n_0_2_1_wf x w (ix2 i 0)).trans ?_
  have e : ValueIdx.takeIdx (ix2 i 0 : S512x1.Idx) = ix3 i 0 0 := by
    funext a; fin_cases a <;> rfl
  have q : ∀ i : Fin 512, min (BitVec.ofNat 32 (i.val / 128)).toInt.toNat (4 - 1) = i.val / 128 := by decide +kernel
  refine congrArg x (congrArg ix1 (Fin.ext ?_))
  show min (w (ValueIdx.takeIdx (ix2 i 0 : S512x1.Idx))).toInt.toNat (4 - 1) = _
  rw [e, h, q]

theorem lit0_slope : ∀ k : Fin 4, Ideal.ofBits .f32 (lit0 k) = ((slp k.val : ℝ) : EReal) := by
  intro k
  fin_cases k <;> simp [lit0, slp, Ideal.ofBits, Ideal.ieee, -EReal.coe_mul] <;> norm_num

theorem lit1_slope : ∀ k : Fin 4, Ideal.ofBits .f32 (lit1 k) = ((slp (4 + k.val) : ℝ) : EReal) := by
  intro k
  fin_cases k <;> simp [lit1, slp, Ideal.ofBits, Ideal.ieee, -EReal.coe_mul] <;> norm_num

theorem lit2_slope (k : Fin 4) : Ideal.ofBits .f32 (lit2 k) = ((slp k.val : ℝ) : EReal) := lit0_slope k

theorem lit3_slope (k : Fin 4) : Ideal.ofBits .f32 (lit3 k) = ((slp (4 + k.val) : ℝ) : EReal) := lit1_slope k

theorem table_at (k : Fin 4) : S4.rowMajor (ix1 k) = k :=
  Fin.ext (Shape.rowMajor_val_one _)

theorem table_row (i : Fin 512) : S4.rowMajor (ix1 ⟨i.val / 128, by omega⟩) = (⟨i.val / 128, by omega⟩ : Fin 4) :=
  table_at _

/-- The bias of one entry: minus slope times distance inside the window, −∞ outside. -/
theorem bias_value {n h : ℕ} (t : Fin 128) (j : Fin 256) {w : BitVec 1} {l : EReal} (hw : w = if Ok n t.val j.val then 1#1 else 0#1)
    (hl : l = ((slp h : ℝ) : EReal)) :
    Scalar.select w (-l * FloatOps.sitofp (F := Ideal) FTy.f32 (IntOp.subi (IntOp.addi (BitVec.ofNat 32 t.val) 128#32) (BitVec.ofNat 32 j.val)))
      (Ideal.ofBits FTy.f32 0xFF800000#32)
    = if Ok n t.val j.val then ((-(slp h * ((t.val : ℝ) + 128 - j.val)) : ℝ) : EReal) else ⊥ := by
  have e : FloatOps.sitofp (F := Ideal) FTy.f32 (IntOp.subi (IntOp.addi (BitVec.ofNat 32 t.val) 128#32) (BitVec.ofNat 32 j.val))
      = (((t.val : ℝ) + 128 - j.val : ℝ) : EReal) := by
    show (((IntOp.subi (IntOp.addi (BitVec.ofNat 32 t.val) 128#32) (BitVec.ofNat 32 j.val)).toInt : ℝ) : EReal) = _
    rw [dist_word]; push_cast; rfl
  rw [hw, select_ite, ofBits_bot, hl, e, ← EReal.coe_neg, ← EReal.coe_mul, neg_mul]

set_option maxHeartbeats 4000000 in
/-- The bias array: the first block, heads 0 to 3. -/
theorem bias00 (i : Fin 512) (j : Fin 256) : V m c main_v96 (ix4 0 0 i j)
    = if Ok 0 (i.val % 128) j.val then ((-(slp (4 * 0 + i.val / 128) * (((i.val % 128 : ℕ) : ℝ) + 128 - j.val)) : ℝ) : EReal) else ⊥ := by
  have hb := bias_value (h := 4 * 0 + i.val / 128) ⟨i.val % 128, Nat.mod_lt _ (by norm_num)⟩ j (window_word0 _ j)
    ((lit0_slope ⟨i.val / 128, by omega⟩).trans (by rw [Nat.mul_zero, Nat.zero_add]))
  dsimp only at hb
  unfold V
  repeat after_reads_at
  simp only [id_eq]
  pointwise
  simp only [rem_word]
  rw [gather_row _ _ i (by pointwise; clear hb; revert i; decide +kernel), table_row]
  simpa only [Nat.mul_zero, Nat.zero_add, Nat.mul_one] using hb

/-- The bias array: the first block, heads 4 to 7. -/
theorem bias01 (i : Fin 512) (j : Fin 256) : V m c main_v96 (ix4 0 1 i j)
    = if Ok 0 (i.val % 128) j.val then ((-(slp (4 * 1 + i.val / 128) * (((i.val % 128 : ℕ) : ℝ) + 128 - j.val)) : ℝ) : EReal) else ⊥ := by
  have hb := bias_value (h := 4 * 1 + i.val / 128) ⟨i.val % 128, Nat.mod_lt _ (by norm_num)⟩ j (window_word0 _ j)
    (lit1_slope ⟨i.val / 128, by omega⟩)
  dsimp only at hb
  unfold V
  repeat after_reads_at
  simp only [id_eq]
  pointwise
  simp only [rem_word]
  rw [gather_row _ _ i (by pointwise; clear hb; revert i; decide +kernel), table_row]
  simpa only [Nat.mul_zero, Nat.zero_add, Nat.mul_one] using hb

/-- The bias array: later blocks, heads 0 to 3. -/
theorem bias10 (i : Fin 512) (j : Fin 256) : V m c main_v96 (ix4 1 0 i j)
    = if Ok 1 (i.val % 128) j.val then ((-(slp (4 * 0 + i.val / 128) * (((i.val % 128 : ℕ) : ℝ) + 128 - j.val)) : ℝ) : EReal) else ⊥ := by
  have hb := bias_value (h := 4 * 0 + i.val / 128) ⟨i.val % 128, Nat.mod_lt _ (by norm_num)⟩ j (window_word _ j)
    ((lit2_slope ⟨i.val / 128, by omega⟩).trans (by rw [Nat.mul_zero, Nat.zero_add]))
  dsimp only at hb
  unfold V
  repeat after_reads_at
  simp only [id_eq]
  pointwise
  simp only [rem_word]
  rw [gather_row _ _ i (by pointwise; clear hb; revert i; decide +kernel), table_row]
  simpa only [Nat.mul_zero, Nat.zero_add, Nat.mul_one] using hb

/-- The bias array: later blocks, heads 4 to 7. -/
theorem bias11 (i : Fin 512) (j : Fin 256) : V m c main_v96 (ix4 1 1 i j)
    = if Ok 1 (i.val % 128) j.val then ((-(slp (4 * 1 + i.val / 128) * (((i.val % 128 : ℕ) : ℝ) + 128 - j.val)) : ℝ) : EReal) else ⊥ := by
  have hb := bias_value (h := 4 * 1 + i.val / 128) ⟨i.val % 128, Nat.mod_lt _ (by norm_num)⟩ j (window_word _ j)
    (lit3_slope ⟨i.val / 128, by omega⟩)
  dsimp only at hb
  unfold V
  repeat after_reads_at
  simp only [id_eq]
  pointwise
  simp only [rem_word]
  rw [gather_row _ _ i (by pointwise; clear hb; revert i; decide +kernel), table_row]
  simpa only [Nat.mul_zero, Nat.zero_add, Nat.mul_one] using hb

/-- The bias array: row 0 for the first block, row 1 for every later one. -/
theorem bias (p kh : Fin 2) (i : Fin 512) (j : Fin 256) : V m c main_v96 (ix4 p kh i j)
    = if Ok p.val (i.val % 128) j.val then ((-(slp (4 * kh.val + i.val / 128) * (((i.val % 128 : ℕ) : ℝ) + 128 - j.val)) : ℝ) : EReal) else ⊥ := by
  match p, kh with
  | 0, 0 => exact bias00 i j
  | 0, 1 => exact bias01 i j
  | 1, 0 => exact bias10 i j
  | 1, 1 => exact bias11 i j

/-- The column of the projections that a column of the widened array holds. -/
def colOf (j : ℕ) : ℕ :=
  if j < 512 then j else if j < 768 then 512 + 64 * ((j - 512) / 128) + (j - 512) % 64
  else if j < 1024 then 640 + 64 * ((j - 768) / 128) + (j - 768) % 64 else j - 256

theorem colOf_lt {j : ℕ} (h : j < 2048) : colOf j < 1792 := by
  unfold colOf
  split_ifs <;> omega

set_option maxHeartbeats 4000000 in
/-- The widened projections: queries, then each key head twice, then each value head twice, then the rest. -/
theorem proj_ext (i : Fin 4096) (j : Fin 2048) : V m c main_v15 (ix2 i j) = m (c, Proc.devRef .tc main_arg0) (ix2 i ⟨colOf j.val, colOf_lt j.isLt⟩) := by
  have hj := j.isLt
  have key : ∀ (a b : Fin 1792), a.val = b.val → m (c, Proc.devRef .tc main_arg0) (ix2 i a) = m (c, Proc.devRef .tc main_arg0) (ix2 i b) :=
    fun a b h => by rw [Fin.ext h]
  unfold V
  after_reads_at
  after_reads_at
  after_reads_at
  split_ifs <;> refine key _ _ ?_ <;> (dsimp only; unfold colOf; split_ifs <;> omega)

/-- The upstream gradient is passed on as it is. -/
theorem dmix_ext (i : Fin 4096) (j : Fin 1024) : V m c main_v16 (ix2 i j) = m (c, Proc.devRef .tc main_arg1) (ix2 i j) := by
  unfold V
  after_reads_at

end Cert.AttnHost
-- ==== Proof.AttnBlk.lean ====
/- The blocks that the attention's backward kernel reads, on real arguments. -/
module

public import proofs.«01_k».proof.Proof.AttnHost
public import proofs.«01_k».proof.Proof.AttnFrame

@[expose] public section

set_option maxRecDepth 16384

noncomputable section
namespace Cert.AttnBlk
open Idealize.ShloMosaic Idealize.ShloMosaic.TcCoe Idealize.SL.Sem Idealize.ShloMosaic.Pipeline
open Cert.AttnSpec Cert.AttnBody Cert.AttnHost Cert.Attn Cert.Kernel2Ideal Cert.Kernel2Ideal.Gen

variable {m : (ℓ : Loc nD τ sig) → Buf (Elt Ideal) ℓ} {c : Dev nD} {x y : ℕ → ℕ → ℝ} {b : ℕ → ℝ}

/-- The index maps of the windows, point by point. -/
theorem idx' : ∀ t : Fin grid0.N, win0_0.index t = ![0] ∧ win0_1.index t = ![0, 0, 0, 0]
    ∧ win0_2.index t = ![min t.val 15, 0] ∧ win0_3.index t = ![min t.val 15, 2] ∧ win0_4.index t = ![min (2 * t.val - 1) 31, 2]
    ∧ win0_5.index t = ![min t.val 15, 3] ∧ win0_6.index t = ![min (2 * t.val - 1) 31, 3] ∧ win0_7.index t = ![min t.val 15, 0]
    ∧ win0_8.index t = ![min t.val 15, 0] ∧ win0_9.index t = ![t.val - 1, 0] ∧ win0_10.index t = ![0, 0] := by
  decide +kernel

/-- Row `r` of the pair of blocks of grid point `t`. -/
def row (t : ℕ) (r : Fin 256) (h : t < 16) : Fin 4096 := ⟨t * 256 + r.val, by omega⟩

/-- Row `r` of the block before the pair of grid point `t`. -/
def prow (t : ℕ) (r : Fin 128) (h : t < 16) : Fin 4096 := ⟨(2 * t - 1) * 128 + r.val, by omega⟩

theorem min15 {t : ℕ} (h : t < 16) : min t 15 = t := by omega
theorem min31 {t : ℕ} (h : t < 16) : min (2 * t - 1) 31 = 2 * t - 1 := by omega

section
variable (hb : ∀ h : Fin 8, m (c, Proc.devRef .tc main_arg2) (ix1 h) = (b h.val : EReal))
include hb
theorem blk0 (t : Fin cfg0.N) (h : Fin 8) : iblk m c 0 t (ix1 h) = (b h.val : EReal) := by
  rw [← hb]
  blk_ext [iblk, V, idx' t]
end

theorem blk1 (t : Fin cfg0.N) (p kh : Fin 2) (i : Fin 512) (j : Fin 256) : iblk m c 1 t (ix4 p kh i j)
    = if Ok p.val (i.val % 128) j.val then ((-(slp (4 * kh.val + i.val / 128) * (((i.val % 128 : ℕ) : ℝ) + 128 - j.val)) : ℝ) : EReal) else ⊥ := by
  rw [← bias (m := m) (c := c)]
  blk_ext [iblk, idx' t]

section
variable (hx : ∀ (i : Fin 4096) (j : Fin 1792), m (c, Proc.devRef .tc main_arg0) (ix2 i j) = (x i.val j.val : EReal))
include hx

theorem ext (i : Fin 4096) (j : Fin 2048) : V m c main_v15 (ix2 i j) = (x i.val (colOf j.val) : EReal) := by
  rw [proj_ext, hx]

theorem blk2 (t : Fin cfg0.N) (ht : t.val < 16) (r : Fin 256) (k : Fin 512) : iblk m c 2 t (ix2 r k) = (x (256 * t.val + r.val) k.val : EReal) := by
  have e := ext hx (row t.val r ht) ⟨k.val, by omega⟩
  rw [show ((row t.val r ht : Fin 4096) : ℕ) = 256 * t.val + r.val by show t.val * 256 + r.val = _; omega, show colOf k.val = k.val by unfold colOf; rw [if_pos k.isLt]] at e
  rw [← e]
  blk_ext [iblk, idx' t, row, min15 ht]

/-- The two copies of a key head, side by side. -/
theorem blk3 (t : Fin cfg0.N) (ht : t.val < 16) (r k : Fin 256) :
    iblk m c 3 t (ix2 r k) = (x (256 * t.val + r.val) (512 + 64 * (k.val / 128) + k.val % 64) : EReal) := by
  have e := ext hx (row t.val r ht) ⟨512 + k.val, by omega⟩
  rw [show ((row t.val r ht : Fin 4096) : ℕ) = 256 * t.val + r.val by show t.val * 256 + r.val = _; omega,
    show colOf (512 + k.val) = 512 + 64 * (k.val / 128) + k.val % 64 by have := k.isLt; unfold colOf; split_ifs <;> omega] at e
  rw [← e]
  blk_ext [iblk, idx' t, row, min15 ht]

theorem blk4 (t : Fin cfg0.N) (ht : t.val < 16) (r : Fin 128) (k : Fin 256) :
    iblk m c 4 t (ix2 r k) = (x ((2 * t.val - 1) * 128 + r.val) (512 + 64 * (k.val / 128) + k.val % 64) : EReal) := by
  have e := ext hx (prow t.val r ht) ⟨512 + k.val, by omega⟩
  rw [show ((prow t.val r ht : Fin 4096) : ℕ) = (2 * t.val - 1) * 128 + r.val from rfl,
    show colOf (512 + k.val) = 512 + 64 * (k.val / 128) + k.val % 64 by have := k.isLt; unfold colOf; split_ifs <;> omega] at e
  rw [← e]
  blk_ext [iblk, idx' t, prow, min31 ht]

theorem blk5 (t : Fin cfg0.N) (ht : t.val < 16) (r k : Fin 256) :
    iblk m c 5 t (ix2 r k) = (x (256 * t.val + r.val) (640 + 64 * (k.val / 128) + k.val % 64) : EReal) := by
  have e := ext hx (row t.val r ht) ⟨768 + k.val, by omega⟩
  rw [show ((row t.val r ht : Fin 4096) : ℕ) = 256 * t.val + r.val by show t.val * 256 + r.val = _; omega,
    show colOf (768 + k.val) = 640 + 64 * (k.val / 128) + k.val % 64 by have := k.isLt; unfold colOf; split_ifs <;> omega] at e
  rw [← e]
  blk_ext [iblk, idx' t, row, min15 ht]

theorem blk6 (t : Fin cfg0.N) (ht : t.val < 16) (r : Fin 128) (k : Fin 256) :
    iblk m c 6 t (ix2 r k) = (x ((2 * t.val - 1) * 128 + r.val) (640 + 64 * (k.val / 128) + k.val % 64) : EReal) := by
  have e := ext hx (prow t.val r ht) ⟨768 + k.val, by omega⟩
  rw [show ((prow t.val r ht : Fin 4096) : ℕ) = (2 * t.val - 1) * 128 + r.val from rfl,
    show colOf (768 + k.val) = 640 + 64 * (k.val / 128) + k.val % 64 by have := k.isLt; unfold colOf; split_ifs <;> omega] at e
  rw [← e]
  blk_ext [iblk, idx' t, prow, min31 ht]
end

section
variable (hy : ∀ (i : Fin 4096) (j : Fin 1024), m (c, Proc.devRef .tc main_arg1) (ix2 i j) = (y i.val j.val : EReal))
include hy
theorem blk7 (t : Fin cfg0.N) (ht : t.val < 16) (r : Fin 256) (k : Fin 512) : iblk m c 7 t (ix2 r k) = (y (256 * t.val + r.val) k.val : EReal) := by
  have e := dmix_ext (m := m) (c := c) (row t.val r ht) ⟨k.val, by omega⟩
  rw [hy, show ((row t.val r ht : Fin 4096) : ℕ) = 256 * t.val + r.val by show t.val * 256 + r.val = _; omega] at e
  rw [← e]
  blk_ext [iblk, idx' t, row, min15 ht]
end

end Cert.AttnBlk
-- ==== Proof.AttnChain.lean ====
/- The four chains of a grid point of the attention's backward kernel: two blocks of 128 queries by two key heads. -/
module

public import proofs.«01_k».proof.Proof.AttnBody
public import Idealize.ShloMosaic.Lib.Pipeline.ValueKit
public import Idealize.ShloMosaic.Lib.Pipeline.Value

@[expose] public section

set_option maxRecDepth 16384

noncomputable section
namespace Cert.AttnChain
open Idealize.ShloMosaic Idealize.ShloMosaic.TcCoe Idealize.SL.Sem Idealize.ShloMosaic.Pipeline
open Cert.AttnSpec Cert.AttnBody Cert.Kernel2Ideal Cert.Kernel2Ideal.Gen

/-- A load of a part of a block, element by element. -/
theorem ld2 {A B R C o p : ℕ} {e : EltTy} (X : (⟨2, ![A, B]⟩ : Shape).Idx → Elt Ideal e)
    (inb : ∀ a, (![o, p] : Fin 2 → ℕ) a + (⟨2, ![R, C]⟩ : Shape).size a ≤ (⟨2, ![A, B]⟩ : Shape).size a) (r : Fin R) (l : Fin C)
    (hr : o + r.val < A) (hl : p + l.val < B) :
    View.ld X (Rect.unit (s := ⟨2, ![A, B]⟩) ![o, p] (⟨2, ![R, C]⟩ : Shape).size inb) (ix2 r l) = X (ix2 ⟨o + r.val, hr⟩ ⟨p + l.val, hl⟩) := by
  refine congrArg X ?_
  funext a
  refine Fin.ext ?_
  match a with
  | ⟨0, _⟩ => exact ValueKit.rect_emb_unit_val _ _ _ _ _
  | ⟨1, _⟩ => exact ValueKit.rect_emb_unit_val _ _ _ _ _

/-- A load of one entry of a vector. -/
theorem ld1 {A o : ℕ} {e : EltTy} (X : (⟨1, ![A]⟩ : Shape).Idx → Elt Ideal e)
    (inb : ∀ a, (![o] : Fin 1 → ℕ) a + (⟨1, ![1]⟩ : Shape).size a ≤ (⟨1, ![A]⟩ : Shape).size a) (q : (⟨1, ![1]⟩ : Shape).Idx) (h : o < A) :
    View.ld X (Rect.unit (s := ⟨1, ![A]⟩) ![o] (⟨1, ![1]⟩ : Shape).size inb) q = X (ix1 ⟨o, h⟩) := by
  refine congrArg X ?_
  funext a
  refine Fin.ext ?_
  match a with
  | ⟨0, _⟩ =>
    refine (ValueKit.rect_emb_unit_val _ _ _ _ _).trans ?_
    have hq : (q 0).val < 1 := (q 0).isLt
    show o + (q 0).val = o
    omega

/-- A load of one row of the bias array. -/
theorem ld4 {e : EltTy} (X : S2x2x512x256.Idx → Elt Ideal e) (o : Fin 4 → ℕ) (p k : Fin 2) (ho : o = ![p.val, k.val, 0, 0])
    (inb : ∀ a, o a + S1x1x512x256.size a ≤ S2x2x512x256.size a) (r : Fin 512) (s : Fin 256) :
    View.ld X (Rect.unit (s := S2x2x512x256) o S1x1x512x256.size inb) (ix4 0 0 r s) = X (ix4 p k r s) := by
  subst ho
  refine congrArg X ?_
  funext a
  refine Fin.ext ?_
  match a with
  | ⟨0, _⟩ => exact ValueKit.rect_emb_unit_val _ _ _ _ _
  | ⟨1, _⟩ => exact ValueKit.rect_emb_unit_val _ _ _ _ _
  | ⟨2, _⟩ => exact (ValueKit.rect_emb_unit_val _ _ _ _ _).trans (Nat.zero_add _)
  | ⟨3, _⟩ => exact (ValueKit.rect_emb_unit_val _ _ _ _ _).trans (Nat.zero_add _)

section
variable (a0 : Vec Ideal S8 .f32) (a2 : Vec Ideal S256x512 .bf16) (a3 : Vec Ideal S256x256 .bf16) (a4 : Vec Ideal S128x256 .bf16)
  (a5 : Vec Ideal S256x256 .bf16) (a6 : Vec Ideal S128x256 .bf16) (a7 : Vec Ideal S256x512 .bf16) (B : Vec Ideal S1x1x512x256 .f32)

/-- The sinks, one per stacked row. -/
abbrev T0 : FVec Ideal S512x1 .f32 := k0_pay10 (View.ld a0 (Rect.unit (s := S8) ![0] S1.size inb_S8_S1_0) (Shape.Idx.first (by decide))) (View.ld a0 (Rect.unit (s := S8) ![1] S1.size inb_S8_S1_1) (Shape.Idx.first (by decide))) (View.ld a0 (Rect.unit (s := S8) ![2] S1.size inb_S8_S1_2) (Shape.Idx.first (by decide))) (View.ld a0 (Rect.unit (s := S8) ![3] S1.size inb_S8_S1_3) (Shape.Idx.first (by decide)))
abbrev T1 : FVec Ideal S512x1 .f32 := k0_pay11 (View.ld a0 (Rect.unit (s := S8) ![4] S1.size inb_S8_S1_4) (Shape.Idx.first (by decide))) (View.ld a0 (Rect.unit (s := S8) ![5] S1.size inb_S8_S1_5) (Shape.Idx.first (by decide))) (View.ld a0 (Rect.unit (s := S8) ![6] S1.size inb_S8_S1_6) (Shape.Idx.first (by decide))) (View.ld a0 (Rect.unit (s := S8) ![7] S1.size inb_S8_S1_7) (Shape.Idx.first (by decide))) (iota Kind.tc S512x1 32 [0] iota_S512x1_d0_w32)

/-- The arrays of the chain of the first block, first key head: keys, values, queries, upstream gradients, scores, gradient of the weights, weights, the sink's
    weight, row sums. -/
abbrev K0 : FVec Ideal S256x128 .bf16 := k0_pay12 (View.ld a4 (Rect.unit (s := S128x256) ![0, 0] S128x128.size inb_S128x256_S128x128_0_0)) (View.ld a3 (Rect.unit (s := S256x256) ![0, 0] S128x128.size inb_S256x256_S128x128_0_0))
abbrev V0 : FVec Ideal S256x128 .bf16 := k0_pay17 (View.ld a6 (Rect.unit (s := S128x256) ![0, 0] S128x128.size inb_S128x256_S128x128_0_0)) (View.ld a5 (Rect.unit (s := S256x256) ![0, 0] S128x128.size inb_S256x256_S128x128_0_0))
abbrev Q0 : FVec Ideal S512x128 .bf16 := k0_pay21 k0_pay8 k0_pay9 (View.ld a2 (Rect.unit (s := S256x512) ![0, 0] S128x128.size inb_S256x512_S128x128_0_0)) (View.ld a2 (Rect.unit (s := S256x512) ![0, 128] S128x128.size inb_S256x512_S128x128_0_128))
abbrev D0 : FVec Ideal S512x128 .bf16 := k0_pay27 k0_pay8 k0_pay9 (View.ld a7 (Rect.unit (s := S256x512) ![0, 0] S128x128.size inb_S256x512_S128x128_0_0)) (View.ld a7 (Rect.unit (s := S256x512) ![0, 128] S128x128.size inb_S256x512_S128x128_0_128))
abbrev C0 : FVec Ideal S512x256 .f32 := k0_pay31 (K0 a3 a4) (Q0 a2) B
abbrev G0 : FVec Ideal S512x256 .f32 := k0_pay35 (V0 a5 a6) (D0 a7)
abbrev P0 : FVec Ideal S512x256 .f32 := k0_pay43 (T0 a0) (C0 a2 a3 a4 B)
abbrev E0 : FVec Ideal S512x1 .f32 := k0_pay44 (T0 a0) (C0 a2 a3 a4 B)
abbrev L0 : FVec Ideal S512x1 .f32 := k0_pay64 (G0 a5 a6 a7) (P0 a0 a2 a3 a4 B)
abbrev X0 : FVec Ideal S512x128 .f32 := k0_pay72 (K0 a3 a4) (G0 a5 a6 a7) (P0 a0 a2 a3 a4 B)
abbrev Y0 : FVec Ideal S256x128 .f32 := k0_pay77 (k0_pay76 (Q0 a2) (G0 a5 a6 a7) (P0 a0 a2 a3 a4 B)) (FloatOps.ofBits .f32 0x3E000000#32)
abbrev Z0 : FVec Ideal S256x128 .f32 := k0_pay81 (D0 a7) (P0 a0 a2 a3 a4 B)

/-- The arrays of the chain of the first block, second key head: keys, values, queries, upstream gradients, scores, gradient of the weights, weights, the sink's
    weight, row sums. -/
abbrev K1 : FVec Ideal S256x128 .bf16 := k0_pay13 (View.ld a4 (Rect.unit (s := S128x256) ![0, 128] S128x128.size inb_S128x256_S128x128_0_128)) (View.ld a3 (Rect.unit (s := S256x256) ![0, 128] S128x128.size inb_S256x256_S128x128_0_128))
abbrev V1 : FVec Ideal S256x128 .bf16 := k0_pay18 (View.ld a6 (Rect.unit (s := S128x256) ![0, 128] S128x128.size inb_S128x256_S128x128_0_128)) (View.ld a5 (Rect.unit (s := S256x256) ![0, 128] S128x128.size inb_S256x256_S128x128_0_128))
abbrev Q1 : FVec Ideal S512x128 .bf16 := k0_pay22 k0_pay8 k0_pay9 (View.ld a2 (Rect.unit (s := S256x512) ![0, 256] S128x128.size inb_S256x512_S128x128_0_256)) (View.ld a2 (Rect.unit (s := S256x512) ![0, 384] S128x128.size inb_S256x512_S128x128_0_384))
abbrev D1 : FVec Ideal S512x128 .bf16 := k0_pay28 k0_pay8 k0_pay9 (View.ld a7 (Rect.unit (s := S256x512) ![0, 256] S128x128.size inb_S256x512_S128x128_0_256)) (View.ld a7 (Rect.unit (s := S256x512) ![0, 384] S128x128.size inb_S256x512_S128x128_0_384))
abbrev C1 : FVec Ideal S512x256 .f32 := k0_pay32 (K1 a3 a4) (Q1 a2) B
abbrev G1 : FVec Ideal S512x256 .f32 := k0_pay36 (V1 a5 a6) (D1 a7)
abbrev P1 : FVec Ideal S512x256 .f32 := k0_pay49 (T1 a0) (C1 a2 a3 a4 B)
abbrev E1 : FVec Ideal S512x1 .f32 := k0_pay50 (T1 a0) (C1 a2 a3 a4 B)
abbrev L1 : FVec Ideal S512x1 .f32 := k0_pay65 (G1 a5 a6 a7) (P1 a0 a2 a3 a4 B)
abbrev X1 : FVec Ideal S512x128 .f32 := k0_pay73 (K1 a3 a4) (G1 a5 a6 a7) (P1 a0 a2 a3 a4 B)
abbrev Y1 : FVec Ideal S256x128 .f32 := k0_pay78 (Q1 a2) (k0_pay69 (G1 a5 a6 a7) (P1 a0 a2 a3 a4 B))
abbrev Z1 : FVec Ideal S256x128 .f32 := k0_pay82 (D1 a7) (P1 a0 a2 a3 a4 B)

/-- The arrays of the chain of the second block, first key head: keys, values, queries, upstream gradients, scores, gradient of the weights, weights, the sink's
    weight, row sums. -/
abbrev K2 : FVec Ideal S256x128 .bf16 := k0_pay14 (View.ld a3 (Rect.unit (s := S256x256) ![0, 0] S256x128.size inb_S256x256_S256x128_0_0))
abbrev V2 : FVec Ideal S256x128 .bf16 := k0_pay19 (View.ld a5 (Rect.unit (s := S256x256) ![0, 0] S256x128.size inb_S256x256_S256x128_0_0))
abbrev Q2 : FVec Ideal S512x128 .bf16 := k0_pay25 k0_pay8 k0_pay9 (k0_pay23 (View.ld a2 (Rect.unit (s := S256x512) ![128, 0] S128x128.size inb_S256x512_S128x128_128_0))) (k0_pay24 k0_pay8 (View.ld a2 (Rect.unit (s := S256x512) ![128, 0] S128x128.size inb_S256x512_S128x128_128_0))) (View.ld a2 (Rect.unit (s := S256x512) ![128, 128] S128x128.size inb_S256x512_S128x128_128_128))
abbrev D2 : FVec Ideal S512x128 .bf16 := k0_pay29 k0_pay8 k0_pay9 (View.ld a7 (Rect.unit (s := S256x512) ![128, 0] S128x128.size inb_S256x512_S128x128_128_0)) (View.ld a7 (Rect.unit (s := S256x512) ![128, 128] S128x128.size inb_S256x512_S128x128_128_128))
abbrev C2 : FVec Ideal S512x256 .f32 := k0_pay33 (K2 a3) (Q2 a2) B
abbrev G2 : FVec Ideal S512x256 .f32 := k0_pay37 (V2 a5) (D2 a7)
abbrev P2 : FVec Ideal S512x256 .f32 := k0_pay55 (T0 a0) (C2 a2 a3 B)
abbrev E2 : FVec Ideal S512x1 .f32 := k0_pay56 (T0 a0) (C2 a2 a3 B)
abbrev L2 : FVec Ideal S512x1 .f32 := k0_pay66 (G2 a5 a7) (P2 a0 a2 a3 B)
abbrev X2 : FVec Ideal S512x128 .f32 := k0_pay74 (K2 a3) (G2 a5 a7) (P2 a0 a2 a3 B)
abbrev Y2 : FVec Ideal S256x128 .f32 := k0_pay79 (Q2 a2) (k0_pay70 (G2 a5 a7) (P2 a0 a2 a3 B))
abbrev Z2 : FVec Ideal S256x128 .f32 := k0_pay83 (D2 a7) (P2 a0 a2 a3 B)

/-- The arrays of the chain of the second block, second key head: keys, values, queries, upstream gradients, scores, gradient of the weights, weights, the sink's
    weight, row sums. -/
abbrev K3 : FVec Ideal S256x128 .bf16 := k0_pay16 (k0_pay15 (View.ld a3 (Rect.unit (s := S256x256) ![0, 128] S256x128.size inb_S256x256_S256x128_0_128)))
abbrev V3 : FVec Ideal S256x128 .bf16 := k0_pay20 (View.ld a5 (Rect.unit (s := S256x256) ![0, 128] S256x128.size inb_S256x256_S256x128_0_128))
abbrev Q3 : FVec Ideal S512x128 .bf16 := k0_pay26 k0_pay8 k0_pay9 (View.ld a2 (Rect.unit (s := S256x512) ![128, 256] S128x128.size inb_S256x512_S128x128_128_256)) (View.ld a2 (Rect.unit (s := S256x512) ![128, 384] S128x128.size inb_S256x512_S128x128_128_384))
abbrev D3 : FVec Ideal S512x128 .bf16 := k0_pay30 k0_pay8 k0_pay9 (View.ld a7 (Rect.unit (s := S256x512) ![128, 256] S128x128.size inb_S256x512_S128x128_128_256)) (View.ld a7 (Rect.unit (s := S256x512) ![128, 384] S128x128.size inb_S256x512_S128x128_128_384))
abbrev C3 : FVec Ideal S512x256 .f32 := k0_pay34 (K3 a3) (Q3 a2) B
abbrev G3 : FVec Ideal S512x256 .f32 := k0_pay38 (V3 a5) (D3 a7) (constant S512x256 FTy.f32 0#32)
abbrev P3 : FVec Ideal S512x256 .f32 := k0_pay62 (T1 a0) (C3 a2 a3 B) (k0_pay57 (C3 a2 a3 B))
abbrev E3 : FVec Ideal S512x1 .f32 := k0_pay63 (T1 a0) (C3 a2 a3 B) (k0_pay57 (C3 a2 a3 B))
abbrev L3 : FVec Ideal S512x1 .f32 := k0_pay67 (T1 a0) (C3 a2 a3 B) (G3 a5 a7) (k0_pay57 (C3 a2 a3 B))
abbrev X3 : FVec Ideal S512x128 .f32 := k0_pay75 (T1 a0) (K3 a3) (C3 a2 a3 B) (G3 a5 a7) (k0_pay57 (C3 a2 a3 B))
abbrev Y3 : FVec Ideal S256x128 .f32 := k0_pay80 (Q3 a2) (k0_pay71 (T1 a0) (C3 a2 a3 B) (G3 a5 a7) (k0_pay57 (C3 a2 a3 B)))
abbrev Z3 : FVec Ideal S256x128 .f32 := k0_pay84 (D3 a7) (P3 a0 a2 a3 B)

end

variable {a0 : Vec Ideal S8 .f32} {a2 : Vec Ideal S256x512 .bf16} {a3 : Vec Ideal S256x256 .bf16} {a4 : Vec Ideal S128x256 .bf16}
  {a5 : Vec Ideal S256x256 .bf16} {a6 : Vec Ideal S128x256 .bf16} {a7 : Vec Ideal S256x512 .bf16} {B : Vec Ideal S1x1x512x256 .f32}
  {x y : ℕ → ℕ → ℝ} {b : ℕ → ℝ} {t : ℕ}

theorem T0_eq (h0 : ∀ h : Fin 8, a0 (ix1 h) = (b h.val : EReal)) (r : Fin 512) : T0 a0 (ix2 r 0) = (b (4 * 0 + r.val / 128) : EReal) :=
  sinks (b := b) (kh := 0) _ _ _ _ ((ld1 (o := 0) a0 _ _ (by norm_num : 0 < 8)).trans (h0 0)) ((ld1 (o := 1) a0 _ _ (by norm_num : 1 < 8)).trans (h0 1)) ((ld1 (o := 2) a0 _ _ (by norm_num : 2 < 8)).trans (h0 2))
    ((ld1 (o := 3) a0 _ _ (by norm_num : 3 < 8)).trans (h0 3)) r

theorem T1_eq (h0 : ∀ h : Fin 8, a0 (ix1 h) = (b h.val : EReal)) (r : Fin 512) : T1 a0 (ix2 r 0) = (b (4 * 1 + r.val / 128) : EReal) :=
  sinks (b := b) (kh := 1) _ _ _ _ ((ld1 (o := 4) a0 _ _ (by norm_num : 4 < 8)).trans (h0 4)) ((ld1 (o := 5) a0 _ _ (by norm_num : 5 < 8)).trans (h0 5)) ((ld1 (o := 6) a0 _ _ (by norm_num : 6 < 8)).trans (h0 6))
    ((ld1 (o := 7) a0 _ _ (by norm_num : 7 < 8)).trans (h0 7)) r

theorem K0_eq (h4 : ∀ (r : Fin 128) (k : Fin 256), a4 (ix2 r k) = (x ((2 * t - 1) * 128 + r.val) (512 + 64 * (k.val / 128) + k.val % 64) : EReal)) (h3 : ∀ r k : Fin 256, a3 (ix2 r k) = (x (256 * t + r.val) (512 + 64 * (k.val / 128) + k.val % 64) : EReal)) (s : Fin 256) (l : Fin 128) : K0 a3 a4 (ix2 s l)
    = ((x (key (2 * t) s.val) (512 + 64 * 0 + l.val % 64) * (1 / 8) : ℝ) : EReal) := by
  refine keys0 (n := 2 * t) (kh := 0) (fun s l => ?_) (fun s l => ?_) s l
  · rw [ld2 _ _ _ _ (by omega) (by omega), h4]
    refine congrArg _ (congrArg₂ x ?_ ?_)
    · unfold key; dsimp only; split_ifs <;> omega
    · dsimp only; omega
  · rw [ld2 _ _ _ _ (by omega) (by omega), h3]
    refine congrArg _ (congrArg₂ x ?_ ?_)
    · unfold key; dsimp only; split_ifs <;> omega
    · dsimp only; omega

theorem V0_eq (h6 : ∀ (r : Fin 128) (k : Fin 256), a6 (ix2 r k) = (x ((2 * t - 1) * 128 + r.val) (640 + 64 * (k.val / 128) + k.val % 64) : EReal)) (h5 : ∀ r k : Fin 256, a5 (ix2 r k) = (x (256 * t + r.val) (640 + 64 * (k.val / 128) + k.val % 64) : EReal)) (s : Fin 256) (l : Fin 128) : V0 a5 a6 (ix2 s l)
    = (x (key (2 * t) s.val) (640 + 64 * 0 + l.val % 64) : EReal) := by
  refine vals0 (n := 2 * t) (kh := 0) (fun s l => ?_) (fun s l => ?_) s l
  · rw [ld2 _ _ _ _ (by omega) (by omega), h6]
    refine congrArg _ (congrArg₂ x ?_ ?_)
    · unfold key; dsimp only; split_ifs <;> omega
    · dsimp only; omega
  · rw [ld2 _ _ _ _ (by omega) (by omega), h5]
    refine congrArg _ (congrArg₂ x ?_ ?_)
    · unfold key; dsimp only; split_ifs <;> omega
    · dsimp only; omega

theorem Q0_eq (h2 : ∀ (r : Fin 256) (k : Fin 512), a2 (ix2 r k) = (x (256 * t + r.val) k.val : EReal)) (r : Fin 512) (l : Fin 128) : Q0 a2 (ix2 r l) = (stk x (2 * t) 0 r.val l.val : EReal) := by
  refine stack (u := (View.ld a2 (Rect.unit (s := S256x512) ![0, 0] S128x128.size inb_S256x512_S128x128_0_0))) (v := (View.ld a2 (Rect.unit (s := S256x512) ![0, 128] S128x128.size inb_S256x512_S128x128_0_128))) (x := x) (n := 2 * t) (kh := 0) (fun t l => ?_) (fun t l => ?_) r l
  · rw [ld2 _ _ _ _ (by omega) (by omega), h2]
    refine congrArg _ (congrArg₂ x ?_ ?_) <;> (dsimp only <;> omega)
  · rw [ld2 _ _ _ _ (by omega) (by omega), h2]
    refine congrArg _ (congrArg₂ x ?_ ?_) <;> (dsimp only <;> omega)

theorem D0_eq (h7 : ∀ (r : Fin 256) (k : Fin 512), a7 (ix2 r k) = (y (256 * t + r.val) k.val : EReal)) (r : Fin 512) (l : Fin 128) : D0 a7 (ix2 r l) = (stk y (2 * t) 0 r.val l.val : EReal) := by
  refine stack (u := (View.ld a7 (Rect.unit (s := S256x512) ![0, 0] S128x128.size inb_S256x512_S128x128_0_0))) (v := (View.ld a7 (Rect.unit (s := S256x512) ![0, 128] S128x128.size inb_S256x512_S128x128_0_128))) (x := y) (n := 2 * t) (kh := 0) (fun t l => ?_) (fun t l => ?_) r l
  · rw [ld2 _ _ _ _ (by omega) (by omega), h7]
    refine congrArg _ (congrArg₂ y ?_ ?_) <;> (dsimp only <;> omega)
  · rw [ld2 _ _ _ _ (by omega) (by omega), h7]
    refine congrArg _ (congrArg₂ y ?_ ?_) <;> (dsimp only <;> omega)

section
variable (h2 : ∀ (r : Fin 256) (k : Fin 512), a2 (ix2 r k) = (x (256 * t + r.val) k.val : EReal)) (h4 : ∀ (r : Fin 128) (k : Fin 256), a4 (ix2 r k) = (x ((2 * t - 1) * 128 + r.val) (512 + 64 * (k.val / 128) + k.val % 64) : EReal)) (h3 : ∀ r k : Fin 256, a3 (ix2 r k) = (x (256 * t + r.val) (512 + 64 * (k.val / 128) + k.val % 64) : EReal))
  (hB : ∀ (r : Fin 512) (s : Fin 256), B (ix4 0 0 r s) = if Ok (2 * t) (r.val % 128) s.val
      then ((-(slp (4 * 0 + r.val / 128) * (((r.val % 128 : ℕ) : ℝ) + 128 - s.val)) : ℝ) : EReal) else ⊥)

include h2 h4 h3 hB

theorem C0_eq (r : Fin 512) (s : Fin 256) : C0 a2 a3 a4 B (ix2 r s) = if Ok (2 * t) (r.val % 128) s.val then (sc x (2 * t) (4 * 0 + r.val / 128) (r.val % 128) s.val : EReal) else ⊥ :=
  scores (K := K0 a3 a4) (Q := Q0 a2) (n := 2 * t) (kh := 0) (K0_eq h4 h3) (Q0_eq h2) hB r s

variable (h0 : ∀ h : Fin 8, a0 (ix1 h) = (b h.val : EReal))
include h0

theorem P0_eq (r : Fin 512) (s : Fin 256) : P0 a0 a2 a3 a4 B (ix2 r s) = (pr x b (2 * t) (4 * 0 + r.val / 128) (r.val % 128) s.val : EReal) :=
  weights (C := C0 a2 a3 a4 B) (S := T0 a0) (n := 2 * t) (kh := 0) (C0_eq h2 h4 h3 hB) (T0_eq h0) r s

theorem E0_eq (r : Fin 512) : E0 a0 a2 a3 a4 B (ix2 r 0) = (ps x b (2 * t) (4 * 0 + r.val / 128) (r.val % 128) : EReal) :=
  sink_weight (C := C0 a2 a3 a4 B) (S := T0 a0) (n := 2 * t) (kh := 0) (C0_eq h2 h4 h3 hB) (T0_eq h0) r

variable (h6 : ∀ (r : Fin 128) (k : Fin 256), a6 (ix2 r k) = (x ((2 * t - 1) * 128 + r.val) (640 + 64 * (k.val / 128) + k.val % 64) : EReal)) (h5 : ∀ r k : Fin 256, a5 (ix2 r k) = (x (256 * t + r.val) (640 + 64 * (k.val / 128) + k.val % 64) : EReal)) (h7 : ∀ (r : Fin 256) (k : Fin 512), a7 (ix2 r k) = (y (256 * t + r.val) k.val : EReal))

omit h2 h4 h3 hB h0 in
include h6 h5 h7 in
theorem G0_eq (r : Fin 512) (s : Fin 256) : G0 a5 a6 a7 (ix2 r s) = (dp x y (2 * t) (4 * 0 + r.val / 128) (r.val % 128) s.val : EReal) :=
  dweights (V := V0 a5 a6) (D := D0 a7) (n := 2 * t) (kh := 0) (V0_eq h6 h5) (D0_eq h7) r s

include h7
theorem Z0_eq (s : Fin 256) (l : Fin 128) : Z0 a0 a2 a3 a4 a7 B (ix2 s l) = (dvh x y b (2 * t) 0 s.val l.val : EReal) :=
  dvalues (P := P0 a0 a2 a3 a4 B) (D := D0 a7) (n := 2 * t) (kh := 0) (P0_eq h2 h4 h3 hB h0) (D0_eq h7) s l

include h6 h5

theorem L0_eq (r : Fin 512) : L0 a0 a2 a3 a4 a5 a6 a7 B (ix2 r 0) = (dl x y b (2 * t) (4 * 0 + r.val / 128) (r.val % 128) : EReal) :=
  deltas (G := G0 a5 a6 a7) (P := P0 a0 a2 a3 a4 B) (n := 2 * t) (kh := 0) (G0_eq h6 h5 h7) (P0_eq h2 h4 h3 hB h0) r

theorem X0_eq (r : Fin 512) (l : Fin 128) : X0 a0 a2 a3 a4 a5 a6 a7 B (ix2 r l) = (dq x y b (2 * t) (4 * 0 + r.val / 128) (r.val % 128) (l.val % 64) : EReal) :=
  dqueries (G := G0 a5 a6 a7) (P := P0 a0 a2 a3 a4 B) (n := 2 * t) (kh := 0) (G0_eq h6 h5 h7) (P0_eq h2 h4 h3 hB h0) (K0_eq h4 h3) r l

theorem Y0_eq (s : Fin 256) (l : Fin 128) : Y0 a0 a2 a3 a4 a5 a6 a7 B (ix2 s l) = (dkh x y b (2 * t) 0 s.val l.val : EReal) :=
  dkeys (Q := Q0 a2) (G := G0 a5 a6 a7) (P := P0 a0 a2 a3 a4 B) (n := 2 * t) (kh := 0) (G0_eq h6 h5 h7) (P0_eq h2 h4 h3 hB h0) (Q0_eq h2) s l

end

theorem K1_eq (h4 : ∀ (r : Fin 128) (k : Fin 256), a4 (ix2 r k) = (x ((2 * t - 1) * 128 + r.val) (512 + 64 * (k.val / 128) + k.val % 64) : EReal)) (h3 : ∀ r k : Fin 256, a3 (ix2 r k) = (x (256 * t + r.val) (512 + 64 * (k.val / 128) + k.val % 64) : EReal)) (s : Fin 256) (l : Fin 128) : K1 a3 a4 (ix2 s l)
    = ((x (key (2 * t) s.val) (512 + 64 * 1 + l.val % 64) * (1 / 8) : ℝ) : EReal) := by
  refine keys0 (n := 2 * t) (kh := 1) (fun s l => ?_) (fun s l => ?_) s l
  · rw [ld2 _ _ _ _ (by omega) (by omega), h4]
    refine congrArg _ (congrArg₂ x ?_ ?_)
    · unfold key; dsimp only; split_ifs <;> omega
    · dsimp only; omega
  · rw [ld2 _ _ _ _ (by omega) (by omega), h3]
    refine congrArg _ (congrArg₂ x ?_ ?_)
    · unfold key; dsimp only; split_ifs <;> omega
    · dsimp only; omega

theorem V1_eq (h6 : ∀ (r : Fin 128) (k : Fin 256), a6 (ix2 r k) = (x ((2 * t - 1) * 128 + r.val) (640 + 64 * (k.val / 128) + k.val % 64) : EReal)) (h5 : ∀ r k : Fin 256, a5 (ix2 r k) = (x (256 * t + r.val) (640 + 64 * (k.val / 128) + k.val % 64) : EReal)) (s : Fin 256) (l : Fin 128) : V1 a5 a6 (ix2 s l)
    = (x (key (2 * t) s.val) (640 + 64 * 1 + l.val % 64) : EReal) := by
  refine vals0 (n := 2 * t) (kh := 1) (fun s l => ?_) (fun s l => ?_) s l
  · rw [ld2 _ _ _ _ (by omega) (by omega), h6]
    refine congrArg _ (congrArg₂ x ?_ ?_)
    · unfold key; dsimp only; split_ifs <;> omega
    · dsimp only; omega
  · rw [ld2 _ _ _ _ (by omega) (by omega), h5]
    refine congrArg _ (congrArg₂ x ?_ ?_)
    · unfold key; dsimp only; split_ifs <;> omega
    · dsimp only; omega

theorem Q1_eq (h2 : ∀ (r : Fin 256) (k : Fin 512), a2 (ix2 r k) = (x (256 * t + r.val) k.val : EReal)) (r : Fin 512) (l : Fin 128) : Q1 a2 (ix2 r l) = (stk x (2 * t) 1 r.val l.val : EReal) := by
  refine stack (u := (View.ld a2 (Rect.unit (s := S256x512) ![0, 256] S128x128.size inb_S256x512_S128x128_0_256))) (v := (View.ld a2 (Rect.unit (s := S256x512) ![0, 384] S128x128.size inb_S256x512_S128x128_0_384))) (x := x) (n := 2 * t) (kh := 1) (fun t l => ?_) (fun t l => ?_) r l
  · rw [ld2 _ _ _ _ (by omega) (by omega), h2]
    refine congrArg _ (congrArg₂ x ?_ ?_) <;> (dsimp only <;> omega)
  · rw [ld2 _ _ _ _ (by omega) (by omega), h2]
    refine congrArg _ (congrArg₂ x ?_ ?_) <;> (dsimp only <;> omega)

theorem D1_eq (h7 : ∀ (r : Fin 256) (k : Fin 512), a7 (ix2 r k) = (y (256 * t + r.val) k.val : EReal)) (r : Fin 512) (l : Fin 128) : D1 a7 (ix2 r l) = (stk y (2 * t) 1 r.val l.val : EReal) := by
  refine stack (u := (View.ld a7 (Rect.unit (s := S256x512) ![0, 256] S128x128.size inb_S256x512_S128x128_0_256))) (v := (View.ld a7 (Rect.unit (s := S256x512) ![0, 384] S128x128.size inb_S256x512_S128x128_0_384))) (x := y) (n := 2 * t) (kh := 1) (fun t l => ?_) (fun t l => ?_) r l
  · rw [ld2 _ _ _ _ (by omega) (by omega), h7]
    refine congrArg _ (congrArg₂ y ?_ ?_) <;> (dsimp only <;> omega)
  · rw [ld2 _ _ _ _ (by omega) (by omega), h7]
    refine congrArg _ (congrArg₂ y ?_ ?_) <;> (dsimp only <;> omega)

section
variable (h2 : ∀ (r : Fin 256) (k : Fin 512), a2 (ix2 r k) = (x (256 * t + r.val) k.val : EReal)) (h4 : ∀ (r : Fin 128) (k : Fin 256), a4 (ix2 r k) = (x ((2 * t - 1) * 128 + r.val) (512 + 64 * (k.val / 128) + k.val % 64) : EReal)) (h3 : ∀ r k : Fin 256, a3 (ix2 r k) = (x (256 * t + r.val) (512 + 64 * (k.val / 128) + k.val % 64) : EReal))
  (hB : ∀ (r : Fin 512) (s : Fin 256), B (ix4 0 0 r s) = if Ok (2 * t) (r.val % 128) s.val
      then ((-(slp (4 * 1 + r.val / 128) * (((r.val % 128 : ℕ) : ℝ) + 128 - s.val)) : ℝ) : EReal) else ⊥)

include h2 h4 h3 hB

theorem C1_eq (r : Fin 512) (s : Fin 256) : C1 a2 a3 a4 B (ix2 r s) = if Ok (2 * t) (r.val % 128) s.val then (sc x (2 * t) (4 * 1 + r.val / 128) (r.val % 128) s.val : EReal) else ⊥ :=
  scores (K := K1 a3 a4) (Q := Q1 a2) (n := 2 * t) (kh := 1) (K1_eq h4 h3) (Q1_eq h2) hB r s

variable (h0 : ∀ h : Fin 8, a0 (ix1 h) = (b h.val : EReal))
include h0

theorem P1_eq (r : Fin 512) (s : Fin 256) : P1 a0 a2 a3 a4 B (ix2 r s) = (pr x b (2 * t) (4 * 1 + r.val / 128) (r.val % 128) s.val : EReal) :=
  weights (C := C1 a2 a3 a4 B) (S := T1 a0) (n := 2 * t) (kh := 1) (C1_eq h2 h4 h3 hB) (T1_eq h0) r s

theorem E1_eq (r : Fin 512) : E1 a0 a2 a3 a4 B (ix2 r 0) = (ps x b (2 * t) (4 * 1 + r.val / 128) (r.val % 128) : EReal) :=
  sink_weight (C := C1 a2 a3 a4 B) (S := T1 a0) (n := 2 * t) (kh := 1) (C1_eq h2 h4 h3 hB) (T1_eq h0) r

variable (h6 : ∀ (r : Fin 128) (k : Fin 256), a6 (ix2 r k) = (x ((2 * t - 1) * 128 + r.val) (640 + 64 * (k.val / 128) + k.val % 64) : EReal)) (h5 : ∀ r k : Fin 256, a5 (ix2 r k) = (x (256 * t + r.val) (640 + 64 * (k.val / 128) + k.val % 64) : EReal)) (h7 : ∀ (r : Fin 256) (k : Fin 512), a7 (ix2 r k) = (y (256 * t + r.val) k.val : EReal))

omit h2 h4 h3 hB h0 in
include h6 h5 h7 in
theorem G1_eq (r : Fin 512) (s : Fin 256) : G1 a5 a6 a7 (ix2 r s) = (dp x y (2 * t) (4 * 1 + r.val / 128) (r.val % 128) s.val : EReal) :=
  dweights (V := V1 a5 a6) (D := D1 a7) (n := 2 * t) (kh := 1) (V1_eq h6 h5) (D1_eq h7) r s

include h7
theorem Z1_eq (s : Fin 256) (l : Fin 128) : Z1 a0 a2 a3 a4 a7 B (ix2 s l) = (dvh x y b (2 * t) 1 s.val l.val : EReal) :=
  dvalues (P := P1 a0 a2 a3 a4 B) (D := D1 a7) (n := 2 * t) (kh := 1) (P1_eq h2 h4 h3 hB h0) (D1_eq h7) s l

include h6 h5

theorem L1_eq (r : Fin 512) : L1 a0 a2 a3 a4 a5 a6 a7 B (ix2 r 0) = (dl x y b (2 * t) (4 * 1 + r.val / 128) (r.val % 128) : EReal) :=
  deltas (G := G1 a5 a6 a7) (P := P1 a0 a2 a3 a4 B) (n := 2 * t) (kh := 1) (G1_eq h6 h5 h7) (P1_eq h2 h4 h3 hB h0) r

theorem X1_eq (r : Fin 512) (l : Fin 128) : X1 a0 a2 a3 a4 a5 a6 a7 B (ix2 r l) = (dq x y b (2 * t) (4 * 1 + r.val / 128) (r.val % 128) (l.val % 64) : EReal) :=
  dqueries (G := G1 a5 a6 a7) (P := P1 a0 a2 a3 a4 B) (n := 2 * t) (kh := 1) (G1_eq h6 h5 h7) (P1_eq h2 h4 h3 hB h0) (K1_eq h4 h3) r l

theorem Y1_eq (s : Fin 256) (l : Fin 128) : Y1 a0 a2 a3 a4 a5 a6 a7 B (ix2 s l) = (dkh x y b (2 * t) 1 s.val l.val : EReal) :=
  dkeys (Q := Q1 a2) (G := G1 a5 a6 a7) (P := P1 a0 a2 a3 a4 B) (n := 2 * t) (kh := 1) (G1_eq h6 h5 h7) (P1_eq h2 h4 h3 hB h0) (Q1_eq h2) s l

end

theorem K2_eq (h3 : ∀ r k : Fin 256, a3 (ix2 r k) = (x (256 * t + r.val) (512 + 64 * (k.val / 128) + k.val % 64) : EReal)) (s : Fin 256) (l : Fin 128) : K2 a3 (ix2 s l)
    = ((x (key (2 * t + 1) s.val) (512 + 64 * 0 + l.val % 64) * (1 / 8) : ℝ) : EReal) := by
  refine keys1 (n := 2 * t + 1) (kh := 0) (fun s l => ?_) s l
  rw [ld2 _ _ _ _ (by omega) (by omega), h3]
  refine congrArg _ (congrArg₂ x ?_ ?_)
  · rw [key, if_neg (by omega)]; dsimp only; omega
  · dsimp only; omega

theorem V2_eq (h5 : ∀ r k : Fin 256, a5 (ix2 r k) = (x (256 * t + r.val) (640 + 64 * (k.val / 128) + k.val % 64) : EReal)) (s : Fin 256) (l : Fin 128) : V2 a5 (ix2 s l)
    = (x (key (2 * t + 1) s.val) (640 + 64 * 0 + l.val % 64) : EReal) := by
  refine vals1 (n := 2 * t + 1) (kh := 0) (fun s l => ?_) s l
  rw [ld2 _ _ _ _ (by omega) (by omega), h5]
  refine congrArg _ (congrArg₂ x ?_ ?_)
  · rw [key, if_neg (by omega)]; dsimp only; omega
  · dsimp only; omega

theorem Q2_eq (h2 : ∀ (r : Fin 256) (k : Fin 512), a2 (ix2 r k) = (x (256 * t + r.val) k.val : EReal)) (r : Fin 512) (l : Fin 128) : Q2 a2 (ix2 r l) = (stk x (2 * t + 1) 0 r.val l.val : EReal) := by
  refine stack (u := (View.ld a2 (Rect.unit (s := S256x512) ![128, 0] S128x128.size inb_S256x512_S128x128_128_0))) (v := (View.ld a2 (Rect.unit (s := S256x512) ![128, 128] S128x128.size inb_S256x512_S128x128_128_128))) (x := x) (n := 2 * t + 1) (kh := 0) (fun t l => ?_) (fun t l => ?_) r l
  · rw [ld2 _ _ _ _ (by omega) (by omega), h2]
    refine congrArg _ (congrArg₂ x ?_ ?_) <;> (dsimp only <;> omega)
  · rw [ld2 _ _ _ _ (by omega) (by omega), h2]
    refine congrArg _ (congrArg₂ x ?_ ?_) <;> (dsimp only <;> omega)

theorem D2_eq (h7 : ∀ (r : Fin 256) (k : Fin 512), a7 (ix2 r k) = (y (256 * t + r.val) k.val : EReal)) (r : Fin 512) (l : Fin 128) : D2 a7 (ix2 r l) = (stk y (2 * t + 1) 0 r.val l.val : EReal) := by
  refine stack (u := (View.ld a7 (Rect.unit (s := S256x512) ![128, 0] S128x128.size inb_S256x512_S128x128_128_0))) (v := (View.ld a7 (Rect.unit (s := S256x512) ![128, 128] S128x128.size inb_S256x512_S128x128_128_128))) (x := y) (n := 2 * t + 1) (kh := 0) (fun t l => ?_) (fun t l => ?_) r l
  · rw [ld2 _ _ _ _ (by omega) (by omega), h7]
    refine congrArg _ (congrArg₂ y ?_ ?_) <;> (dsimp only <;> omega)
  · rw [ld2 _ _ _ _ (by omega) (by omega), h7]
    refine congrArg _ (congrArg₂ y ?_ ?_) <;> (dsimp only <;> omega)

section
variable (h2 : ∀ (r : Fin 256) (k : Fin 512), a2 (ix2 r k) = (x (256 * t + r.val) k.val : EReal)) (h3 : ∀ r k : Fin 256, a3 (ix2 r k) = (x (256 * t + r.val) (512 + 64 * (k.val / 128) + k.val % 64) : EReal))
  (hB : ∀ (r : Fin 512) (s : Fin 256), B (ix4 0 0 r s) = if Ok (2 * t + 1) (r.val % 128) s.val
      then ((-(slp (4 * 0 + r.val / 128) * (((r.val % 128 : ℕ) : ℝ) + 128 - s.val)) : ℝ) : EReal) else ⊥)

include h2 h3 hB

theorem C2_eq (r : Fin 512) (s : Fin 256) : C2 a2 a3 B (ix2 r s) = if Ok (2 * t + 1) (r.val % 128) s.val then (sc x (2 * t + 1) (4 * 0 + r.val / 128) (r.val % 128) s.val : EReal) else ⊥ :=
  scores (K := K2 a3) (Q := Q2 a2) (n := 2 * t + 1) (kh := 0) (K2_eq h3) (Q2_eq h2) hB r s

variable (h0 : ∀ h : Fin 8, a0 (ix1 h) = (b h.val : EReal))
include h0

theorem P2_eq (r : Fin 512) (s : Fin 256) : P2 a0 a2 a3 B (ix2 r s) = (pr x b (2 * t + 1) (4 * 0 + r.val / 128) (r.val % 128) s.val : EReal) :=
  weights (C := C2 a2 a3 B) (S := T0 a0) (n := 2 * t + 1) (kh := 0) (C2_eq h2 h3 hB) (T0_eq h0) r s

theorem E2_eq (r : Fin 512) : E2 a0 a2 a3 B (ix2 r 0) = (ps x b (2 * t + 1) (4 * 0 + r.val / 128) (r.val % 128) : EReal) :=
  sink_weight (C := C2 a2 a3 B) (S := T0 a0) (n := 2 * t + 1) (kh := 0) (C2_eq h2 h3 hB) (T0_eq h0) r

variable (h5 : ∀ r k : Fin 256, a5 (ix2 r k) = (x (256 * t + r.val) (640 + 64 * (k.val / 128) + k.val % 64) : EReal)) (h7 : ∀ (r : Fin 256) (k : Fin 512), a7 (ix2 r k) = (y (256 * t + r.val) k.val : EReal))

omit h2 h3 hB h0 in
include h5 h7 in
theorem G2_eq (r : Fin 512) (s : Fin 256) : G2 a5 a7 (ix2 r s) = (dp x y (2 * t + 1) (4 * 0 + r.val / 128) (r.val % 128) s.val : EReal) :=
  dweights (V := V2 a5) (D := D2 a7) (n := 2 * t + 1) (kh := 0) (V2_eq h5) (D2_eq h7) r s

include h7
theorem Z2_eq (s : Fin 256) (l : Fin 128) : Z2 a0 a2 a3 a7 B (ix2 s l) = (dvh x y b (2 * t + 1) 0 s.val l.val : EReal) :=
  dvalues (P := P2 a0 a2 a3 B) (D := D2 a7) (n := 2 * t + 1) (kh := 0) (P2_eq h2 h3 hB h0) (D2_eq h7) s l

include h5

theorem L2_eq (r : Fin 512) : L2 a0 a2 a3 a5 a7 B (ix2 r 0) = (dl x y b (2 * t + 1) (4 * 0 + r.val / 128) (r.val % 128) : EReal) :=
  deltas (G := G2 a5 a7) (P := P2 a0 a2 a3 B) (n := 2 * t + 1) (kh := 0) (G2_eq h5 h7) (P2_eq h2 h3 hB h0) r

theorem X2_eq (r : Fin 512) (l : Fin 128) : X2 a0 a2 a3 a5 a7 B (ix2 r l) = (dq x y b (2 * t + 1) (4 * 0 + r.val / 128) (r.val % 128) (l.val % 64) : EReal) :=
  dqueries (G := G2 a5 a7) (P := P2 a0 a2 a3 B) (n := 2 * t + 1) (kh := 0) (G2_eq h5 h7) (P2_eq h2 h3 hB h0) (K2_eq h3) r l

theorem Y2_eq (s : Fin 256) (l : Fin 128) : Y2 a0 a2 a3 a5 a7 B (ix2 s l) = (dkh x y b (2 * t + 1) 0 s.val l.val : EReal) :=
  dkeys (Q := Q2 a2) (G := G2 a5 a7) (P := P2 a0 a2 a3 B) (n := 2 * t + 1) (kh := 0) (G2_eq h5 h7) (P2_eq h2 h3 hB h0) (Q2_eq h2) s l

end

theorem K3_eq (h3 : ∀ r k : Fin 256, a3 (ix2 r k) = (x (256 * t + r.val) (512 + 64 * (k.val / 128) + k.val % 64) : EReal)) (s : Fin 256) (l : Fin 128) : K3 a3 (ix2 s l)
    = ((x (key (2 * t + 1) s.val) (512 + 64 * 1 + l.val % 64) * (1 / 8) : ℝ) : EReal) := by
  refine keys1 (n := 2 * t + 1) (kh := 1) (fun s l => ?_) s l
  rw [ld2 _ _ _ _ (by omega) (by omega), h3]
  refine congrArg _ (congrArg₂ x ?_ ?_)
  · rw [key, if_neg (by omega)]; dsimp only; omega
  · dsimp only; omega

theorem V3_eq (h5 : ∀ r k : Fin 256, a5 (ix2 r k) = (x (256 * t + r.val) (640 + 64 * (k.val / 128) + k.val % 64) : EReal)) (s : Fin 256) (l : Fin 128) : V3 a5 (ix2 s l)
    = (x (key (2 * t + 1) s.val) (640 + 64 * 1 + l.val % 64) : EReal) := by
  refine vals1 (n := 2 * t + 1) (kh := 1) (fun s l => ?_) s l
  rw [ld2 _ _ _ _ (by omega) (by omega), h5]
  refine congrArg _ (congrArg₂ x ?_ ?_)
  · rw [key, if_neg (by omega)]; dsimp only; omega
  · dsimp only; omega

theorem Q3_eq (h2 : ∀ (r : Fin 256) (k : Fin 512), a2 (ix2 r k) = (x (256 * t + r.val) k.val : EReal)) (r : Fin 512) (l : Fin 128) : Q3 a2 (ix2 r l) = (stk x (2 * t + 1) 1 r.val l.val : EReal) := by
  refine stack (u := (View.ld a2 (Rect.unit (s := S256x512) ![128, 256] S128x128.size inb_S256x512_S128x128_128_256))) (v := (View.ld a2 (Rect.unit (s := S256x512) ![128, 384] S128x128.size inb_S256x512_S128x128_128_384))) (x := x) (n := 2 * t + 1) (kh := 1) (fun t l => ?_) (fun t l => ?_) r l
  · rw [ld2 _ _ _ _ (by omega) (by omega), h2]
    refine congrArg _ (congrArg₂ x ?_ ?_) <;> (dsimp only <;> omega)
  · rw [ld2 _ _ _ _ (by omega) (by omega), h2]
    refine congrArg _ (congrArg₂ x ?_ ?_) <;> (dsimp only <;> omega)

theorem D3_eq (h7 : ∀ (r : Fin 256) (k : Fin 512), a7 (ix2 r k) = (y (256 * t + r.val) k.val : EReal)) (r : Fin 512) (l : Fin 128) : D3 a7 (ix2 r l) = (stk y (2 * t + 1) 1 r.val l.val : EReal) := by
  refine stack (u := (View.ld a7 (Rect.unit (s := S256x512) ![128, 256] S128x128.size inb_S256x512_S128x128_128_256))) (v := (View.ld a7 (Rect.unit (s := S256x512) ![128, 384] S128x128.size inb_S256x512_S128x128_128_384))) (x := y) (n := 2 * t + 1) (kh := 1) (fun t l => ?_) (fun t l => ?_) r l
  · rw [ld2 _ _ _ _ (by omega) (by omega), h7]
    refine congrArg _ (congrArg₂ y ?_ ?_) <;> (dsimp only <;> omega)
  · rw [ld2 _ _ _ _ (by omega) (by omega), h7]
    refine congrArg _ (congrArg₂ y ?_ ?_) <;> (dsimp only <;> omega)

section
variable (h2 : ∀ (r : Fin 256) (k : Fin 512), a2 (ix2 r k) = (x (256 * t + r.val) k.val : EReal)) (h3 : ∀ r k : Fin 256, a3 (ix2 r k) = (x (256 * t + r.val) (512 + 64 * (k.val / 128) + k.val % 64) : EReal))
  (hB : ∀ (r : Fin 512) (s : Fin 256), B (ix4 0 0 r s) = if Ok (2 * t + 1) (r.val % 128) s.val
      then ((-(slp (4 * 1 + r.val / 128) * (((r.val % 128 : ℕ) : ℝ) + 128 - s.val)) : ℝ) : EReal) else ⊥)

include h2 h3 hB

theorem C3_eq (r : Fin 512) (s : Fin 256) : C3 a2 a3 B (ix2 r s) = if Ok (2 * t + 1) (r.val % 128) s.val then (sc x (2 * t + 1) (4 * 1 + r.val / 128) (r.val % 128) s.val : EReal) else ⊥ :=
  scores (K := K3 a3) (Q := Q3 a2) (n := 2 * t + 1) (kh := 1) (K3_eq h3) (Q3_eq h2) hB r s

variable (h0 : ∀ h : Fin 8, a0 (ix1 h) = (b h.val : EReal))
include h0

theorem P3_eq (r : Fin 512) (s : Fin 256) : P3 a0 a2 a3 B (ix2 r s) = (pr x b (2 * t + 1) (4 * 1 + r.val / 128) (r.val % 128) s.val : EReal) :=
  weights (C := C3 a2 a3 B) (S := T1 a0) (n := 2 * t + 1) (kh := 1) (C3_eq h2 h3 hB) (T1_eq h0) r s

theorem E3_eq (r : Fin 512) : E3 a0 a2 a3 B (ix2 r 0) = (ps x b (2 * t + 1) (4 * 1 + r.val / 128) (r.val % 128) : EReal) :=
  sink_weight (C := C3 a2 a3 B) (S := T1 a0) (n := 2 * t + 1) (kh := 1) (C3_eq h2 h3 hB) (T1_eq h0) r

variable (h5 : ∀ r k : Fin 256, a5 (ix2 r k) = (x (256 * t + r.val) (640 + 64 * (k.val / 128) + k.val % 64) : EReal)) (h7 : ∀ (r : Fin 256) (k : Fin 512), a7 (ix2 r k) = (y (256 * t + r.val) k.val : EReal))

omit h2 h3 hB h0 in
include h5 h7 in
theorem G3_eq (r : Fin 512) (s : Fin 256) : G3 a5 a7 (ix2 r s) = (dp x y (2 * t + 1) (4 * 1 + r.val / 128) (r.val % 128) s.val : EReal) :=
  dweights (V := V3 a5) (D := D3 a7) (n := 2 * t + 1) (kh := 1) (V3_eq h5) (D3_eq h7) r s

include h7
theorem Z3_eq (s : Fin 256) (l : Fin 128) : Z3 a0 a2 a3 a7 B (ix2 s l) = (dvh x y b (2 * t + 1) 1 s.val l.val : EReal) :=
  dvalues (P := P3 a0 a2 a3 B) (D := D3 a7) (n := 2 * t + 1) (kh := 1) (P3_eq h2 h3 hB h0) (D3_eq h7) s l

include h5

theorem L3_eq (r : Fin 512) : L3 a0 a2 a3 a5 a7 B (ix2 r 0) = (dl x y b (2 * t + 1) (4 * 1 + r.val / 128) (r.val % 128) : EReal) :=
  deltas (G := G3 a5 a7) (P := P3 a0 a2 a3 B) (n := 2 * t + 1) (kh := 1) (G3_eq h5 h7) (P3_eq h2 h3 hB h0) r

theorem X3_eq (r : Fin 512) (l : Fin 128) : X3 a0 a2 a3 a5 a7 B (ix2 r l) = (dq x y b (2 * t + 1) (4 * 1 + r.val / 128) (r.val % 128) (l.val % 64) : EReal) :=
  dqueries (G := G3 a5 a7) (P := P3 a0 a2 a3 B) (n := 2 * t + 1) (kh := 1) (G3_eq h5 h7) (P3_eq h2 h3 hB h0) (K3_eq h3) r l

theorem Y3_eq (s : Fin 256) (l : Fin 128) : Y3 a0 a2 a3 a5 a7 B (ix2 s l) = (dkh x y b (2 * t + 1) 1 s.val l.val : EReal) :=
  dkeys (Q := Q3 a2) (G := G3 a5 a7) (P := P3 a0 a2 a3 B) (n := 2 * t + 1) (kh := 1) (G3_eq h5 h7) (P3_eq h2 h3 hB h0) (Q3_eq h2) s l

end

end Cert.AttnChain

end
-- ==== Proof.AttnKer.lean ====
/- What a grid point of the attention's backward kernel leaves, on real arguments. -/
module

public import proofs.«01_k».proof.Proof.AttnBlk
public import proofs.«01_k».proof.Proof.AttnChain
public import Idealize.ShloMosaic.Lib.Pipeline.ReadBack

@[expose] public section

set_option maxRecDepth 16384

noncomputable section
namespace Cert.AttnKer
open Idealize.ShloMosaic Idealize.ShloMosaic.TcCoe Idealize.SL.Sem Idealize.ShloMosaic.Pipeline
open Cert.AttnSpec Cert.AttnBody Cert.AttnBlk Cert.AttnChain Cert.Attn Cert.Kernel2Ideal Cert.Kernel2Ideal.Gen

/-- The first two heads of a key head, lane by lane. -/
theorem lo_tile {x y : ℕ → ℕ → ℝ} {b : ℕ → ℝ} {n kh : ℕ} {X : FVec Ideal S512x128 .f32}
    (hX : ∀ r l, X (ix2 r l) = (dq x y b n (4 * kh + r.val / 128) (r.val % 128) (l.val % 64) : EReal)) (r l : Fin 128) :
    k0_pay87 (F := Ideal) k0_pay7 X (ix2 r l) = (dq x y b n (4 * kh + l.val / 64) r.val (l.val % 64) : EReal) := by
  pointwise [k0_pay87, k0_pay7]
  simp only [lane_lt, select_ite, hX]
  have hr := r.isLt
  have hl := l.isLt
  split_ifs with h
  · rw [show r.val / 128 = 0 by omega, show r.val % 128 = r.val by omega, show l.val / 64 = 0 by omega]
  · rw [show (128 + r.val) / 128 = 1 by omega, show (128 + r.val) % 128 = r.val by omega, show l.val / 64 = 1 by omega]

/-- The last two heads of a key head, lane by lane. -/
theorem hi_tile {x y : ℕ → ℕ → ℝ} {b : ℕ → ℝ} {n kh : ℕ} {X : FVec Ideal S512x128 .f32}
    (hX : ∀ r l, X (ix2 r l) = (dq x y b n (4 * kh + r.val / 128) (r.val % 128) (l.val % 64) : EReal)) (r l : Fin 128) :
    k0_pay88 (F := Ideal) k0_pay7 X (ix2 r l) = (dq x y b n (4 * kh + (2 + l.val / 64)) r.val (l.val % 64) : EReal) := by
  pointwise [k0_pay88, k0_pay7]
  simp only [lane_lt, select_ite, hX]
  have hr := r.isLt
  have hl := l.isLt
  split_ifs with h
  · rw [show (256 + r.val) / 128 = 2 by omega, show (256 + r.val) % 128 = r.val by omega, show l.val / 64 = 0 by omega]
  · rw [show (384 + r.val) / 128 = 3 by omega, show (384 + r.val) % 128 = r.val by omega, show l.val / 64 = 1 by omega]

theorem dq_congr {x y : ℕ → ℕ → ℝ} {b : ℕ → ℝ} {n n' h h' t t' d d' : ℕ} (hn : n = n') (hh : h = h') (ht : t = t') (hd : d = d') :
    (dq x y b n h t d : EReal) = (dq x y b n' h' t' d' : EReal) := by
  subst hn hh ht hd; rfl

theorem off1 : ∀ t : Fin grid0.N, k0_off1 (grid0.coords t) = ![min t.val 1, 0, 0, 0] ∧ k0_off2 (grid0.coords t) = ![min t.val 1, 1, 0, 0] := by
  decide +kernel

variable {m : (ℓ : Loc nD τ sig) → Buf (Elt Ideal) ℓ} {c : Dev nD} {x y : ℕ → ℕ → ℝ} {b : ℕ → ℝ}

theorem ok_min {t q s : ℕ} : Ok (min t 1) q s ↔ Ok (2 * t) q s := by
  unfold Ok; omega

theorem ok_one {t q s : ℕ} : Ok 1 q s ↔ Ok (2 * t + 1) q s := by
  unfold Ok; omega

theorem B0 (t : Fin cfg0.N) (inb) (r : Fin 512) (s : Fin 256) :
    View.ld (iblk m c 1 t) (Rect.unit (s := S2x2x512x256) (k0_off1 (grid0.coords t)) S1x1x512x256.size inb) (ix4 0 0 r s)
      = if Ok (2 * t.val) (r.val % 128) s.val
      then ((-(slp (4 * 0 + r.val / 128) * (((r.val % 128 : ℕ) : ℝ) + 128 - s.val)) : ℝ) : EReal) else ⊥ := by
  rw [ld4 _ _ ⟨min t.val 1, by omega⟩ 0 (off1 t).1, blk1]
  exact if_congr ok_min rfl rfl

theorem B1 (t : Fin cfg0.N) (inb) (r : Fin 512) (s : Fin 256) :
    View.ld (iblk m c 1 t) (Rect.unit (s := S2x2x512x256) (k0_off2 (grid0.coords t)) S1x1x512x256.size inb) (ix4 0 0 r s)
      = if Ok (2 * t.val) (r.val % 128) s.val
      then ((-(slp (4 * 1 + r.val / 128) * (((r.val % 128 : ℕ) : ℝ) + 128 - s.val)) : ℝ) : EReal) else ⊥ := by
  rw [ld4 _ _ ⟨min t.val 1, by omega⟩ 1 (off1 t).2, blk1]
  exact if_congr ok_min rfl rfl

theorem B2 (t : Fin cfg0.N) (inb) (r : Fin 512) (s : Fin 256) :
    View.ld (iblk m c 1 t) (Rect.unit (s := S2x2x512x256) ![1, 0, 0, 0] S1x1x512x256.size inb) (ix4 0 0 r s)
      = if Ok (2 * t.val + 1) (r.val % 128) s.val
      then ((-(slp (4 * 0 + r.val / 128) * (((r.val % 128 : ℕ) : ℝ) + 128 - s.val)) : ℝ) : EReal) else ⊥ := by
  refine (ld4 _ _ 1 0 rfl inb r s).trans ((blk1 t 1 0 r s).trans ?_)
  exact if_congr ok_one rfl rfl

theorem B3 (t : Fin cfg0.N) (inb) (r : Fin 512) (s : Fin 256) :
    View.ld (iblk m c 1 t) (Rect.unit (s := S2x2x512x256) ![1, 1, 0, 0] S1x1x512x256.size inb) (ix4 0 0 r s)
      = if Ok (2 * t.val + 1) (r.val % 128) s.val
      then ((-(slp (4 * 1 + r.val / 128) * (((r.val % 128 : ℕ) : ℝ) + 128 - s.val)) : ℝ) : EReal) else ⊥ := by
  refine (ld4 _ _ 1 1 rfl inb r s).trans ((blk1 t 1 1 r s).trans ?_)
  exact if_congr ok_one rfl rfl

variable (hx : ∀ (i : Fin 4096) (j : Fin 1792), m (c, Proc.devRef .tc main_arg0) (ix2 i j) = (x i.val j.val : EReal))
  (hy : ∀ (i : Fin 4096) (j : Fin 1024), m (c, Proc.devRef .tc main_arg1) (ix2 i j) = (y i.val j.val : EReal))
  (hb : ∀ h : Fin 8, m (c, Proc.devRef .tc main_arg2) (ix1 h) = (b h.val : EReal))

/-- Column `l` of the keys' and values' gradients that block `n` gives to row `s` of its window: the lanes of the two key heads, then of the two value heads. -/
def kv (x y : ℕ → ℕ → ℝ) (b : ℕ → ℝ) (n s l : ℕ) : ℝ :=
  if l < 256 then dkh x y b n (l / 128) s (l % 128) else dvh x y b n ((l - 256) / 128) s (l % 128)

/-- Column `l` of the keys' and values' gradients of block `n`: what the block itself and the next one give. -/
def kvs (x y : ℕ → ℕ → ℝ) (b : ℕ → ℝ) (n s l : ℕ) : ℝ := kv x y b n (128 + s) l + if n < 31 then kv x y b (n + 1) s l else 0

section
variable {n : ℕ} {Y0 Y1 Z0 Z1 : FVec Ideal S256x128 .f32}
  (hY0 : ∀ (s : Fin 256) (l : Fin 128), Y0 (ix2 s l) = (dkh x y b n 0 s.val l.val : EReal))
  (hY1 : ∀ (s : Fin 256) (l : Fin 128), Y1 (ix2 s l) = (dkh x y b n 1 s.val l.val : EReal))
  (hZ0 : ∀ (s : Fin 256) (l : Fin 128), Z0 (ix2 s l) = (dvh x y b n 0 s.val l.val : EReal))
  (hZ1 : ∀ (s : Fin 256) (l : Fin 128), Z1 (ix2 s l) = (dvh x y b n 1 s.val l.val : EReal))
include hY0 hY1 hZ0 hZ1

/-- The four gradients side by side. -/
theorem both (s : Fin 256) (l : Fin 512) : k0_pay106 (F := Ideal) Y0 Y1 Z0 Z1 (ix2 s l) = (kv x y b n s.val l.val : EReal) := by
  unfold k0_pay106
  pointwise
  have hl := l.isLt
  by_cases h1 : l.val < 128
  · rw [dif_pos h1]
    refine (hY0 _ _).trans (congrArg _ ?_)
    show dkh x y b n 0 s.val l.val = _
    rw [kv, if_pos (show l.val < 256 by omega), show l.val / 128 = 0 by omega, show l.val % 128 = l.val by omega]
  rw [dif_neg h1]
  by_cases h2 : l.val - 128 < 128
  · rw [dif_pos h2]
    refine (hY1 _ _).trans (congrArg _ ?_)
    show dkh x y b n 1 s.val (l.val - 128) = _
    rw [kv, if_pos (show l.val < 256 by omega), show l.val / 128 = 1 by omega, show l.val % 128 = l.val - 128 by omega]
  rw [dif_neg h2]
  by_cases h3 : l.val - 128 - 128 < 128
  · rw [dif_pos h3]
    refine (hZ0 _ _).trans (congrArg _ ?_)
    show dvh x y b n 0 s.val (l.val - 128 - 128) = _
    rw [kv, if_neg (show ¬l.val < 256 by omega), show (l.val - 256) / 128 = 0 by omega, show l.val % 128 = l.val - 128 - 128 by omega]
  · rw [dif_neg h3]
    refine (hZ1 _ _).trans (congrArg _ ?_)
    show dvh x y b n 1 s.val (l.val - 128 - 128 - 128) = _
    rw [kv, if_neg (show ¬l.val < 256 by omega), show (l.val - 256) / 128 = 1 by omega, show l.val % 128 = l.val - 128 - 128 - 128 by omega]

end

/-- What the carried scratch holds after a grid point: the finished part of the keys' and values' gradients of its two blocks. -/
def Carried (x y : ℕ → ℕ → ℝ) (b : ℕ → ℝ) (t : ℕ) (s : Vec Ideal S2x128x512 .f32) : Prop :=
  (∀ (r : Fin 128) (l : Fin 512), s (ix3 0 r l) = (kv x y b (2 * t) (128 + r.val) l.val + kv x y b (2 * t + 1) r.val l.val : ℝ))
    ∧ ∀ (r : Fin 128) (l : Fin 512), s (ix3 1 r l) = (kv x y b (2 * t + 1) (128 + r.val) l.val : EReal)

/-- The sinks' gradients of a block's rows, as the kernel adds them up. -/
def snks (x y : ℕ → ℕ → ℝ) (b : ℕ → ℝ) (t h : ℕ) : ℝ := -(snk x y b (2 * t) h + snk x y b (2 * t + 1) h)

theorem pay107 (Y0 Y1 Z0 Z1 : FVec Ideal S256x128 .f32) : k0_pay107 (F := Ideal) Y0 Y1 Z0 Z1 = k0_pay106 Y0 Y1 Z0 Z1 := rfl

section
variable {n n' : ℕ} {Y0 Y1 Z0 Z1 Y2 Y3 Z2 Z3 : FVec Ideal S256x128 .f32}
  (h0 : ∀ (s : Fin 256) (l : Fin 512), k0_pay106 (F := Ideal) Y0 Y1 Z0 Z1 (ix2 s l) = (kv x y b n s.val l.val : EReal))
  (h1 : ∀ (s : Fin 256) (l : Fin 512), k0_pay106 (F := Ideal) Y2 Y3 Z2 Z3 (ix2 s l) = (kv x y b n' s.val l.val : EReal))

include h0 h1 in
theorem carry0 (r : Fin 128) (l : Fin 512) : k0_pay3 (F := Ideal) (k0_pay110 Y0 Y1 Y2 Y3 Z0 Z1 Z2 Z3) (ix3 0 r l)
    = (kv x y b n (128 + r.val) l.val + kv x y b n' r.val l.val : ℝ) := by
  unfold k0_pay3 k0_pay110
  rw [pay107]
  pointwise
  rw [h0, h1, ← EReal.coe_add]

include h1 in
theorem carry1 (r : Fin 128) (l : Fin 512) : k0_pay4 (F := Ideal) (k0_pay107 Y2 Y3 Z2 Z3) (ix3 0 r l) = (kv x y b n' (128 + r.val) l.val : EReal) := by
  unfold k0_pay4
  rw [pay107]
  pointwise
  rw [h1]

/-- The first rows of the finished block: the carry. -/
theorem fin0 {z : ℝ} (s : Vec Ideal S1x128x512 .f32) (r : Fin 128) (l : Fin 512) (h : s (ix3 0 r l) = (z : EReal)) :
    k0_pay108 (F := Ideal) s (ix2 r l) = (z : EReal) := by
  pointwise [k0_pay108]
  exact h

include h0 in
/-- The last rows of the finished block: the carry and what the next block gives. -/
theorem fin1 {z : ℝ} (s : Vec Ideal S1x128x512 .f32) (r : Fin 128) (l : Fin 512) (h : s (ix3 0 r l) = (z : EReal)) :
    k0_pay109 (F := Ideal) Y0 Y1 Z0 Z1 s (ix2 r l) = (z + kv x y b n r.val l.val : ℝ) := by
  unfold k0_pay109
  pointwise
  rw [h0, h, ← EReal.coe_add]

end

/-- A load of one of the two carried arrays. -/
theorem ld3 (X : S2x128x512.Idx → Elt Ideal .f32) (g : Fin 2) (o : Fin 3 → ℕ) (ho : o = ![g.val, 0, 0])
    (inb : ∀ a, o a + S1x128x512.size a ≤ S2x128x512.size a) (r : Fin 128) (l : Fin 512) :
    View.ld (Val := Elt Ideal) (e' := .f32) X (Rect.unit (s := S2x128x512) o S1x128x512.size inb) (ix3 0 r l) = X (ix3 g r l) := by
  subst ho
  refine congrArg X ?_
  funext a
  refine Fin.ext ?_
  match a with
  | ⟨0, _⟩ => exact ValueKit.rect_emb_unit_val _ _ _ _ _
  | ⟨1, _⟩ => exact (ValueKit.rect_emb_unit_val _ _ _ _ _).trans (Nat.zero_add _)
  | ⟨2, _⟩ => exact (ValueKit.rect_emb_unit_val _ _ _ _ _).trans (Nat.zero_add _)

/-- Two stores that fill the carried scratch, over whatever was stored before. -/
theorem two_stores (L : List (View.Piece (Elt Ideal) S2x128x512 .f32)) (P1 P0 : S1x128x512.Idx → EReal) (z0 z1 : Fin 128 → Fin 512 → EReal)
    (inb1 : ∀ a, (![1, 0, 0] : Fin 3 → ℕ) a + S1x128x512.size a ≤ S2x128x512.size a)
    (inb0 : ∀ a, (![0, 0, 0] : Fin 3 → ℕ) a + S1x128x512.size a ≤ S2x128x512.size a)
    (h0 : ∀ r l, P0 (ix3 0 r l) = z0 r l) (h1 : ∀ r l, P1 (ix3 0 r l) = z1 r l) (g : Fin 2) (r : Fin 128) (l : Fin 512) :
    View.canon (Val := Elt Ideal) (⟨Rect.unit (s := S2x128x512) ![1, 0, 0] S1x128x512.size inb1, P1⟩
      :: ⟨Rect.unit (s := S2x128x512) ![0, 0, 0] S1x128x512.size inb0, P0⟩ :: L) (ix3 g r l) = if g.val = 0 then z0 r l else z1 r l := by
  refine View.canon_append_of_piecesOf (Val := Elt Ideal) (fun y : S2x128x512.Idx => if (y 0).val = 0 then z0 (y 1) (y 2) else z1 (y 1) (y 2)) L [_, _]
    ⟨fun x => ?_, fun x => ?_, trivial⟩ (ix3 g r l) ?_
  · revert x; intro (x : S1x128x512.Idx)
    have h0' : @Eq (Fin 1) (x 0) 0 := Subsingleton.elim _ _
    have e : (Rect.unit (s := S2x128x512) ![1, 0, 0] S1x128x512.size inb1).emb x = ix3 1 (x 1) (x 2) := by blk_ext []
    dsimp only
    rw [e]
    refine (congrArg P1 (eq_ix3 x)).trans ?_
    rw [h0']
    exact h1 _ _
  · revert x; intro (x : S1x128x512.Idx)
    have h0' : @Eq (Fin 1) (x 0) 0 := Subsingleton.elim _ _
    have e : (Rect.unit (s := S2x128x512) ![0, 0, 0] S1x128x512.size inb0).emb x = ix3 0 (x 1) (x 2) := by blk_ext []
    dsimp only
    rw [e]
    refine (congrArg P0 (eq_ix3 x)).trans ?_
    rw [h0']
    exact h0 _ _
  · exact View.cover_of_tiledL ([⟨Rect.unit (s := S2x128x512) ![1, 0, 0] S1x128x512.size inb1, P1⟩,
      ⟨Rect.unit (s := S2x128x512) ![0, 0, 0] S1x128x512.size inb0, P0⟩] : List (View.Piece (Elt Ideal) S2x128x512 .f32)) S1x128x512.size (by sl_kernel_rfl) _

/-- The finished gradients at a row named by its quotient and remainder. -/
theorem kvs_of {n j r q l l' t : ℕ} {z : ℝ} (hr : r = 128 * j + q) (hq : q < 128) (hl : l = l') (hn : n = 2 * t + j)
    (h : z = kv x y b n (128 + q) l' + if n < 31 then kv x y b (n + 1) q l' else 0) : (z : EReal) = (kvs x y b (2 * t + r / 128) (r % 128) l : EReal) := by
  rw [show r / 128 = j by omega, show r % 128 = q by omega, hl, ← hn, h]; rfl

section
include hx hy hb

/-- The queries' gradient of a middle point. -/
theorem dqB (t : Fin cfg0.N) (h0 : ¬t.val = 0) (ht : t.val < 16) (p : Left Ideal) (r : Fin 256) (l : Fin 512) :
    (leftB m c t h0 ht p).1 (ix2 r l) = (dq x y b (2 * t.val + r.val / 128) (l.val / 64) (r.val % 128) (l.val % 64) : EReal) := by
  unfold leftB; unfold atB; frame_out
  canon_tiles q h
  all_goals
    rw [ix2_0] at h0
    rw [ix2_1] at h1
    rw [eq_ix2 q]
  · exact (hi_tile (n := 2 * t.val + 1) (kh := 1) (X3_eq (t := t.val) (blk2 hx t ht) (blk3 hx t ht) (B3 t _) (blk0 hb t) (blk5 hx t ht) (blk7 hy t ht)) (q 0) (q 1)).trans (dq_congr (by omega) (by omega) (by omega) (by omega))
  · exact (lo_tile (n := 2 * t.val + 1) (kh := 1) (X3_eq (t := t.val) (blk2 hx t ht) (blk3 hx t ht) (B3 t _) (blk0 hb t) (blk5 hx t ht) (blk7 hy t ht)) (q 0) (q 1)).trans (dq_congr (by omega) (by omega) (by omega) (by omega))
  · exact (hi_tile (n := 2 * t.val + 1) (kh := 0) (X2_eq (t := t.val) (blk2 hx t ht) (blk3 hx t ht) (B2 t _) (blk0 hb t) (blk5 hx t ht) (blk7 hy t ht)) (q 0) (q 1)).trans (dq_congr (by omega) (by omega) (by omega) (by omega))
  · exact (lo_tile (n := 2 * t.val + 1) (kh := 0) (X2_eq (t := t.val) (blk2 hx t ht) (blk3 hx t ht) (B2 t _) (blk0 hb t) (blk5 hx t ht) (blk7 hy t ht)) (q 0) (q 1)).trans (dq_congr (by omega) (by omega) (by omega) (by omega))
  · exact (hi_tile (n := 2 * t.val + 0) (kh := 1) (X1_eq (t := t.val) (blk2 hx t ht) (blk4 hx t ht) (blk3 hx t ht) (B1 t _) (blk0 hb t) (blk6 hx t ht) (blk5 hx t ht) (blk7 hy t ht)) (q 0) (q 1)).trans (dq_congr (by omega) (by omega) (by omega) (by omega))
  · exact (lo_tile (n := 2 * t.val + 0) (kh := 1) (X1_eq (t := t.val) (blk2 hx t ht) (blk4 hx t ht) (blk3 hx t ht) (B1 t _) (blk0 hb t) (blk6 hx t ht) (blk5 hx t ht) (blk7 hy t ht)) (q 0) (q 1)).trans (dq_congr (by omega) (by omega) (by omega) (by omega))
  · exact (hi_tile (n := 2 * t.val + 0) (kh := 0) (X0_eq (t := t.val) (blk2 hx t ht) (blk4 hx t ht) (blk3 hx t ht) (B0 t _) (blk0 hb t) (blk6 hx t ht) (blk5 hx t ht) (blk7 hy t ht)) (q 0) (q 1)).trans (dq_congr (by omega) (by omega) (by omega) (by omega))
  · exact (lo_tile (n := 2 * t.val + 0) (kh := 0) (X0_eq (t := t.val) (blk2 hx t ht) (blk4 hx t ht) (blk3 hx t ht) (B0 t _) (blk0 hb t) (blk6 hx t ht) (blk5 hx t ht) (blk7 hy t ht)) (q 0) (q 1)).trans (dq_congr (by omega) (by omega) (by omega) (by omega))

/-- The queries' gradient of the first point. -/
theorem dqA (t : Fin cfg0.N) (h : t.val = 0) (r : Fin 256) (l : Fin 512) :
    (leftA m c t h).1 (ix2 r l) = (dq x y b (2 * t.val + r.val / 128) (l.val / 64) (r.val % 128) (l.val % 64) : EReal) := by
  have ht : t.val < 16 := by omega
  unfold leftA; unfold atA; frame_out
  canon_tiles q h
  all_goals
    rw [ix2_0] at h0
    rw [ix2_1] at h1
    rw [eq_ix2 q]
  · exact (hi_tile (n := 2 * t.val + 1) (kh := 1) (X3_eq (t := t.val) (blk2 hx t ht) (blk3 hx t ht) (B3 t _) (blk0 hb t) (blk5 hx t ht) (blk7 hy t ht)) (q 0) (q 1)).trans (dq_congr (by omega) (by omega) (by omega) (by omega))
  · exact (lo_tile (n := 2 * t.val + 1) (kh := 1) (X3_eq (t := t.val) (blk2 hx t ht) (blk3 hx t ht) (B3 t _) (blk0 hb t) (blk5 hx t ht) (blk7 hy t ht)) (q 0) (q 1)).trans (dq_congr (by omega) (by omega) (by omega) (by omega))
  · exact (hi_tile (n := 2 * t.val + 1) (kh := 0) (X2_eq (t := t.val) (blk2 hx t ht) (blk3 hx t ht) (B2 t _) (blk0 hb t) (blk5 hx t ht) (blk7 hy t ht)) (q 0) (q 1)).trans (dq_congr (by omega) (by omega) (by omega) (by omega))
  · exact (lo_tile (n := 2 * t.val + 1) (kh := 0) (X2_eq (t := t.val) (blk2 hx t ht) (blk3 hx t ht) (B2 t _) (blk0 hb t) (blk5 hx t ht) (blk7 hy t ht)) (q 0) (q 1)).trans (dq_congr (by omega) (by omega) (by omega) (by omega))
  · exact (hi_tile (n := 2 * t.val + 0) (kh := 1) (X1_eq (t := t.val) (blk2 hx t ht) (blk4 hx t ht) (blk3 hx t ht) (B1 t _) (blk0 hb t) (blk6 hx t ht) (blk5 hx t ht) (blk7 hy t ht)) (q 0) (q 1)).trans (dq_congr (by omega) (by omega) (by omega) (by omega))
  · exact (lo_tile (n := 2 * t.val + 0) (kh := 1) (X1_eq (t := t.val) (blk2 hx t ht) (blk4 hx t ht) (blk3 hx t ht) (B1 t _) (blk0 hb t) (blk6 hx t ht) (blk5 hx t ht) (blk7 hy t ht)) (q 0) (q 1)).trans (dq_congr (by omega) (by omega) (by omega) (by omega))
  · exact (hi_tile (n := 2 * t.val + 0) (kh := 0) (X0_eq (t := t.val) (blk2 hx t ht) (blk4 hx t ht) (blk3 hx t ht) (B0 t _) (blk0 hb t) (blk6 hx t ht) (blk5 hx t ht) (blk7 hy t ht)) (q 0) (q 1)).trans (dq_congr (by omega) (by omega) (by omega) (by omega))
  · exact (lo_tile (n := 2 * t.val + 0) (kh := 0) (X0_eq (t := t.val) (blk2 hx t ht) (blk4 hx t ht) (blk3 hx t ht) (B0 t _) (blk0 hb t) (blk6 hx t ht) (blk5 hx t ht) (blk7 hy t ht)) (q 0) (q 1)).trans (dq_congr (by omega) (by omega) (by omega) (by omega))

/-- The carry of a middle point. -/
theorem carriedB (t : Fin cfg0.N) (h0 : ¬t.val = 0) (ht : t.val < 16) (p : Left Ideal) : Carried x y b t.val (leftB m c t h0 ht p).2.2.2 := by
  constructor <;> intro r l
  · unfold leftB; unfold atB; frame_out
    exact two_stores _ _ _ _ _ _ _ (carry0 (both (n := 2 * t.val + 0) (Y0_eq (t := t.val) (blk2 hx t ht) (blk4 hx t ht) (blk3 hx t ht) (B0 t _) (blk0 hb t) (blk6 hx t ht) (blk5 hx t ht) (blk7 hy t ht)) (Y1_eq (t := t.val) (blk2 hx t ht) (blk4 hx t ht) (blk3 hx t ht) (B1 t _) (blk0 hb t) (blk6 hx t ht) (blk5 hx t ht) (blk7 hy t ht)) (Z0_eq (t := t.val) (blk2 hx t ht) (blk4 hx t ht) (blk3 hx t ht) (B0 t _) (blk0 hb t) (blk7 hy t ht)) (Z1_eq (t := t.val) (blk2 hx t ht) (blk4 hx t ht) (blk3 hx t ht) (B1 t _) (blk0 hb t) (blk7 hy t ht))) (both (n := 2 * t.val + 1) (Y2_eq (t := t.val) (blk2 hx t ht) (blk3 hx t ht) (B2 t _) (blk0 hb t) (blk5 hx t ht) (blk7 hy t ht)) (Y3_eq (t := t.val) (blk2 hx t ht) (blk3 hx t ht) (B3 t _) (blk0 hb t) (blk5 hx t ht) (blk7 hy t ht)) (Z2_eq (t := t.val) (blk2 hx t ht) (blk3 hx t ht) (B2 t _) (blk0 hb t) (blk7 hy t ht)) (Z3_eq (t := t.val) (blk2 hx t ht) (blk3 hx t ht) (B3 t _) (blk0 hb t) (blk7 hy t ht)))) (fun _ _ => rfl) 0 r l
  · unfold leftB; unfold atB; frame_out
    exact two_stores _ _ _ _ _ _ _ (fun _ _ => rfl) (carry1 (both (n := 2 * t.val + 1) (Y2_eq (t := t.val) (blk2 hx t ht) (blk3 hx t ht) (B2 t _) (blk0 hb t) (blk5 hx t ht) (blk7 hy t ht)) (Y3_eq (t := t.val) (blk2 hx t ht) (blk3 hx t ht) (B3 t _) (blk0 hb t) (blk5 hx t ht) (blk7 hy t ht)) (Z2_eq (t := t.val) (blk2 hx t ht) (blk3 hx t ht) (B2 t _) (blk0 hb t) (blk7 hy t ht)) (Z3_eq (t := t.val) (blk2 hx t ht) (blk3 hx t ht) (B3 t _) (blk0 hb t) (blk7 hy t ht)))) 1 r l

/-- The carry of the first point. -/
theorem carriedA (t : Fin cfg0.N) (h : t.val = 0) : Carried x y b t.val (leftA m c t h).2.2.2 := by
  constructor <;> intro r l
  · have ht : t.val < 16 := by omega
    unfold leftA; unfold atA; frame_out
    exact two_stores _ _ _ _ _ _ _ (carry0 (both (n := 2 * t.val + 0) (Y0_eq (t := t.val) (blk2 hx t ht) (blk4 hx t ht) (blk3 hx t ht) (B0 t _) (blk0 hb t) (blk6 hx t ht) (blk5 hx t ht) (blk7 hy t ht)) (Y1_eq (t := t.val) (blk2 hx t ht) (blk4 hx t ht) (blk3 hx t ht) (B1 t _) (blk0 hb t) (blk6 hx t ht) (blk5 hx t ht) (blk7 hy t ht)) (Z0_eq (t := t.val) (blk2 hx t ht) (blk4 hx t ht) (blk3 hx t ht) (B0 t _) (blk0 hb t) (blk7 hy t ht)) (Z1_eq (t := t.val) (blk2 hx t ht) (blk4 hx t ht) (blk3 hx t ht) (B1 t _) (blk0 hb t) (blk7 hy t ht))) (both (n := 2 * t.val + 1) (Y2_eq (t := t.val) (blk2 hx t ht) (blk3 hx t ht) (B2 t _) (blk0 hb t) (blk5 hx t ht) (blk7 hy t ht)) (Y3_eq (t := t.val) (blk2 hx t ht) (blk3 hx t ht) (B3 t _) (blk0 hb t) (blk5 hx t ht) (blk7 hy t ht)) (Z2_eq (t := t.val) (blk2 hx t ht) (blk3 hx t ht) (B2 t _) (blk0 hb t) (blk7 hy t ht)) (Z3_eq (t := t.val) (blk2 hx t ht) (blk3 hx t ht) (B3 t _) (blk0 hb t) (blk7 hy t ht)))) (fun _ _ => rfl) 0 r l
  · have ht : t.val < 16 := by omega
    unfold leftA; unfold atA; frame_out
    exact two_stores _ _ _ _ _ _ _ (fun _ _ => rfl) (carry1 (both (n := 2 * t.val + 1) (Y2_eq (t := t.val) (blk2 hx t ht) (blk3 hx t ht) (B2 t _) (blk0 hb t) (blk5 hx t ht) (blk7 hy t ht)) (Y3_eq (t := t.val) (blk2 hx t ht) (blk3 hx t ht) (B3 t _) (blk0 hb t) (blk5 hx t ht) (blk7 hy t ht)) (Z2_eq (t := t.val) (blk2 hx t ht) (blk3 hx t ht) (B2 t _) (blk0 hb t) (blk7 hy t ht)) (Z3_eq (t := t.val) (blk2 hx t ht) (blk3 hx t ht) (B3 t _) (blk0 hb t) (blk7 hy t ht)))) 1 r l

/-- The keys' and values' gradients that a middle point finishes: those of the two blocks of the point before. -/
theorem kvB (t : Fin cfg0.N) (h0 : ¬t.val = 0) (ht : t.val < 16) (p : Left Ideal) (hp : Carried x y b (t.val - 1) p.2.2.2) (r : Fin 256) (l : Fin 512) :
    (leftB m c t h0 ht p).2.1 (ix2 r l) = (kvs x y b (2 * (t.val - 1) + r.val / 128) (r.val % 128) l.val : EReal) := by
  unfold leftB; unfold atB; frame_out
  simp only [read_unread_whole]
  canon_tiles q h
  all_goals
    rw [ix2_0] at h0
    rw [ix2_1] at h1
    rw [eq_ix2 q]
  · refine (fin1 (both (n := 2 * t.val + 0) (Y0_eq (t := t.val) (blk2 hx t ht) (blk4 hx t ht) (blk3 hx t ht) (B0 t _) (blk0 hb t) (blk6 hx t ht) (blk5 hx t ht) (blk7 hy t ht)) (Y1_eq (t := t.val) (blk2 hx t ht) (blk4 hx t ht) (blk3 hx t ht) (B1 t _) (blk0 hb t) (blk6 hx t ht) (blk5 hx t ht) (blk7 hy t ht)) (Z0_eq (t := t.val) (blk2 hx t ht) (blk4 hx t ht) (blk3 hx t ht) (B0 t _) (blk0 hb t) (blk7 hy t ht)) (Z1_eq (t := t.val) (blk2 hx t ht) (blk4 hx t ht) (blk3 hx t ht) (B1 t _) (blk0 hb t) (blk7 hy t ht))) _ (q 0) (q 1) ((ld3 _ 1 _ rfl _ _ _).trans (hp.2 _ _))).trans ?_
    exact kvs_of (j := 1) h0 (q 0).isLt h1 rfl (by rw [if_pos (by omega), show 2 * (t.val - 1) + 1 + 1 = 2 * t.val by omega]; rfl)
  · refine (fin0 _ (q 0) (q 1) ((ld3 _ 0 _ rfl _ _ _).trans (hp.1 _ _))).trans ?_
    exact kvs_of (j := 0) (h0.trans (Nat.zero_add _).symm) (q 0).isLt h1 rfl (by rw [if_pos (by omega)]; rfl)

/-- The keys' and values' gradients that the last point finishes. -/
theorem kvC (t : Fin cfg0.N) (h : t.val = 16) (p : Left Ideal) (hp : Carried x y b (t.val - 1) p.2.2.2) (r : Fin 256) (l : Fin 512) :
    (leftC m c t h p).2.1 (ix2 r l) = (kvs x y b (2 * (t.val - 1) + r.val / 128) (r.val % 128) l.val : EReal) := by
  unfold leftC; unfold atC; frame_out
  simp only [read_unread_whole]
  canon_tiles q h
  all_goals
    rw [ix2_0] at h0
    rw [ix2_1] at h1
    rw [eq_ix2 q]
  · refine (fin0 _ (q 0) (q 1) ((ld3 _ 1 _ rfl _ _ _).trans (hp.2 _ _))).trans ?_
    exact kvs_of (j := 1) h0 (q 0).isLt h1 rfl (by rw [if_neg (by omega), add_zero])
  · refine (fin0 _ (q 0) (q 1) ((ld3 _ 0 _ rfl _ _ _).trans (hp.1 _ _))).trans ?_
    exact kvs_of (j := 0) (h0.trans (Nat.zero_add _).symm) (q 0).isLt h1 rfl (by rw [if_pos (by omega)]; rfl)

/-- The sinks' gradient after a middle point. -/
theorem dsB (t : Fin cfg0.N) (h0 : ¬t.val = 0) (ht : t.val < 16) (p : Left Ideal) (l : Fin 128) (hl : l.val < 8) :
    (leftB m c t h0 ht p).2.2.1 (ix2 0 l) = p.2.2.1 (ix2 0 l) + (snks x y b t.val l.val : EReal) := by
  unfold leftB; unfold atB; frame_out
  exact dsinks (n := 2 * t.val) (n' := 2 * t.val + 1) (E0_eq (t := t.val) (blk2 hx t ht) (blk4 hx t ht) (blk3 hx t ht) (B0 t _) (blk0 hb t)) (L0_eq (t := t.val) (blk2 hx t ht) (blk4 hx t ht) (blk3 hx t ht) (B0 t _) (blk0 hb t) (blk6 hx t ht) (blk5 hx t ht) (blk7 hy t ht)) (E1_eq (t := t.val) (blk2 hx t ht) (blk4 hx t ht) (blk3 hx t ht) (B1 t _) (blk0 hb t)) (L1_eq (t := t.val) (blk2 hx t ht) (blk4 hx t ht) (blk3 hx t ht) (B1 t _) (blk0 hb t) (blk6 hx t ht) (blk5 hx t ht) (blk7 hy t ht)) (E2_eq (t := t.val) (blk2 hx t ht) (blk3 hx t ht) (B2 t _) (blk0 hb t)) (L2_eq (t := t.val) (blk2 hx t ht) (blk3 hx t ht) (B2 t _) (blk0 hb t) (blk5 hx t ht) (blk7 hy t ht)) (E3_eq (t := t.val) (blk2 hx t ht) (blk3 hx t ht) (B3 t _) (blk0 hb t)) (L3_eq (t := t.val) (blk2 hx t ht) (blk3 hx t ht) (B3 t _) (blk0 hb t) (blk5 hx t ht) (blk7 hy t ht)) p.2.2.1 l hl

/-- The sinks' gradient after the first point. -/
theorem dsA (t : Fin cfg0.N) (h : t.val = 0) (l : Fin 128) (hl : l.val < 8) : (leftA m c t h).2.2.1 (ix2 0 l) = (snks x y b t.val l.val : EReal) := by
  have ht : t.val < 16 := by omega
  unfold leftA; unfold atA; frame_out
  refine (dsinks (n := 2 * t.val) (n' := 2 * t.val + 1) (E0_eq (t := t.val) (blk2 hx t ht) (blk4 hx t ht) (blk3 hx t ht) (B0 t _) (blk0 hb t)) (L0_eq (t := t.val) (blk2 hx t ht) (blk4 hx t ht) (blk3 hx t ht) (B0 t _) (blk0 hb t) (blk6 hx t ht) (blk5 hx t ht) (blk7 hy t ht)) (E1_eq (t := t.val) (blk2 hx t ht) (blk4 hx t ht) (blk3 hx t ht) (B1 t _) (blk0 hb t)) (L1_eq (t := t.val) (blk2 hx t ht) (blk4 hx t ht) (blk3 hx t ht) (B1 t _) (blk0 hb t) (blk6 hx t ht) (blk5 hx t ht) (blk7 hy t ht)) (E2_eq (t := t.val) (blk2 hx t ht) (blk3 hx t ht) (B2 t _) (blk0 hb t)) (L2_eq (t := t.val) (blk2 hx t ht) (blk3 hx t ht) (B2 t _) (blk0 hb t) (blk5 hx t ht) (blk7 hy t ht)) (E3_eq (t := t.val) (blk2 hx t ht) (blk3 hx t ht) (B3 t _) (blk0 hb t)) (L3_eq (t := t.val) (blk2 hx t ht) (blk3 hx t ht) (B3 t _) (blk0 hb t) (blk5 hx t ht) (blk7 hy t ht)) _ l hl).trans ?_
  pointwise [k0_pay2]
  rfl

/-- The queries' gradient that each point leaves. -/
theorem left_dq (n : ℕ) (hn : n < cfg0.N) (r : Fin 256) (l : Fin 512) :
    (left m c n hn).1 (ix2 r l) = (dq x y b (2 * min n 15 + r.val / 128) (l.val / 64) (r.val % 128) (l.val % 64) : EReal) := by
  have h17 : n < 17 := lt_of_lt_of_eq hn N_0
  have low : ∀ n (hn : n < cfg0.N), n < 16 →
      (left m c n hn).1 (ix2 r l) = (dq x y b (2 * n + r.val / 128) (l.val / 64) (r.val % 128) (l.val % 64) : EReal) := fun n hn h => by
    by_cases h0 : n = 0
    · rw [left_A m c ⟨n, hn⟩ h0]; exact dqA hx hy hb ⟨n, hn⟩ h0 r l
    · rw [left_B m c ⟨n, hn⟩ h0 h]; exact dqB hx hy hb ⟨n, hn⟩ h0 h _ r l
  by_cases h : n < 16
  · rw [low n hn h, show min n 15 = n by omega]
  · rw [left_C m c ⟨n, hn⟩ (show n = 16 by omega), show min n 15 = n - 1 by omega]
    exact low (n - 1) _ (by omega)

/-- The carry that each point before the last leaves. -/
theorem left_carried (n : ℕ) (hn : n < cfg0.N) (h : n < 16) : Carried x y b n (left m c n hn).2.2.2 := by
  by_cases h0 : n = 0
  · rw [left_A m c ⟨n, hn⟩ h0]; exact carriedA hx hy hb ⟨n, hn⟩ h0
  · rw [left_B m c ⟨n, hn⟩ h0 h]; exact carriedB hx hy hb ⟨n, hn⟩ h0 h _

/-- The keys' and values' gradients that each point but the first finishes. -/
theorem left_kv (n : ℕ) (hn : n < cfg0.N) (h0 : n ≠ 0) (r : Fin 256) (l : Fin 512) :
    (left m c n hn).2.1 (ix2 r l) = (kvs x y b (2 * (n - 1) + r.val / 128) (r.val % 128) l.val : EReal) := by
  have h17 : n < 17 := lt_of_lt_of_eq hn N_0
  by_cases h : n < 16
  · rw [left_B m c ⟨n, hn⟩ h0 h]; exact kvB hx hy hb ⟨n, hn⟩ h0 h _ (left_carried hx hy hb (n - 1) _ (by omega)) r l
  · rw [left_C m c ⟨n, hn⟩ (show n = 16 by omega)]
    exact kvC hx hy hb ⟨n, hn⟩ (show n = 16 by omega) _ (left_carried hx hy hb (n - 1) _ (by omega)) r l

/-- The sinks' gradient after the points so far. -/
theorem left_ds (l : Fin 128) (hl : l.val < 8) (n : ℕ) : ∀ (hn : n < cfg0.N),
    (left m c n hn).2.2.1 (ix2 0 l) = ((∑ i ∈ Finset.range (min n 15 + 1), snks x y b i l.val : ℝ) : EReal) := by
  induction n with
  | zero =>
    intro hn
    rw [left_A m c ⟨0, hn⟩ rfl]
    refine (dsA hx hy hb ⟨0, hn⟩ rfl l hl).trans ?_
    rw [show min 0 15 + 1 = 1 from rfl, Finset.sum_range_one]
  | succ n ih =>
    intro hn
    have h17 : n + 1 < 17 := lt_of_lt_of_eq hn N_0
    have ih' := ih (by omega)
    by_cases h : n + 1 < 16
    · rw [left_B m c ⟨n + 1, hn⟩ (Nat.succ_ne_zero n) h]
      refine (dsB hx hy hb ⟨n + 1, hn⟩ (Nat.succ_ne_zero n) h _ l hl).trans ?_
      rw [show min (n + 1) 15 + 1 = min n 15 + 1 + 1 by omega, Finset.sum_range_succ, EReal.coe_add, ← ih',
        show min n 15 + 1 = n + 1 by omega]
      simp only [Nat.add_sub_cancel]
    · rw [left_C m c ⟨n + 1, hn⟩ (show n + 1 = 16 by omega), show min (n + 1) 15 = min n 15 by omega, ← ih']
      unfold leftC
      simp only [Nat.add_sub_cancel]

end
end Cert.AttnKer

end
-- ==== Proof.AttnOut.lean ====
/- The attention's backward kernel, run on real arguments: its result arrays and what the host's last operations make of them. -/
module

public import proofs.«01_k».proof.Proof.AttnKer

@[expose] public section

set_option maxRecDepth 16384

noncomputable section
namespace Cert.AttnOut
open Idealize.ShloMosaic Idealize.ShloMosaic.TcCoe Idealize.SL.Sem Idealize.ShloMosaic.Pipeline
open Cert.AttnSpec Cert.AttnBody Cert.AttnBlk Cert.AttnKer Cert.Attn Cert.Kernel2Ideal Cert.Kernel2Ideal.Gen

variable {m : (ℓ : Loc nD τ sig) → Buf (Elt Ideal) ℓ} {c : Dev nD} {x y : ℕ → ℕ → ℝ} {b : ℕ → ℝ}

theorem dq_at {n n' h h' t t' d d' : ℕ} (hn : n = n') (hh : h = h') (ht : t = t') (hd : d = d') :
    (dq x y b n h t d : EReal) = (dq x y b n' h' t' d' : EReal) := by
  subst hn hh ht hd; rfl

theorem kvs_at {n n' s s' l l' : ℕ} (hn : n = n') (hs : s = s') (hl : l = l') : (kvs x y b n s l : EReal) = (kvs x y b n' s' l' : EReal) := by
  subst hn hs hl; rfl

/-- The first point's block of the keys' and values' gradients is not written back: the second point's is the same one. -/
theorem flush9 : ∀ t : Fin cfg0.N, (cfg0.win 9).flush t = true → t.val ≠ 0 := by decide +kernel

/-- The row of the query gradient that a point's block holds. -/
def qrow (t : ℕ) (r : Fin 256) : Fin 4096 := ⟨min t 15 * 256 + r.val, by have := r.isLt; omega⟩

/-- The row of the keys' and values' gradients that a point's block holds. -/
def krow (t : ℕ) (h : t < 17) (r : Fin 256) : Fin 4096 := ⟨(t - 1) * 256 + r.val, by have := r.isLt; omega⟩

variable (hx : ∀ (i : Fin 4096) (j : Fin 1792), m (c, Proc.devRef .tc main_arg0) (ix2 i j) = (x i.val j.val : EReal))
  (hy : ∀ (i : Fin 4096) (j : Fin 1024), m (c, Proc.devRef .tc main_arg1) (ix2 i j) = (y i.val j.val : EReal))
  (hb : ∀ h : Fin 8, m (c, Proc.devRef .tc main_arg2) (ix1 h) = (b h.val : EReal))

include hx hy hb

/-- The queries' gradient after the run. -/
theorem arr8 : (dats m 0 c).arrAt 8 cfg0.N
    = (fun i => (dq x y b ((i 0).val / 128) ((i 1).val / 64) ((i 0).val % 128) ((i 1).val % 64) : EReal) : FVec Ideal S4096x512 .bf16) := by
  refine (dats m 0 c).arrAt_eq_of_covers 8 _ (by decide +kernel) fun t hf y' => ?_
  have e : ((cfg0.win 8).blk t).view.emb y' = (ix2 (qrow t.val (y' 0)) (y' 1) : S4096x512.Idx) := by
    blk_ext [idx' t, qrow]
  rw [e, after_8]
  refine Eq.trans ?_ ((left_dq hx hy hb t.val t.isLt (y' 0) (y' 1)).trans (dq_at ?_ rfl ?_ rfl))
  · exact congrArg (left m c t.val t.isLt).1 (eq_ix2 y')
  · show _ = (min t.val 15 * 256 + (y' 0).val) / 128
    omega
  · show _ = (min t.val 15 * 256 + (y' 0).val) % 128
    omega

/-- The keys' and values' gradients after the run, two lanes for each column. -/
theorem arr9 : (dats m 0 c).arrAt 9 cfg0.N
    = (fun i => (kvs x y b ((i 0).val / 128) ((i 0).val % 128) (i 1).val : EReal) : FVec Ideal S4096x512 .bf16) := by
  refine (dats m 0 c).arrAt_eq_of_covers 9 _ (by decide +kernel) fun t hf y' => ?_
  have e : ((cfg0.win 9).blk t).view.emb y' = (ix2 (krow t.val (lt_of_lt_of_eq t.isLt N_0) (y' 0)) (y' 1) : S4096x512.Idx) := by
    blk_ext [idx' t, krow]
  rw [e, after_9]
  refine Eq.trans ?_ ((left_kv hx hy hb t.val t.isLt (flush9 t hf) (y' 0) (y' 1)).trans (kvs_at ?_ ?_ rfl))
  · exact congrArg (left m c t.val t.isLt).2.1 (eq_ix2 y')
  · show _ = ((t.val - 1) * 256 + (y' 0).val) / 128
    omega
  · show _ = ((t.val - 1) * 256 + (y' 0).val) % 128
    omega

omit hx hy hb in
/-- The last point. -/
theorem last_lt : 16 < cfg0.N := lt_of_lt_of_eq (by decide) N_0.symm

omit hx hy hb in
/-- The sinks' gradient after the run is what the last point leaves. -/
theorem arr10 : (dats m 0 c).arrAt 10 cfg0.N = (left m c 16 last_lt).2.2.1 := by
  refine (dats m 0 c).arrAt_eq_of_after_last 10 ⟨16, last_lt⟩ (by decide +kernel) _ fun y => ?_
  rw [after_10]
  refine congrArg (left m c 16 last_lt).2.2.1 ?_
  blk_ext []

omit hx hy hb in
theorem sum_pairs (f : ℕ → ℝ) : ∑ n : Fin 32, f n.val = ∑ i ∈ Finset.range 16, (f (2 * i) + f (2 * i + 1)) := by
  rw [Fin.sum_univ_eq_sum_range f 32]
  simp only [Finset.sum_range_succ, Finset.sum_range_zero]
  norm_num
  ring

omit hx hy hb in
theorem snks_sum (h : ℕ) : ∑ i ∈ Finset.range 16, snks x y b i h = dsk x y b h := by
  rw [dsk, sum_pairs fun n => ∑ t : Fin 128, ps x b n h t.val * dl x y b n h t.val, ← Finset.sum_neg_distrib]
  rfl

omit hx hy hb in
/-- Only input windows share an array. -/
theorem shared : SharedIn (sig := sig) spec0 := by decide

omit hx hy hb in
theorem kvs_dk {n s c d : ℕ} (hc : c < 128) (hd : d = c % 64) : kvs x y b n s (128 * (c / 64) + d) + kvs x y b n s (128 * (c / 64) + 64 + d) = dk x y b n (c / 64) s d := by
  have e : ∀ n s, kv x y b n s (128 * (c / 64) + d) + kv x y b n s (128 * (c / 64) + 64 + d) = dkc x y b n (c / 64) s d := fun n s => by
    rw [← dk_halves x y b n (c / 64) s d (by omega), kv, kv, if_pos (by omega), if_pos (by omega), show (128 * (c / 64) + d) / 128 = c / 64 by omega,
      show (128 * (c / 64) + d) % 128 = d by omega, show (128 * (c / 64) + 64 + d) / 128 = c / 64 by omega, show (128 * (c / 64) + 64 + d) % 128 = d + 64 by omega]
  unfold kvs dk
  rw [← e n]
  split_ifs
  · rw [← e (n + 1)]; ring
  · ring

omit hx hy hb in
theorem kvs_dv {n s c d : ℕ} (hc : c < 128) (hd : d = c % 64) :
    kvs x y b n s (256 + (128 * (c / 64) + d)) + kvs x y b n s (256 + (128 * (c / 64) + 64 + d)) = dv x y b n (c / 64) s d := by
  have e : ∀ n s, kv x y b n s (256 + (128 * (c / 64) + d)) + kv x y b n s (256 + (128 * (c / 64) + 64 + d)) = dvc x y b n (c / 64) s d := fun n s => by
    rw [← dv_halves x y b n (c / 64) s d (by omega), kv, kv, if_neg (by omega), if_neg (by omega), show (256 + (128 * (c / 64) + d) - 256) / 128 = c / 64 by omega,
      show (256 + (128 * (c / 64) + d)) % 128 = d by omega, show (256 + (128 * (c / 64) + 64 + d) - 256) / 128 = c / 64 by omega,
      show (256 + (128 * (c / 64) + 64 + d)) % 128 = d + 64 by omega]
  unfold kvs dv
  rw [← e n]
  split_ifs
  · rw [← e (n + 1)]; ring
  · ring

omit hx hy hb in
theorem with9 : Pipeline.withArrays (cfgs 0).spec c (V0 m c) (fun w => (dats m 0 c).arrAt w (cfgs 0).N) (Proc.devRef .tc main_v97_1) = (dats m 0 c).arrAt 9 cfg0.N :=
  Pipeline.Dat.withArrays_arrAt (dats m 0 c) shared (V0 m c) (A_eq m c) 9

omit hx hy hb in
theorem with10 : Pipeline.withArrays (cfgs 0).spec c (V0 m c) (fun w => (dats m 0 c).arrAt w (cfgs 0).N) (Proc.devRef .tc main_v97_2) = (dats m 0 c).arrAt 10 cfg0.N :=
  Pipeline.Dat.withArrays_arrAt (dats m 0 c) shared (V0 m c) (A_eq m c) 10

theorem with9_at (r : Fin 4096) (l : Fin 512) :
    Pipeline.withArrays (cfgs 0).spec c (V0 m c) (fun w => (dats m 0 c).arrAt w (cfgs 0).N) (Proc.devRef .tc main_v97_1) (ix2 r l)
      = (kvs x y b (r.val / 128) (r.val % 128) l.val : EReal) := by
  rw [with9, arr9 hx hy hb]; rfl

/-- The keys' gradient, after the host has added the lanes. -/
theorem tail106 (r : Fin 4096) (l : Fin 128) : Pipeline.afterTail₀ cfgs (dats m) 0 (V0 m) [hostOps1] c main_v106 (ix2 r l)
    = (dk x y b (r.val / 128) (l.val / 64) (r.val % 128) (l.val % 64) : EReal) := by
  show StableHlo.after hostOps1 _ (Proc.devRef .tc main_v106) (ix2 r l) = _
  after_reads_at
  have hl := l.isLt
  by_cases h : l.val < 64
  · rw [dif_pos h]
    refine (congrArg₂ (fun a b : EReal => a + b) (with9_at hx hy hb r ⟨l.val, by omega⟩) (with9_at hx hy hb r ⟨64 + l.val, by omega⟩)).trans ?_
    rw [← kvs_dk l.isLt rfl, EReal.coe_add]
    exact congrArg₂ (fun a b : EReal => a + b) (kvs_at rfl rfl (show l.val = _ by omega)) (kvs_at rfl rfl (show 64 + l.val = _ by omega))
  · rw [dif_neg h]
    refine (congrArg₂ (fun a b : EReal => a + b) (with9_at hx hy hb r ⟨128 + (l.val - 64), by omega⟩) (with9_at hx hy hb r ⟨192 + (l.val - 64), by omega⟩)).trans ?_
    rw [← kvs_dk l.isLt rfl, EReal.coe_add]
    exact congrArg₂ (fun a b : EReal => a + b) (kvs_at rfl rfl (show 128 + (l.val - 64) = _ by omega)) (kvs_at rfl rfl (show 192 + (l.val - 64) = _ by omega))

/-- The values' gradient, after the host has added the lanes. -/
theorem tail115 (r : Fin 4096) (l : Fin 128) : Pipeline.afterTail₀ cfgs (dats m) 0 (V0 m) [hostOps1] c main_v115 (ix2 r l)
    = (dv x y b (r.val / 128) (l.val / 64) (r.val % 128) (l.val % 64) : EReal) := by
  show StableHlo.after hostOps1 _ (Proc.devRef .tc main_v115) (ix2 r l) = _
  after_reads_at
  have hl := l.isLt
  by_cases h : l.val < 64
  · rw [dif_pos h]
    refine (congrArg₂ (fun a b : EReal => a + b) (with9_at hx hy hb r ⟨256 + l.val, by omega⟩) (with9_at hx hy hb r ⟨256 + (64 + l.val), by omega⟩)).trans ?_
    rw [← kvs_dv l.isLt rfl, EReal.coe_add]
    exact congrArg₂ (fun a b : EReal => a + b) (kvs_at rfl rfl (show 256 + l.val = _ by omega)) (kvs_at rfl rfl (show 256 + (64 + l.val) = _ by omega))
  · rw [dif_neg h]
    refine (congrArg₂ (fun a b : EReal => a + b) (with9_at hx hy hb r ⟨256 + (128 + (l.val - 64)), by omega⟩) (with9_at hx hy hb r ⟨256 + (192 + (l.val - 64)), by omega⟩)).trans ?_
    rw [← kvs_dv l.isLt rfl, EReal.coe_add]
    exact congrArg₂ (fun a b : EReal => a + b) (kvs_at rfl rfl (show 256 + (128 + (l.val - 64)) = _ by omega)) (kvs_at rfl rfl (show 256 + (192 + (l.val - 64)) = _ by omega))

/-- The sinks' gradient, the first eight lanes of the kernel's row. -/
theorem tail117 (h : Fin 8) : Pipeline.afterTail₀ cfgs (dats m) 0 (V0 m) [hostOps1] c main_v117 (ix1 h) = (dsk x y b h.val : EReal) := by
  show StableHlo.after hostOps1 _ (Proc.devRef .tc main_v117) (ix1 h) = _
  after_reads_at
  rw [with10, arr10]
  exact (left_ds hx hy hb ⟨h.val, by omega⟩ h.isLt 16 last_lt).trans (congrArg _ (snks_sum h.val))

end Cert.AttnOut

end
-- ==== Proof.AttnRef.lean ====
/- What the reference of the attention backward computes on real arguments. -/
module

public import proofs.«01_k».proof.Proof.Gen.Reference2Ideal.Read
public import proofs.«01_k».proof.Proof.AttnSpec
public import Idealize.ShloMosaic.Lib.Pointwise
public import Idealize.ShloMosaic.Lib.Tactic.WordOmega
public import Mathlib.Tactic.IntervalCases

@[expose] public section

set_option maxRecDepth 16384

noncomputable section

namespace Cert.AttnRef

open Idealize.ShloMosaic Cert.Reals Cert.AttnSpec Cert.Reference2Ideal Cert.Reference2Ideal.Gen Cert.Reference2Ideal.Read

/-! ## Reals -/

section Reals

variable (x y : ℕ → ℕ → ℝ) (b : ℕ → ℝ)

/-- A column of the band of keys or values: zero in the half before the first block. -/
def band (n s j : ℕ) : ℝ := if n = 0 ∧ s < 128 then 0 else x (key n s) j

theorem band_ok {n t s : ℕ} (h : Ok n t s) (j : ℕ) : band x n s j = x (key n s) j :=
  if_neg fun e => by rcases h.2.2 with h | h <;> omega

/-- The gradient of the weights, with the zero half. -/
def dz (n h t s : ℕ) : ℝ := ∑ d : Fin 64, y (128 * n + t) (64 * h + d.val) * band x n s (640 + 64 * (h / 4) + d.val)

theorem dz_ok {n t s : ℕ} (e : Ok n t s) (h : ℕ) : dz x y n h t s = dp x y n h t s := by simp only [dz, dp, band_ok x e]

/-- A weight does not see the zero half. -/
theorem ex_dz (n h t s : ℕ) : ex x n h t s * dz x y n h t s = ex x n h t s * dp x y n h t s := by
  by_cases e : Ok n t s
  · rw [dz_ok x y e]
  · rw [ex, if_neg e, zero_mul, zero_mul]

theorem ds_band (n h t s j : ℕ) : ds x y b n h t s * band x n s j = ds x y b n h t s * x (key n s) j := by
  by_cases e : Ok n t s
  · rw [band_ok x e]
  · rw [ds_masked x y b e, zero_mul, zero_mul]

/-- The weights of a row and its sink's add up to one. -/
theorem sum_pr (n h t : ℕ) : ∑ s : Fin 256, pr x b n h t s.val = 1 - ps x b n h t := by
  have h0 := (nz_pos x b n h t).ne'
  rw [eq_sub_iff_add_eq]
  simp only [pr, ps]
  rw [← Finset.sum_div, ← add_div, ← nz, div_self h0]

/-- The gradients of a row's scores and its sink's add up to zero. -/
theorem sum_ds (n h t : ℕ) : ∑ s : Fin 256, ds x y b n h t s.val = ps x b n h t * dl x y b n h t := by
  simp only [ds, mul_sub]
  rw [Finset.sum_sub_distrib, ← Finset.sum_mul, sum_pr, ← dl]; ring

end Reals

/-- An eighth. -/
theorem ofBits_eighth : Ideal.ofBits .f32 0x3E000000#32 = ((1 / 8 : ℝ) : EReal) := by
  simp [Ideal.ofBits, Ideal.ieee, -EReal.coe_mul]; norm_num

/-- The mask's value. -/
theorem ofBits_bot : Ideal.ofBits .f32 0xFF800000#32 = ⊥ := by
  simp [Ideal.ofBits, Ideal.ieee]

theorem select_ite {α : Type} (p : Prop) [Decidable p] (u v : α) : Scalar.select (if p then 1#1 else 0#1) u v = if p then u else v := by
  split <;> rfl

/-! ## The mask and the bias -/

/-- The distance of a query and a key, as a word. -/
theorem v28 (t : Fin 128) (s : Fin 256) :
    val_main_v28 (F := Ideal) (ix2 t s) = IntOp.subi (IntOp.addi (BitVec.ofNat 32 t.val) 128#32) (BitVec.ofNat 32 s.val) := by
  pointwise [val_main_v28, val_main_v27, val_main_v26, val_main_v25, val_main_v24, val_main_v23, val_main_v22, val_main_v21, val_main_v20, val_main_c]

theorem dist_int (t : Fin 128) (s : Fin 256) :
    (IntOp.subi (IntOp.addi (BitVec.ofNat 32 t.val) 128#32) (BitVec.ofNat 32 s.val)).toInt = (t.val : ℤ) + 128 - s.val := by
  have := t.isLt; have := s.isLt
  have e1 : (IntOp.addi (BitVec.ofNat 32 t.val) 128#32).toInt = (t.val : ℤ) + 128 := by word_omega
  have e2 : (BitVec.ofNat 32 s.val).toInt = (s.val : ℤ) := by word_omega
  unfold IntOp.subi
  rw [BitVec.toInt_sub, e1, e2]
  refine Int.bmod_eq_of_le ?_ ?_ <;> norm_num <;> omega

theorem ofBool_ite (p : Prop) [Decidable p] : BitVec.ofBool (decide p) = if p then 1#1 else 0#1 := by by_cases h : p <;> simp [h]

theorem and_ite (p q r : Prop) [Decidable p] [Decidable q] [Decidable r] :
    IntOp.andi (IntOp.andi (if p then 1#1 else 0#1) (if q then 1#1 else 0#1)) (if r then 1#1 else 0#1) = if (p ∧ q) ∧ r then 1#1 else 0#1 := by
  by_cases hp : p <;> by_cases hq : q <;> by_cases hr : r <;> simp [hp, hq, hr, IntOp.andi]

theorem or_ite (p q : Prop) [Decidable p] [Decidable q] :
    IntOp.ori (if p then 1#1 else 0#1) (if q then 1#1 else 0#1) = if p ∨ q then 1#1 else 0#1 := by
  by_cases hp : p <;> by_cases hq : q <;> simp [hp, hq, IntOp.ori]

theorem block_word : ∀ n : Fin 32, IntOp.cmpi .sgt (BitVec.ofNat 32 n.val) 0#32 = if 0 < n.val then 1#1 else 0#1 := by decide +kernel

theorem half_word : ∀ s : Fin 256, IntOp.cmpi .sge (BitVec.ofNat 32 s.val) 128#32 = if 128 ≤ s.val then 1#1 else 0#1 := by decide +kernel

theorem valid_word (n : Fin 32) (t : Fin 128) (s : Fin 256) :
    IntOp.andi (IntOp.andi (IntOp.cmpi .sge (IntOp.subi (IntOp.addi (BitVec.ofNat 32 t.val) 128#32) (BitVec.ofNat 32 s.val)) 0#32)
        (IntOp.cmpi .slt (IntOp.subi (IntOp.addi (BitVec.ofNat 32 t.val) 128#32) (BitVec.ofNat 32 s.val)) 128#32))
      (IntOp.ori (IntOp.cmpi .sgt (BitVec.ofNat 32 n.val) 0#32) (IntOp.cmpi .sge (BitVec.ofNat 32 s.val) 128#32))
    = if Ok n.val t.val s.val then 1#1 else 0#1 := by
  have := n.isLt; have := t.isLt; have := s.isLt
  rw [WordCmp.cmpi_sge_eq (IntOp.subi _ _), WordCmp.cmpi_slt_eq (IntOp.subi _ _), dist_int, ofBool_ite, ofBool_ite,
    block_word, half_word, or_ite, and_ite]
  refine if_congr ?_ rfl rfl
  unfold Ok
  rw [show (0#32).toInt = 0 from rfl, show (128#32).toInt = 128 from rfl]
  omega

/-- Which keys a query sees. -/
theorem v47 (n : Fin 32) (t : Fin 128) (s : Fin 256) : val_main_v47 (F := Ideal) (ix3 n t s) = if Ok n.val t.val s.val then 1#1 else 0#1 := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v23, val_main_v22, val_main_c_4, val_main_c_5, val_main_c_6, val_main_c_7]
  rw [v28]
  exact valid_word n t s

theorem dist_word (t : Fin 128) (s : Fin 256) (h : s.val ≤ t.val + 128) :
    (IntOp.absi (IntOp.subi (IntOp.addi (BitVec.ofNat 32 t.val) 128#32) (BitVec.ofNat 32 s.val))).toInt = (t.val : ℤ) + 128 - s.val := by
  rw [IntOp.absi, if_neg, dist_int]
  rw [BitVec.msb_eq_toInt, dist_int, decide_eq_true_eq]
  omega

/-- The heads' slopes are the powers of a half. -/
theorem v56 (h : Fin 8) : val_main_v56 (F := Ideal) (ix1 h) = (slp h.val : EReal) := by
  pointwise [val_main_v56, val_main_v55, val_main_v54, val_main_v53, val_main_v52, val_main_v51, val_main_v50, val_main_v49, val_main_v48, val_main_cst_8, val_main_cst_9, val_main_cst_10, val_main_cst_11, val_main_cst_12, val_main_cst_13, val_main_cst_14, val_main_cst_15]
  obtain ⟨h, hh⟩ := h
  interval_cases h <;> simp [Ideal.ofBits, Ideal.ieee, slp, -EReal.coe_mul, -EReal.coe_pow] <;> norm_num

/-- The bias of a key that a query sees. -/
theorem v65 (kh : Fin 2) (g : Fin 4) (t : Fin 128) (s : Fin 256) (h : s.val ≤ t.val + 128) :
    val_main_v65 (F := Ideal) (ix4 kh g t s) = ((-(slp (4 * kh.val + g.val) * ((t.val : ℝ) + 128 - s.val)) : ℝ) : EReal) := by
  pointwise [val_main_v65, val_main_v64, val_main_v63, val_main_v62, val_main_v61, val_main_v60, val_main_v59, val_main_v58, val_main_v57]
  rw [v28, v56, show FloatOps.sitofp (F := Ideal) FTy.f32 (IntOp.absi (IntOp.subi (IntOp.addi (BitVec.ofNat 32 t.val) 128#32) (BitVec.ofNat 32 s.val)))
    = (((IntOp.absi (IntOp.subi (IntOp.addi (BitVec.ofNat 32 t.val) 128#32) (BitVec.ofNat 32 s.val))).toInt : ℝ) : EReal) from rfl, dist_word t s h,
    ← EReal.coe_neg, ← EReal.coe_mul]
  simp only [mul_comm kh.val 4]
  congr 1; push_cast; ring

/-- The count of the places that attain a maximum is a positive real. -/
theorem count_pos {ι : Type} [Fintype ι] (i : ι) (f : ι → EReal) (m : EReal) (hm : Finset.fold max ⊥ f Finset.univ = m) :
    ∃ c : ℝ, c ≠ 0 ∧ ∑ s : ι, FloatOps.uitofp (F := Ideal) .f32 (BitVec.ofBool (decide (f s = m))) = (c : EReal) := by
  have e (s : ι) : FloatOps.uitofp (F := Ideal) .f32 (BitVec.ofBool (decide (f s = m))) = ((if f s = m then 1 else 0 : ℝ) : EReal) := by
    show (((BitVec.ofBool (decide (f s = m))).toNat : ℝ) : EReal) = _
    by_cases h : f s = m <;> simp [h]
  simp only [e, coe_sum]
  refine ⟨_, ne_of_gt ?_, rfl⟩
  obtain ⟨s, -, hs⟩ := Finset.exists_mem_eq_sup Finset.univ ⟨i, Finset.mem_univ _⟩ f
  refine Finset.sum_pos' (fun _ _ => by split_ifs <;> norm_num) ⟨s, Finset.mem_univ _, ?_⟩
  rw [if_pos ((show f s = Finset.fold max ⊥ f Finset.univ from hs.symm).trans hm)]
  exact one_pos

/-! ## The band, the scores and the softmax -/

variable {A : FVec Ideal S4096x1792 .f32} {B : FVec Ideal S4096x1024 .f32} {C : FVec Ideal S8 .f32} {x y : ℕ → ℕ → ℝ} {b : ℕ → ℝ}

section Forward

variable (hA : ∀ (i : Fin 4096) (j : Fin 1792), A (ix2 i j) = (x i.val j.val : EReal))

include hA

/-- The band of the keys. -/
theorem v9 (n : Fin 32) (s : Fin 256) (kh : Fin 2) (d : Fin 64) :
    val_main_v9 (F := Ideal) A (ix4 n s kh d) = (band x n.val s.val (512 + 64 * kh.val + d.val) : EReal) := by
  pointwise [val_main_v9, val_main_v7, val_main_v6, val_main_v5, val_main_v4, val_main_v1, val_main_cst]
  simp only [hA, ← EReal.coe_zero, band, key]
  split_ifs <;> first | rfl | omega | (congr 2 <;> first | rfl | omega)

/-- The band of the values. -/
theorem v15 (n : Fin 32) (s : Fin 256) (kh : Fin 2) (d : Fin 64) :
    val_main_v15 (F := Ideal) A (ix4 n s kh d) = (band x n.val s.val (640 + 64 * kh.val + d.val) : EReal) := by
  pointwise [val_main_v15, val_main_v13, val_main_v12, val_main_v11, val_main_v10, val_main_v2, val_main_cst_1, val_main_cst_2]
  simp only [hA, ← EReal.coe_zero, band, key]
  split_ifs <;> first | rfl | omega | (congr 2 <;> first | rfl | omega)

/-- The queries, head by head. -/
theorem v3 (n : Fin 32) (t : Fin 128) (kh : Fin 2) (g : Fin 4) (d : Fin 64) :
    val_main_v3 (F := Ideal) A (ix5 n t kh g d) = (x (128 * n.val + t.val) (64 * (4 * kh.val + g.val) + d.val) : EReal) := by
  pointwise [val_main_v3, val_main_v0]
  rw [hA]
  congr 2 <;> (dsimp only; omega)

/-- The masked scores. -/
theorem v70 (kh : Fin 2) (g : Fin 4) (n : Fin 32) (t : Fin 128) (s : Fin 256) : val_main_v70_0 (F := Ideal) A (ix5 kh g n t s)
    = if Ok n.val t.val s.val then (sc x n.val (4 * kh.val + g.val) t.val s.val : EReal) else ⊥ := by
  pointwise [val_main_v70_0, val_main_v70_1, val_main_v69, val_main_v68, val_main_v67, val_main_v66, val_main_v19, val_main_v17, val_main_v16, val_main_v18, val_main_cst_3, val_main_cst_16, val_main_call0_v0, val_main_call0_v2]
  rw [v47, select_ite]
  split_ifs with h
  · simp only [v9 hA, v3 hA, v65 kh g t s h.1, ofBits_eighth, band_ok x h, ← EReal.coe_mul, coe_sum, ← EReal.coe_add, sc]
    congr 3
    refine Finset.sum_congr rfl fun d _ => ?_
    rw [mul_comm, show (4 * kh.val + g.val) / 4 = kh.val by omega]
  · exact ofBits_bot

end Forward

/-! ## The softmax and its gradient -/

section Softmax

variable (hA : ∀ (i : Fin 4096) (j : Fin 1792), A (ix2 i j) = (x i.val j.val : EReal)) (hC : ∀ h : Fin 8, C (ix1 h) = (b h.val : EReal))

include hA hC

/-- The sinks, head by head. -/
theorem v72 (kh : Fin 2) (g : Fin 4) : val_main_v72 (F := Ideal) C (ix4 kh g 0 0) = (b (4 * kh.val + g.val) : EReal) := by
  pointwise [val_main_v72, val_main_v71]
  rw [hC]
  simp only [mul_comm kh.val 4]

omit hA hC in
/-- The maximum over a row's scores. -/
theorem v73 (kh : Fin 2) (g : Fin 4) (n : Fin 32) (t : Fin 128) : val_main_v73 (F := Ideal) A (ix4 kh g n t)
    = Finset.fold max ⊥ (fun s => val_main_v70_0 (F := Ideal) A (ix5 kh g n t s)) Finset.univ := by
  pointwise [val_main_v73, val_main_cst_17]
  rw [ofBits_bot]

omit hA hC in
theorem v79 (kh : Fin 2) (g : Fin 4) (n : Fin 32) (t : Fin 128) : val_main_v79 (F := Ideal) C (ix4 kh g n t) = val_main_v72 (F := Ideal) C (ix4 kh g 0 0) := by
  pointwise [val_main_v79]

omit A C hA hC x b in
theorem max_at {s : Shape} {φ : FTy} (u v : FVec Ideal s φ) (i : s.Idx) : maximumf u v i = max (u i) (v i) := rfl

/-- A row's maximum, the sink's score with it, is real. -/
theorem v80 (kh : Fin 2) (g : Fin 4) (n : Fin 32) (t : Fin 128) : ∃ M : ℝ, val_main_v80 (F := Ideal) A C (ix4 kh g n t) = (M : EReal) := by
  obtain ⟨M, hM⟩ := max_real (fun s : Fin 256 => Ok n.val t.val s.val) (fun s => sc x n.val (4 * kh.val + g.val) t.val s.val) (b (4 * kh.val + g.val))
  refine ⟨M, ?_⟩
  rw [val_main_v80, max_at, v79, v73, v72 hA hC]
  simp only [v70 hA]
  exact hM

/-- The shift of a row's exponents. -/
theorem row (kh : Fin 2) (g : Fin 4) (n : Fin 32) (t : Fin 128) : ∃ E : ℝ, 0 < E
    ∧ (∀ s : Fin 256, val_main_v102 (F := Ideal) A C (ix5 kh g n t s) = ((ex x n.val (4 * kh.val + g.val) t.val s.val * E : ℝ) : EReal))
    ∧ val_main_v106 (F := Ideal) A C (ix4 kh g n t) = ((Real.exp (b (4 * kh.val + g.val)) * E : ℝ) : EReal)
    ∧ val_main_v107 (F := Ideal) A C (ix4 kh g n t) = ((nz x b n.val (4 * kh.val + g.val) t.val * E : ℝ) : EReal) := by
  obtain ⟨M, hM⟩ := v80 hA hC kh g n t
  have h1 (s : Fin 256) : val_main_v102 (F := Ideal) A C (ix5 kh g n t s) = ((ex x n.val (4 * kh.val + g.val) t.val s.val * Real.exp (-M) : ℝ) : EReal) := by
    pointwise [val_main_v102, val_main_v101, val_main_v100, val_main_v99]
    rw [hM, v70 hA, exp_shift, ite_ex]
  have h2 : val_main_v106 (F := Ideal) A C (ix4 kh g n t) = ((Real.exp (b (4 * kh.val + g.val)) * Real.exp (-M) : ℝ) : EReal) := by
    pointwise [val_main_v106, val_main_v105, val_main_v104]
    rw [hM, v72 hA hC, exp_sink]
  refine ⟨Real.exp (-M), Real.exp_pos _, h1, h2, ?_⟩
  pointwise [val_main_v107, val_main_v103, val_main_cst_25]
  simp only [h1, h2, coe_sum, ← EReal.coe_add, nz_shift]

/-- The weights. -/
theorem v110 (kh : Fin 2) (g : Fin 4) (n : Fin 32) (t : Fin 128) (s : Fin 256) :
    val_main_v110 (F := Ideal) A C (ix5 kh g n t s) = (pr x b n.val (4 * kh.val + g.val) t.val s.val : EReal) := by
  obtain ⟨E, hE, h1, -, h3⟩ := row hA hC kh g n t
  have h0 := nz_pos x b n.val (4 * kh.val + g.val) t.val
  pointwise [val_main_v110, val_main_v109, val_main_v108]
  rw [h1, h3, div_coe_coe _ (mul_pos h0 hE).ne', pr, mul_div_mul_right _ _ hE.ne']

end Softmax

end Cert.AttnRef

end
-- ==== Proof.AttnGrad.lean ====
/- The gradients that the reference of the attention backward computes on real arguments. -/
module

public import proofs.«01_k».proof.Proof.AttnRef

@[expose] public section

set_option maxRecDepth 16384

noncomputable section

namespace Cert.AttnRef

open Idealize.ShloMosaic Cert.Reals Cert.AttnSpec Cert.Reference2Ideal Cert.Reference2Ideal.Gen Cert.Reference2Ideal.Read

variable {A : FVec Ideal S4096x1792 .f32} {B : FVec Ideal S4096x1024 .f32} {C : FVec Ideal S8 .f32} {x y : ℕ → ℕ → ℝ} {b : ℕ → ℝ}
  (hA : ∀ (i : Fin 4096) (j : Fin 1792), A (ix2 i j) = (x i.val j.val : EReal)) (hC : ∀ h : Fin 8, C (ix1 h) = (b h.val : EReal))
  (hB : ∀ (i : Fin 4096) (j : Fin 1024), B (ix2 i j) = (y i.val j.val : EReal))

include hA hC hB

/-- The gradient of the weights. -/
theorem v121 (kh : Fin 2) (g : Fin 4) (n : Fin 32) (t : Fin 128) (s : Fin 256) :
    val_main_v121 (F := Ideal) A B (ix5 kh g n t s) = (dz x y n.val (4 * kh.val + g.val) t.val s.val : EReal) := by
  pointwise [val_main_v121, val_main_v120, val_main_v119, val_main_v118, val_main_v117]
  simp only [hB, v15 hA, ← EReal.coe_mul, coe_sum, dz]
  congr 1
  refine Finset.sum_congr rfl fun d _ => ?_
  rw [show (4 * kh.val + g.val) / 4 = kh.val by omega]
  congr 2 <;> omega

/-- A row: the gradient that reaches each exponent, that of the sink, and the gradient of the row's maximum, which is zero. -/
theorem grad (kh : Fin 2) (g : Fin 4) (n : Fin 32) (t : Fin 128) :
    (∀ s : Fin 256, val_main_v139 (F := Ideal) A B C (ix5 kh g n t s) = (ds x y b n.val (4 * kh.val + g.val) t.val s.val : EReal))
    ∧ val_main_v133 (F := Ideal) A B C (ix4 kh g n t) = ((-(ps x b n.val (4 * kh.val + g.val) t.val * dl x y b n.val (4 * kh.val + g.val) t.val) : ℝ) : EReal)
    ∧ val_main_v144 (F := Ideal) A B C (ix4 kh g n t) = 0 := by
  obtain ⟨E, hE, h1, h2, h3⟩ := row hA hC kh g n t
  have h0 := nz_pos x b n.val (4 * kh.val + g.val) t.val
  have hm := (mul_pos h0 hE).ne'
  have hD : val_main_v132 (F := Ideal) A B C (ix4 kh g n t)
      = ((-(dl x y b n.val (4 * kh.val + g.val) t.val / (nz x b n.val (4 * kh.val + g.val) t.val * E)) : ℝ) : EReal) := by
    pointwise [val_main_v132, val_main_v129, val_main_v128, val_main_v127, val_main_v126, val_main_v125, val_main_v124, val_main_v113, val_main_v112, val_main_v111, val_main_v108, val_main_cst_26, val_main_cst_27, val_main_cst_28]
    simp only [Fin.sum_univ_one, v121 hA hC hB, h1, h3, ← EReal.coe_one, ← EReal.coe_mul, div_coe_coe _ (mul_ne_zero hm hm), coe_sum, ← EReal.coe_neg]
    refine congrArg (fun r : ℝ => ((-r : ℝ) : EReal)) ?_
    rw [dl, Finset.sum_div]
    refine Finset.sum_congr rfl fun s _ => ?_
    rw [pr, div_mul_eq_mul_div, ← ex_dz]
    field_simp
  have hS (s : Fin 256) : val_main_v139 (F := Ideal) A B C (ix5 kh g n t s) = (ds x y b n.val (4 * kh.val + g.val) t.val s.val : EReal) := by
    pointwise [val_main_v139, val_main_v138, val_main_v137, val_main_v131, val_main_v130, val_main_v108]
    rw [hD, v121 hA hC hB, h1, h3, div_coe_coe _ hm, ← EReal.coe_add, ← EReal.coe_mul]
    congr 1
    rw [ds, mul_sub, pr, div_mul_eq_mul_div, ← ex_dz]
    field_simp
    ring
  have hK : val_main_v133 (F := Ideal) A B C (ix4 kh g n t) = ((-(ps x b n.val (4 * kh.val + g.val) t.val * dl x y b n.val (4 * kh.val + g.val) t.val) : ℝ) : EReal) := by
    pointwise [val_main_v133]
    rw [hD, h2, ← EReal.coe_mul]
    congr 1
    rw [ps]
    field_simp
  refine ⟨hS, hK, ?_⟩
  pointwise [val_main_v144, val_main_v143, val_main_v142, val_main_v141, val_main_v140, val_main_v136, val_main_cst_30, val_main_cst_31]
  simp only [Fin.sum_univ_one, hK, hS, ← EReal.coe_neg, coe_sum, ← EReal.coe_add, Finset.sum_neg_distrib, sum_ds]
  rw [neg_neg, add_neg_cancel, EReal.coe_zero]

/-- The gradient of the scores: that of a row's maximum adds nothing. -/
theorem v156 (kh : Fin 2) (g : Fin 4) (n : Fin 32) (t : Fin 128) (s : Fin 256) :
    val_main_v156 (F := Ideal) A B C (ix5 kh g n t s) = (ds x y b n.val (4 * kh.val + g.val) t.val s.val : EReal) := by
  obtain ⟨h1, -, h3⟩ := grad hA hC hB kh g n t
  obtain ⟨c, hc, e⟩ := count_pos (0 : Fin 256) (fun s => val_main_v70_0 (F := Ideal) A (ix5 kh g n t s)) _ (v73 (A := A) kh g n t).symm
  have h4 : val_main_v78 (F := Ideal) A (ix4 kh g n t) = (c : EReal) := by
    rw [← e]
    pointwise [val_main_v78, val_main_v77, val_main_v76, val_main_v75, val_main_v74, val_main_cst_18]
  have h5 : val_main_v153 (F := Ideal) A B C (ix5 kh g n t s) = (ds x y b n.val (4 * kh.val + g.val) t.val s.val : EReal) := by
    pointwise [val_main_v153, val_main_v152, val_main_v151, val_main_v150, val_main_v149]
    rw [h1, h3, h4, zero_mul, Ideal.div_coe hc, zero_mul, zero_mul, add_zero]
  pointwise [val_main_v156, val_main_v70_1, val_main_v66, val_main_call1_cst, val_main_call1_v0]
  rw [h5, v47, select_ite]
  split_ifs with h
  · rfl
  · rw [ds_masked x y b h]; rfl

/-- The gradient of a sink. -/
theorem v155 (h : Fin 8) : val_main_v155 (F := Ideal) A B C (ix1 h) = (dsk x y b h.val : EReal) := by
  have h3 := fun kh g n t => (grad hA hC hB kh g n t).2.2
  have h2 := fun kh g n t => (grad hA hC hB kh g n t).2.1
  pointwise [val_main_v155, val_main_v154, val_main_v148, val_main_v147, val_main_v146, val_main_v145, val_main_v135, val_main_v134, val_main_cst_29, val_main_cst_32, val_main_cst_33]
  simp only [h2, h3, zero_mul, Finset.sum_const_zero, add_zero, Fin.sum_univ_one, coe_sum, dsk, ← Finset.sum_neg_distrib]
  congr 1
  refine Finset.sum_congr rfl fun n _ => Finset.sum_congr rfl fun t _ => ?_
  rw [show 4 * (h.val / 4) + h.val % 4 = h.val by omega]

/-- The gradient of the queries. -/
theorem v161 (n : Fin 32) (t : Fin 128) (kh : Fin 2) (g : Fin 4) (d : Fin 64) :
    val_main_v161 (F := Ideal) A B C (ix5 n t kh g d) = (dq x y b n.val (4 * kh.val + g.val) t.val d.val : EReal) := by
  pointwise [val_main_v161, val_main_v160, val_main_v159, val_main_v158, val_main_v157, val_main_cst_34]
  simp only [v156 hA hC hB, v9 hA, ofBits_eighth, ← EReal.coe_mul, coe_sum, dq]
  congr 1
  rw [Finset.sum_mul]
  refine Finset.sum_congr rfl fun s _ => ?_
  rw [show (4 * kh.val + g.val) / 4 = kh.val by omega, ← ds_band]; ring

/-- What a block gives the keys of its band. -/
theorem v163 (n : Fin 32) (s : Fin 256) (kh : Fin 2) (d : Fin 64) :
    val_main_v163 (F := Ideal) A B C (ix4 n s kh d) = (dkc x y b n.val kh.val s.val d.val : EReal) := by
  pointwise [val_main_v163, val_main_v162, val_main_v159, val_main_v158, val_main_v157, val_main_cst_34]
  simp only [v156 hA hC hB, v3 hA, ofBits_eighth, ← EReal.coe_mul, coe_sum, dkc]
  congr 1
  rw [Finset.sum_comm, Finset.sum_mul]
  refine Finset.sum_congr rfl fun g _ => ?_
  rw [Finset.sum_mul]
  exact Finset.sum_congr rfl fun t _ => by ring

/-- What a block gives the values of its band. -/
theorem v123 (n : Fin 32) (s : Fin 256) (kh : Fin 2) (d : Fin 64) :
    val_main_v123 (F := Ideal) A B C (ix4 n s kh d) = (dvc x y b n.val kh.val s.val d.val : EReal) := by
  pointwise [val_main_v123, val_main_v122, val_main_v119, val_main_v118, val_main_v117]
  simp only [v110 hA hC, hB, ← EReal.coe_mul, coe_sum, dvc]
  congr 1
  refine Finset.sum_congr rfl fun g _ => Finset.sum_congr rfl fun t _ => ?_
  rw [mul_comm, mul_comm n.val 128, show kh.val * 256 + g.val * 64 + d.val = 64 * (4 * kh.val + g.val) + d.val by omega]

/-- The gradient of the queries, in rows. -/
theorem v179 (i : Fin 4096) (j : Fin 512) :
    val_main_v179 (F := Ideal) A B C (ix2 i j) = (dq x y b (i.val / 128) (j.val / 64) (i.val % 128) (j.val % 64) : EReal) := by
  pointwise [val_main_v179, val_main_v178]
  rw [v161 hA hC hB]
  simp only [show 4 * (j.val / 256) + j.val / 64 % 4 = j.val / 64 by omega]

/-- The gradient of the keys, block by block. -/
theorem v176 (n : Fin 32) (s : Fin 128) (kh : Fin 2) (d : Fin 64) :
    val_main_v176 (F := Ideal) A B C (ix4 n s kh d) = (dk x y b n.val kh.val s.val d.val : EReal) := by
  have h (n : Fin 32) (s : Fin 256) := v163 hA hC hB n s kh d
  pointwise [val_main_v176, val_main_v175, val_main_v174, val_main_v172, val_main_v171, val_main_cst_36]
  simp only [h]
  by_cases e : n.val < 31
  · rw [dif_pos e, ← EReal.coe_add, dk, if_pos e, add_comm 1 n.val]
  · rw [dif_neg e, dk, if_neg e, add_zero, add_zero]

/-- The gradient of the keys. -/
theorem v177 (i : Fin 4096) (j : Fin 128) :
    val_main_v177 (F := Ideal) A B C (ix2 i j) = (dk x y b (i.val / 128) (j.val / 64) (i.val % 128) (j.val % 64) : EReal) := by
  pointwise [val_main_v177]
  rw [v176 hA hC hB]

/-- The gradient of the values, block by block. -/
theorem v169 (n : Fin 32) (s : Fin 128) (kh : Fin 2) (d : Fin 64) :
    val_main_v169 (F := Ideal) A B C (ix4 n s kh d) = (dv x y b n.val kh.val s.val d.val : EReal) := by
  have h (n : Fin 32) (s : Fin 256) := v123 hA hC hB n s kh d
  pointwise [val_main_v169, val_main_v168, val_main_v167, val_main_v165, val_main_v164, val_main_cst_35]
  simp only [h]
  by_cases e : n.val < 31
  · rw [dif_pos e, ← EReal.coe_add, dv, if_pos e, add_comm 1 n.val]
  · rw [dif_neg e, dv, if_neg e, add_zero, add_zero]

/-- The gradient of the values. -/
theorem v170 (i : Fin 4096) (j : Fin 128) :
    val_main_v170 (F := Ideal) A B C (ix2 i j) = (dv x y b (i.val / 128) (j.val / 64) (i.val % 128) (j.val % 64) : EReal) := by
  pointwise [val_main_v170]
  rw [v169 hA hC hB]

end Cert.AttnRef

end
-- ==== Proof.AttnClaim.lean ====
/- The attention backward's claims: its frames, the reference's, and the equality of their results on finite arguments. -/
module

public import proofs.«01_k».proof.Defs
public import proofs.«01_k».proof.Proof.Gen.Pre_attn_finite
public import proofs.«01_k».proof.Proof.AttnOut
public import proofs.«01_k».proof.Proof.AttnGrad
public import proofs.«01_k».proof.Proof.Finite
public import Idealize.ShloMosaic.Lib.Quiescent

@[expose] public section

set_option maxRecDepth 16384

noncomputable section

namespace Cert.AttnClaim

open Idealize.ShloMosaic Idealize.ShloMosaic.TcCoe Idealize.SL.Sem
open Cert.Reals Cert.AttnSpec

/-- The reference runs, keeps its arguments and leaves every counter at zero. -/
theorem frame_ri : Cert.quiescent_Reference2Ideal := fun m ρ _ =>
  (θ_run Cert.Reference2Ideal.defs _ _).mono
    (fun r h => ⟨fun c => (h c).2.2.2.2, Idealize.ShloMosaic.sem_eq_zero_of_no_sems (by decide) r.2⟩)
    (Cert.Reference2Ideal.Value.run (F := Ideal) m ρ)

/-- The entries of finite arguments are reals. -/
theorem entries (m : (ℓ : Loc Cert.Kernel2Ideal.nD Cert.Kernel2Ideal.τ Cert.Kernel2Ideal.sig) → Buf (Elt Ideal) ℓ)
    (hp : Cert.Pre_Kernel2Ideal_attn_finite m) (c : Dev Cert.Kernel2Ideal.nD) :
    ∃ (x y : ℕ → ℕ → ℝ) (b : ℕ → ℝ),
      (∀ (i : Fin 4096) (j : Fin 1792), m ((c.tc : Thread Cert.Kernel2Ideal.nD Cert.Kernel2Ideal.τ).loc Cert.Kernel2Ideal.main_arg0) (ix2 i j) = (x i.val j.val : EReal))
      ∧ (∀ (i : Fin 4096) (j : Fin 1024), m ((c.tc : Thread Cert.Kernel2Ideal.nD Cert.Kernel2Ideal.τ).loc Cert.Kernel2Ideal.main_arg1) (ix2 i j) = (y i.val j.val : EReal))
      ∧ (∀ h : Fin 8, m ((c.tc : Thread Cert.Kernel2Ideal.nD Cert.Kernel2Ideal.τ).loc Cert.Kernel2Ideal.main_arg2) (ix1 h) = (b h.val : EReal)) := by
  have h := congrFun (hp c) ix0
  unfold Cert.Pre_attn_finite.fn at h
  obtain ⟨h', h2⟩ := IntOp.andi_eq_one.1 h
  obtain ⟨h0, h1⟩ := IntOp.andi_eq_one.1 h'
  haveI : Subsingleton Cert.Pre_attn_finite.S_.Idx := ⟨fun a b => funext fun x => x.elim0⟩
  have f0 := Finite.all _ _ (fun _ => by pointwise) _ _ _ _ h0
  have f1 := Finite.all _ _ (fun _ => by pointwise) _ _ _ _ h1
  have f2 := Finite.all _ _ (fun _ => by pointwise) _ _ _ _ h2
  obtain ⟨x, hx⟩ := Finite.reals2 f0
  obtain ⟨y, hy⟩ := Finite.reals2 f1
  obtain ⟨b, hb⟩ := Finite.reals1 f2
  exact ⟨x, y, b, hx, hy, hb⟩

/-- On finite arguments the kernel's four gradients are the reference's. -/
theorem value : Cert.algebraic_Kernel2Ideal_Reference2Ideal_pre_attn_finite := by
  intro m g m' g' hp ha
  let A (c : Dev Cert.Reference2Ideal.nD) (b : Ref Cert.Reference2Ideal.sig .tc) := m' ((c.tc : Thread Cert.Reference2Ideal.nD Cert.Reference2Ideal.τ).loc b)
  refine ⟨fun c => Cert.Reference2Ideal.Read.val_main_v179 (F := Ideal) (A c Cert.Reference2Ideal.main_arg0) (A c Cert.Reference2Ideal.main_arg1) (A c Cert.Reference2Ideal.main_arg2),
    fun c => Cert.Reference2Ideal.Read.val_main_v177 (F := Ideal) (A c Cert.Reference2Ideal.main_arg0) (A c Cert.Reference2Ideal.main_arg1) (A c Cert.Reference2Ideal.main_arg2),
    fun c => Cert.Reference2Ideal.Read.val_main_v170 (F := Ideal) (A c Cert.Reference2Ideal.main_arg0) (A c Cert.Reference2Ideal.main_arg1) (A c Cert.Reference2Ideal.main_arg2),
    fun c => Cert.Reference2Ideal.Read.val_main_v155 (F := Ideal) (A c Cert.Reference2Ideal.main_arg0) (A c Cert.Reference2Ideal.main_arg1) (A c Cert.Reference2Ideal.main_arg2), ?_,
    (θ_run Cert.Reference2Ideal.defs _ _).mono (fun r h c => ⟨(h c).1.trans (Cert.Reference2Ideal.Read.val_main_v179_eq _),
      (h c).2.1.trans (Cert.Reference2Ideal.Read.val_main_v177_eq _), (h c).2.2.1.trans (Cert.Reference2Ideal.Read.val_main_v170_eq _),
      (h c).2.2.2.1.trans (Cert.Reference2Ideal.Read.val_main_v155_eq _), (h c).2.2.2.2⟩)
      (Cert.Reference2Ideal.Value.run (F := Ideal) m' g')⟩
  refine (θ_run Cert.Kernel2Ideal.defs _ _).mono (fun r h c => ?_) (θ_run_and (Cert.Attn.run_main (F := Ideal) m g) (Cert.Attn.unchanged (F := Ideal) m g))
  obtain ⟨x, y, b, hx, hy, hb⟩ := entries m hp c
  obtain ⟨a0, a1, a2⟩ := ha c
  have kx : ∀ (i : Fin 4096) (j : Fin 1792), A c Cert.Reference2Ideal.main_arg0 (ix2 i j) = (x i.val j.val : EReal) := fun i j => (congrFun a0 _).trans (hx i j)
  have ky : ∀ (i : Fin 4096) (j : Fin 1024), A c Cert.Reference2Ideal.main_arg1 (ix2 i j) = (y i.val j.val : EReal) := fun i j => (congrFun a1 _).trans (hy i j)
  have kb : ∀ h : Fin 8, A c Cert.Reference2Ideal.main_arg2 (ix1 h) = (b h.val : EReal) := fun h => (congrFun a2 _).trans (hb h)
  refine ⟨?_, ?_, ?_, ?_, h.2 c⟩
  · refine ((h.1 c).1 8).trans ((AttnOut.arr8 hx hy hb).trans ?_)
    funext i
    idx_vars i
    exact (AttnRef.v179 kx kb ky _ _).symm
  · refine ((h.1 c).2 Cert.Kernel2Ideal.main_v106 (Pipeline.mem_restRefs_of _ (by decide) (by decide))).trans ?_
    funext i
    idx_vars i
    exact (AttnOut.tail106 hx hy hb _ _).trans (AttnRef.v177 kx kb ky _ _).symm
  · refine ((h.1 c).2 Cert.Kernel2Ideal.main_v115 (Pipeline.mem_restRefs_of _ (by decide) (by decide))).trans ?_
    funext i
    idx_vars i
    exact (AttnOut.tail115 hx hy hb _ _).trans (AttnRef.v170 kx kb ky _ _).symm
  · refine ((h.1 c).2 Cert.Kernel2Ideal.main_v117 (Pipeline.mem_restRefs_of _ (by decide) (by decide))).trans ?_
    funext i
    idx_vars i
    exact (AttnOut.tail117 hx hy hb _).trans (AttnRef.v155 kx kb ky _).symm

end Cert.AttnClaim

end
-- ==== Proof.FfnSpec.lean ====
/- The gated feed-forward block over the reals: its rows, their gate and the gradients that reach them. -/
module

public import proofs.«01_k».proof.Proof.Reals

@[expose] public section

noncomputable section

namespace Cert.FfnSpec

open Cert.Reals

variable (x d wi wo : ℕ → ℕ → ℝ) (g : ℕ → ℝ)

/-- A row's mean square, `eps` added. -/
def ms (r : ℕ) : ℝ := (∑ k : Fin 1024, x r k.val * x r k.val) / 1024 + eps

/-- The reciprocal of its root. -/
def ri (r : ℕ) : ℝ := (Real.sqrt (ms x r))⁻¹

/-- The normalised row. -/
def xh (r l : ℕ) : ℝ := x r l * ri x r

/-- The row's gate and up projections, side by side. -/
def gu (r j : ℕ) : ℝ := ∑ k : Fin 1024, xh x r k.val * g k.val * wi k.val j

/-- The logistic function. -/
def sg (z : ℝ) : ℝ := 1 / (1 + Real.exp (-z))

/-- The gated row. -/
def act (r f : ℕ) : ℝ := gu x wi g r f * sg (gu x wi g r f) * gu x wi g r (2816 + f)

/-- The gradient that reaches the gated row. -/
def da (r f : ℕ) : ℝ := ∑ l : Fin 1024, 1 / 2 * d r l.val * wo f l.val

/-- The gradient of the gate. -/
def dgt (r f : ℕ) : ℝ :=
  da d wo r f * gu x wi g r (2816 + f) * (sg (gu x wi g r f) * (1 + gu x wi g r f * (1 - sg (gu x wi g r f))))

/-- The gradient of the up projection. -/
def dup (r f : ℕ) : ℝ := da d wo r f * (gu x wi g r f * sg (gu x wi g r f))

/-- Both, side by side. -/
def dgu (r j : ℕ) : ℝ := if j < 2816 then dgt x d wi wo g r j else dup x d wi wo g r (j - 2816)

/-- The gradient that reaches the scaled row. -/
def dh (r k : ℕ) : ℝ := ∑ j : Fin 5632, dgu x d wi wo g r j.val * wi k j.val

/-- The gradient of the row. -/
def dx (r l : ℕ) : ℝ :=
  d r l + ri x r * (dh x d wi wo g r l * g l - xh x r l * ((∑ k : Fin 1024, dh x d wi wo g r k.val * g k.val * xh x r k.val) / 1024))

/-- A row's part of the gain's gradient. -/
def dg (r l : ℕ) : ℝ := dh x d wi wo g r l * xh x r l

/-- A mean square with `eps` is positive. -/
theorem ms_pos (r : ℕ) : 0 < ms x r :=
  add_pos_of_nonneg_of_pos (div_nonneg (Finset.sum_nonneg fun k _ => mul_self_nonneg (x r k.val)) (by norm_num)) eps_pos

/-- The logistic function's divisor is positive. -/
theorem sg_pos (z : ℝ) : (1 + Real.exp (-z)) ≠ 0 := (add_pos one_pos (Real.exp_pos _)).ne'

end Cert.FfnSpec

end
-- ==== Proof.FfnBody.lean ====
/- What the body of the feed-forward block's backward stores, on blocks of real entries. -/
module

public import proofs.«01_k».proof.Proof.Gen.Kernel3Ideal.Skeleton
public import proofs.«01_k».proof.Proof.FfnSpec
public import Idealize.ShloMosaic.Lib.Pointwise

@[expose] public section

set_option maxRecDepth 16384

noncomputable section

namespace Cert.FfnBody

open Idealize.ShloMosaic Cert.Reals Cert.FfnSpec Cert.Kernel3Ideal Cert.Kernel3Ideal.Gen

variable {x d wi wo : ℕ → ℕ → ℝ} {g : ℕ → ℝ} {R o : ℕ}

/-- 1024 is not zero. -/
theorem n_ne : (1024 : ℝ) ≠ 0 := by norm_num

/-- The halved gradient of the block's rows. -/
theorem pay3 {v0 : Vec Ideal S256x1024 .f32} (h0 : ∀ (r : Fin 256) (k : Fin 1024), v0 (ix2 r k) = (d (R + r.val) k.val : EReal))
    (r : Fin 256) (k : Fin 1024) : k0_pay3 (F := Ideal) v0 (ix2 r k) = ((1 / 2 * d (R + r.val) k.val : ℝ) : EReal) := by
  pointwise [k0_pay3]
  rw [h0, ofBits_half, ← EReal.coe_mul]

section
variable {v3 : FVec Ideal S256x1024 .bf16} {v5 : Vec Ideal S512x1024 .bf16} {v8 v11 : Vec Ideal S256x512 .bf16}
  (h3 : ∀ (r : Fin 256) (k : Fin 1024), v3 (ix2 r k) = ((1 / 2 * d (R + r.val) k.val : ℝ) : EReal))
  (h5 : ∀ (n : Fin 512) (k : Fin 1024), v5 (ix2 n k) = (wo (o + n.val) k.val : EReal))
  (h8 : ∀ (r : Fin 256) (n : Fin 512), v8 (ix2 r n) = (gu x wi g (R + r.val) (o + n.val) : EReal))
  (h11 : ∀ (r : Fin 256) (n : Fin 512), v11 (ix2 r n) = (gu x wi g (R + r.val) (2816 + (o + n.val)) : EReal))

include h3 h5 in
theorem pay9 (r : Fin 256) (n : Fin 512) : k0_pay9 (F := Ideal) v3 v5 (ix2 r n) = (da d wo (R + r.val) (o + n.val) : EReal) := by
  pointwise [k0_pay9]
  simp only [h3, h5, ← EReal.coe_mul, coe_sum, da]

include h8 in
theorem pay10 (r : Fin 256) (n : Fin 512) : k0_pay10 (F := Ideal) v8 (ix2 r n) = (gu x wi g (R + r.val) (o + n.val) : EReal) := by
  pointwise [k0_pay10]
  rw [h8]

include h8 in
theorem pay11 (r : Fin 256) (n : Fin 512) : k0_pay11 (F := Ideal) v8 (ix2 r n) = (sg (gu x wi g (R + r.val) (o + n.val)) : EReal) := by
  pointwise [k0_pay11]
  rw [pay10 h8]
  simp only [← EReal.coe_zero, ← EReal.coe_one, ← EReal.coe_neg, ← EReal.coe_sub, zero_sub, Ideal.exp_coe, ← EReal.coe_add, div_coe_coe _ (sg_pos _), sg]

include h3 h5 h8 h11 in
/-- The gate's gradient on 512 columns. -/
theorem pay12 (r : Fin 256) (n : Fin 512) : k0_pay12 (F := Ideal) v3 v5 v8 v11 (ix2 r n) = (dgt x d wi wo g (R + r.val) (o + n.val) : EReal) := by
  pointwise [k0_pay12]
  rw [pay9 h3 h5, pay10 h8, pay11 h8, h11]
  simp only [← EReal.coe_one, ← EReal.coe_sub, ← EReal.coe_mul, ← EReal.coe_add, dgt]

include h3 h5 h8 in
/-- The up projection's gradient on 512 columns. -/
theorem pay13 (r : Fin 256) (n : Fin 512) : k0_pay13 (F := Ideal) v3 v5 v8 (ix2 r n) = (dup x d wi wo g (R + r.val) (o + n.val) : EReal) := by
  pointwise [k0_pay13]
  rw [pay9 h3 h5, pay10 h8, pay11 h8, ← EReal.coe_mul, ← EReal.coe_mul, dup]
end

section
variable {v3 : FVec Ideal S256x1024 .bf16} {v5 : Vec Ideal S256x1024 .bf16} {v8 v11 : Vec Ideal S256x256 .bf16}
  (h3 : ∀ (r : Fin 256) (k : Fin 1024), v3 (ix2 r k) = ((1 / 2 * d (R + r.val) k.val : ℝ) : EReal))
  (h5 : ∀ (n : Fin 256) (k : Fin 1024), v5 (ix2 n k) = (wo (o + n.val) k.val : EReal))
  (h8 : ∀ r n : Fin 256, v8 (ix2 r n) = (gu x wi g (R + r.val) (o + n.val) : EReal))
  (h11 : ∀ r n : Fin 256, v11 (ix2 r n) = (gu x wi g (R + r.val) (2816 + (o + n.val)) : EReal))

include h3 h5 in
theorem pay32 (r n : Fin 256) : k0_pay32 (F := Ideal) v3 v5 (ix2 r n) = (da d wo (R + r.val) (o + n.val) : EReal) := by
  pointwise [k0_pay32]
  simp only [h3, h5, ← EReal.coe_mul, coe_sum, da]

include h8 in
theorem pay33 (r n : Fin 256) : k0_pay33 (F := Ideal) v8 (ix2 r n) = (gu x wi g (R + r.val) (o + n.val) : EReal) := by
  pointwise [k0_pay33]
  rw [h8]

include h8 in
theorem pay34 (r n : Fin 256) : k0_pay34 (F := Ideal) v8 (ix2 r n) = (sg (gu x wi g (R + r.val) (o + n.val)) : EReal) := by
  pointwise [k0_pay34]
  rw [pay33 h8]
  simp only [← EReal.coe_zero, ← EReal.coe_one, ← EReal.coe_neg, ← EReal.coe_sub, zero_sub, Ideal.exp_coe, ← EReal.coe_add, div_coe_coe _ (sg_pos _), sg]

include h3 h5 h8 h11 in
/-- The gate's gradient on the last 256 columns. -/
theorem pay35 (r n : Fin 256) : k0_pay35 (F := Ideal) v3 v5 v8 v11 (ix2 r n) = (dgt x d wi wo g (R + r.val) (o + n.val) : EReal) := by
  pointwise [k0_pay35]
  rw [pay32 h3 h5, pay33 h8, pay34 h8, h11]
  simp only [← EReal.coe_one, ← EReal.coe_sub, ← EReal.coe_mul, ← EReal.coe_add, dgt]

include h3 h5 h8 in
/-- The up projection's gradient on the last 256 columns. -/
theorem pay36 (r n : Fin 256) : k0_pay36 (F := Ideal) v3 v5 v8 (ix2 r n) = (dup x d wi wo g (R + r.val) (o + n.val) : EReal) := by
  pointwise [k0_pay36]
  rw [pay32 h3 h5, pay33 h8, pay34 h8, ← EReal.coe_mul, ← EReal.coe_mul, dup]
end

section
variable {v0 v2 : Vec Ideal S256x1024 .f32} {v1 : Vec Ideal S1x1024 .f32} {v7 : Vec Ideal S256x5632 .bf16} {v4 : Vec Ideal S5632x1024 .bf16}
  (h0 : ∀ (r : Fin 256) (k : Fin 1024), v0 (ix2 r k) = (x (R + r.val) k.val : EReal))
  (h1 : ∀ k : Fin 1024, v1 (ix2 0 k) = (g k.val : EReal))
  (h2 : ∀ (r : Fin 256) (k : Fin 1024), v2 (ix2 r k) = (d (R + r.val) k.val : EReal))
  (h4 : ∀ (j : Fin 5632) (k : Fin 1024), v4 (ix2 j k) = (wi k.val j.val : EReal))
  (h7 : ∀ (r : Fin 256) (j : Fin 5632), v7 (ix2 r j) = (dgu x d wi wo g (R + r.val) j.val : EReal))

include h7 h4 in
theorem pay37 (r : Fin 256) (k : Fin 1024) : k0_pay37 (F := Ideal) v7 v4 (ix2 r k) = (dh x d wi wo g (R + r.val) k.val : EReal) := by
  pointwise [k0_pay37]
  simp only [h7, h4, ← EReal.coe_mul, coe_sum, dh]

include h0 in
theorem pay38 (r : Fin 256) : k0_pay38 (F := Ideal) v0 (ix2 r 0) = (ri x (R + r.val) : EReal) := by
  pointwise [k0_pay38]
  simp only [h0, ofBits_1024, ofBits_eps, ← EReal.coe_mul, coe_sum, div_coe_coe _ n_ne, ← EReal.coe_add]
  rw [← ms, rsqrt_pos (ms_pos _ _), ri]

include h0 in
theorem pay39 (r : Fin 256) (k : Fin 1024) : k0_pay39 (F := Ideal) v0 (ix2 r k) = (xh x (R + r.val) k.val : EReal) := by
  pointwise [k0_pay39]
  rw [h0, pay38 h0, ← EReal.coe_mul, xh]

include h0 h1 in
/-- The scaled normalised rows of the block. -/
theorem pay40 (r : Fin 256) (k : Fin 1024) : k0_pay40 (F := Ideal) v0 v1 (ix2 r k) = ((xh x (R + r.val) k.val * g k.val : ℝ) : EReal) := by
  pointwise [k0_pay40]
  rw [pay39 h0, h1, ← EReal.coe_mul]

include h0 h1 h2 h4 h7 in
/-- The gradient of the block's rows. -/
theorem pay1 (r : Fin 256) (k : Fin 1024) : k0_pay1 (F := Ideal) (k0_pay41 v7 v4 v0 v1) v2 (ix2 r k) = (dx x d wi wo g (R + r.val) k.val : EReal) := by
  pointwise [k0_pay1, k0_pay41]
  simp only [pay37 h4 h7, pay38 h0, pay39 h0, h1, h2, ofBits_1024, ← EReal.coe_mul, coe_sum, div_coe_coe _ n_ne, ← EReal.coe_sub, ← EReal.coe_add, dx]

include h0 h4 h7 in
/-- The block's part of the gain's gradient. -/
theorem pay42 (k : Fin 1024) : k0_pay42 (F := Ideal) v7 v4 v0 (ix2 0 k) = ((∑ r : Fin 256, dg x d wi wo g (R + r.val) k.val : ℝ) : EReal) := by
  pointwise [k0_pay42]
  simp only [pay37 h4 h7, pay39 h0, ← EReal.coe_mul, coe_sum, dg]
end

end Cert.FfnBody

end
-- ==== Proof.FfnBlk.lean ====
/- The blocks that the feed-forward block's backward kernel reads, on real arguments. -/
module

public import proofs.«01_k».proof.Proof.Gen.Kernel3Ideal.Frame
public import proofs.«01_k».proof.Proof.FfnBody
public import Idealize.ShloMosaic.Lib.Pipeline.ValueKit
public import Idealize.ShloMosaic.Lib.Pipeline.Value
public import Idealize.ShloMosaic.Lib.StableHlo.ReadAt

@[expose] public section

set_option maxRecDepth 16384

noncomputable section

namespace Cert.FfnBlk

open Idealize.ShloMosaic Idealize.ShloMosaic.TcCoe Idealize.SL.Sem Idealize.ShloMosaic.Pipeline
open Cert.Reals Cert.FfnSpec Cert.FfnBody Cert.Kernel3Ideal Cert.Kernel3Ideal.Gen

variable {m : (ℓ : Loc nD τ sig) → Buf (Elt Ideal) ℓ} {c : Dev nD} {x d wi wo : ℕ → ℕ → ℝ} {g : ℕ → ℝ}

/-- The index maps of the windows, point by point. -/
theorem idx' : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![t.val, 0] ∧ win0_10.index t = ![t.val, 0] := by
  decide +kernel

/-- Row `r` of the block of grid point `t`. -/
def row (t : ℕ) (r : Fin 256) (h : t < 16) : Fin 4096 := ⟨t * 256 + r.val, by omega⟩

theorem row_val (t : ℕ) (r : Fin 256) (h : t < 16) : (row t r h : ℕ) = 256 * t + r.val := by
  show t * 256 + r.val = _
  omega

section
variable (hx : ∀ (i : Fin 4096) (j : Fin 1024), m (c, Proc.devRef .tc main_arg0) (ix2 i j) = (x i.val j.val : EReal))
include hx

theorem blk0 (t : Fin cfg0.N) (ht : t.val < 16) (r : Fin 256) (k : Fin 1024) : iblk m c 0 t (ix2 r k) = (x (256 * t.val + r.val) k.val : EReal) := by
  rw [← row_val t.val r ht, ← hx]
  blk_ext [iblk, V, idx' t, row]

variable (hg : ∀ j : Fin 1024, m (c, Proc.devRef .tc main_arg1) (ix1 j) = (g j.val : EReal))
  (hw : ∀ (i : Fin 1024) (j : Fin 5632), m (c, Proc.devRef .tc main_arg3) (ix2 i j) = (wi i.val j.val : EReal))
include hg hw

set_option maxHeartbeats 4000000 in
/-- The gate's and the up projection's rows, as the host prepares them. -/
theorem gu_host (i : Fin 4096) (j : Fin 5632) : V m c main_v16 (ix2 i j) = (gu x wi g i.val j.val : EReal) := by
  unfold V
  repeat after_reads_at
  pointwise
  simp only [hx, hg, hw, ofBits_1024, ofBits_eps, ← EReal.coe_mul, coe_sum, div_coe_coe _ n_ne, ← EReal.coe_add]
  rw [← ms, rsqrt_pos (ms_pos _ _), ← ri]
  simp only [← EReal.coe_mul, coe_sum, gu, xh]

theorem blk3 (t : Fin cfg0.N) (ht : t.val < 16) (r : Fin 256) (j : Fin 5632) : iblk m c 3 t (ix2 r j) = (gu x wi g (256 * t.val + r.val) j.val : EReal) := by
  rw [← row_val t.val r ht, ← gu_host hx hg hw]
  blk_ext [iblk, idx' t, row]
end

section
variable (hg : ∀ j : Fin 1024, m (c, Proc.devRef .tc main_arg1) (ix1 j) = (g j.val : EReal))
include hg

theorem gain_host (i : Fin 1024) : V m c main_v17 (ix2 0 i) = (g i.val : EReal) := by
  rw [← hg]
  unfold V
  repeat after_reads_at

theorem blk1 (t : Fin cfg0.N) (k : Fin 1024) : iblk m c 1 t (ix2 0 k) = (g k.val : EReal) := by
  rw [← gain_host (m := m) (c := c) hg]
  blk_ext [iblk, idx' t]
end

section
variable (hd : ∀ (i : Fin 4096) (j : Fin 1024), m (c, Proc.devRef .tc main_arg2) (ix2 i j) = (d i.val j.val : EReal))
include hd

theorem blk2 (t : Fin cfg0.N) (ht : t.val < 16) (r : Fin 256) (k : Fin 1024) : iblk m c 2 t (ix2 r k) = (d (256 * t.val + r.val) k.val : EReal) := by
  rw [← row_val t.val r ht, ← hd]
  blk_ext [iblk, V, idx' t, row]
end

section
variable (hw : ∀ (i : Fin 1024) (j : Fin 5632), m (c, Proc.devRef .tc main_arg3) (ix2 i j) = (wi i.val j.val : EReal))
include hw

theorem wi_host (j : Fin 5632) (i : Fin 1024) : V m c main_v19 (ix2 j i) = (wi i.val j.val : EReal) := by
  rw [← hw]
  unfold V
  repeat after_reads_at

theorem blk4 (t : Fin cfg0.N) (j : Fin 5632) (k : Fin 1024) : iblk m c 4 t (ix2 j k) = (wi k.val j.val : EReal) := by
  rw [← wi_host (m := m) (c := c) hw]
  blk_ext [iblk, idx' t]
end

section
variable (ho : ∀ (i : Fin 2816) (j : Fin 1024), m (c, Proc.devRef .tc main_arg4) (ix2 i j) = (wo i.val j.val : EReal))
include ho

theorem wo_host (j : Fin 2816) (i : Fin 1024) : V m c main_v20 (ix2 j i) = (wo j.val i.val : EReal) := by
  rw [← ho]
  unfold V
  repeat after_reads_at

theorem blk5 (t : Fin cfg0.N) (j : Fin 2816) (k : Fin 1024) : iblk m c 5 t (ix2 j k) = (wo j.val k.val : EReal) := by
  rw [← wo_host (m := m) (c := c) ho]
  blk_ext [iblk, idx' t]
end

end Cert.FfnBlk

end
-- ==== Proof.FfnKer.lean ====
/- What the backward of the feed-forward block leaves in its result arrays, on real arguments. -/
module

public import proofs.«01_k».proof.Proof.FfnBlk
public import proofs.«01_k».proof.Proof.AttnChain
public import Idealize.ShloMosaic.Lib.Pipeline.ValueKit
public import Idealize.ShloMosaic.Lib.Pipeline.Value

@[expose] public section

set_option maxRecDepth 16384

noncomputable section

namespace Cert.FfnKer
open Idealize.ShloMosaic Idealize.ShloMosaic.TcCoe Idealize.SL.Sem Idealize.ShloMosaic.Pipeline
open Cert.Reals Cert.FfnSpec Cert.FfnBody Cert.FfnBlk Cert.Kernel3Ideal Cert.Kernel3Ideal.Gen

variable {x d wi wo : ℕ → ℕ → ℝ} {g : ℕ → ℝ} {R : ℕ}

section
variable (x2 : Vec Ideal S256x1024 .f32) (x3 : Vec Ideal S256x5632 .bf16) (x5 : Vec Ideal S2816x1024 .bf16)

/-- The tiles of the gate's and the up projection's gradients that one block stores. -/
abbrev parts : List (View.Piece (Elt Ideal) S256x5632 .bf16) :=
  [⟨Rect.unit (s := S256x5632) ![0, 5376] S256x256.size inb_S256x5632_S256x256_0_5376, k0_pay36 (k0_pay3 x2) (View.ld x5 (Rect.unit (s := S2816x1024) ![2560, 0] S256x1024.size inb_S2816x1024_S256x1024_2560_0)) (View.ld x3 (Rect.unit (s := S256x5632) ![0, 2560] S256x256.size inb_S256x5632_S256x256_0_2560))⟩,
    ⟨Rect.unit (s := S256x5632) ![0, 2560] S256x256.size inb_S256x5632_S256x256_0_2560, k0_pay35 (k0_pay3 x2) (View.ld x5 (Rect.unit (s := S2816x1024) ![2560, 0] S256x1024.size inb_S2816x1024_S256x1024_2560_0)) (View.ld x3 (Rect.unit (s := S256x5632) ![0, 2560] S256x256.size inb_S256x5632_S256x256_0_2560)) (View.ld x3 (Rect.unit (s := S256x5632) ![0, 5376] S256x256.size inb_S256x5632_S256x256_0_5376))⟩,
    ⟨Rect.unit (s := S256x5632) ![0, 4864] S256x512.size inb_S256x5632_S256x512_0_4864, k0_pay31 (k0_pay26 (k0_pay3 x2) (View.ld x5 (Rect.unit (s := S2816x1024) ![2048, 0] S512x1024.size inb_S2816x1024_S512x1024_2048_0))) (k0_pay27 (View.ld x3 (Rect.unit (s := S256x5632) ![0, 2048] S256x512.size inb_S256x5632_S256x512_0_2048))) (k0_pay28 (View.ld x3 (Rect.unit (s := S256x5632) ![0, 2048] S256x512.size inb_S256x5632_S256x512_0_2048)))⟩,
    ⟨Rect.unit (s := S256x5632) ![0, 2048] S256x512.size inb_S256x5632_S256x512_0_2048, k0_pay30 (k0_pay29 (k0_pay3 x2) (View.ld x5 (Rect.unit (s := S2816x1024) ![2048, 0] S512x1024.size inb_S2816x1024_S512x1024_2048_0)) (View.ld x3 (Rect.unit (s := S256x5632) ![0, 2048] S256x512.size inb_S256x5632_S256x512_0_2048)) (View.ld x3 (Rect.unit (s := S256x5632) ![0, 4864] S256x512.size inb_S256x5632_S256x512_0_4864)))⟩,
    ⟨Rect.unit (s := S256x5632) ![0, 4352] S256x512.size inb_S256x5632_S256x512_0_4352, k0_pay25 (k0_pay19 (k0_pay3 x2) (View.ld x5 (Rect.unit (s := S2816x1024) ![1536, 0] S512x1024.size inb_S2816x1024_S512x1024_1536_0))) (k0_pay20 (View.ld x3 (Rect.unit (s := S256x5632) ![0, 1536] S256x512.size inb_S256x5632_S256x512_0_1536))) (k0_pay22 (View.ld x3 (Rect.unit (s := S256x5632) ![0, 1536] S256x512.size inb_S256x5632_S256x512_0_1536))) (FloatOps.ofBits (F := Ideal) FTy.f32 1065353216#32)⟩,
    ⟨Rect.unit (s := S256x5632) ![0, 1536] S256x512.size inb_S256x5632_S256x512_0_1536, k0_pay24 (k0_pay19 (k0_pay3 x2) (View.ld x5 (Rect.unit (s := S2816x1024) ![1536, 0] S512x1024.size inb_S2816x1024_S512x1024_1536_0))) (k0_pay20 (View.ld x3 (Rect.unit (s := S256x5632) ![0, 1536] S256x512.size inb_S256x5632_S256x512_0_1536))) (k0_pay21 (View.ld x3 (Rect.unit (s := S256x5632) ![0, 4352] S256x512.size inb_S256x5632_S256x512_0_4352))) (k0_pay22 (View.ld x3 (Rect.unit (s := S256x5632) ![0, 1536] S256x512.size inb_S256x5632_S256x512_0_1536))) (FloatOps.ofBits (F := Ideal) FTy.f32 1065353216#32)⟩,
    ⟨Rect.unit (s := S256x5632) ![0, 3840] S256x512.size inb_S256x5632_S256x512_0_3840, k0_pay18 (k0_pay14 (k0_pay3 x2) (View.ld x5 (Rect.unit (s := S2816x1024) ![1024, 0] S512x1024.size inb_S2816x1024_S512x1024_1024_0))) (k0_pay15 (View.ld x3 (Rect.unit (s := S256x5632) ![0, 1024] S256x512.size inb_S256x5632_S256x512_0_1024)))⟩,
    ⟨Rect.unit (s := S256x5632) ![0, 1024] S256x512.size inb_S256x5632_S256x512_0_1024, k0_pay17 (k0_pay14 (k0_pay3 x2) (View.ld x5 (Rect.unit (s := S2816x1024) ![1024, 0] S512x1024.size inb_S2816x1024_S512x1024_1024_0))) (k0_pay15 (View.ld x3 (Rect.unit (s := S256x5632) ![0, 1024] S256x512.size inb_S256x5632_S256x512_0_1024))) (View.ld x3 (Rect.unit (s := S256x5632) ![0, 3840] S256x512.size inb_S256x5632_S256x512_0_3840))⟩,
    ⟨Rect.unit (s := S256x5632) ![0, 3328] S256x512.size inb_S256x5632_S256x512_0_3328, k0_pay13 (k0_pay3 x2) (View.ld x5 (Rect.unit (s := S2816x1024) ![512, 0] S512x1024.size inb_S2816x1024_S512x1024_512_0)) (View.ld x3 (Rect.unit (s := S256x5632) ![0, 512] S256x512.size inb_S256x5632_S256x512_0_512))⟩,
    ⟨Rect.unit (s := S256x5632) ![0, 512] S256x512.size inb_S256x5632_S256x512_0_512, k0_pay12 (k0_pay3 x2) (View.ld x5 (Rect.unit (s := S2816x1024) ![512, 0] S512x1024.size inb_S2816x1024_S512x1024_512_0)) (View.ld x3 (Rect.unit (s := S256x5632) ![0, 512] S256x512.size inb_S256x5632_S256x512_0_512)) (View.ld x3 (Rect.unit (s := S256x5632) ![0, 3328] S256x512.size inb_S256x5632_S256x512_0_3328))⟩,
    ⟨Rect.unit (s := S256x5632) ![0, 2816] S256x512.size inb_S256x5632_S256x512_0_2816, k0_pay8 x2 (View.ld x5 (Rect.unit (s := S2816x1024) ![0, 0] S512x1024.size inb_S2816x1024_S512x1024_0_0)) (View.ld x3 (Rect.unit (s := S256x5632) ![0, 0] S256x512.size inb_S256x5632_S256x512_0_0))⟩,
    ⟨Rect.unit (s := S256x5632) ![0, 0] S256x512.size inb_S256x5632_S256x512_0_0, k0_pay7 x2 (View.ld x5 (Rect.unit (s := S2816x1024) ![0, 0] S512x1024.size inb_S2816x1024_S512x1024_0_0)) (View.ld x3 (Rect.unit (s := S256x5632) ![0, 0] S256x512.size inb_S256x5632_S256x512_0_0)) (View.ld x3 (Rect.unit (s := S256x5632) ![0, 2816] S256x512.size inb_S256x5632_S256x512_0_2816))⟩]

variable {x2 x3 x5} (h2 : ∀ (r : Fin 256) (k : Fin 1024), x2 (ix2 r k) = (d (R + r.val) k.val : EReal))
  (h3 : ∀ (r : Fin 256) (j : Fin 5632), x3 (ix2 r j) = (gu x wi g (R + r.val) j.val : EReal))
  (h5 : ∀ (j : Fin 2816) (k : Fin 1024), x5 (ix2 j k) = (wo j.val k.val : EReal))

section
variable {o p : ℕ} (hp : p = 2816 + o) {C : ℕ} (hC : o + C ≤ 2816)
  (i5 : ∀ a, (![o, 0] : Fin 2 → ℕ) a + (⟨2, ![C, 1024]⟩ : Shape).size a ≤ S2816x1024.size a)
  (i3 : ∀ a, (![0, o] : Fin 2 → ℕ) a + (⟨2, ![256, C]⟩ : Shape).size a ≤ S256x5632.size a)
  (i3' : ∀ a, (![0, p] : Fin 2 → ℕ) a + (⟨2, ![256, C]⟩ : Shape).size a ≤ S256x5632.size a)

include h5 hC in
/-- A chunk of the second weight. -/
theorem ldw (n : Fin C) (k : Fin 1024) : View.ld x5 (Rect.unit (s := S2816x1024) ![o, 0] (⟨2, ![C, 1024]⟩ : Shape).size i5) (ix2 n k) = (wo (o + n.val) k.val : EReal) := by
  refine (AttnChain.ld2 (e := .bf16) x5 i5 n k (by omega) (by omega)).trans ((h5 _ _).trans ?_)
  simp only [zero_add]

include h3 hC in
/-- A chunk of the gate. -/
theorem ldg (r : Fin 256) (n : Fin C) : View.ld x3 (Rect.unit (s := S256x5632) ![0, o] (⟨2, ![256, C]⟩ : Shape).size i3) (ix2 r n) = (gu x wi g (R + r.val) (o + n.val) : EReal) := by
  refine (AttnChain.ld2 (e := .bf16) x3 i3 r n (by omega) (by omega)).trans ((h3 _ _).trans ?_)
  simp only [zero_add]

include h3 hC hp in
/-- A chunk of the up projection. -/
theorem ldu (r : Fin 256) (n : Fin C) : View.ld x3 (Rect.unit (s := S256x5632) ![0, p] (⟨2, ![256, C]⟩ : Shape).size i3') (ix2 r n) = (gu x wi g (R + r.val) (2816 + (o + n.val)) : EReal) := by
  refine (AttnChain.ld2 (e := .bf16) x3 i3' r n (by omega) (by omega)).trans ((h3 _ _).trans ?_)
  simp only [zero_add, hp, Nat.add_assoc]
end

/-- A column of the gate's half. -/
theorem dgu_lo {r r' j o n : ℕ} (hr : r' = r) (hj : j = o + n) (h : o + n < 2816) : dgt x d wi wo g (R + r) (o + n) = dgu x d wi wo g (R + r') j := by
  rw [hr, hj, dgu, if_pos h]

/-- A column of the up projection's half. -/
theorem dgu_hi {r r' j p o n : ℕ} (hr : r' = r) (hj : j = p + n) (hp : p = 2816 + o) : dup x d wi wo g (R + r) (o + n) = dgu x d wi wo g (R + r') j := by
  rw [hr, dgu, if_neg (by omega), show j - 2816 = o + n by omega]

include h2 h3 h5 in
/-- The tiles read back: both gradients, side by side. -/
theorem parts_at (r : Fin 256) (j : Fin 5632) : View.canon (parts x2 x3 x5) (ix2 r j) = (dgu x d wi wo g (R + r.val) j.val : EReal) := by
  canon_tiles q h using View.cover_of_tiledBy (parts x2 x3 x5) ![256, 256] (by sl_kernel_rfl) (ix2 r j)
  all_goals
    rw [ix2_0] at h0
    rw [ix2_1] at h1
    rw [eq_ix2 q]
  · exact (pay36 (pay3 h2) (ldw h5 (o := 2560) (C := 256) (by omega) _) (ldg h3 (o := 2560) (C := 256) (by omega) _) (q 0) (q 1)).trans (congrArg _ (dgu_hi h0 h1 rfl))
  · exact (pay35 (pay3 h2) (ldw h5 (o := 2560) (C := 256) (by omega) _) (ldg h3 (o := 2560) (C := 256) (by omega) _) (ldu h3 (o := 2560) (p := 5376) (C := 256) rfl (by omega) _) (q 0) (q 1)).trans (congrArg _ (dgu_lo h0 h1 (by omega)))
  · exact (pay13 (pay3 h2) (ldw h5 (o := 2048) (C := 512) (by omega) _) (ldg h3 (o := 2048) (C := 512) (by omega) _) (q 0) (q 1)).trans (congrArg _ (dgu_hi h0 h1 rfl))
  · exact (pay12 (pay3 h2) (ldw h5 (o := 2048) (C := 512) (by omega) _) (ldg h3 (o := 2048) (C := 512) (by omega) _) (ldu h3 (o := 2048) (p := 4864) (C := 512) rfl (by omega) _) (q 0) (q 1)).trans (congrArg _ (dgu_lo h0 h1 (by omega)))
  · exact (pay13 (pay3 h2) (ldw h5 (o := 1536) (C := 512) (by omega) _) (ldg h3 (o := 1536) (C := 512) (by omega) _) (q 0) (q 1)).trans (congrArg _ (dgu_hi h0 h1 rfl))
  · exact (pay12 (pay3 h2) (ldw h5 (o := 1536) (C := 512) (by omega) _) (ldg h3 (o := 1536) (C := 512) (by omega) _) (ldu h3 (o := 1536) (p := 4352) (C := 512) rfl (by omega) _) (q 0) (q 1)).trans (congrArg _ (dgu_lo h0 h1 (by omega)))
  · exact (pay13 (pay3 h2) (ldw h5 (o := 1024) (C := 512) (by omega) _) (ldg h3 (o := 1024) (C := 512) (by omega) _) (q 0) (q 1)).trans (congrArg _ (dgu_hi h0 h1 rfl))
  · exact (pay12 (pay3 h2) (ldw h5 (o := 1024) (C := 512) (by omega) _) (ldg h3 (o := 1024) (C := 512) (by omega) _) (ldu h3 (o := 1024) (p := 3840) (C := 512) rfl (by omega) _) (q 0) (q 1)).trans (congrArg _ (dgu_lo h0 h1 (by omega)))
  · exact (pay13 (pay3 h2) (ldw h5 (o := 512) (C := 512) (by omega) _) (ldg h3 (o := 512) (C := 512) (by omega) _) (q 0) (q 1)).trans (congrArg _ (dgu_hi h0 h1 rfl))
  · exact (pay12 (pay3 h2) (ldw h5 (o := 512) (C := 512) (by omega) _) (ldg h3 (o := 512) (C := 512) (by omega) _) (ldu h3 (o := 512) (p := 3328) (C := 512) rfl (by omega) _) (q 0) (q 1)).trans (congrArg _ (dgu_lo h0 h1 (by omega)))
  · exact (pay13 (pay3 h2) (ldw h5 (o := 0) (C := 512) (by omega) _) (ldg h3 (o := 0) (C := 512) (by omega) _) (q 0) (q 1)).trans (congrArg _ (dgu_hi h0 h1 rfl))
  · exact (pay12 (pay3 h2) (ldw h5 (o := 0) (C := 512) (by omega) _) (ldg h3 (o := 0) (C := 512) (by omega) _) (ldu h3 (o := 0) (p := 2816) (C := 512) rfl (by omega) _) (q 0) (q 1)).trans (congrArg _ (dgu_lo h0 (h1.trans (zero_add _).symm) (by omega)))
end

variable (m : (ℓ : Loc nD τ sig) → Buf (Elt Ideal) ℓ) (c : Dev nD)
  (hx : ∀ (i : Fin 4096) (j : Fin 1024), m (c, Proc.devRef .tc main_arg0) (ix2 i j) = (x i.val j.val : EReal))
  (hg : ∀ j : Fin 1024, m (c, Proc.devRef .tc main_arg1) (ix1 j) = (g j.val : EReal))
  (hd : ∀ (i : Fin 4096) (j : Fin 1024), m (c, Proc.devRef .tc main_arg2) (ix2 i j) = (d i.val j.val : EReal))
  (hw : ∀ (i : Fin 1024) (j : Fin 5632), m (c, Proc.devRef .tc main_arg3) (ix2 i j) = (wi i.val j.val : EReal))
  (ho : ∀ (i : Fin 2816) (j : Fin 1024), m (c, Proc.devRef .tc main_arg4) (ix2 i j) = (wo i.val j.val : EReal))

section
include hx hg hd hw ho

/-- The tiles of a grid point read back. -/
theorem tiles (t : Fin cfg0.N) (ht : t.val < 16) (r : Fin 256) (j : Fin 5632) :
    View.canon (parts (iblk m c 2 t) (iblk m c 3 t) (iblk m c 5 t)) (ix2 r j) = (dgu x d wi wo g (256 * t.val + r.val) j.val : EReal) :=
  parts_at (blk2 hd t ht) (blk3 hx hg hw t ht) (blk5 ho t) r j

/-- The same, through the load that the body makes of what it has stored. -/
theorem tiles_ld (t : Fin cfg0.N) (ht : t.val < 16) {sp : Space} (v : View sig .tc sp S256x5632 .bf16) (inb) (r : Fin 256) (j : Fin 5632) :
    v.readCov (parts (iblk m c 2 t) (iblk m c 3 t) (iblk m c 5 t)) (Rect.unit (s := S256x5632) ![0, 0] S256x5632.size inb).toLoadRect (ix2 r j)
      = (dgu x d wi wo g (256 * t.val + r.val) j.val : EReal) := by
  rw [View.readCov_eq_canon']
  refine Eq.trans (congrArg _ ?_) (tiles m c hx hg hd hw ho t ht r j)
  funext a
  refine Fin.ext ?_
  match a with
  | ⟨0, _⟩ => exact (ValueKit.rect_emb_unit_val _ _ _ _ _).trans (zero_add _)
  | ⟨1, _⟩ => exact (ValueKit.rect_emb_unit_val _ _ _ _ _).trans (zero_add _)

/-- The rows' gradient of a block. -/
theorem out6 (t : Fin cfg0.N) (ht : t.val < 16) (r : Fin 256) (k : Fin 1024) :
    (outsAt0 m c t.val t.isLt).1 (ix2 r k) = (dx x d wi wo g (256 * t.val + r.val) k.val : EReal) := by
  by_cases h0 : t.val % 16 = 0
  · rw [outsAt0_A m c t h0 (by omega)]
    frame_out
    exact pay1 (blk0 hx t ht) (blk1 hg t) (blk2 hd t ht) (blk4 hw t) (tiles_ld m c hx hg hd hw ho t ht _ _) r k
  · rw [outsAt0_B m c t h0 (by omega)]
    frame_out
    exact pay1 (blk0 hx t ht) (blk1 hg t) (blk2 hd t ht) (blk4 hw t) (tiles_ld m c hx hg hd hw ho t ht _ _) r k

/-- The gradient of the gate's and the up projection's rows of a block. -/
theorem out7 (t : Fin cfg0.N) (ht : t.val < 16) (r : Fin 256) (j : Fin 5632) :
    (outsAt0 m c t.val t.isLt).2.1 (ix2 r j) = (dgu x d wi wo g (256 * t.val + r.val) j.val : EReal) := by
  by_cases h0 : t.val % 16 = 0
  · rw [outsAt0_A m c t h0 (by omega)]
    frame_out
    exact tiles m c hx hg hd hw ho t ht r j
  · rw [outsAt0_B m c t h0 (by omega)]
    frame_out
    exact tiles m c hx hg hd hw ho t ht r j
end

/-- A row added to the row stored before. -/
theorem added {P Q : Vec Ideal S1x1024 .f32} {k : Fin 1024} {v : EReal} (h : P (ix2 0 k) = v) : k0_pay2 (F := Ideal) P Q (ix2 0 k) = Q (ix2 0 k) + v := by
  pointwise [k0_pay2]
  rw [h]

/-- Row sums over the blocks are sums over all rows. -/
theorem sum_rows {N : ℕ} (hN : N = 16) (f : ℕ → ℝ) : ∑ t : Fin N, ∑ r : Fin 256, f (256 * t.val + r.val) = ∑ i : Fin 4096, f i.val := by
  subst hN
  refine Eq.trans ?_ (Fin.sum_univ_univ_mul_add 16 256 f)
  simp only [Nat.mul_comm]

section
include hx hg hd hw ho

/-- A block's part of the gain's gradient. -/
theorem part8 (t : Fin cfg0.N) (ht : t.val < 16) {sp : Space} (v : View sig .tc sp S256x5632 .bf16) (inb) (k : Fin 1024) :
    k0_pay42 (F := Ideal) (v.readCov (parts (iblk m c 2 t) (iblk m c 3 t) (iblk m c 5 t)) (Rect.unit (s := S256x5632) ![0, 0] S256x5632.size inb).toLoadRect)
      (iblk m c 4 t) (iblk m c 0 t) (ix2 0 k) = ((∑ r : Fin 256, dg x d wi wo g (256 * t.val + r.val) k.val : ℝ) : EReal) :=
  pay42 (blk0 hx t ht) (blk4 hw t) (tiles_ld m c hx hg hd hw ho t ht v inb) k

/-- The first point stores its part. -/
theorem out8_A (t : Fin cfg0.N) (ht : t.val < 16) (h0 : t.val % 16 = 0) (k : Fin 1024) :
    (outsAt0 m c t.val t.isLt).2.2.1 (ix2 0 k) = ((∑ r : Fin 256, dg x d wi wo g (256 * t.val + r.val) k.val : ℝ) : EReal) := by
  rw [outsAt0_A m c t h0 (by omega)]
  frame_out
  exact part8 m c hx hg hd hw ho t ht _ _ k

/-- A later point adds its part. -/
theorem out8_B (t : Fin cfg0.N) (ht : t.val < 16) (h0 : ¬t.val % 16 = 0) (k : Fin 1024) :
    (outsAt0 m c t.val t.isLt).2.2.1 (ix2 0 k)
      = (outsAt0 m c (t.val - 1) (Nat.lt_of_le_of_lt (Nat.sub_le _ _) t.isLt)).2.2.1 (ix2 0 k) + ((∑ r : Fin 256, dg x d wi wo g (256 * t.val + r.val) k.val : ℝ) : EReal) := by
  rw [outsAt0_B m c t h0 (by omega)]
  frame_out
  exact added (part8 m c hx hg hd hw ho t ht (ms0_7 t).view inb_S256x5632_S256x5632_0_0 k)

/-- The gain's gradient after the last point: the blocks' parts added. -/
theorem out8 (k : Fin 1024) :
    (outsAt0 m c t0_15.val t0_15.isLt).2.2.1 (ix2 0 k) = ((∑ i : Fin 4096, dg x d wi wo g i.val k.val : ℝ) : EReal) := by
  have hN : cfg0.N = 16 := N_0
  have lt (t : Fin cfg0.N) : t.val < 16 := lt_of_lt_of_eq t.isLt hN
  have key := Pipeline.eq_sum_fin_of_reset_step_apply_last (fun n h => (outsAt0 m c n h).2.2.1) 16 0
    (fun t (y : S1x1024.Idx) => ((∑ r : Fin 256, dg x d wi wo g (256 * t.val + r.val) (y 1).val : ℝ) : EReal))
    (fun t h y => by
      idx_vars y
      obtain rfl : y0 = 0 := Subsingleton.elim _ _
      exact (out8_A m c hx hg hd hw ho t (lt t) h _).trans (zero_add _).symm)
    (fun t h y => by
      idx_vars y
      obtain rfl : y0 = 0 := Subsingleton.elim _ _
      exact out8_B m c hx hg hd hw ho t (lt t) h _)
    (by decide) t0_15 (by decide) (ix2 0 k)
  refine key.trans ?_
  rw [show (0 : S1x1024.Idx → EReal) (ix2 0 k) = 0 from rfl, zero_add, coe_sum]
  exact congrArg _ (sum_rows hN fun i => dg x d wi wo g i k.val)
end

section
include hx hg

/-- The scaled normalised rows of a block. -/
theorem out9 (t : Fin cfg0.N) (ht : t.val < 16) (r : Fin 256) (k : Fin 1024) :
    (outsAt0 m c t.val t.isLt).2.2.2.1 (ix2 r k) = ((xh x (256 * t.val + r.val) k.val * g k.val : ℝ) : EReal) := by
  by_cases h0 : t.val % 16 = 0
  · rw [outsAt0_A m c t h0 (by omega)]
    frame_out
    exact pay40 (blk0 hx t ht) (blk1 hg t) r k
  · rw [outsAt0_B m c t h0 (by omega)]
    frame_out
    exact pay40 (blk0 hx t ht) (blk1 hg t) r k
end

include hd in
/-- The halved gradient of a block. -/
theorem out10 (t : Fin cfg0.N) (ht : t.val < 16) (r : Fin 256) (k : Fin 1024) :
    (outsAt0 m c t.val t.isLt).2.2.2.2 (ix2 r k) = ((1 / 2 * d (256 * t.val + r.val) k.val : ℝ) : EReal) := by
  by_cases h0 : t.val % 16 = 0
  · rw [outsAt0_A m c t h0 (by omega)]
    frame_out
    exact pay3 (blk2 hd t ht) r k
  · rw [outsAt0_B m c t h0 (by omega)]
    frame_out
    exact pay3 (blk2 hd t ht) r k

section
include hx hg hd hw ho

/-- The rows' gradient after the run. -/
theorem arr6 : (dats m 0 c).arrAt 6 cfg0.N = (fun i => (dx x d wi wo g (i 0).val (i 1).val : EReal) : FVec Ideal S4096x1024 .f32) := by
  refine (dats m 0 c).arrAt_eq_of_covers 6 _ (by decide +kernel) fun t hf y => ?_
  have ht := lt_of_lt_of_eq t.isLt N_0
  have e : ((cfg0.win 6).blk t).view.emb y = (ix2 (row t.val (y 0) ht) (y 1) : S4096x1024.Idx) := by
    blk_ext [idx' t, row]
  rw [e, after0_6]
  refine Eq.trans (congrArg (outsAt0 m c t.val t.isLt).1 (eq_ix2 y)) ((out6 m c hx hg hd hw ho t ht (y 0) (y 1)).trans ?_)
  rw [← row_val t.val (y 0) ht]
  rfl

/-- The gradient of the gate's and the up projection's rows after the run. -/
theorem arr7 : (dats m 0 c).arrAt 7 cfg0.N = (fun i => (dgu x d wi wo g (i 0).val (i 1).val : EReal) : FVec Ideal S4096x5632 .bf16) := by
  refine (dats m 0 c).arrAt_eq_of_covers 7 _ (by decide +kernel) fun t hf y => ?_
  have ht := lt_of_lt_of_eq t.isLt N_0
  have e : ((cfg0.win 7).blk t).view.emb y = (ix2 (row t.val (y 0) ht) (y 1) : S4096x5632.Idx) := by
    blk_ext [idx' t, row]
  rw [e, after0_7]
  refine Eq.trans (congrArg (outsAt0 m c t.val t.isLt).2.1 (eq_ix2 y)) ((out7 m c hx hg hd hw ho t ht (y 0) (y 1)).trans ?_)
  rw [← row_val t.val (y 0) ht]
  rfl

/-- The gain's gradient after the run. -/
theorem arr8 : (dats m 0 c).arrAt 8 cfg0.N = (fun i => ((∑ r : Fin 4096, dg x d wi wo g r.val (i 1).val : ℝ) : EReal) : FVec Ideal S1x1024 .f32) := by
  refine (dats m 0 c).arrAt_eq_of_after_last 8 t0_15 (by decide +kernel) _ fun y => ?_
  rw [after0_8]
  refine Eq.trans ?_ (out8 m c hx hg hd hw ho (y 1))
  refine congrArg (outsAt0 m c t0_15.val t0_15.isLt).2.2.1 ?_
  blk_ext []
end

include hx hg in
/-- The scaled normalised rows after the run. -/
theorem arr9 : (dats m 0 c).arrAt 9 cfg0.N = (fun i => ((xh x (i 0).val (i 1).val * g (i 1).val : ℝ) : EReal) : FVec Ideal S4096x1024 .bf16) := by
  refine (dats m 0 c).arrAt_eq_of_covers 9 _ (by decide +kernel) fun t hf y => ?_
  have ht := lt_of_lt_of_eq t.isLt N_0
  have e : ((cfg0.win 9).blk t).view.emb y = (ix2 (row t.val (y 0) ht) (y 1) : S4096x1024.Idx) := by
    blk_ext [idx' t, row]
  rw [e, after0_9]
  refine Eq.trans (congrArg (outsAt0 m c t.val t.isLt).2.2.2.1 (eq_ix2 y)) ((out9 m c hx hg t ht (y 0) (y 1)).trans ?_)
  rw [← row_val t.val (y 0) ht]
  rfl

include hd in
/-- The halved gradient after the run. -/
theorem arr10 : (dats m 0 c).arrAt 10 cfg0.N = (fun i => ((1 / 2 * d (i 0).val (i 1).val : ℝ) : EReal) : FVec Ideal S4096x1024 .bf16) := by
  refine (dats m 0 c).arrAt_eq_of_covers 10 _ (by decide +kernel) fun t hf y => ?_
  have ht := lt_of_lt_of_eq t.isLt N_0
  have e : ((cfg0.win 10).blk t).view.emb y = (ix2 (row t.val (y 0) ht) (y 1) : S4096x1024.Idx) := by
    blk_ext [idx' t, row]
  rw [e, after0_10]
  refine Eq.trans (congrArg (outsAt0 m c t.val t.isLt).2.2.2.2 (eq_ix2 y)) ((out10 m c hd t ht (y 0) (y 1)).trans ?_)
  rw [← row_val t.val (y 0) ht]
  rfl

end Cert.FfnKer

end
-- ==== Proof.FfnRef.lean ====
/- What the reference of the feed-forward block's backward computes on real arguments. -/
module

public import proofs.«01_k».proof.Proof.Gen.Reference3Ideal.Read
public import proofs.«01_k».proof.Proof.FfnSpec
public import Idealize.ShloMosaic.Lib.Pointwise

@[expose] public section

set_option maxRecDepth 16384

noncomputable section

namespace Cert.FfnRef

open Idealize.ShloMosaic Cert.Reals Cert.FfnSpec Cert.Reference3Ideal Cert.Reference3Ideal.Gen Cert.Reference3Ideal.Read

variable {A D : FVec Ideal S4096x1024 .f32} {B : FVec Ideal S1024 .f32} {W : FVec Ideal S1024x5632 .f32} {O : FVec Ideal S2816x1024 .f32}
  {x d wi wo : ℕ → ℕ → ℝ} {g : ℕ → ℝ}

/-- 1024 is not zero. -/
theorem n_ne : (1024 : ℝ) ≠ 0 := by norm_num

section
variable (hA : ∀ (i : Fin 4096) (j : Fin 1024), A (ix2 i j) = (x i.val j.val : EReal))
include hA

theorem v6 (i : Fin 4096) : val_main_v6 (F := Ideal) A (ix2 i 0) = (ms x i.val : EReal) := by
  pointwise [val_main_v6, val_main_v4, val_main_v5, val_main_v2, val_main_v3, val_main_v1, val_main_v0, val_main_cst, val_main_cst_0, val_main_cst_1]
  simp only [hA, ofBits_1024, ofBits_eps, ← EReal.coe_mul, coe_sum, div_coe_coe _ n_ne, ← EReal.coe_add, ms]

theorem v7 (i : Fin 4096) : val_main_v7 (F := Ideal) A (ix2 i 0) = (ri x i.val : EReal) := by
  unfold val_main_v7
  pointwise
  rw [v6 hA, rsqrt_pos (ms_pos _ _), ri]

theorem v10 (i : Fin 4096) : val_main_v10 (F := Ideal) A (ix2 i 0) = ((-(1 / 2) * (ri x i.val / ms x i.val) : ℝ) : EReal) := by
  pointwise [val_main_v10, val_main_v9, val_main_v8, val_main_cst_2]
  simp only [v6 hA, v7 hA, ofBits_neg_half, div_coe_coe _ (ms_pos _ _).ne', ← EReal.coe_mul]

theorem v12 (i : Fin 4096) (j : Fin 1024) : val_main_v12 (F := Ideal) A (ix2 i j) = (xh x i.val j.val : EReal) := by
  pointwise [val_main_v12, val_main_v11]
  simp only [v7 hA, hA, ← EReal.coe_mul, xh]

variable (hB : ∀ j : Fin 1024, B (ix1 j) = (g j.val : EReal))
include hB

theorem v15 (i : Fin 4096) (j : Fin 1024) : val_main_v15 (F := Ideal) A B (ix2 i j) = ((xh x i.val j.val * g j.val : ℝ) : EReal) := by
  pointwise [val_main_v15, val_main_v14, val_main_v13]
  simp only [v12 hA, hB, ← EReal.coe_mul]

variable (hW : ∀ (i : Fin 1024) (j : Fin 5632), W (ix2 i j) = (wi i.val j.val : EReal))
include hW

theorem v16 (i : Fin 4096) (j : Fin 5632) : val_main_v16 (F := Ideal) A B W (ix2 i j) = (gu x wi g i.val j.val : EReal) := by
  pointwise [val_main_v16]
  simp only [v15 hA hB, hW, ← EReal.coe_mul, coe_sum, gu]

theorem v17 (i : Fin 4096) (f : Fin 2816) : val_main_v17 (F := Ideal) A B W (ix2 i f) = (gu x wi g i.val f.val : EReal) := by
  pointwise [val_main_v17]
  rw [v16 hA hB hW]

theorem v18 (i : Fin 4096) (f : Fin 2816) : val_main_v18 (F := Ideal) A B W (ix2 i f) = (gu x wi g i.val (2816 + f.val) : EReal) := by
  pointwise [val_main_v18]
  rw [v16 hA hB hW]

theorem v19_2 (i : Fin 4096) (f : Fin 2816) : val_main_v19_2 (F := Ideal) A B W (ix2 i f) = (sg (gu x wi g i.val f.val) : EReal) := by
  pointwise [val_main_v19_2, val_main_call0_v4, val_main_call0_v3, val_main_call0_v2, val_main_call0_v1, val_main_call0_v0, val_main_call0_cst, val_main_call0_cst_0]
  rw [v17 hA hB hW]
  simp only [← EReal.coe_neg, Ideal.exp_coe, ← EReal.coe_one, ← EReal.coe_add, div_coe_coe _ (sg_pos _), sg]

theorem v19_1 (i : Fin 4096) (f : Fin 2816) : val_main_v19_1 (F := Ideal) A B W (ix2 i f)
    = ((sg (gu x wi g i.val f.val) * (1 - sg (gu x wi g i.val f.val)) : ℝ) : EReal) := by
  pointwise [val_main_v19_1, val_main_call0_v7, val_main_call0_v6, val_main_call0_cst_1]
  rw [v19_2 hA hB hW]
  simp only [← EReal.coe_one, ← EReal.coe_sub, ← EReal.coe_mul]

theorem v19_0 (i : Fin 4096) (f : Fin 2816) : val_main_v19_0 (F := Ideal) A B W (ix2 i f)
    = ((gu x wi g i.val f.val * sg (gu x wi g i.val f.val) : ℝ) : EReal) := by
  pointwise [val_main_v19_0]
  rw [v19_2 hA hB hW, v17 hA hB hW, ← EReal.coe_mul]
end

section
variable (hD : ∀ (i : Fin 4096) (j : Fin 1024), D (ix2 i j) = (d i.val j.val : EReal))
  (hO : ∀ (i : Fin 2816) (j : Fin 1024), O (ix2 i j) = (wo i.val j.val : EReal))
include hD

theorem v25 : val_main_v25 (F := Ideal) D = D := by
  funext i
  idx_vars i
  pointwise [val_main_v25]

theorem v27 (i : Fin 4096) (j : Fin 1024) : val_main_v27 (F := Ideal) D (ix2 i j) = ((1 / 2 * d i.val j.val : ℝ) : EReal) := by
  pointwise [val_main_v27, val_main_v26, val_main_cst_4]
  rw [v25 hD, hD, ofBits_half, ← EReal.coe_mul]

include hO

theorem v28 (i : Fin 4096) (f : Fin 2816) : val_main_v28 (F := Ideal) D O (ix2 i f) = (da d wo i.val f.val : EReal) := by
  pointwise [val_main_v28]
  simp only [v27 hD, hO, ← EReal.coe_mul, coe_sum, da]
end

section
variable (hA : ∀ (i : Fin 4096) (j : Fin 1024), A (ix2 i j) = (x i.val j.val : EReal)) (hB : ∀ j : Fin 1024, B (ix1 j) = (g j.val : EReal))
  (hD : ∀ (i : Fin 4096) (j : Fin 1024), D (ix2 i j) = (d i.val j.val : EReal))
  (hW : ∀ (i : Fin 1024) (j : Fin 5632), W (ix2 i j) = (wi i.val j.val : EReal))
  (hO : ∀ (i : Fin 2816) (j : Fin 1024), O (ix2 i j) = (wo i.val j.val : EReal))
include hA hB hD hW hO

theorem v29 (i : Fin 4096) (f : Fin 2816) : val_main_v29 (F := Ideal) A B D W O (ix2 i f) = (dup x d wi wo g i.val f.val : EReal) := by
  pointwise [val_main_v29]
  rw [v28 hD hO, v19_0 hA hB hW, ← EReal.coe_mul, dup, mul_comm]

theorem v30 (i : Fin 4096) (f : Fin 2816) : val_main_v30 (F := Ideal) A B D W O (ix2 i f)
    = ((da d wo i.val f.val * gu x wi g i.val (2816 + f.val) : ℝ) : EReal) := by
  pointwise [val_main_v30]
  rw [v28 hD hO, v18 hA hB hW, ← EReal.coe_mul]

theorem v31 (i : Fin 4096) (f : Fin 2816) : val_main_v31 (F := Ideal) A B D W O (ix2 i f) = (dgt x d wi wo g i.val f.val : EReal) := by
  pointwise [val_main_v31, val_main_call1_v0, val_main_call1_v1, val_main_call1_v2]
  rw [v30 hA hB hD hW hO, v17 hA hB hW, v19_2 hA hB hW, v19_1 hA hB hW]
  simp only [← EReal.coe_add, ← EReal.coe_mul, dgt]
  congr 1; ring

theorem v32 (i : Fin 4096) (j : Fin 5632) : val_main_v32 (F := Ideal) A B D W O (ix2 i j) = (dgu x d wi wo g i.val j.val : EReal) := by
  pointwise [val_main_v32]
  unfold dgu
  by_cases h : j.val < 2816
  · simp only [h, ↓reduceDIte, ↓reduceIte, v31 hA hB hD hW hO]
  · simp only [h, ↓reduceDIte, ↓reduceIte, v29 hA hB hD hW hO]

theorem v33 (i : Fin 4096) (j : Fin 1024) : val_main_v33 (F := Ideal) A B D W O (ix2 i j) = (dh x d wi wo g i.val j.val : EReal) := by
  pointwise [val_main_v33]
  simp only [v32 hA hB hD hW hO, hW, ← EReal.coe_mul, coe_sum, dh]

/-- The gradient of the gain. -/
theorem v84 (j : Fin 1024) : val_main_v84 (F := Ideal) A B D W O (ix2 0 j) = ((∑ i : Fin 4096, dg x d wi wo g i.val j.val : ℝ) : EReal) := by
  pointwise [val_main_v84, val_main_v39, val_main_v36, val_main_v35, val_main_v34, val_main_cst_5, val_main_cst_6]
  simp only [v12 hA, v33 hA hB hD hW hO, ← EReal.coe_mul, coe_sum, dg, mul_comm, Fin.sum_univ_one]

theorem v38 (i : Fin 4096) (j : Fin 1024) : val_main_v38 (F := Ideal) A B D W O (ix2 i j) = ((dh x d wi wo g i.val j.val * g j.val : ℝ) : EReal) := by
  pointwise [val_main_v38, val_main_v37, val_main_v13]
  simp only [v33 hA hB hD hW hO, hB, ← EReal.coe_mul]

theorem v48 (i : Fin 4096) : val_main_v48 (F := Ideal) A B D W O (ix2 i 0)
    = (((∑ k : Fin 1024, dh x d wi wo g i.val k.val * g k.val * x i.val k.val) * (-(1 / 2) * (ri x i.val / ms x i.val)) / 1024 : ℝ) : EReal) := by
  pointwise [val_main_v48, val_main_v47, val_main_v46, val_main_v42, val_main_v41, val_main_v40, val_main_cst_7, val_main_cst_8]
  simp only [v10 hA, v38 hA hB hD hW hO, ofBits_1024, hA, ← EReal.coe_mul, coe_sum, div_coe_coe _ n_ne]
  simp only [mul_comm (x i.val _)]

/-- The gradient of the rows. -/
theorem v54 (i : Fin 4096) (j : Fin 1024) : val_main_v54 (F := Ideal) A B D W O (ix2 i j) = (dx x d wi wo g i.val j.val : EReal) := by
  pointwise [val_main_v54, val_main_v53, val_main_v52, val_main_v51, val_main_v50, val_main_v49, val_main_v45, val_main_v44, val_main_v43, val_main_cst_9]
  simp only [Fin.sum_univ_one, v48 hA hB hD hW hO, v38 hA hB hD hW hO, v7 hA, hA, hD, ← EReal.coe_mul, coe_sum, ← EReal.coe_add]
  have e := rms_grad (ms_pos x i.val) (dh x d wi wo g i.val j.val * g j.val) (x i.val j.val)
    (∑ k : Fin 1024, dh x d wi wo g i.val k.val * g k.val * x i.val k.val) 1024
  rw [← ri] at e
  rw [add_assoc, add_assoc, ← add_assoc (dh x d wi wo g i.val j.val * g j.val * _), e, dx]
  simp only [xh, ← mul_assoc, ← Finset.sum_mul]

/-- The second computation of the gate's gradient is the first. -/
theorem v83 (i : Fin 4096) (j : Fin 5632) : val_main_v83 (F := Ideal) A B D W O (ix2 i j) = (dgu x d wi wo g i.val j.val : EReal) := by
  have e27 : val_main_v77 (F := Ideal) D = val_main_v27 (F := Ideal) D := by
    unfold val_main_v27
    rw [v25 hD]
    rfl
  have e28 : val_main_v78 (F := Ideal) D O = val_main_v28 (F := Ideal) D O := by
    unfold val_main_v78
    rw [e27]
    rfl
  have e16 : val_main_v68 (F := Ideal) A B W = val_main_v16 (F := Ideal) A B W := rfl
  have e : val_main_v82 (F := Ideal) A B D W O = val_main_v32 (F := Ideal) A B D W O := by
    unfold val_main_v82 val_main_v81 val_main_v79 val_main_call3_v1 val_main_call3_v2 val_main_call3_v0 val_main_v80 val_main_v71_0 val_main_v71_1
      val_main_call2_v7 val_main_v71_2 val_main_call2_v3 val_main_call2_v1 val_main_call2_v0 val_main_v70 val_main_v69
    rw [e28, e16]
    rfl
  pointwise [val_main_v83]
  rw [e, v32 hA hB hD hW hO]
end

section
variable (hA : ∀ (i : Fin 4096) (j : Fin 1024), A (ix2 i j) = (x i.val j.val : EReal)) (hB : ∀ j : Fin 1024, B (ix1 j) = (g j.val : EReal))
  (hD : ∀ (i : Fin 4096) (j : Fin 1024), D (ix2 i j) = (d i.val j.val : EReal))

include hA hB in
/-- The scaled normalised rows. -/
theorem v85 (i : Fin 4096) (j : Fin 1024) : val_main_v85 (F := Ideal) A B (ix2 i j) = ((xh x i.val j.val * g j.val : ℝ) : EReal) := by
  have e : val_main_v67 (F := Ideal) A B = val_main_v15 (F := Ideal) A B := rfl
  pointwise [val_main_v85]
  rw [e, v15 hA hB]

include hD in
/-- The halved gradient. -/
theorem v88 (i : Fin 4096) (j : Fin 1024) : val_main_v88 (F := Ideal) D (ix2 i j) = ((1 / 2 * d i.val j.val : ℝ) : EReal) := by
  pointwise [val_main_v88, val_main_v87, val_main_v86, val_main_cst_15]
  rw [hD, ofBits_half, ← EReal.coe_mul]
end

end Cert.FfnRef

end
-- ==== Proof.FfnClaim.lean ====
/- The claims of the feed-forward block's first backward call: its reference's frame and the equality of their results on finite arguments. -/
module

public import proofs.«01_k».proof.Defs
public import proofs.«01_k».proof.Proof.Gen.Pre_ffn_finite
public import proofs.«01_k».proof.Proof.Gen.Kernel3Ideal.Value
public import proofs.«01_k».proof.Proof.FfnKer
public import proofs.«01_k».proof.Proof.FfnRef
public import proofs.«01_k».proof.Proof.Finite
public import Idealize.ShloMosaic.Lib.Quiescent

@[expose] public section

set_option maxRecDepth 16384

noncomputable section

namespace Cert.FfnClaim

open Idealize.ShloMosaic Idealize.ShloMosaic.TcCoe Idealize.SL.Sem
open Cert.Reals Cert.FfnSpec

/-- The reference runs, keeps its arguments and leaves every counter at zero. -/
theorem frame_ri : Cert.quiescent_Reference3Ideal := fun m ρ _ =>
  (θ_run Cert.Reference3Ideal.defs _ _).mono
    (fun r h => ⟨fun c => (h c).2.2.2.2.2, Idealize.ShloMosaic.sem_eq_zero_of_no_sems (by decide) r.2⟩)
    (Cert.Reference3Ideal.Value.run (F := Ideal) m ρ)

/-- The entries of finite arguments are reals. -/
theorem entries (m : (ℓ : Loc Cert.Kernel3Ideal.nD Cert.Kernel3Ideal.τ Cert.Kernel3Ideal.sig) → Buf (Elt Ideal) ℓ)
    (hp : Cert.Pre_Kernel3Ideal_ffn_finite m) (c : Dev Cert.Kernel3Ideal.nD) :
    ∃ (x d wi wo : ℕ → ℕ → ℝ) (g : ℕ → ℝ),
      (∀ (i : Fin 4096) (j : Fin 1024), m ((c.tc : Thread Cert.Kernel3Ideal.nD Cert.Kernel3Ideal.τ).loc Cert.Kernel3Ideal.main_arg0) (ix2 i j) = (x i.val j.val : EReal))
      ∧ (∀ j : Fin 1024, m ((c.tc : Thread Cert.Kernel3Ideal.nD Cert.Kernel3Ideal.τ).loc Cert.Kernel3Ideal.main_arg1) (ix1 j) = (g j.val : EReal))
      ∧ (∀ (i : Fin 4096) (j : Fin 1024), m ((c.tc : Thread Cert.Kernel3Ideal.nD Cert.Kernel3Ideal.τ).loc Cert.Kernel3Ideal.main_arg2) (ix2 i j) = (d i.val j.val : EReal))
      ∧ (∀ (i : Fin 1024) (j : Fin 5632), m ((c.tc : Thread Cert.Kernel3Ideal.nD Cert.Kernel3Ideal.τ).loc Cert.Kernel3Ideal.main_arg3) (ix2 i j) = (wi i.val j.val : EReal))
      ∧ (∀ (i : Fin 2816) (j : Fin 1024), m ((c.tc : Thread Cert.Kernel3Ideal.nD Cert.Kernel3Ideal.τ).loc Cert.Kernel3Ideal.main_arg4) (ix2 i j) = (wo i.val j.val : EReal)) := by
  have h := congrFun (hp c) ix0
  unfold Cert.Pre_ffn_finite.fn at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton Cert.Pre_ffn_finite.S_.Idx := ⟨fun a b => funext fun x => x.elim0⟩
  obtain ⟨x, hx⟩ := Finite.reals2 (Finite.all _ _ (fun _ => by pointwise) _ _ _ _ h0)
  obtain ⟨g, hg⟩ := Finite.reals1 (Finite.all _ _ (fun _ => by pointwise) _ _ _ _ h1)
  obtain ⟨d, hd⟩ := Finite.reals2 (Finite.all _ _ (fun _ => by pointwise) _ _ _ _ h2)
  obtain ⟨wi, hw⟩ := Finite.reals2 (Finite.all _ _ (fun _ => by pointwise) _ _ _ _ h3)
  obtain ⟨wo, ho⟩ := Finite.reals2 (Finite.all _ _ (fun _ => by pointwise) _ _ _ _ h4)
  exact ⟨x, d, wi, wo, g, hx, hg, hd, hw, ho⟩

/-- On finite arguments the kernel's results are the reference's. -/
theorem value : Cert.algebraic_Kernel3Ideal_Reference3Ideal_pre_ffn_finite := by
  intro m g m' g' hp ha
  let A (c : Dev Cert.Reference3Ideal.nD) (b : Ref Cert.Reference3Ideal.sig .tc) := m' ((c.tc : Thread Cert.Reference3Ideal.nD Cert.Reference3Ideal.τ).loc b)
  refine ⟨fun c => Cert.Reference3Ideal.Read.val_main_v54 (F := Ideal) (A c Cert.Reference3Ideal.main_arg0) (A c Cert.Reference3Ideal.main_arg1) (A c Cert.Reference3Ideal.main_arg2) (A c Cert.Reference3Ideal.main_arg3) (A c Cert.Reference3Ideal.main_arg4),
    fun c => Cert.Reference3Ideal.Read.val_main_v83 (F := Ideal) (A c Cert.Reference3Ideal.main_arg0) (A c Cert.Reference3Ideal.main_arg1) (A c Cert.Reference3Ideal.main_arg2) (A c Cert.Reference3Ideal.main_arg3) (A c Cert.Reference3Ideal.main_arg4),
    fun c => Cert.Reference3Ideal.Read.val_main_v84 (F := Ideal) (A c Cert.Reference3Ideal.main_arg0) (A c Cert.Reference3Ideal.main_arg1) (A c Cert.Reference3Ideal.main_arg2) (A c Cert.Reference3Ideal.main_arg3) (A c Cert.Reference3Ideal.main_arg4),
    fun c => Cert.Reference3Ideal.Read.val_main_v85 (F := Ideal) (A c Cert.Reference3Ideal.main_arg0) (A c Cert.Reference3Ideal.main_arg1),
    fun c => Cert.Reference3Ideal.Read.val_main_v88 (F := Ideal) (A c Cert.Reference3Ideal.main_arg2), ?_,
    (θ_run Cert.Reference3Ideal.defs _ _).mono (fun r h c => ⟨(h c).1.trans (Cert.Reference3Ideal.Read.val_main_v54_eq m' c),
      (h c).2.1.trans (Cert.Reference3Ideal.Read.val_main_v83_eq m' c), (h c).2.2.1.trans (Cert.Reference3Ideal.Read.val_main_v84_eq m' c),
      (h c).2.2.2.1.trans (Cert.Reference3Ideal.Read.val_main_v85_eq _ _), (h c).2.2.2.2.1.trans (Cert.Reference3Ideal.Read.val_main_v88_eq _), (h c).2.2.2.2.2⟩)
      (Cert.Reference3Ideal.Value.run (F := Ideal) m' g')⟩
  refine (θ_run Cert.Kernel3Ideal.defs _ _).mono (fun r h c => ?_) (Cert.Kernel3Ideal.Value.run_blocks (F := Ideal) m g)
  obtain ⟨x, d, wi, wo, g, hx, hg, hd, hw, ho⟩ := entries m hp c
  obtain ⟨a0, a1, a2, a3, a4⟩ := ha c
  have kx : ∀ (i : Fin 4096) (j : Fin 1024), A c Cert.Reference3Ideal.main_arg0 (ix2 i j) = (x i.val j.val : EReal) := fun i j => (congrFun a0 _).trans (hx i j)
  have kg : ∀ j : Fin 1024, A c Cert.Reference3Ideal.main_arg1 (ix1 j) = (g j.val : EReal) := fun j => (congrFun a1 _).trans (hg j)
  have kd : ∀ (i : Fin 4096) (j : Fin 1024), A c Cert.Reference3Ideal.main_arg2 (ix2 i j) = (d i.val j.val : EReal) := fun i j => (congrFun a2 _).trans (hd i j)
  have kw : ∀ (i : Fin 1024) (j : Fin 5632), A c Cert.Reference3Ideal.main_arg3 (ix2 i j) = (wi i.val j.val : EReal) := fun i j => (congrFun a3 _).trans (hw i j)
  have ko : ∀ (i : Fin 2816) (j : Fin 1024), A c Cert.Reference3Ideal.main_arg4 (ix2 i j) = (wo i.val j.val : EReal) := fun i j => (congrFun a4 _).trans (ho i j)
  obtain ⟨b6, b7, b8, b9, b10, kept⟩ := h c
  refine ⟨b6.trans ((FfnKer.arr6 m c hx hg hd hw ho).trans ?_), b7.trans ((FfnKer.arr7 m c hx hg hd hw ho).trans ?_),
    b8.trans ((FfnKer.arr8 m c hx hg hd hw ho).trans ?_), b9.trans ((FfnKer.arr9 m c hx hg).trans ?_),
    b10.trans ((FfnKer.arr10 m c hd).trans ?_), kept⟩ <;> funext i <;> idx_vars i
  · exact (FfnRef.v54 kx kg kd kw ko _ _).symm
  · exact (FfnRef.v83 kx kg kd kw ko _ _).symm
  · obtain rfl : i0 = 0 := Subsingleton.elim _ _
    exact (FfnRef.v84 kx kg kd kw ko _).symm
  · exact (FfnRef.v85 kx kg _ _).symm
  · exact (FfnRef.v88 kd _ _).symm

end Cert.FfnClaim

end
-- ==== Proof.FfnWBody.lean ====
/- What the body of the feed-forward weights' backward stores, on any blocks. -/
module

public import proofs.«01_k».proof.Proof.Gen.Kernel4Ideal.Skeleton
public import proofs.«01_k».proof.Proof.Reals
public import Idealize.ShloMosaic.Lib.Pointwise

@[expose] public section

set_option maxRecDepth 16384

noncomputable section

namespace Cert.FfnWBody

open Idealize.ShloMosaic Cert.Reals Cert.Kernel4Ideal Cert.Kernel4Ideal.Gen

/-- The gated product of a gate and an up projection. -/
def act (g u : EReal) : EReal := g * Ideal.div 1 (1 + Ideal.exp (-g)) * u

/-- A block of the scaled rows, as the body reads it. -/
theorem pay6 (h : Vec Ideal S512x1024 .bf16) : k0_pay6 (F := Ideal) h = h := by
  funext i
  idx_vars i
  pointwise [k0_pay6]

/-- A block of the halved gradient, as the body reads it. -/
theorem pay7 (y : Vec Ideal S512x1024 .bf16) : k0_pay7 (F := Ideal) y = y := by
  funext i
  idx_vars i
  pointwise [k0_pay7]

/-- A tile of the first weight's gradient: the rows' products added to what was there, 384 rows of the weight at a time. -/
theorem pay10 (h : FVec Ideal S512x1024 .bf16) (x : Vec Ideal S1x384x1024 .f32) (d : Vec Ideal S512x384 .bf16) (n : Fin 384) (l : Fin 1024) :
    k0_pay10 (F := Ideal) h x d (ix3 0 n l) = x (ix3 0 n l) + ∑ r : Fin 512, d (ix2 r n) * h (ix2 r l) := by
  pointwise [k0_pay10]

/-- The same, the tile's old contents read first. -/
theorem pay14 (h : FVec Ideal S512x1024 .bf16) (x : Vec Ideal S1x384x1024 .f32) (d : Vec Ideal S512x384 .bf16) (n : Fin 384) (l : Fin 1024) :
    k0_pay14 (F := Ideal) h (k0_pay13 x) d (ix3 0 n l) = x (ix3 0 n l) + ∑ r : Fin 512, d (ix2 r n) * h (ix2 r l) :=
  pay10 h x d n l

/-- The same, 256 rows of the weight at a time. -/
theorem pay24 (h : FVec Ideal S512x1024 .bf16) (x : Vec Ideal S1x256x1024 .f32) (d : Vec Ideal S512x256 .bf16) (n : Fin 256) (l : Fin 1024) :
    k0_pay24 (F := Ideal) h x d (ix3 0 n l) = x (ix3 0 n l) + ∑ r : Fin 512, d (ix2 r n) * h (ix2 r l) := by
  pointwise [k0_pay24]

/-- The gated rows, on 384 columns. -/
theorem pay8 (g u : Vec Ideal S512x384 .bf16) (r : Fin 512) (n : Fin 384) : k0_pay8 (F := Ideal) g u (ix2 r n) = act (g (ix2 r n)) (u (ix2 r n)) := by
  pointwise [k0_pay8]
  rw [zero_sub, act]

/-- The gated rows, on 256 columns. -/
theorem pay22 (g u : Vec Ideal S512x256 .bf16) (r : Fin 512) (n : Fin 256) :
    k0_pay22 (F := Ideal) (k0_pay21 g) u (ix2 r n) = act (g (ix2 r n)) (u (ix2 r n)) := by
  pointwise [k0_pay22, k0_pay21]
  rw [zero_sub, act]

/-- A tile of the second weight's gradient, 384 rows of the weight at a time. -/
theorem pay11 (y : FVec Ideal S512x1024 .bf16) (g u : Vec Ideal S512x384 .bf16) (x : Vec Ideal S384x1024 .f32) (n : Fin 384) (l : Fin 1024) :
    k0_pay11 (F := Ideal) y (k0_pay8 g u) x (ix2 n l) = x (ix2 n l) + ∑ r : Fin 512, act (g (ix2 r n)) (u (ix2 r n)) * y (ix2 r l) := by
  pointwise [k0_pay11]
  simp only [pay8]

/-- The same, 256 rows of the weight at a time. -/
theorem pay1 (y : FVec Ideal S512x1024 .bf16) (g u : Vec Ideal S512x256 .bf16) (x : Vec Ideal S256x1024 .f32) (n : Fin 256) (l : Fin 1024) :
    k0_pay1 (F := Ideal) y (k0_pay22 (k0_pay21 g) u) x (constant S256x1024 .f32 0#32) (ix2 n l)
      = x (ix2 n l) + ∑ r : Fin 512, act (g (ix2 r n)) (u (ix2 r n)) * y (ix2 r l) := by
  pointwise [k0_pay1]
  simp only [pay22]

end Cert.FfnWBody

end
-- ==== Proof.FfnWKer.lean ====
/- What the feed-forward weights' backward kernel leaves in its result arrays. -/
module

public import proofs.«01_k».proof.Proof.Gen.Kernel4Ideal.Frame
public import proofs.«01_k».proof.Proof.FfnWBody
public import Idealize.ShloMosaic.Lib.Pipeline.ValueKit
public import Idealize.ShloMosaic.Lib.Pipeline.Value
public import Idealize.ShloMosaic.Lib.Pipeline.ReadBack

@[expose] public section

set_option maxRecDepth 16384

noncomputable section

namespace Cert.FfnWKer

open Idealize.ShloMosaic Idealize.ShloMosaic.TcCoe Idealize.SL.Sem Idealize.ShloMosaic.Pipeline
open Cert.Reals Cert.FfnWBody Cert.Kernel4Ideal Cert.Kernel4Ideal.Gen

section
variable (H Y : Vec Ideal S512x1024 .bf16) (G U D0 D1 : Vec Ideal S512x1408 .bf16) (X : Vec Ideal S2x1408x1024 .f32) (Z : Vec Ideal S1408x1024 .f32)

/-- The first weight's gradient after a block of rows, over what was there before. -/
def stepW (y : S2x1408x1024.Idx) : EReal :=
  X y + ∑ r : Fin 512, (if (y 0).val = 0 then D0 else D1) (ix2 r (y 1)) * H (ix2 r (y 2))

/-- The second weight's gradient after a block of rows, over what was there before. -/
def stepO (y : S1408x1024.Idx) : EReal :=
  Z y + ∑ r : Fin 512, act (G (ix2 r (y 0))) (U (ix2 r (y 0))) * Y (ix2 r (y 1))

/-- The tiles of the first weight's gradient that one block of rows stores. -/
abbrev partsW : List (View.Piece (Elt Ideal) S2x1408x1024 .f32) :=
  [⟨Rect.unit (s := S2x1408x1024) ![1, 1152, 0] S1x256x1024.size inb_S2x1408x1024_S1x256x1024_1_1152_0, k0_pay24 (k0_pay6 H) (View.ld X (Rect.unit (s := S2x1408x1024) ![1, 1152, 0] S1x256x1024.size inb_S2x1408x1024_S1x256x1024_1_1152_0)) (View.ld D1 (Rect.unit (s := S512x1408) ![0, 1152] S512x256.size inb_S512x1408_S512x256_0_1152))⟩,
    ⟨Rect.unit (s := S2x1408x1024) ![0, 1152, 0] S1x256x1024.size inb_S2x1408x1024_S1x256x1024_0_1152_0, k0_pay23 (k0_pay6 H) (View.ld X (Rect.unit (s := S2x1408x1024) ![0, 1152, 0] S1x256x1024.size inb_S2x1408x1024_S1x256x1024_0_1152_0)) (View.ld D0 (Rect.unit (s := S512x1408) ![0, 1152] S512x256.size inb_S512x1408_S512x256_0_1152))⟩,
    ⟨Rect.unit (s := S2x1408x1024) ![1, 768, 0] S1x384x1024.size inb_S2x1408x1024_S1x384x1024_1_768_0, k0_pay19 (k0_pay6 H) (View.ld X (Rect.unit (s := S2x1408x1024) ![1, 768, 0] S1x384x1024.size inb_S2x1408x1024_S1x384x1024_1_768_0)) (View.ld D1 (Rect.unit (s := S512x1408) ![0, 768] S512x384.size inb_S512x1408_S512x384_0_768))⟩,
    ⟨Rect.unit (s := S2x1408x1024) ![0, 768, 0] S1x384x1024.size inb_S2x1408x1024_S1x384x1024_0_768_0, k0_pay18 (k0_pay6 H) (View.ld X (Rect.unit (s := S2x1408x1024) ![0, 768, 0] S1x384x1024.size inb_S2x1408x1024_S1x384x1024_0_768_0)) (View.ld D0 (Rect.unit (s := S512x1408) ![0, 768] S512x384.size inb_S512x1408_S512x384_0_768))⟩,
    ⟨Rect.unit (s := S2x1408x1024) ![1, 384, 0] S1x384x1024.size inb_S2x1408x1024_S1x384x1024_1_384_0, k0_pay15 (k0_pay6 H) (View.ld X (Rect.unit (s := S2x1408x1024) ![1, 384, 0] S1x384x1024.size inb_S2x1408x1024_S1x384x1024_1_384_0)) (View.ld D1 (Rect.unit (s := S512x1408) ![0, 384] S512x384.size inb_S512x1408_S512x384_0_384))⟩,
    ⟨Rect.unit (s := S2x1408x1024) ![0, 384, 0] S1x384x1024.size inb_S2x1408x1024_S1x384x1024_0_384_0, k0_pay14 (k0_pay6 H) (k0_pay13 (View.ld X (Rect.unit (s := S2x1408x1024) ![0, 384, 0] S1x384x1024.size inb_S2x1408x1024_S1x384x1024_0_384_0))) (View.ld D0 (Rect.unit (s := S512x1408) ![0, 384] S512x384.size inb_S512x1408_S512x384_0_384))⟩,
    ⟨Rect.unit (s := S2x1408x1024) ![1, 0, 0] S1x384x1024.size inb_S2x1408x1024_S1x384x1024_1_0_0, k0_pay10 (k0_pay6 H) (View.ld X (Rect.unit (s := S2x1408x1024) ![1, 0, 0] S1x384x1024.size inb_S2x1408x1024_S1x384x1024_1_0_0)) (View.ld D1 (Rect.unit (s := S512x1408) ![0, 0] S512x384.size inb_S512x1408_S512x384_0_0))⟩,
    ⟨Rect.unit (s := S2x1408x1024) ![0, 0, 0] S1x384x1024.size inb_S2x1408x1024_S1x384x1024_0_0_0, k0_pay9 H (View.ld X (Rect.unit (s := S2x1408x1024) ![0, 0, 0] S1x384x1024.size inb_S2x1408x1024_S1x384x1024_0_0_0)) (View.ld D0 (Rect.unit (s := S512x1408) ![0, 0] S512x384.size inb_S512x1408_S512x384_0_0))⟩]

/-- The tiles of the second weight's gradient that one block of rows stores. -/
abbrev partsO : List (View.Piece (Elt Ideal) S1408x1024 .f32) :=
  [⟨Rect.unit (s := S1408x1024) ![1152, 0] S256x1024.size inb_S1408x1024_S256x1024_1152_0, k0_pay1 (k0_pay7 Y) (k0_pay22 (k0_pay21 (View.ld G (Rect.unit (s := S512x1408) ![0, 1152] S512x256.size inb_S512x1408_S512x256_0_1152))) (View.ld U (Rect.unit (s := S512x1408) ![0, 1152] S512x256.size inb_S512x1408_S512x256_0_1152))) (View.ld Z (Rect.unit (s := S1408x1024) ![1152, 0] S256x1024.size inb_S1408x1024_S256x1024_1152_0)) (constant S256x1024 .f32 0#32)⟩,
    ⟨Rect.unit (s := S1408x1024) ![768, 0] S384x1024.size inb_S1408x1024_S384x1024_768_0, k0_pay20 (k0_pay7 Y) (k0_pay17 (View.ld G (Rect.unit (s := S512x1408) ![0, 768] S512x384.size inb_S512x1408_S512x384_0_768))) (View.ld U (Rect.unit (s := S512x1408) ![0, 768] S512x384.size inb_S512x1408_S512x384_0_768)) (View.ld Z (Rect.unit (s := S1408x1024) ![768, 0] S384x1024.size inb_S1408x1024_S384x1024_768_0))⟩,
    ⟨Rect.unit (s := S1408x1024) ![384, 0] S384x1024.size inb_S1408x1024_S384x1024_384_0, k0_pay16 (k0_pay7 Y) (k0_pay12 (View.ld G (Rect.unit (s := S512x1408) ![0, 384] S512x384.size inb_S512x1408_S512x384_0_384)) (View.ld U (Rect.unit (s := S512x1408) ![0, 384] S512x384.size inb_S512x1408_S512x384_0_384))) (View.ld Z (Rect.unit (s := S1408x1024) ![384, 0] S384x1024.size inb_S1408x1024_S384x1024_384_0))⟩,
    ⟨Rect.unit (s := S1408x1024) ![0, 0] S384x1024.size inb_S1408x1024_S384x1024_0_0, k0_pay11 (k0_pay7 Y) (k0_pay8 (View.ld G (Rect.unit (s := S512x1408) ![0, 0] S512x384.size inb_S512x1408_S512x384_0_0)) (View.ld U (Rect.unit (s := S512x1408) ![0, 0] S512x384.size inb_S512x1408_S512x384_0_0))) (View.ld Z (Rect.unit (s := S1408x1024) ![0, 0] S384x1024.size inb_S1408x1024_S384x1024_0_0))⟩]

/-- A block of columns read at an index. -/
theorem ldc {o C : ℕ} (D : Vec Ideal S512x1408 .bf16) (i2 : ∀ a, (![0, o] : Fin 2 → ℕ) a + (⟨2, ![512, C]⟩ : Shape).size a ≤ S512x1408.size a)
    (r : Fin 512) (n : Fin C) (j : Fin 1408) (h : j.val = o + n.val) :
    View.ld (e' := .bf16) D (Rect.unit (s := S512x1408) ![0, o] (⟨2, ![512, C]⟩ : Shape).size i2) (ix2 r n) = D (ix2 r j) := by
  refine congrArg D ?_
  funext a
  refine Fin.ext ?_
  match a with
  | ⟨0, _⟩ => exact (ValueKit.rect_emb_unit_val _ _ _ _ _).trans (zero_add _)
  | ⟨1, _⟩ => exact (ValueKit.rect_emb_unit_val _ _ _ _ _).trans h.symm

/-- A tile of the first weight's gradient is the tile of `stepW` at its place. -/
theorem tileW {p o C : ℕ} (i3 : ∀ a, (![p, o, 0] : Fin 3 → ℕ) a + (⟨3, ![1, C, 1024]⟩ : Shape).size a ≤ S2x1408x1024.size a)
    (i2 : ∀ a, (![0, o] : Fin 2 → ℕ) a + (⟨2, ![512, C]⟩ : Shape).size a ≤ S512x1408.size a) (D : Vec Ideal S512x1408 .bf16)
    (hD : (if p = 0 then D0 else D1) = D) (P : (⟨3, ![1, C, 1024]⟩ : Shape).Idx → EReal)
    (hP : ∀ (n : Fin C) (l : Fin 1024), P (ix3 0 n l)
      = View.ld (e' := .f32) X (Rect.unit (s := S2x1408x1024) ![p, o, 0] (⟨3, ![1, C, 1024]⟩ : Shape).size i3) (ix3 0 n l)
        + ∑ r : Fin 512, View.ld (e' := .bf16) D (Rect.unit (s := S512x1408) ![0, o] (⟨2, ![512, C]⟩ : Shape).size i2) (ix2 r n) * H (ix2 r l))
    (x : (⟨3, ![1, C, 1024]⟩ : Shape).Idx) :
    P x = stepW H D0 D1 X ((Rect.unit (s := S2x1408x1024) ![p, o, 0] (⟨3, ![1, C, 1024]⟩ : Shape).size i3).emb x) := by
  obtain ⟨x0, x1, x2, rfl⟩ : ∃ a b c, x = ix3 a b c := ⟨x 0, x 1, x 2, eq_ix3 x⟩
  obtain rfl : x0 = 0 := Subsingleton.elim _ _
  refine (hP x1 x2).trans ?_
  have e0 := ValueKit.rect_emb_unit_val (s := S2x1408x1024) ![p, o, 0] (⟨3, ![1, C, 1024]⟩ : Shape).size i3 (ix3 0 x1 x2) 0
  have e1 := ValueKit.rect_emb_unit_val (s := S2x1408x1024) ![p, o, 0] (⟨3, ![1, C, 1024]⟩ : Shape).size i3 (ix3 0 x1 x2) 1
  have e2 := ValueKit.rect_emb_unit_val (s := S2x1408x1024) ![p, o, 0] (⟨3, ![1, C, 1024]⟩ : Shape).size i3 (ix3 0 x1 x2) 2
  generalize hy : (Rect.unit (s := S2x1408x1024) ![p, o, 0] (⟨3, ![1, C, 1024]⟩ : Shape).size i3).emb (ix3 0 x1 x2) = y at *
  have e0' : (y 0).val = p := e0
  have e1' : (y 1).val = o + x1.val := e1
  have e2' : y 2 = x2 := Fin.ext (e2.trans (zero_add _))
  unfold stepW
  rw [e0', hD, e2']
  exact congr (congrArg _ (congrArg X hy)) (Finset.sum_congr rfl fun r _ => by rw [ldc D i2 r x1 (y 1) e1'])

/-- A tile of the second weight's gradient is the tile of `stepO` at its place. -/
theorem tileO {o C : ℕ} (i3 : ∀ a, (![o, 0] : Fin 2 → ℕ) a + (⟨2, ![C, 1024]⟩ : Shape).size a ≤ S1408x1024.size a)
    (i2 : ∀ a, (![0, o] : Fin 2 → ℕ) a + (⟨2, ![512, C]⟩ : Shape).size a ≤ S512x1408.size a) (P : (⟨2, ![C, 1024]⟩ : Shape).Idx → EReal)
    (hP : ∀ (n : Fin C) (l : Fin 1024), P (ix2 n l)
      = View.ld (e' := .f32) Z (Rect.unit (s := S1408x1024) ![o, 0] (⟨2, ![C, 1024]⟩ : Shape).size i3) (ix2 n l)
        + ∑ r : Fin 512, act (View.ld (e' := .bf16) G (Rect.unit (s := S512x1408) ![0, o] (⟨2, ![512, C]⟩ : Shape).size i2) (ix2 r n))
          (View.ld (e' := .bf16) U (Rect.unit (s := S512x1408) ![0, o] (⟨2, ![512, C]⟩ : Shape).size i2) (ix2 r n)) * Y (ix2 r l))
    (x : (⟨2, ![C, 1024]⟩ : Shape).Idx) :
    P x = stepO Y G U Z ((Rect.unit (s := S1408x1024) ![o, 0] (⟨2, ![C, 1024]⟩ : Shape).size i3).emb x) := by
  obtain ⟨x0, x1, rfl⟩ : ∃ a b, x = ix2 a b := ⟨x 0, x 1, eq_ix2 x⟩
  refine (hP x0 x1).trans ?_
  have e0 := ValueKit.rect_emb_unit_val (s := S1408x1024) ![o, 0] (⟨2, ![C, 1024]⟩ : Shape).size i3 (ix2 x0 x1) 0
  have e1 := ValueKit.rect_emb_unit_val (s := S1408x1024) ![o, 0] (⟨2, ![C, 1024]⟩ : Shape).size i3 (ix2 x0 x1) 1
  generalize hy : (Rect.unit (s := S1408x1024) ![o, 0] (⟨2, ![C, 1024]⟩ : Shape).size i3).emb (ix2 x0 x1) = y at *
  have e0' : (y 0).val = o + x0.val := e0
  have e1' : y 1 = x1 := Fin.ext (e1.trans (zero_add _))
  unfold stepO
  rw [e1']
  exact congr (congrArg _ (congrArg Z hy)) (Finset.sum_congr rfl fun r _ => by rw [ldc G i2 r x0 (y 0) e0', ldc U i2 r x0 (y 0) e0'])

/-- The tiles of the first weight's gradient, whatever lies under them. -/
theorem canonW (L : List (View.Piece (Elt Ideal) S2x1408x1024 .f32)) (y : S2x1408x1024.Idx) :
    View.canon (partsW H D0 D1 X ++ L) y = stepW H D0 D1 X y := by
  suffices h : View.canon (partsW H D0 D1 X ++ L) y = stepW (k0_pay6 H) D0 D1 X y by rwa [pay6] at h
  refine View.canon_append_of_piecesOf (stepW (k0_pay6 H) D0 D1 X) L _ ?_ y (View.cover_of_tiledBy (partsW H D0 D1 X) ![1, 128, 1024] (by sl_kernel_rfl) y)
  exact ⟨tileW (k0_pay6 H) D0 D1 X _ inb_S512x1408_S512x256_0_1152 D1 rfl _ fun n l => pay24 _ _ _ n l,
    tileW (k0_pay6 H) D0 D1 X _ inb_S512x1408_S512x256_0_1152 D0 rfl _ fun n l => pay24 _ _ _ n l,
    tileW (k0_pay6 H) D0 D1 X _ inb_S512x1408_S512x384_0_768 D1 rfl _ fun n l => pay10 _ _ _ n l,
    tileW (k0_pay6 H) D0 D1 X _ inb_S512x1408_S512x384_0_768 D0 rfl _ fun n l => pay10 _ _ _ n l,
    tileW (k0_pay6 H) D0 D1 X _ inb_S512x1408_S512x384_0_384 D1 rfl _ fun n l => pay10 _ _ _ n l,
    tileW (k0_pay6 H) D0 D1 X _ inb_S512x1408_S512x384_0_384 D0 rfl _ fun n l => pay14 _ _ _ n l,
    tileW (k0_pay6 H) D0 D1 X _ inb_S512x1408_S512x384_0_0 D1 rfl _ fun n l => pay10 _ _ _ n l,
    tileW (k0_pay6 H) D0 D1 X _ inb_S512x1408_S512x384_0_0 D0 rfl _ fun n l => pay10 _ _ _ n l, trivial⟩

/-- The tiles of the second weight's gradient, whatever lies under them. -/
theorem canonO (L : List (View.Piece (Elt Ideal) S1408x1024 .f32)) (y : S1408x1024.Idx) :
    View.canon (partsO Y G U Z ++ L) y = stepO Y G U Z y := by
  suffices h : View.canon (partsO Y G U Z ++ L) y = stepO (k0_pay7 Y) G U Z y by rwa [pay7] at h
  refine View.canon_append_of_piecesOf (stepO (k0_pay7 Y) G U Z) L _ ?_ y (View.cover_of_tiledBy (partsO Y G U Z) ![128, 1024] (by sl_kernel_rfl) y)
  exact ⟨tileO (k0_pay7 Y) G U Z _ inb_S512x1408_S512x256_0_1152 _ fun n l => pay1 _ _ _ _ n l,
    tileO (k0_pay7 Y) G U Z _ inb_S512x1408_S512x384_0_768 _ fun n l => pay11 _ _ _ _ n l,
    tileO (k0_pay7 Y) G U Z _ inb_S512x1408_S512x384_0_384 _ fun n l => pay11 _ _ _ _ n l,
    tileO (k0_pay7 Y) G U Z _ inb_S512x1408_S512x384_0_0 _ fun n l => pay11 _ _ _ _ n l, trivial⟩
end

variable (m : (ℓ : Loc nD τ sig) → Buf (Elt Ideal) ℓ) (c : Dev nD)

/-- The first weight's gradient after a first block of rows. -/
theorem accW_A (t : Fin cfg0.N) (h0 : t.val % 8 = 0) (y : S2x1408x1024.Idx) :
    (outsAt0 m c t.val t.isLt).2.2.1 y = stepW (iblk m c 0 t) (iblk m c 4 t) (iblk m c 5 t) (k0_pay4 (F := Ideal)) y := by
  rw [outsAt0_A m c t h0 (by omega)]
  frame_open
  simp (disch := decide) only [↓ View.readCov_skip, ↓ View.readCov_cons_toLoadRect, ↓ View.readCov_fill]
  frame_out
  exact canonW _ _ _ _ _ y

/-- The second weight's gradient after a first block of rows. -/
theorem accO_A (t : Fin cfg0.N) (h0 : t.val % 8 = 0) (y : S1408x1024.Idx) :
    (outsAt0 m c t.val t.isLt).2.2.2 y = stepO (iblk m c 1 t) (iblk m c 2 t) (iblk m c 3 t) (k0_pay5 (F := Ideal)) y := by
  rw [outsAt0_A m c t h0 (by omega)]
  frame_open
  simp (disch := decide) only [↓ View.readCov_skip, ↓ View.readCov_cons_toLoadRect, ↓ View.readCov_fill]
  frame_out
  exact canonO _ _ _ _ _ y

/-- The first weight's gradient after a later block of rows. -/
theorem accW_B (t : Fin cfg0.N) (h0 : ¬t.val % 8 = 0) (y : S2x1408x1024.Idx) :
    (outsAt0 m c t.val t.isLt).2.2.1 y
      = stepW (iblk m c 0 t) (iblk m c 4 t) (iblk m c 5 t) (outsAt0 m c (t.val - 1) (Nat.lt_of_le_of_lt (Nat.sub_le _ _) t.isLt)).2.2.1 y := by
  by_cases h1 : t.val % 8 = 7
  · rw [outsAt0_C m c t h0 h1]
    frame_out
    simp only [read_unread_whole]
    exact canonW _ _ _ _ [] y
  · rw [outsAt0_B m c t h0 h1]
    frame_out
    simp only [read_unread_whole]
    exact canonW _ _ _ _ [] y

/-- The second weight's gradient after a later block of rows. -/
theorem accO_B (t : Fin cfg0.N) (h0 : ¬t.val % 8 = 0) (y : S1408x1024.Idx) :
    (outsAt0 m c t.val t.isLt).2.2.2 y
      = stepO (iblk m c 1 t) (iblk m c 2 t) (iblk m c 3 t) (outsAt0 m c (t.val - 1) (Nat.lt_of_le_of_lt (Nat.sub_le _ _) t.isLt)).2.2.2 y := by
  by_cases h1 : t.val % 8 = 7
  · rw [outsAt0_C m c t h0 h1]
    frame_out
    simp only [read_unread_whole]
    exact canonO _ _ _ _ [] y
  · rw [outsAt0_B m c t h0 h1]
    frame_out
    simp only [read_unread_whole]
    exact canonO _ _ _ _ [] y

/-- The cast first gradient, read back from its tiles. -/
theorem castW {sp : Space} (v : View sig .tc sp S2x1408x1024 .f32) (L : List (View.Piece (Elt Ideal) S2x1408x1024 .f32)) (inb) (y : S2x1408x1024.Idx) :
    k0_pay2 (F := Ideal) (v.readCov L (Rect.unit (s := S2x1408x1024) ![0, 0, 0] S2x1408x1024.size inb).toLoadRect) y = View.canon L y := by
  rw [View.readCov_eq_canon']
  refine congrArg (View.canon L) ?_
  funext a
  refine Fin.ext ?_
  match a with
  | ⟨0, _⟩ => exact (ValueKit.rect_emb_unit_val _ _ _ _ _).trans (zero_add _)
  | ⟨1, _⟩ => exact (ValueKit.rect_emb_unit_val _ _ _ _ _).trans (zero_add _)
  | ⟨2, _⟩ => exact (ValueKit.rect_emb_unit_val _ _ _ _ _).trans (zero_add _)

/-- The cast second gradient, read back from its tiles. -/
theorem castO {sp : Space} (v : View sig .tc sp S1408x1024 .f32) (L : List (View.Piece (Elt Ideal) S1408x1024 .f32)) (inb) (y : S1408x1024.Idx) :
    k0_pay3 (F := Ideal) (v.readCov L (Rect.unit (s := S1408x1024) ![0, 0] S1408x1024.size inb).toLoadRect) y = View.canon L y := by
  rw [View.readCov_eq_canon']
  refine congrArg (View.canon L) ?_
  funext a
  refine Fin.ext ?_
  match a with
  | ⟨0, _⟩ => exact (ValueKit.rect_emb_unit_val _ _ _ _ _).trans (zero_add _)
  | ⟨1, _⟩ => exact (ValueKit.rect_emb_unit_val _ _ _ _ _).trans (zero_add _)

/-- What the last block of rows writes out: the first weight's gradient. -/
theorem outW (t : Fin cfg0.N) (h1 : t.val % 8 = 7) (y : S2x1408x1024.Idx) : (outsAt0 m c t.val t.isLt).1 y = (outsAt0 m c t.val t.isLt).2.2.1 y := by
  rw [outsAt0_C m c t (by omega) h1]
  frame_out
  exact castW _ _ _ y

/-- What the last block of rows writes out: the second weight's gradient. -/
theorem outO (t : Fin cfg0.N) (h1 : t.val % 8 = 7) (y : S1408x1024.Idx) : (outsAt0 m c t.val t.isLt).2.1 y = (outsAt0 m c t.val t.isLt).2.2.2 y := by
  rw [outsAt0_C m c t (by omega) h1]
  frame_out
  exact castO _ _ _ y

/-- The index maps of the windows, point by point. -/
theorem idx' : ∀ t : Fin grid0.N, win0_0.index t = ![t.val % 8, 0] ∧ win0_1.index t = ![t.val % 8, 0] ∧ win0_2.index t = ![t.val % 8, t.val / 8]
    ∧ win0_3.index t = ![t.val % 8, t.val / 8 + 2] ∧ win0_4.index t = ![t.val % 8, t.val / 8] ∧ win0_5.index t = ![t.val % 8, t.val / 8 + 2]
    ∧ win0_6.index t = ![0, t.val / 8, 0] ∧ win0_7.index t = ![t.val / 8, 0] := by
  decide +kernel

/-- Row `r` of the rows of point `n`. -/
def row (n : ℕ) (r : Fin 512) : Fin 4096 := ⟨n % 8 * 512 + r.val, by omega⟩

/-- Row `f` of the weights of point `n`. -/
def col (n : ℕ) (f : Fin 1408) : Fin 2816 := ⟨n / 8 % 2 * 1408 + f.val, by omega⟩

/-- A column of the gate. -/
def lo (f : Fin 2816) : Fin 5632 := ⟨f.val, by omega⟩

/-- A column of the up projection. -/
def hi (f : Fin 2816) : Fin 5632 := ⟨2816 + f.val, by omega⟩

/-- A column of either. -/
def at2 (a : Fin 2) (f : Fin 2816) : Fin 5632 := ⟨a.val * 2816 + f.val, by omega⟩

/-- The scaled rows that the call reads. -/
abbrev hr : FVec Ideal S4096x1024 .bf16 := V m c main_v28

/-- The halved gradient that the call reads. -/
abbrev yr : FVec Ideal S4096x1024 .bf16 := V m c main_v31

/-- The gate and the up projection that the call reads. -/
abbrev gr : FVec Ideal S4096x5632 .bf16 := V m c main_v32

/-- Their gradients that the call reads. -/
abbrev dr : FVec Ideal S4096x5632 .bf16 := V m c main_v33

theorem blk0 (t : Fin cfg0.N) (r : Fin 512) (k : Fin 1024) : iblk m c 0 t (ix2 r k) = hr m c (ix2 (row t.val r) k) := by
  blk_ext [iblk, hr, yr, gr, dr, idx' t, row]

theorem blk1 (t : Fin cfg0.N) (r : Fin 512) (k : Fin 1024) : iblk m c 1 t (ix2 r k) = yr m c (ix2 (row t.val r) k) := by
  blk_ext [iblk, hr, yr, gr, dr, idx' t, row]

theorem blk2 (t : Fin cfg0.N) (ht : t.val < 16) (r : Fin 512) (f : Fin 1408) : iblk m c 2 t (ix2 r f) = gr m c (ix2 (row t.val r) (lo (col t.val f))) := by
  blk_ext [iblk, hr, yr, gr, dr, idx' t, row, col, lo]

theorem blk3 (t : Fin cfg0.N) (ht : t.val < 16) (r : Fin 512) (f : Fin 1408) : iblk m c 3 t (ix2 r f) = gr m c (ix2 (row t.val r) (hi (col t.val f))) := by
  blk_ext [iblk, hr, yr, gr, dr, idx' t, row, col, hi]

theorem blk4 (t : Fin cfg0.N) (ht : t.val < 16) (r : Fin 512) (f : Fin 1408) : iblk m c 4 t (ix2 r f) = dr m c (ix2 (row t.val r) (lo (col t.val f))) := by
  blk_ext [iblk, hr, yr, gr, dr, idx' t, row, col, lo]

theorem blk5 (t : Fin cfg0.N) (ht : t.val < 16) (r : Fin 512) (f : Fin 1408) : iblk m c 5 t (ix2 r f) = dr m c (ix2 (row t.val r) (hi (col t.val f))) := by
  blk_ext [iblk, hr, yr, gr, dr, idx' t, row, col, hi]

/-- A block of rows' part of the first weight's gradient. -/
def partW (n : ℕ) (y : S2x1408x1024.Idx) : EReal :=
  ∑ r : Fin 512, dr m c (ix2 (row n r) (at2 (y 0) (col n (y 1)))) * hr m c (ix2 (row n r) (y 2))

/-- A block of rows' part of the second weight's gradient. -/
def partO (n : ℕ) (y : S1408x1024.Idx) : EReal :=
  ∑ r : Fin 512, act (gr m c (ix2 (row n r) (lo (col n (y 0))))) (gr m c (ix2 (row n r) (hi (col n (y 0))))) * yr m c (ix2 (row n r) (y 1))

/-- The gate's half of the gradients' columns. -/
theorem at2_lo (f : Fin 2816) : lo f = at2 0 f := Fin.ext (Nat.zero_add _).symm

/-- The up projection's half of the gradients' columns. -/
theorem at2_hi (f : Fin 2816) : hi f = at2 1 f := rfl

/-- A step adds the part of its rows to the first weight's gradient. -/
theorem stepW_eq (t : Fin cfg0.N) (X : Vec Ideal S2x1408x1024 .f32) (y : S2x1408x1024.Idx) :
    stepW (iblk m c 0 t) (iblk m c 4 t) (iblk m c 5 t) X y = X y + partW m c t.val y := by
  have ht := lt_of_lt_of_eq t.isLt N_0
  idx_vars y
  refine congrArg (X (ix3 y0 y1 y2) + ·) (Finset.sum_congr rfl fun r _ => ?_)
  match y0 with
  | ⟨0, _⟩ => exact congr (congrArg _ ((blk4 m c t ht r y1).trans (congrArg (fun j => dr m c (ix2 (row t.val r) j)) (at2_lo _)))) (blk0 m c t r y2)
  | ⟨1, _⟩ => exact congr (congrArg _ ((blk5 m c t ht r y1).trans (congrArg (fun j => dr m c (ix2 (row t.val r) j)) (at2_hi _)))) (blk0 m c t r y2)

/-- A step adds the part of its rows to the second weight's gradient. -/
theorem stepO_eq (t : Fin cfg0.N) (Z : Vec Ideal S1408x1024 .f32) (y : S1408x1024.Idx) :
    stepO (iblk m c 1 t) (iblk m c 2 t) (iblk m c 3 t) Z y = Z y + partO m c t.val y := by
  have ht := lt_of_lt_of_eq t.isLt N_0
  idx_vars y
  refine congrArg (Z (ix2 y0 y1) + ·) (Finset.sum_congr rfl fun r _ => ?_)
  exact congr (congrArg _ (congr (congrArg act (blk2 m c t ht r y0)) (blk3 m c t ht r y0))) (blk1 m c t r y1)

/-- A sum over the blocks of rows is a sum over all rows. -/
theorem sum_rows (q : ℕ) (f : Fin 4096 → EReal) : ∑ k ∈ Finset.range 8, ∑ r : Fin 512, f (row (8 * q + k) r) = ∑ i : Fin 4096, f i := by
  rw [Finset.sum_range]
  refine Eq.trans (Finset.sum_congr rfl fun k _ => Finset.sum_congr rfl fun r _ => congrArg f ?_)
    (Fin.sum_mul_add_fin (S := 8) (n := 512) (L := 4096) f)
  refine Fin.ext ?_
  show (8 * q + k.val) % 8 * 512 + r.val = k.val * 512 + r.val
  omega

/-- A point of the same column block has the same columns. -/
theorem col_run (n k : ℕ) (hk : k < 8) (f : Fin 1408) : col (8 * (n / 8) + k) f = col n f :=
  Fin.ext (show (8 * (n / 8) + k) / 8 % 2 * 1408 + f.val = n / 8 % 2 * 1408 + f.val by omega)

/-- The first weight's gradient of a column block after all rows. -/
theorem totalW (t : Fin cfg0.N) (h : t.val % 8 = 7) (y : S2x1408x1024.Idx) :
    (outsAt0 m c t.val t.isLt).1 y = ∑ i : Fin 4096, dr m c (ix2 i (at2 (y 0) (col t.val (y 1)))) * hr m c (ix2 i (y 2)) := by
  refine (outW m c t h y).trans ((Pipeline.eq_sum_of_reset_step_apply_of_mod (fun n h => (outsAt0 m c n h).2.2.1) 8 (k0_pay4 (F := Ideal)) (partW m c)
    (fun t h y => (accW_A m c t h y).trans (stepW_eq m c t _ y)) (fun t h y => (accW_B m c t h y).trans (stepW_eq m c t _ y)) t h y).trans ?_)
  have e : k0_pay4 (F := Ideal) y = 0 := by
    idx_vars y
    pointwise [k0_pay4]
  refine (congrArg (· + _) e).trans ((zero_add _).trans ((Finset.sum_congr rfl fun k hk => ?_).trans (sum_rows (t.val / 8) _)))
  refine Finset.sum_congr rfl fun r _ => ?_
  exact congrArg (fun j => dr m c (ix2 (row (8 * (t.val / 8) + k) r) (at2 (y 0) j)) * hr m c (ix2 (row (8 * (t.val / 8) + k) r) (y 2))) (col_run t.val k (Finset.mem_range.mp hk) (y 1))

/-- The second weight's gradient of a column block after all rows. -/
theorem totalO (t : Fin cfg0.N) (h : t.val % 8 = 7) (y : S1408x1024.Idx) :
    (outsAt0 m c t.val t.isLt).2.1 y
      = ∑ i : Fin 4096, act (gr m c (ix2 i (lo (col t.val (y 0))))) (gr m c (ix2 i (hi (col t.val (y 0))))) * yr m c (ix2 i (y 1)) := by
  refine (outO m c t h y).trans ((Pipeline.eq_sum_of_reset_step_apply_of_mod (fun n h => (outsAt0 m c n h).2.2.2) 8 (k0_pay5 (F := Ideal)) (partO m c)
    (fun t h y => (accO_A m c t h y).trans (stepO_eq m c t _ y)) (fun t h y => (accO_B m c t h y).trans (stepO_eq m c t _ y)) t h y).trans ?_)
  have e : k0_pay5 (F := Ideal) y = 0 := by
    idx_vars y
    pointwise [k0_pay5]
  refine (congrArg (· + _) e).trans ((zero_add _).trans ((Finset.sum_congr rfl fun k hk => ?_).trans (sum_rows (t.val / 8) _)))
  refine Finset.sum_congr rfl fun r _ => ?_
  exact congrArg (fun j => act (gr m c (ix2 (row (8 * (t.val / 8) + k) r) (lo j))) (gr m c (ix2 (row (8 * (t.val / 8) + k) r) (hi j))) * yr m c (ix2 (row (8 * (t.val / 8) + k) r) (y 1))) (col_run t.val k (Finset.mem_range.mp hk) (y 0))

/-- The first weight's gradient after the run. -/
theorem arr6 : (dats m 0 c).arrAt 6 cfg0.N
    = (fun i => ∑ r : Fin 4096, dr m c (ix2 r (at2 (i 0) (i 1))) * hr m c (ix2 r (i 2)) : FVec Ideal S2x2816x1024 .bf16) := by
  refine (dats m 0 c).arrAt_eq_of_covers 6 _ (by decide +kernel) fun t hf y => ?_
  have ht := lt_of_lt_of_eq t.isLt N_0
  have e : ((cfg0.win 6).blk t).view.emb y = (ix3 (y 0) (col t.val (y 1)) (y 2) : S2x2816x1024.Idx) := by
    blk_ext [idx' t, col]
  rw [e, after0_6]
  exact totalW m c t ((flush0_6 t).mp hf) y

/-- The second weight's gradient after the run. -/
theorem arr7 : (dats m 0 c).arrAt 7 cfg0.N
    = (fun i => ∑ r : Fin 4096, act (gr m c (ix2 r (lo (i 0)))) (gr m c (ix2 r (hi (i 0)))) * yr m c (ix2 r (i 1)) : FVec Ideal S2816x1024 .bf16) := by
  refine (dats m 0 c).arrAt_eq_of_covers 7 _ (by decide +kernel) fun t hf y => ?_
  have ht := lt_of_lt_of_eq t.isLt N_0
  have e : ((cfg0.win 7).blk t).view.emb y = (ix2 (col t.val (y 0)) (y 1) : S2816x1024.Idx) := by
    blk_ext [idx' t, col]
  rw [e, after0_7]
  exact totalO m c t ((flush0_7 t).mp hf) y

end Cert.FfnWKer

end
-- ==== Proof.FfnWRef.lean ====
/- What the reference of the feed-forward weights' gradients computes, index by index. -/
module

public import proofs.«01_k».proof.Proof.Gen.Reference4Ideal.Read
public import proofs.«01_k».proof.Proof.FfnWBody

@[expose] public section

set_option maxRecDepth 16384

noncomputable section

namespace Cert.FfnWRef

open Idealize.ShloMosaic Cert.FfnWBody Cert.Reference4Ideal Cert.Reference4Ideal.Gen Cert.Reference4Ideal.Read

variable (A D : FVec Ideal S4096x1024 .f32) (B : FVec Ideal S1024 .f32) (W : FVec Ideal S1024x5632 .f32) (O : FVec Ideal S2816x1024 .f32)

/-- The gated rows. -/
theorem v17 (r : Fin 4096) (f : Fin 2816) : val_main_v17 (F := Ideal) A B W (ix2 r f)
    = act (val_main_v13 (F := Ideal) A B W (ix2 r ⟨f.val, by omega⟩)) (val_main_v13 (F := Ideal) A B W (ix2 r ⟨2816 + f.val, by omega⟩)) := by
  pointwise [val_main_v17, val_main_v16_0, val_main_v16_2, val_main_v15, val_main_v14, val_main_call0_v4, val_main_call0_v3, val_main_call0_v2, val_main_call0_v1,
    val_main_call0_v0, val_main_call0_cst, val_main_call0_cst_0]
  rfl

/-- The first weight's gradient. -/
theorem v35 (a : Fin 2) (f : Fin 2816) (l : Fin 1024) : val_main_v35 (F := Ideal) A B D W O (ix3 a f l)
    = ∑ r : Fin 4096, val_main_v30 (F := Ideal) A B D W O (ix2 r ⟨a.val * 2816 + f.val, by omega⟩) * val_main_v12 (F := Ideal) A B (ix2 r l) := by
  pointwise [val_main_v35, val_main_v34, val_main_v33, val_main_v32, val_main_v31]

/-- The second weight's gradient. -/
theorem v36 (f : Fin 2816) (l : Fin 1024) : val_main_v36 (F := Ideal) A B D W (ix2 f l)
    = ∑ r : Fin 4096, act (val_main_v13 (F := Ideal) A B W (ix2 r ⟨f.val, by omega⟩)) (val_main_v13 (F := Ideal) A B W (ix2 r ⟨2816 + f.val, by omega⟩))
      * val_main_v23 (F := Ideal) D (ix2 r l) := by
  pointwise [val_main_v36, val_main_v25, val_main_v24]
  simp only [v17, mul_comm]

end Cert.FfnWRef

end
-- ==== Proof.FfnWClaim.lean ====
/- The claims of the feed-forward block's second backward call: its reference's frame and the equality of their results on all arguments. -/
module

public import proofs.«01_k».proof.Defs
public import proofs.«01_k».proof.Proof.Gen.Kernel4Ideal.Value
public import proofs.«01_k».proof.Proof.FfnWKer
public import proofs.«01_k».proof.Proof.FfnWRef
public import Idealize.ShloMosaic.Lib.Quiescent
public import Idealize.ShloMosaic.Lib.StableHlo.ReadAt

@[expose] public section

set_option maxRecDepth 16384

noncomputable section

namespace Cert.FfnWClaim

open Idealize.ShloMosaic Idealize.ShloMosaic.TcCoe Idealize.SL.Sem
open Cert.FfnWBody

/-- The reference runs, keeps its arguments and leaves every counter at zero. -/
theorem frame_ri : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

section Host

open Cert.Kernel4Ideal Cert.Kernel4Ideal.Gen

variable (m : (ℓ : Loc nD τ sig) → Buf (Elt Ideal) ℓ) (c : Dev nD)

/-- An argument of the kernel's program. -/
abbrev arg (b : Ref sig .tc) := m ((c.tc : Thread nD τ).loc b)

/-- The scaled rows are the reference's. -/
theorem hr_eq : FfnWKer.hr m c = Cert.Reference4Ideal.Read.val_main_v12 (F := Ideal) (arg m c main_arg0) (arg m c main_arg1) := by
  unfold FfnWKer.hr V
  simp only [hostOps0, hostOps0_1, hostOps0_2, hostOps0_3, hostOps0_4, List.flatten_cons, List.flatten_nil, List.cons_append, List.nil_append, List.append_nil]
  after_results
  rfl

/-- The gate and the up projection are the reference's. -/
theorem gr_eq : FfnWKer.gr m c = Cert.Reference4Ideal.Read.val_main_v13 (F := Ideal) (arg m c main_arg0) (arg m c main_arg1) (arg m c main_arg3) := by
  unfold FfnWKer.gr V
  simp only [hostOps0, hostOps0_1, hostOps0_2, hostOps0_3, hostOps0_4, List.flatten_cons, List.flatten_nil, List.cons_append, List.nil_append, List.append_nil]
  after_results
  rfl

/-- The halved gradient is the reference's. -/
theorem yr_eq : FfnWKer.yr m c = Cert.Reference4Ideal.Read.val_main_v23 (F := Ideal) (arg m c main_arg2) := by
  unfold FfnWKer.yr V
  simp only [hostOps0, hostOps0_1, hostOps0_2, hostOps0_3, hostOps0_4, List.flatten_cons, List.flatten_nil, List.cons_append, List.nil_append, List.append_nil]
  after_results
  rfl

/-- The gradients of the gate and of the up projection are the reference's. -/
theorem dr_eq : FfnWKer.dr m c = Cert.Reference4Ideal.Read.val_main_v30 (F := Ideal) (arg m c main_arg0) (arg m c main_arg1) (arg m c main_arg2) (arg m c main_arg3) (arg m c main_arg4) := by
  unfold FfnWKer.dr V
  simp only [hostOps0, hostOps0_1, hostOps0_2, hostOps0_3, hostOps0_4, List.flatten_cons, List.flatten_nil, List.cons_append, List.nil_append, List.append_nil]
  after_results
  rfl

end Host

/-- The kernel's results are the reference's. -/
theorem value : Cert.algebraic_Kernel4Ideal_Reference4Ideal := by
  intro m g m' g' _ ha
  let A (c : Dev Cert.Reference4Ideal.nD) (b : Ref Cert.Reference4Ideal.sig .tc) := m' ((c.tc : Thread Cert.Reference4Ideal.nD Cert.Reference4Ideal.τ).loc b)
  refine ⟨fun c => Cert.Reference4Ideal.Read.val_main_v35 (F := Ideal) (A c Cert.Reference4Ideal.main_arg0) (A c Cert.Reference4Ideal.main_arg1) (A c Cert.Reference4Ideal.main_arg2) (A c Cert.Reference4Ideal.main_arg3) (A c Cert.Reference4Ideal.main_arg4),
    fun c => Cert.Reference4Ideal.Read.val_main_v36 (F := Ideal) (A c Cert.Reference4Ideal.main_arg0) (A c Cert.Reference4Ideal.main_arg1) (A c Cert.Reference4Ideal.main_arg2) (A c Cert.Reference4Ideal.main_arg3), ?_,
    (θ_run Cert.Reference4Ideal.defs _ _).mono (fun r h c => ⟨(h c).1.trans (Cert.Reference4Ideal.Read.val_main_v35_eq m' c),
      (h c).2.1.trans (Cert.Reference4Ideal.Read.val_main_v36_eq _ _ _ _), (h c).2.2⟩)
      (Cert.Reference4Ideal.Value.run (F := Ideal) m' g')⟩
  refine (θ_run Cert.Kernel4Ideal.defs _ _).mono (fun r h c => ?_) (Cert.Kernel4Ideal.Value.run_blocks (F := Ideal) m g)
  obtain ⟨a0, a1, a2, a3, a4⟩ := ha c
  obtain ⟨b6, b7, kept⟩ := h c
  have e0 : A c Cert.Reference4Ideal.main_arg0 = arg m c Cert.Kernel4Ideal.main_arg0 := a0
  have e1 : A c Cert.Reference4Ideal.main_arg1 = arg m c Cert.Kernel4Ideal.main_arg1 := a1
  have e2 : A c Cert.Reference4Ideal.main_arg2 = arg m c Cert.Kernel4Ideal.main_arg2 := a2
  have e3 : A c Cert.Reference4Ideal.main_arg3 = arg m c Cert.Kernel4Ideal.main_arg3 := a3
  have e4 : A c Cert.Reference4Ideal.main_arg4 = arg m c Cert.Kernel4Ideal.main_arg4 := a4
  refine ⟨b6.trans ((FfnWKer.arr6 m c).trans ?_), b7.trans ((FfnWKer.arr7 m c).trans ?_), kept⟩ <;> funext i <;> idx_vars i
  · rw [e0, e1, e2, e3, e4]
    refine Eq.trans ?_ (FfnWRef.v35 _ _ _ _ _ i0 i1 i2).symm
    rw [← dr_eq m c, ← hr_eq m c]
    rfl
  · rw [e0, e1, e2, e3]
    refine Eq.trans ?_ (FfnWRef.v36 _ _ _ _ i0 i1).symm
    rw [← gr_eq m c, ← yr_eq m c]
    rfl

end Cert.FfnWClaim

end
-- ==== Proof.MixSpec.lean ====
/- The backward of the input projection and its norm over the reals. -/
module

public import proofs.«01_k».proof.Proof.FfnSpec

@[expose] public section

noncomputable section

namespace Cert.MixSpec

open Cert.Reals Cert.FfnSpec

variable (x d p w : ℕ → ℕ → ℝ) (g : ℕ → ℝ)

/-- The gradient that reaches the scaled row. -/
def hgrad (r k : ℕ) : ℝ := ∑ j : Fin 1792, p r j.val * w k j.val

/-- The gradient of the row. -/
def xgrad (r l : ℕ) : ℝ :=
  d r l + ri x r * (hgrad p w r l * g l - xh x r l * ((∑ k : Fin 1024, hgrad p w r k.val * g k.val * xh x r k.val) / 1024))

/-- A row's part of the gain's gradient. -/
def ggrad (r l : ℕ) : ℝ := hgrad p w r l * xh x r l

/-- The gradient of the weight, transposed. -/
def wgrad (j k : ℕ) : ℝ := ∑ r : Fin 4096, p r.val j * (xh x r.val k * g k)

/-- The column of the projection that a duplicated column stands for. -/
def src (s : ℕ) : ℕ := 512 + s / 128 * 64 + s % 64

/-- The projection's gradient with the duplicated columns: the first of each two halves holds it, the second nothing. -/
def pe (r j : ℕ) : ℝ := if j < 512 then p r j else if j < 1024 then (if (j - 512) % 128 < 64 then p r (src (j - 512)) else 0) else p r (j - 256)

/-- The weight's rows with the duplicated ones. -/
def we (j k : ℕ) : ℝ := if j < 512 then w k j else if j < 1024 then w k (src (j - 512)) else w k (j - 256)

/-- The gradient of the duplicated rows. -/
def wext (j k : ℕ) : ℝ := ∑ r : Fin 4096, pe p r.val j * (xh x r.val k * g k)

/-- A sum over duplicated columns of which every second half is nothing. -/
theorem sum_halves (F f : ℕ → ℝ) (h : ∀ a < 4, ∀ c < 64, F (128 * a + c) = f (64 * a + c)) (h0 : ∀ a < 4, ∀ c < 64, F (128 * a + 64 + c) = 0) :
    ∑ s ∈ Finset.range 512, F s = ∑ s ∈ Finset.range 256, f s := by
  have e (a : ℕ) (ha : a < 4) : ∑ c ∈ Finset.range 64, F (128 * a + c) = ∑ c ∈ Finset.range 64, f (64 * a + c) :=
    Finset.sum_congr rfl fun c hc => h a ha c (Finset.mem_range.mp hc)
  have z (a : ℕ) (ha : a < 4) : ∑ c ∈ Finset.range 64, F (128 * a + 64 + c) = 0 :=
    Finset.sum_eq_zero fun c hc => h0 a ha c (Finset.mem_range.mp hc)
  rw [show (512 : ℕ) = 64 + 64 + 64 + 64 + 64 + 64 + 64 + 64 from rfl, show (256 : ℕ) = 64 + 64 + 64 + 64 from rfl]
  simp only [Finset.sum_range_add]
  have e0 := e 0 (by norm_num)
  have e1 := e 1 (by norm_num)
  have e2 := e 2 (by norm_num)
  have e3 := e 3 (by norm_num)
  have z0 := z 0 (by norm_num)
  have z1 := z 1 (by norm_num)
  have z2 := z 2 (by norm_num)
  have z3 := z 3 (by norm_num)
  norm_num at e0 e1 e2 e3 z0 z1 z2 z3 ⊢
  rw [e0, e1, e2, e3, z0, z1, z2, z3]
  ring

/-- The gradient that reaches the scaled row is the same with the duplicated columns. -/
theorem hgrad_ext (r k : ℕ) : ∑ j : Fin 512, pe p r j.val * we w j.val k + ∑ j : Fin 512, pe p r (512 + j.val) * we w (512 + j.val) k
    + ∑ j : Fin 1024, pe p r (1024 + j.val) * we w (1024 + j.val) k = hgrad p w r k := by
  unfold hgrad
  rw [Fin.sum_univ_eq_sum_range (fun j => pe p r j * we w j k), Fin.sum_univ_eq_sum_range (fun j => pe p r (512 + j) * we w (512 + j) k),
    Fin.sum_univ_eq_sum_range (fun j => pe p r (1024 + j) * we w (1024 + j) k), Fin.sum_univ_eq_sum_range (fun j => p r j * w k j)]
  rw [show (1792 : ℕ) = 512 + 256 + 1024 from rfl, Finset.sum_range_add _ (512 + 256), Finset.sum_range_add _ 512]
  have e1 : ∑ j ∈ Finset.range 512, pe p r j * we w j k = ∑ j ∈ Finset.range 512, p r j * w k j := Finset.sum_congr rfl fun j hj => by
    rw [pe, we, if_pos (Finset.mem_range.mp hj), if_pos (Finset.mem_range.mp hj)]
  have e2 : ∑ j ∈ Finset.range 512, pe p r (512 + j) * we w (512 + j) k = ∑ j ∈ Finset.range 256, p r (512 + j) * w k (512 + j) := by
    refine sum_halves _ _ (fun a ha c hc => ?_) (fun a ha c hc => ?_)
    · rw [pe, we, if_neg (by omega), if_pos (by omega), if_pos (by omega), if_neg (by omega), if_pos (by omega),
        show src (512 + (128 * a + c) - 512) = 512 + (64 * a + c) by unfold src; omega]
    · rw [pe, if_neg (by omega), if_pos (by omega), if_neg (by omega), zero_mul]
  have e3 : ∑ j ∈ Finset.range 1024, pe p r (1024 + j) * we w (1024 + j) k = ∑ j ∈ Finset.range 1024, p r (512 + 256 + j) * w k (512 + 256 + j) :=
    Finset.sum_congr rfl fun j _ => by
      rw [pe, we, if_neg (by omega), if_neg (by omega), if_neg (by omega), if_neg (by omega), show 1024 + j - 256 = 512 + 256 + j by omega]
  rw [e1, e2, e3]

/-- The folded rows of the duplicated gradient are the weight's gradient. -/
theorem fold (a c k : ℕ) (ha : a < 4) (hc : c < 64) : wext x p g (512 + (128 * a + c)) k + wext x p g (512 + (128 * a + 64 + c)) k = wgrad x p g (512 + (64 * a + c)) k := by
  have e : wext x p g (512 + (128 * a + 64 + c)) k = 0 := Finset.sum_eq_zero fun r _ => by
    rw [pe, if_neg (by omega), if_pos (by omega), if_neg (by omega), zero_mul]
  rw [e, add_zero]
  refine Finset.sum_congr rfl fun r _ => ?_
  rw [pe, if_neg (by omega), if_pos (by omega), if_pos (by omega), show src (512 + (128 * a + c) - 512) = 512 + (64 * a + c) by unfold src; omega]

/-- The rows before the duplicated ones. -/
theorem before (j k : ℕ) (h : j < 512) : wext x p g j k = wgrad x p g j k :=
  Finset.sum_congr rfl fun r _ => by rw [pe, if_pos h]

/-- The rows after the duplicated ones. -/
theorem behind (j k : ℕ) : wext x p g (1024 + j) k = wgrad x p g (768 + j) k :=
  Finset.sum_congr rfl fun r _ => by rw [pe, if_neg (by omega), if_neg (by omega), show 1024 + j - 256 = 768 + j by omega]

end Cert.MixSpec

end
-- ==== Proof.MixBody.lean ====
/- What the body of the input projection's backward stores, on blocks of real entries. -/
module

public import proofs.«01_k».proof.Proof.Gen.Kernel5Ideal.Skeleton
public import proofs.«01_k».proof.Proof.MixSpec
public import Idealize.ShloMosaic.Lib.Pointwise

@[expose] public section

set_option maxRecDepth 16384

noncomputable section

namespace Cert.MixBody

open Idealize.ShloMosaic Cert.Reals Cert.FfnSpec Cert.MixSpec Cert.Kernel5Ideal Cert.Kernel5Ideal.Gen

variable {x d p w : ℕ → ℕ → ℝ} {g : ℕ → ℝ} {R : ℕ}

/-- 1024 is not zero. -/
theorem n_ne : (1024 : ℝ) ≠ 0 := by norm_num

variable {v0 v50 : Vec Ideal S512x1024 .f32} {v11 v33 : Vec Ideal S1x1024 .f32} {v16 v18 : Vec Ideal S512x512 .bf16} {v20 : Vec Ideal S512x1024 .bf16}
  {v22 v25 : Vec Ideal S512x1024 .bf16} {v29 : Vec Ideal S1024x1024 .bf16}
  (h0 : ∀ (r : Fin 512) (k : Fin 1024), v0 (ix2 r k) = (x (R + r.val) k.val : EReal))
  (h1 : ∀ k : Fin 1024, v11 (ix2 0 k) = (g k.val : EReal))
  (h1' : ∀ k : Fin 1024, v33 (ix2 0 k) = (g k.val : EReal))
  (h2 : ∀ (r : Fin 512) (k : Fin 1024), v50 (ix2 r k) = (d (R + r.val) k.val : EReal))
  (h3 : ∀ r s : Fin 512, v16 (ix2 r s) = (pe p (R + r.val) s.val : EReal))
  (h4 : ∀ r s : Fin 512, v18 (ix2 r s) = (pe p (R + r.val) (512 + s.val) : EReal))
  (h5 : ∀ (r : Fin 512) (s : Fin 1024), v20 (ix2 r s) = (pe p (R + r.val) (1024 + s.val) : EReal))
  (w0 : ∀ (s : Fin 512) (k : Fin 1024), v22 (ix2 s k) = (we w s.val k.val : EReal))
  (w1 : ∀ (s : Fin 512) (k : Fin 1024), v25 (ix2 s k) = (we w (512 + s.val) k.val : EReal))
  (w2 : ∀ s k : Fin 1024, v29 (ix2 s k) = (we w (1024 + s.val) k.val : EReal))

include h0 in
theorem pay10 (r : Fin 512) : k0_pay10 (F := Ideal) v0 (ix2 r 0) = (ri x (R + r.val) : EReal) := by
  pointwise [k0_pay10]
  simp only [h0, ofBits_1024, ofBits_eps, ← EReal.coe_mul, coe_sum, div_coe_coe _ n_ne, ← EReal.coe_add]
  rw [← ms, rsqrt_pos (ms_pos _ _), ri]

include h0 in
theorem pay11 (r : Fin 512) (k : Fin 1024) : k0_pay11 (F := Ideal) v0 (ix2 r k) = (xh x (R + r.val) k.val : EReal) := by
  pointwise [k0_pay11]
  rw [h0, pay10 h0, ← EReal.coe_mul, xh]

include h0 h1 in
theorem pay12 (r : Fin 512) (k : Fin 1024) : k0_pay12 (F := Ideal) v0 v11 (ix2 r k) = ((xh x (R + r.val) k.val * g k.val : ℝ) : EReal) := by
  pointwise [k0_pay12]
  rw [pay11 h0, h1, ← EReal.coe_mul]

theorem pay13 : k0_pay13 (F := Ideal) v16 = v16 := by
  funext i
  idx_vars i
  pointwise [k0_pay13]

theorem pay14 : k0_pay14 (F := Ideal) v18 = v18 := by
  funext i
  idx_vars i
  pointwise [k0_pay14]

theorem pay15 : k0_pay15 (F := Ideal) v20 = v20 := by
  funext i
  idx_vars i
  pointwise [k0_pay15]

include h3 h4 h5 w0 w1 w2 in
/-- The gradient that reaches the block's scaled rows. -/
theorem pay16 (r : Fin 512) (k : Fin 1024) : k0_pay16 (F := Ideal) v16 v18 v20 v22 v25 v29 (ix2 r k) = (hgrad p w (R + r.val) k.val : EReal) := by
  pointwise [k0_pay16]
  simp only [pay13, pay14, pay15, h3, h4, h5, w0, w1, w2, ← EReal.coe_mul, coe_sum, ← EReal.coe_add, hgrad_ext]

section
variable {v32 : FVec Ideal S512x1024 .f32} (h32 : ∀ (r : Fin 512) (k : Fin 1024), v32 (ix2 r k) = (hgrad p w (R + r.val) k.val : EReal))

include h0 h1' h2 h32 in
/-- The gradient of the block's rows. -/
theorem pay2 (r : Fin 512) (k : Fin 1024) : k0_pay2 (F := Ideal) (k0_pay10 v0) (k0_pay11 v0) v32 (k0_pay17 v33) v50 (ix2 r k) = (xgrad x d p w g (R + r.val) k.val : EReal) := by
  pointwise [k0_pay2, k0_pay17]
  simp only [h32, pay10 h0, pay11 h0, h1', h2, ofBits_1024, ← EReal.coe_mul, coe_sum, div_coe_coe _ n_ne, ← EReal.coe_sub, ← EReal.coe_add, xgrad]

include h0 h32 in
/-- The block's part of the gain's gradient. -/
theorem pay1 (k : Fin 1024) : k0_pay1 (F := Ideal) (k0_pay11 v0) v32 (ix2 0 k) = ((∑ r : Fin 512, ggrad x p w (R + r.val) k.val : ℝ) : EReal) := by
  pointwise [k0_pay1]
  simp only [h32, pay11 h0, ← EReal.coe_mul, coe_sum, ggrad]
end

/-- The block's part of the duplicated rows' gradient. -/
def wpart (x p : ℕ → ℕ → ℝ) (g : ℕ → ℝ) (R j k : ℕ) : ℝ := ∑ r : Fin 512, pe p (R + r.val) j * (xh x (R + r.val) k * g k)

include h0 h1 h3 in
theorem pay3 (s : Fin 512) (k : Fin 1024) : k0_pay3 (F := Ideal) (k0_pay12 v0 v11) (k0_pay13 v16) (ix2 s k) = (wpart x p g R s.val k.val : EReal) := by
  pointwise [k0_pay3]
  simp only [pay12 h0 h1, pay13, h3, ← EReal.coe_mul, coe_sum, wpart]

include h0 h1 h4 in
theorem pay4 (s : Fin 512) (k : Fin 1024) : k0_pay4 (F := Ideal) (k0_pay12 v0 v11) (k0_pay14 v18) (ix2 s k) = (wpart x p g R (512 + s.val) k.val : EReal) := by
  pointwise [k0_pay4]
  simp only [pay12 h0 h1, pay14, h4, ← EReal.coe_mul, coe_sum, wpart]

include h0 h1 h5 in
theorem pay5 (s k : Fin 1024) : k0_pay5 (F := Ideal) (k0_pay12 v0 v11) (k0_pay15 v20) (ix2 s k) = (wpart x p g R (1024 + s.val) k.val : EReal) := by
  pointwise [k0_pay5]
  simp only [pay12 h0 h1, pay15, h5, ← EReal.coe_mul, coe_sum, wpart]

/-- A later block's part is added. -/
theorem pay6 {a : FVec Ideal S512x1024 .f32} {b : FVec Ideal S512x1024 .f32} {q : Vec Ideal S1x1024 .f32} (k : Fin 1024) :
    k0_pay6 (F := Ideal) a b q (ix2 0 k) = q (ix2 0 k) + k0_pay1 (F := Ideal) a b (ix2 0 k) := by
  pointwise [k0_pay6]

theorem pay7 {a : FVec Ideal S512x1024 .bf16} {b : FVec Ideal S512x512 .bf16} {q : Vec Ideal S512x1024 .f32} (s : Fin 512) (k : Fin 1024) :
    k0_pay7 (F := Ideal) a b q (ix2 s k) = q (ix2 s k) + k0_pay3 (F := Ideal) a b (ix2 s k) := by
  pointwise [k0_pay7, k0_pay3]

theorem pay8 {a : FVec Ideal S512x1024 .bf16} {b : FVec Ideal S512x512 .bf16} {q : Vec Ideal S512x1024 .f32} (s : Fin 512) (k : Fin 1024) :
    k0_pay8 (F := Ideal) a b q (ix2 s k) = q (ix2 s k) + k0_pay4 (F := Ideal) a b (ix2 s k) := by
  pointwise [k0_pay8, k0_pay4]

theorem pay9 {a : FVec Ideal S512x1024 .bf16} {b : FVec Ideal S512x1024 .bf16} {q : Vec Ideal S1024x1024 .f32} (s k : Fin 1024) :
    k0_pay9 (F := Ideal) a b q (ix2 s k) = q (ix2 s k) + k0_pay5 (F := Ideal) a b (ix2 s k) := by
  pointwise [k0_pay9, k0_pay5]

end Cert.MixBody

end
-- ==== Proof.MixBlk.lean ====
/- The blocks that the input projection's backward kernel reads, on real arguments. -/
module

public import proofs.«01_k».proof.Proof.Gen.Kernel5Ideal.Frame
public import proofs.«01_k».proof.Proof.MixBody
public import Idealize.ShloMosaic.Lib.Pipeline.ValueKit
public import Idealize.ShloMosaic.Lib.Pipeline.Value
public import Idealize.ShloMosaic.Lib.StableHlo.ReadAt

@[expose] public section

set_option maxRecDepth 16384

noncomputable section

namespace Cert.MixBlk

open Idealize.ShloMosaic Idealize.ShloMosaic.TcCoe Idealize.SL.Sem Idealize.ShloMosaic.Pipeline
open Cert.Reals Cert.FfnSpec Cert.MixSpec Cert.MixBody Cert.Kernel5Ideal Cert.Kernel5Ideal.Gen

variable {m : (ℓ : Loc nD τ sig) → Buf (Elt Ideal) ℓ} {c : Dev nD} {x d p w : ℕ → ℕ → ℝ} {g : ℕ → ℝ}

/-- The index maps of the windows, point by point. -/
theorem idx' : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![0, 0] ∧ win0_9.index t = ![0, 0] := by
  decide +kernel

/-- Row `r` of the block of grid point `t`. -/
def row (t : ℕ) (r : Fin 512) (h : t < 8) : Fin 4096 := ⟨t * 512 + r.val, by omega⟩

theorem row_val (t : ℕ) (r : Fin 512) (h : t < 8) : (row t r h : ℕ) = 512 * t + r.val := by
  show t * 512 + r.val = _
  omega

section
variable (hx : ∀ (i : Fin 4096) (j : Fin 1024), m (c, Proc.devRef .tc main_arg0) (ix2 i j) = (x i.val j.val : EReal))
include hx

theorem blk0 (t : Fin cfg0.N) (ht : t.val < 8) (r : Fin 512) (k : Fin 1024) : iblk m c 0 t (ix2 r k) = (x (512 * t.val + r.val) k.val : EReal) := by
  rw [← row_val t.val r ht, ← hx]
  blk_ext [iblk, V, idx' t, row]
end

section
variable (hg : ∀ j : Fin 1024, m (c, Proc.devRef .tc main_arg1) (ix1 j) = (g j.val : EReal))
include hg

theorem gain_host (i : Fin 1024) : V m c main_v11 (ix2 0 i) = (g i.val : EReal) := by
  rw [← hg]
  unfold V
  repeat after_reads_at

theorem blk1 (t : Fin cfg0.N) (k : Fin 1024) : iblk m c 1 t (ix2 0 k) = (g k.val : EReal) := by
  rw [← gain_host (m := m) (c := c) hg]
  blk_ext [iblk, idx' t]
end

section
variable (hd : ∀ (i : Fin 4096) (j : Fin 1024), m (c, Proc.devRef .tc main_arg2) (ix2 i j) = (d i.val j.val : EReal))
include hd

theorem blk2 (t : Fin cfg0.N) (ht : t.val < 8) (r : Fin 512) (k : Fin 1024) : iblk m c 2 t (ix2 r k) = (d (512 * t.val + r.val) k.val : EReal) := by
  rw [← row_val t.val r ht, ← hd]
  blk_ext [iblk, V, idx' t, row]
end

section
variable (hp : ∀ (i : Fin 4096) (j : Fin 1792), m (c, Proc.devRef .tc main_arg3) (ix2 i j) = (p i.val j.val : EReal))
include hp

theorem q_host (i : Fin 4096) (j : Fin 512) : V m c main_v13 (ix2 i j) = (pe p i.val j.val : EReal) := by
  unfold V
  repeat after_reads_at
  pointwise
  rw [hp, pe, if_pos j.isLt]

theorem kv_host (i : Fin 4096) (j : Fin 512) : V m c main_v14 (ix2 i j) = (pe p i.val (512 + j.val) : EReal) := by
  unfold V
  repeat after_reads_at
  pointwise
  simp only [hp, ofBits_zero]
  have hj := j.isLt
  rw [pe, if_neg (by omega), if_pos (by omega)]
  unfold src
  split_ifs <;> first | rfl | exact congrArg (fun n => (p i.val n : EReal)) (by omega) | (exfalso; omega)

theorem ag_host (i : Fin 4096) (j : Fin 1024) : V m c main_v16 (ix2 i j) = (pe p i.val (1024 + j.val) : EReal) := by
  unfold V
  repeat after_reads_at
  pointwise
  rw [hp, pe, if_neg (by omega), if_neg (by omega)]
  exact congrArg (fun n => (p i.val n : EReal)) (show 768 + j.val = 1024 + j.val - 256 by omega)

theorem blk3 (t : Fin cfg0.N) (ht : t.val < 8) (r s : Fin 512) : iblk m c 3 t (ix2 r s) = (pe p (512 * t.val + r.val) s.val : EReal) := by
  rw [← row_val t.val r ht, ← q_host hp]
  blk_ext [iblk, idx' t, row]

theorem blk4 (t : Fin cfg0.N) (ht : t.val < 8) (r s : Fin 512) : iblk m c 4 t (ix2 r s) = (pe p (512 * t.val + r.val) (512 + s.val) : EReal) := by
  rw [← row_val t.val r ht, ← kv_host hp]
  blk_ext [iblk, idx' t, row]

theorem blk5 (t : Fin cfg0.N) (ht : t.val < 8) (r : Fin 512) (s : Fin 1024) : iblk m c 5 t (ix2 r s) = (pe p (512 * t.val + r.val) (1024 + s.val) : EReal) := by
  rw [← row_val t.val r ht, ← ag_host hp]
  blk_ext [iblk, idx' t, row]
end

section
variable (hw : ∀ (i : Fin 1024) (j : Fin 1792), m (c, Proc.devRef .tc main_arg4) (ix2 i j) = (w i.val j.val : EReal))
include hw

theorem w_host (j : Fin 2048) (k : Fin 1024) : V m c main_v33 (ix2 j k) = (we w j.val k.val : EReal) := by
  unfold V
  repeat after_reads_at
  pointwise
  simp only [hw]
  have hj := j.isLt
  unfold we src
  split_ifs <;> first | exact congrArg (fun n => (w k.val n : EReal)) (by omega) | (exfalso; omega)

theorem blk6 (t : Fin cfg0.N) (j : Fin 2048) (k : Fin 1024) : iblk m c 6 t (ix2 j k) = (we w j.val k.val : EReal) := by
  rw [← w_host (m := m) (c := c) hw]
  blk_ext [iblk, idx' t]
end

end Cert.MixBlk

end
-- ==== Proof.MixKer.lean ====
/- What the backward of the input projection leaves in its result arrays, on real arguments. -/
module

public import proofs.«01_k».proof.Proof.MixBlk
public import Idealize.ShloMosaic.Lib.Pipeline.ValueKit
public import Idealize.ShloMosaic.Lib.Pipeline.Value
public import Idealize.ShloMosaic.Lib.Pipeline.ReadBack

@[expose] public section

set_option maxRecDepth 16384

noncomputable section

namespace Cert.MixKer

open Idealize.ShloMosaic Idealize.ShloMosaic.TcCoe Idealize.SL.Sem Idealize.ShloMosaic.Pipeline
open Cert.Reals Cert.FfnSpec Cert.MixSpec Cert.MixBody Cert.MixBlk Cert.Kernel5Ideal Cert.Kernel5Ideal.Gen

/-- A row read from a stretch of the weight's rows. -/
theorem ldr {e : EltTy} {o C : ℕ} (X : Vec Ideal S2048x1024 e) (i : ∀ a, (![o, 0] : Fin 2 → ℕ) a + (⟨2, ![C, 1024]⟩ : Shape).size a ≤ S2048x1024.size a)
    (n : Fin C) (k : Fin 1024) (j : Fin 2048) (h : j.val = o + n.val) :
    View.ld (e' := e) X (Rect.unit (s := S2048x1024) ![o, 0] (⟨2, ![C, 1024]⟩ : Shape).size i) (ix2 n k) = X (ix2 j k) := by
  refine congrArg X ?_
  funext a
  refine Fin.ext ?_
  match a with
  | ⟨0, _⟩ => exact (ValueKit.rect_emb_unit_val _ _ _ _ _).trans h.symm
  | ⟨1, _⟩ => exact (ValueKit.rect_emb_unit_val _ _ _ _ _).trans (zero_add _)

section
variable (x p : ℕ → ℕ → ℝ) (g : ℕ → ℝ) (R : ℕ) (X : S2048x1024.Idx → EReal)

/-- The duplicated rows' gradient after a block, over what was there before. -/
def step (y : S2048x1024.Idx) : EReal := X y + (wpart x p g R (y 0).val (y 1).val : EReal)

/-- A tile of the gradient is the tile of `step` at its place. -/
theorem tile {o C : ℕ} (i : ∀ a, (![o, 0] : Fin 2 → ℕ) a + (⟨2, ![C, 1024]⟩ : Shape).size a ≤ S2048x1024.size a) (P : (⟨2, ![C, 1024]⟩ : Shape).Idx → EReal)
    (hP : ∀ (n : Fin C) (k : Fin 1024), P (ix2 n k)
      = View.ld (Val := Elt Ideal) (e' := .f32) X (Rect.unit (s := S2048x1024) ![o, 0] (⟨2, ![C, 1024]⟩ : Shape).size i) (ix2 n k) + (wpart x p g R (o + n.val) k.val : EReal))
    (z : (⟨2, ![C, 1024]⟩ : Shape).Idx) : P z = step x p g R X ((Rect.unit (s := S2048x1024) ![o, 0] (⟨2, ![C, 1024]⟩ : Shape).size i).emb z) := by
  obtain ⟨z0, z1, rfl⟩ : ∃ a b, z = ix2 a b := ⟨z 0, z 1, eq_ix2 z⟩
  refine (hP z0 z1).trans ?_
  have e0 := ValueKit.rect_emb_unit_val (s := S2048x1024) ![o, 0] (⟨2, ![C, 1024]⟩ : Shape).size i (ix2 z0 z1) 0
  have e1 := ValueKit.rect_emb_unit_val (s := S2048x1024) ![o, 0] (⟨2, ![C, 1024]⟩ : Shape).size i (ix2 z0 z1) 1
  generalize hy : (Rect.unit (s := S2048x1024) ![o, 0] (⟨2, ![C, 1024]⟩ : Shape).size i).emb (ix2 z0 z1) = y at *
  have e0' : (y 0).val = o + z0.val := e0
  have e1' : (y 1).val = z1.val := e1.trans (zero_add _)
  unfold step
  rw [e0', e1']
  exact congrArg (fun i => X i + (wpart x p g R (o + z0.val) z1.val : EReal)) hy

/-- The three tiles of a block cover the duplicated rows. -/
def parts (P0 P1 : FVec Ideal S512x1024 .f32) (P2 : FVec Ideal S1024x1024 .f32) : List (View.Piece (Elt Ideal) S2048x1024 .f32) :=
  [⟨Rect.unit ![1024, 0] ![1024, 1024] inb_S2048x1024_S1024x1024_1024_0, P2⟩,
    ⟨Rect.unit ![512, 0] ![512, 1024] inb_S2048x1024_S512x1024_512_0, P1⟩,
    ⟨Rect.unit ![0, 0] ![512, 1024] inb_S2048x1024_S512x1024_0_0, P0⟩]

/-- What three tiles leave, whatever lies under them. -/
theorem canon9 (P0 P1 : FVec Ideal S512x1024 .f32) (P2 : FVec Ideal S1024x1024 .f32) (L : List (View.Piece (Elt Ideal) S2048x1024 .f32))
    (h0 : ∀ (n : Fin 512) (k : Fin 1024), P0 (ix2 n k)
      = View.ld (Val := Elt Ideal) (e' := .f32) X (Rect.unit (s := S2048x1024) ![0, 0] S512x1024.size inb_S2048x1024_S512x1024_0_0) (ix2 n k) + (wpart x p g R n.val k.val : EReal))
    (h1 : ∀ (n : Fin 512) (k : Fin 1024), P1 (ix2 n k)
      = View.ld (Val := Elt Ideal) (e' := .f32) X (Rect.unit (s := S2048x1024) ![512, 0] S512x1024.size inb_S2048x1024_S512x1024_512_0) (ix2 n k) + (wpart x p g R (512 + n.val) k.val : EReal))
    (h2 : ∀ (n k : Fin 1024), P2 (ix2 n k)
      = View.ld (Val := Elt Ideal) (e' := .f32) X (Rect.unit (s := S2048x1024) ![1024, 0] S1024x1024.size inb_S2048x1024_S1024x1024_1024_0) (ix2 n k) + (wpart x p g R (1024 + n.val) k.val : EReal))
    (y : S2048x1024.Idx) : View.canon (parts P0 P1 P2 ++ L) y = step x p g R X y := by
  refine View.canon_append_of_piecesOf (step x p g R X) L _ ?_ y (View.cover_of_tiledBy (parts P0 P1 P2) ![512, 1024] (by sl_kernel_rfl) y)
  exact ⟨tile x p g R X inb_S2048x1024_S1024x1024_1024_0 P2 h2, tile x p g R X inb_S2048x1024_S512x1024_512_0 P1 h1,
    tile x p g R X inb_S2048x1024_S512x1024_0_0 P0 fun n k => (h0 n k).trans (by rw [zero_add]), trivial⟩
end

variable (m : (ℓ : Loc nD τ sig) → Buf (Elt Ideal) ℓ) (c : Dev nD) {x d p w : ℕ → ℕ → ℝ} {g : ℕ → ℝ}
  (hx : ∀ (i : Fin 4096) (j : Fin 1024), m (c, Proc.devRef .tc main_arg0) (ix2 i j) = (x i.val j.val : EReal))
  (hg : ∀ j : Fin 1024, m (c, Proc.devRef .tc main_arg1) (ix1 j) = (g j.val : EReal))
  (hd : ∀ (i : Fin 4096) (j : Fin 1024), m (c, Proc.devRef .tc main_arg2) (ix2 i j) = (d i.val j.val : EReal))
  (hp : ∀ (i : Fin 4096) (j : Fin 1792), m (c, Proc.devRef .tc main_arg3) (ix2 i j) = (p i.val j.val : EReal))
  (hw : ∀ (i : Fin 1024) (j : Fin 1792), m (c, Proc.devRef .tc main_arg4) (ix2 i j) = (w i.val j.val : EReal))

/-- The grid has eight points. -/
theorem lt8 (t : Fin cfg0.N) : t.val < 8 := lt_of_lt_of_eq t.isLt N_0

/-- Row sums over the blocks are sums over all rows. -/
theorem sum_rows {N : ℕ} (hN : N = 8) (f : ℕ → ℝ) : ∑ t : Fin N, ∑ r : Fin 512, f (512 * t.val + r.val) = ∑ i : Fin 4096, f i.val := by
  subst hN
  refine Eq.trans ?_ (Fin.sum_univ_univ_mul_add 8 512 f)
  simp only [Nat.mul_comm]

/-- The gradient that reaches the scaled rows of a block. -/
abbrev hblk (t : Fin cfg0.N) : FVec Ideal S512x1024 .f32 :=
  k0_pay16 (iblk m c 3 t) (iblk m c 4 t) (iblk m c 5 t)
    (View.ld (iblk m c 6 t) (Rect.unit (s := S2048x1024) ![0, 0] S512x1024.size inb_S2048x1024_S512x1024_0_0))
    (View.ld (iblk m c 6 t) (Rect.unit (s := S2048x1024) ![512, 0] S512x1024.size inb_S2048x1024_S512x1024_512_0))
    (View.ld (iblk m c 6 t) (Rect.unit (s := S2048x1024) ![1024, 0] S1024x1024.size inb_S2048x1024_S1024x1024_1024_0))

section
include hp hw

theorem hblk_eq (t : Fin cfg0.N) (r : Fin 512) (k : Fin 1024) : hblk m c t (ix2 r k) = (hgrad p w (512 * t.val + r.val) k.val : EReal) :=
  pay16 (blk3 hp t (lt8 t)) (blk4 hp t (lt8 t)) (blk5 hp t (lt8 t))
    (fun s k => (ldr (iblk m c 6 t) _ s k ⟨s.val, by omega⟩ (zero_add _).symm).trans (blk6 hw t _ k))
    (fun s k => (ldr (iblk m c 6 t) _ s k ⟨512 + s.val, by omega⟩ rfl).trans (blk6 hw t _ k))
    (fun s k => (ldr (iblk m c 6 t) _ s k ⟨1024 + s.val, by omega⟩ rfl).trans (blk6 hw t _ k)) r k

include hx

/-- The first point stores its part of the gain's gradient. -/
theorem out8_A (t : Fin cfg0.N) (h0 : t.val % 8 = 0) (k : Fin 1024) :
    (outsAt0 m c t.val t.isLt).2.1 (ix2 0 k) = ((∑ r : Fin 512, ggrad x p w (512 * t.val + r.val) k.val : ℝ) : EReal) := by
  rw [outsAt0_A m c t h0 (by have := lt8 t; omega)]
  frame_out
  exact pay1 (blk0 hx t (lt8 t)) (hblk_eq m c hp hw t) k

/-- A later point adds its part. -/
theorem out8_B (t : Fin cfg0.N) (h0 : ¬t.val % 8 = 0) (k : Fin 1024) :
    (outsAt0 m c t.val t.isLt).2.1 (ix2 0 k)
      = (outsAt0 m c (t.val - 1) (Nat.lt_of_le_of_lt (Nat.sub_le _ _) t.isLt)).2.1 (ix2 0 k) + ((∑ r : Fin 512, ggrad x p w (512 * t.val + r.val) k.val : ℝ) : EReal) := by
  rw [outsAt0_B m c t h0 (by omega)]
  frame_out
  exact (pay6 k).trans (congrArg _ (pay1 (blk0 hx t (lt8 t)) (hblk_eq m c hp hw t) k))

/-- The gain's gradient after the last point: the blocks' parts added. -/
theorem out8 (k : Fin 1024) :
    (outsAt0 m c t0_7.val t0_7.isLt).2.1 (ix2 0 k) = ((∑ i : Fin 4096, ggrad x p w i.val k.val : ℝ) : EReal) := by
  have hN : cfg0.N = 8 := N_0
  have key := Pipeline.eq_sum_fin_of_reset_step_apply_last (fun n h => (outsAt0 m c n h).2.1) 8 0
    (fun t (y : S1x1024.Idx) => ((∑ r : Fin 512, ggrad x p w (512 * t.val + r.val) (y 1).val : ℝ) : EReal))
    (fun t h y => by
      idx_vars y
      obtain rfl : y0 = 0 := Subsingleton.elim _ _
      exact (out8_A m c hx hp hw t h _).trans (zero_add _).symm)
    (fun t h y => by
      idx_vars y
      obtain rfl : y0 = 0 := Subsingleton.elim _ _
      exact out8_B m c hx hp hw t h _)
    (by decide) t0_7 (by decide) (ix2 0 k)
  refine key.trans ?_
  rw [show (0 : S1x1024.Idx → EReal) (ix2 0 k) = 0 from rfl, zero_add, coe_sum]
  exact congrArg _ (sum_rows hN fun i => ggrad x p w i k.val)

include hg hd

/-- The gradient of a block's rows. -/
theorem out7 (t : Fin cfg0.N) (r : Fin 512) (k : Fin 1024) :
    (outsAt0 m c t.val t.isLt).1 (ix2 r k) = (xgrad x d p w g (512 * t.val + r.val) k.val : EReal) := by
  by_cases h0 : t.val % 8 = 0
  · rw [outsAt0_A m c t h0 (by have := lt8 t; omega)]
    frame_out
    exact pay2 (blk0 hx t (lt8 t)) (blk1 hg t) (blk2 hd t (lt8 t)) (hblk_eq m c hp hw t) r k
  · rw [outsAt0_B m c t h0 (by omega)]
    frame_out
    exact pay2 (blk0 hx t (lt8 t)) (blk1 hg t) (blk2 hd t (lt8 t)) (hblk_eq m c hp hw t) r k
end

section
include hx hg hp

/-- The first point stores its part of the duplicated rows' gradient. -/
theorem out9_A (t : Fin cfg0.N) (h0 : t.val % 8 = 0) (y : S2048x1024.Idx) :
    (outsAt0 m c t.val t.isLt).2.2 y = step x p g (512 * t.val) (fun _ => 0) y := by
  rw [outsAt0_A m c t h0 (by have := lt8 t; omega)]
  frame_out
  exact canon9 x p g (512 * t.val) (fun _ => 0) _ _ _ []
    (fun n k => (pay3 (blk0 hx t (lt8 t)) (blk1 hg t) (blk3 hp t (lt8 t)) n k).trans (zero_add _).symm)
    (fun n k => (pay4 (blk0 hx t (lt8 t)) (blk1 hg t) (blk4 hp t (lt8 t)) n k).trans (zero_add _).symm)
    (fun n k => (pay5 (blk0 hx t (lt8 t)) (blk1 hg t) (blk5 hp t (lt8 t)) n k).trans (zero_add _).symm) y

/-- A later point adds its part. -/
theorem out9_B (t : Fin cfg0.N) (h0 : ¬t.val % 8 = 0) (y : S2048x1024.Idx) :
    (outsAt0 m c t.val t.isLt).2.2 y = step x p g (512 * t.val) (outsAt0 m c (t.val - 1) (Nat.lt_of_le_of_lt (Nat.sub_le _ _) t.isLt)).2.2 y := by
  rw [outsAt0_B m c t h0 (by omega)]
  frame_out
  exact canon9 x p g (512 * t.val) _ _ _ _ []
    (fun n k => (pay7 n k).trans (congrArg _ (pay3 (blk0 hx t (lt8 t)) (blk1 hg t) (blk3 hp t (lt8 t)) n k)))
    (fun n k => (pay8 n k).trans (congrArg _ (pay4 (blk0 hx t (lt8 t)) (blk1 hg t) (blk4 hp t (lt8 t)) n k)))
    (fun n k => (pay9 n k).trans (congrArg _ (pay5 (blk0 hx t (lt8 t)) (blk1 hg t) (blk5 hp t (lt8 t)) n k))) y

/-- The duplicated rows' gradient after the last point. -/
theorem out9 (y : S2048x1024.Idx) : (outsAt0 m c t0_7.val t0_7.isLt).2.2 y = (wext x p g (y 0).val (y 1).val : EReal) := by
  have hN : cfg0.N = 8 := N_0
  have key := Pipeline.eq_sum_fin_of_reset_step_apply_last (fun n h => (outsAt0 m c n h).2.2) 8 0
    (fun t (y : S2048x1024.Idx) => (wpart x p g (512 * t.val) (y 0).val (y 1).val : EReal))
    (fun t h y => out9_A m c hx hg hp t h y) (fun t h y => out9_B m c hx hg hp t h y)
    (by decide) t0_7 (by decide) y
  refine key.trans ?_
  rw [show (0 : S2048x1024.Idx → EReal) y = 0 from rfl, zero_add, coe_sum]
  exact congrArg _ (sum_rows hN fun i => pe p i (y 0).val * (xh x i (y 1).val * g (y 1).val))
end

section
include hx hg hd hp hw

/-- The rows' gradient after the run. -/
theorem arr7 : (dats m 0 c).arrAt 7 cfg0.N = (fun i => (xgrad x d p w g (i 0).val (i 1).val : EReal) : FVec Ideal S4096x1024 .f32) := by
  refine (dats m 0 c).arrAt_eq_of_covers 7 _ (by decide +kernel) fun t hf y => ?_
  have e : ((cfg0.win 7).blk t).view.emb y = (ix2 (row t.val (y 0) (lt8 t)) (y 1) : S4096x1024.Idx) := by
    blk_ext [idx' t, row]
  rw [e, after0_7]
  refine Eq.trans ?_ ((out7 m c hx hg hd hp hw t (y 0) (y 1)).trans ?_)
  · exact congrArg (outsAt0 m c t.val t.isLt).1 (eq_ix2 y)
  · exact congrArg (fun i => (xgrad x d p w g i (y 1).val : EReal)) (row_val t.val (y 0) (lt8 t)).symm
end

include hx hp hw in
/-- The gain's gradient after the run. -/
theorem arr8 : (dats m 0 c).arrAt 8 cfg0.N = (fun i => ((∑ r : Fin 4096, ggrad x p w r.val (i 1).val : ℝ) : EReal) : FVec Ideal S1x1024 .f32) := by
  refine (dats m 0 c).arrAt_eq_of_after_last 8 t0_7 (by decide +kernel) _ fun y => ?_
  rw [after0_8]
  refine Eq.trans ?_ (out8 m c hx hp hw (y 1))
  refine congrArg (outsAt0 m c t0_7.val t0_7.isLt).2.1 ?_
  blk_ext []

include hx hg hp in
/-- The duplicated rows' gradient after the run. -/
theorem arr9 : (dats m 0 c).arrAt 9 cfg0.N = (fun i => (wext x p g (i 0).val (i 1).val : EReal) : FVec Ideal S2048x1024 .f32) := by
  refine (dats m 0 c).arrAt_eq_of_after_last 9 t0_7 (by decide +kernel) _ fun y => ?_
  rw [after0_9]
  refine Eq.trans ?_ (out9 m c hx hg hp y)
  refine congrArg (outsAt0 m c t0_7.val t0_7.isLt).2.2 ?_
  blk_ext []

/-- Each window's array is its own. -/
theorem spec_inj : Function.Injective (Pipeline.arrRef (sig := sig) spec0) := by decide

include hx hp hw in
/-- The gain's gradient, its unit axis dropped by the host. -/
theorem tail54 (k : Fin 1024) : Pipeline.afterTail₀ cfgs (dats m) 0 (V0 m) [hostOps1] c main_v54 (ix1 k)
    = ((∑ r : Fin 4096, ggrad x p w r.val k.val : ℝ) : EReal) := by
  show StableHlo.after hostOps1 _ (Proc.devRef .tc main_v54) (ix1 k) = _
  after_results
  rw [show Pipeline.withArrays (cfgs 0).spec c (V0 m c) (fun w => (dats m 0 c).arrAt w (cfgs 0).N) (Proc.devRef .tc main_v34_1) = (dats m 0 c).arrAt 8 cfg0.N
    from Pipeline.withArrays_arr spec0 spec_inj c (V0 m c) (fun w => (dats m 0 c).arrAt w (cfgs 0).N) 8, arr8 m c hx hp hw]
  pointwise

/-- A row of the weight that was duplicated has the sum of its two copies' gradients. -/
theorem two {a c j u v k : ℕ} (ha : a < 4) (hc : c < 64) (hu : u = 512 + (128 * a + c)) (hv : v = 512 + (128 * a + 64 + c)) (hj : j = 512 + (64 * a + c)) :
    (wext x p g u k : EReal) + (wext x p g v k : EReal) = (wgrad x p g j k : EReal) := by
  rw [hu, hv, hj, ← EReal.coe_add, fold x p g a c k ha hc]

/-- The host's folding of the duplicated rows. -/
theorem fold_host (W : Valuation τ sig (Elt Ideal)) (hW : ∀ (j : Fin 2048) (k : Fin 1024), W (Proc.devRef .tc main_v34_2) (ix2 j k) = (wext x p g j.val k.val : EReal))
    (j : Fin 1792) (k : Fin 1024) : StableHlo.after hostOps1 W (Proc.devRef .tc main_v55) (ix2 j k) = (wgrad x p g j.val k.val : EReal) := by
  repeat after_reads_at
  pointwise
  simp only [hW]
  have hj := j.isLt
  split_ifs
  · rw [before x p g _ _ ‹_›]
  · exact two (a := 0) (c := j.val - 512) (by omega) (by omega) (by omega) (by omega) (by omega)
  · exact two (a := 1) (c := j.val - 576) (by omega) (by omega) (by omega) (by omega) (by omega)
  · exact two (a := 2) (c := j.val - 640) (by omega) (by omega) (by omega) (by omega) (by omega)
  · exact two (a := 3) (c := j.val - 704) (by omega) (by omega) (by omega) (by omega) (by omega)
  · rw [behind x p g]
    exact congrArg (fun n => (wgrad x p g n k.val : EReal)) (by omega)

include hx hg hp in
/-- The weight's gradient, its duplicated rows folded by the host. -/
theorem tail55 (j : Fin 1792) (k : Fin 1024) : Pipeline.afterTail₀ cfgs (dats m) 0 (V0 m) [hostOps1] c main_v55 (ix2 j k) = (wgrad x p g j.val k.val : EReal) :=
  fold_host (Pipeline.withArrays (cfgs 0).spec c (V0 m c) (fun w => (dats m 0 c).arrAt w (cfgs 0).N))
    (fun j k => congrFun ((Pipeline.withArrays_arr spec0 spec_inj c (V0 m c) (fun w => (dats m 0 c).arrAt w (cfgs 0).N) 9).trans (arr9 m c hx hg hp)) (ix2 j k)) j k

end Cert.MixKer

end
-- ==== Proof.MixRef.lean ====
/- What the reference of the input projection's backward computes on real arguments. -/
module

public import proofs.«01_k».proof.Proof.Gen.Reference5Ideal.Read
public import proofs.«01_k».proof.Proof.MixSpec
public import Idealize.ShloMosaic.Lib.Pointwise

@[expose] public section

set_option maxRecDepth 16384

noncomputable section

namespace Cert.MixRef

open Idealize.ShloMosaic Cert.Reals Cert.FfnSpec Cert.MixSpec Cert.Reference5Ideal Cert.Reference5Ideal.Gen Cert.Reference5Ideal.Read

variable {A D : FVec Ideal S4096x1024 .f32} {B : FVec Ideal S1024 .f32} {P : FVec Ideal S4096x1792 .f32} {W : FVec Ideal S1024x1792 .f32}
  {x d p w : ℕ → ℕ → ℝ} {g : ℕ → ℝ}

/-- 1024 is not zero. -/
theorem n_ne : (1024 : ℝ) ≠ 0 := by norm_num

section
variable (hA : ∀ (i : Fin 4096) (j : Fin 1024), A (ix2 i j) = (x i.val j.val : EReal))
include hA

theorem v6 (i : Fin 4096) : val_main_v6 (F := Ideal) A (ix2 i 0) = (ms x i.val : EReal) := by
  pointwise [val_main_v6, val_main_v4, val_main_v5, val_main_v2, val_main_v3, val_main_v1, val_main_v0, val_main_cst, val_main_cst_0, val_main_cst_1]
  simp only [hA, ofBits_1024, ofBits_eps, ← EReal.coe_mul, coe_sum, div_coe_coe _ n_ne, ← EReal.coe_add, ms]

theorem v7 (i : Fin 4096) : val_main_v7 (F := Ideal) A (ix2 i 0) = (ri x i.val : EReal) := by
  unfold val_main_v7
  pointwise
  rw [v6 hA, rsqrt_pos (ms_pos _ _), ri]

theorem v10 (i : Fin 4096) : val_main_v10 (F := Ideal) A (ix2 i 0) = ((-(1 / 2) * (ri x i.val / ms x i.val) : ℝ) : EReal) := by
  pointwise [val_main_v10, val_main_v9, val_main_v8, val_main_cst_2]
  simp only [v6 hA, v7 hA, ofBits_neg_half, div_coe_coe _ (ms_pos _ _).ne', ← EReal.coe_mul]

theorem v12 (i : Fin 4096) (j : Fin 1024) : val_main_v12 (F := Ideal) A (ix2 i j) = (xh x i.val j.val : EReal) := by
  pointwise [val_main_v12, val_main_v11]
  simp only [v7 hA, hA, ← EReal.coe_mul, xh]

variable (hB : ∀ j : Fin 1024, B (ix1 j) = (g j.val : EReal)) (hP : ∀ (i : Fin 4096) (j : Fin 1792), P (ix2 i j) = (p i.val j.val : EReal))

include hB in
theorem v15 (i : Fin 4096) (j : Fin 1024) : val_main_v15 (F := Ideal) A B (ix2 i j) = ((xh x i.val j.val * g j.val : ℝ) : EReal) := by
  pointwise [val_main_v15, val_main_v14, val_main_v13]
  simp only [v12 hA, hB, ← EReal.coe_mul]

include hB hP in
/-- The gradient of the weight. -/
theorem v42 (j : Fin 1792) (k : Fin 1024) : val_main_v42 (F := Ideal) A B P (ix2 j k) = (wgrad x p g j.val k.val : EReal) := by
  pointwise [val_main_v42, val_main_v41, val_main_v18, val_main_v17]
  simp only [v15 hA hB, hP, ← EReal.coe_mul, coe_sum, wgrad]
end

section
variable (hP : ∀ (i : Fin 4096) (j : Fin 1792), P (ix2 i j) = (p i.val j.val : EReal)) (hW : ∀ (i : Fin 1024) (j : Fin 1792), W (ix2 i j) = (w i.val j.val : EReal))
include hP hW

theorem v19 (i : Fin 4096) (k : Fin 1024) : val_main_v19 (F := Ideal) P W (ix2 i k) = (hgrad p w i.val k.val : EReal) := by
  pointwise [val_main_v19]
  simp only [hP, hW, ← EReal.coe_mul, coe_sum, hgrad]

variable (hA : ∀ (i : Fin 4096) (j : Fin 1024), A (ix2 i j) = (x i.val j.val : EReal))
  (hB : ∀ j : Fin 1024, B (ix1 j) = (g j.val : EReal))
  (hD : ∀ (i : Fin 4096) (j : Fin 1024), D (ix2 i j) = (d i.val j.val : EReal))

include hA in
/-- The gradient of the gain. -/
theorem v25 (j : Fin 1024) : val_main_v25 (F := Ideal) A P W (ix1 j) = ((∑ i : Fin 4096, ggrad x p w i.val j.val : ℝ) : EReal) := by
  pointwise [val_main_v25, val_main_v22, val_main_v21, val_main_v20, val_main_cst_3, val_main_cst_4]
  simp only [v12 hA, v19 hP hW, ← EReal.coe_mul, coe_sum, ggrad, mul_comm, Fin.sum_univ_one]

include hB in
theorem v24 (i : Fin 4096) (j : Fin 1024) : val_main_v24 (F := Ideal) B P W (ix2 i j) = ((hgrad p w i.val j.val * g j.val : ℝ) : EReal) := by
  pointwise [val_main_v24, val_main_v23, val_main_v13]
  simp only [v19 hP hW, hB, ← EReal.coe_mul]

include hA hB in
theorem v34 (i : Fin 4096) : val_main_v34 (F := Ideal) A B P W (ix2 i 0)
    = (((∑ k : Fin 1024, hgrad p w i.val k.val * g k.val * x i.val k.val) * (-(1 / 2) * (ri x i.val / ms x i.val)) / 1024 : ℝ) : EReal) := by
  pointwise [val_main_v34, val_main_v33, val_main_v32, val_main_v28, val_main_v27, val_main_v26, val_main_cst_5, val_main_cst_6]
  simp only [v10 hA, v24 hP hW hB, ofBits_1024, hA, ← EReal.coe_mul, coe_sum, div_coe_coe _ n_ne]
  simp only [mul_comm (x i.val _)]

include hA hB hD in
/-- The gradient of the rows. -/
theorem v40 (i : Fin 4096) (j : Fin 1024) : val_main_v40 (F := Ideal) A B D P W (ix2 i j) = (xgrad x d p w g i.val j.val : EReal) := by
  pointwise [val_main_v40, val_main_v39, val_main_v38, val_main_v37, val_main_v36, val_main_v35, val_main_v31, val_main_v30, val_main_v29, val_main_cst_7]
  simp only [Fin.sum_univ_one, v34 hP hW hA hB, v24 hP hW hB, v7 hA, hA, hD, ← EReal.coe_mul, coe_sum, ← EReal.coe_add]
  have e := rms_grad (ms_pos x i.val) (hgrad p w i.val j.val * g j.val) (x i.val j.val)
    (∑ k : Fin 1024, hgrad p w i.val k.val * g k.val * x i.val k.val) 1024
  rw [← ri] at e
  rw [add_assoc, add_assoc, ← add_assoc (hgrad p w i.val j.val * g j.val * _), e, xgrad]
  simp only [xh, ← mul_assoc, ← Finset.sum_mul]
end

end Cert.MixRef

end
-- ==== Proof.MixClaim.lean ====
/- The claims of the backward of the mixer's input: its reference's frame and the equality of their results on finite arguments. -/
module

public import proofs.«01_k».proof.Defs
public import proofs.«01_k».proof.Proof.Gen.Pre_mix_finite
public import proofs.«01_k».proof.Proof.MixKer
public import proofs.«01_k».proof.Proof.MixRef
public import proofs.«01_k».proof.Proof.Finite
public import Idealize.ShloMosaic.Lib.Quiescent

@[expose] public section

set_option maxRecDepth 16384

noncomputable section

namespace Cert.MixClaim

open Idealize.ShloMosaic Idealize.ShloMosaic.TcCoe Idealize.SL.Sem
open Cert.Reals Cert.MixSpec

/-- The reference runs, keeps its arguments and leaves every counter at zero. -/
theorem frame_ri : Cert.quiescent_Reference5Ideal := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)

/-- The entries of finite arguments are reals. -/
theorem entries (m : (ℓ : Loc Cert.Kernel5Ideal.nD Cert.Kernel5Ideal.τ Cert.Kernel5Ideal.sig) → Buf (Elt Ideal) ℓ)
    (h : Cert.Pre_Kernel5Ideal_mix_finite m) (c : Dev Cert.Kernel5Ideal.nD) :
    ∃ (x d p w : ℕ → ℕ → ℝ) (g : ℕ → ℝ),
      (∀ (i : Fin 4096) (j : Fin 1024), m ((c.tc : Thread Cert.Kernel5Ideal.nD Cert.Kernel5Ideal.τ).loc Cert.Kernel5Ideal.main_arg0) (ix2 i j) = (x i.val j.val : EReal))
      ∧ (∀ j : Fin 1024, m ((c.tc : Thread Cert.Kernel5Ideal.nD Cert.Kernel5Ideal.τ).loc Cert.Kernel5Ideal.main_arg1) (ix1 j) = (g j.val : EReal))
      ∧ (∀ (i : Fin 4096) (j : Fin 1024), m ((c.tc : Thread Cert.Kernel5Ideal.nD Cert.Kernel5Ideal.τ).loc Cert.Kernel5Ideal.main_arg2) (ix2 i j) = (d i.val j.val : EReal))
      ∧ (∀ (i : Fin 4096) (j : Fin 1792), m ((c.tc : Thread Cert.Kernel5Ideal.nD Cert.Kernel5Ideal.τ).loc Cert.Kernel5Ideal.main_arg3) (ix2 i j) = (p i.val j.val : EReal))
      ∧ (∀ (i : Fin 1024) (j : Fin 1792), m ((c.tc : Thread Cert.Kernel5Ideal.nD Cert.Kernel5Ideal.τ).loc Cert.Kernel5Ideal.main_arg4) (ix2 i j) = (w i.val j.val : EReal)) := by
  have h := congrFun (h c) ix0
  unfold Cert.Pre_mix_finite.fn at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton Cert.Pre_mix_finite.S_.Idx := ⟨fun a b => funext fun x => x.elim0⟩
  obtain ⟨x, hx⟩ := Finite.reals2 (Finite.all _ _ (fun _ => by pointwise) _ _ _ _ h0)
  obtain ⟨g, hg⟩ := Finite.reals1 (Finite.all _ _ (fun _ => by pointwise) _ _ _ _ h1)
  obtain ⟨d, hd⟩ := Finite.reals2 (Finite.all _ _ (fun _ => by pointwise) _ _ _ _ h2)
  obtain ⟨p, hp⟩ := Finite.reals2 (Finite.all _ _ (fun _ => by pointwise) _ _ _ _ h3)
  obtain ⟨w, hw⟩ := Finite.reals2 (Finite.all _ _ (fun _ => by pointwise) _ _ _ _ h4)
  exact ⟨x, d, p, w, g, hx, hg, hd, hp, hw⟩

/-- On finite arguments the kernel's results are the reference's. -/
theorem value : Cert.algebraic_Kernel5Ideal_Reference5Ideal_pre_mix_finite := by
  intro m ρ m' ρ' h ha
  let A (c : Dev Cert.Reference5Ideal.nD) (b : Ref Cert.Reference5Ideal.sig .tc) := m' ((c.tc : Thread Cert.Reference5Ideal.nD Cert.Reference5Ideal.τ).loc b)
  refine ⟨fun c => Cert.Reference5Ideal.Read.val_main_v40 (F := Ideal) (A c Cert.Reference5Ideal.main_arg0) (A c Cert.Reference5Ideal.main_arg1) (A c Cert.Reference5Ideal.main_arg2) (A c Cert.Reference5Ideal.main_arg3) (A c Cert.Reference5Ideal.main_arg4),
    fun c => Cert.Reference5Ideal.Read.val_main_v25 (F := Ideal) (A c Cert.Reference5Ideal.main_arg0) (A c Cert.Reference5Ideal.main_arg3) (A c Cert.Reference5Ideal.main_arg4),
    fun c => Cert.Reference5Ideal.Read.val_main_v42 (F := Ideal) (A c Cert.Reference5Ideal.main_arg0) (A c Cert.Reference5Ideal.main_arg1) (A c Cert.Reference5Ideal.main_arg3), ?_,
    (θ_run Cert.Reference5Ideal.defs _ _).mono (fun r h c => ⟨(h c).1.trans (Cert.Reference5Ideal.Read.val_main_v40_eq m' c),
      (h c).2.1.trans (Cert.Reference5Ideal.Read.val_main_v25_eq _ _ _), (h c).2.2.1.trans (Cert.Reference5Ideal.Read.val_main_v42_eq _ _ _), (h c).2.2.2⟩)
      (Cert.Reference5Ideal.Value.run (F := Ideal) m' ρ')⟩
  refine (θ_run Cert.Kernel5Ideal.defs _ _).mono (fun r hr c => ?_) (θ_run_and (Cert.Kernel5Ideal.Gen.run_main (F := Ideal) m ρ) (Cert.Kernel5Ideal.Gen.unchanged (F := Ideal) m ρ))
  obtain ⟨x, d, p, w, g, hx, hg, hd, hp, hw⟩ := entries m h c
  obtain ⟨a0, a1, a2, a3, a4⟩ := ha c
  have kx : ∀ (i : Fin 4096) (j : Fin 1024), A c Cert.Reference5Ideal.main_arg0 (ix2 i j) = (x i.val j.val : EReal) := fun i j => (congrFun a0 _).trans (hx i j)
  have kg : ∀ j : Fin 1024, A c Cert.Reference5Ideal.main_arg1 (ix1 j) = (g j.val : EReal) := fun j => (congrFun a1 _).trans (hg j)
  have kd : ∀ (i : Fin 4096) (j : Fin 1024), A c Cert.Reference5Ideal.main_arg2 (ix2 i j) = (d i.val j.val : EReal) := fun i j => (congrFun a2 _).trans (hd i j)
  have kp : ∀ (i : Fin 4096) (j : Fin 1792), A c Cert.Reference5Ideal.main_arg3 (ix2 i j) = (p i.val j.val : EReal) := fun i j => (congrFun a3 _).trans (hp i j)
  have kw : ∀ (i : Fin 1024) (j : Fin 1792), A c Cert.Reference5Ideal.main_arg4 (ix2 i j) = (w i.val j.val : EReal) := fun i j => (congrFun a4 _).trans (hw i j)
  refine ⟨((hr.1 c).1 7).trans ((MixKer.arr7 m c hx hg hd hp hw).trans ?_), ((hr.1 c).2 Cert.Kernel5Ideal.main_v54 (Pipeline.mem_restRefs_of _ (by decide) (by decide))).trans ?_,
    ((hr.1 c).2 Cert.Kernel5Ideal.main_v55 (Pipeline.mem_restRefs_of _ (by decide) (by decide))).trans ?_, hr.2 c⟩ <;> funext i <;> idx_vars i
  · exact (MixRef.v40 kp kw kx kg kd _ _).symm
  · exact (MixKer.tail54 m c hx hp hw _).trans (MixRef.v25 kp kw kx _).symm
  · exact (MixKer.tail55 m c hx hg hp _ _).trans (MixRef.v42 kx kg kp _ _).symm

end Cert.MixClaim

end
-- ==== Proof.ConvSpec.lean ====
/- The layer norm and the swish that follow the depthwise convolution, over the reals: a row's gradient and its parts of the gradients of the bias, the gain and the shift. -/
module

public import proofs.«01_k».proof.Proof.FfnSpec

@[expose] public section

noncomputable section

namespace Cert.ConvSpec

open Cert.Reals Cert.FfnSpec

variable (y d : ℕ → ℕ → ℝ) (g h : ℕ → ℝ)

/-- A row's mean. -/
def mu (i : ℕ) : ℝ := (∑ j : Fin 512, y i j.val) / 512

/-- The centred row. -/
def yc (i j : ℕ) : ℝ := y i j - mu y i

/-- The row's variance, `eps` added. -/
def va (i : ℕ) : ℝ := (∑ j : Fin 512, yc y i j.val * yc y i j.val) / 512 + eps

/-- The reciprocal of its root. -/
def rv (i : ℕ) : ℝ := (Real.sqrt (va y i))⁻¹

/-- The normalised row. -/
def yh (i j : ℕ) : ℝ := yc y i j * rv y i

/-- The scaled and shifted row. -/
def yn (i j : ℕ) : ℝ := yh y i j * g j + h j

/-- The gradient that reaches the scaled and shifted row. -/
def dn (i j : ℕ) : ℝ := d i j * (sg (yn y g h i j) * (1 + yn y g h i j * (1 - sg (yn y g h i j))))

/-- The gradient that reaches the normalised row. -/
def dhat (i j : ℕ) : ℝ := dn y d g h i j * g j

/-- The gradient of the row. -/
def dy (i j : ℕ) : ℝ :=
  rv y i * (dhat y d g h i j - (∑ k : Fin 512, dhat y d g h i k.val) / 512 - yh y i j * ((∑ k : Fin 512, dhat y d g h i k.val * yh y i k.val) / 512))

/-- A variance with `eps` is positive. -/
theorem va_pos (i : ℕ) : 0 < va y i :=
  add_pos_of_nonneg_of_pos (div_nonneg (Finset.sum_nonneg fun k _ => mul_self_nonneg (yc y i k.val)) (by norm_num)) eps_pos

/-- A centred row sums to zero. -/
theorem sum_yc (i : ℕ) : ∑ j : Fin 512, yc y i j.val = 0 := by
  simp only [yc, mu, Finset.sum_sub_distrib, Finset.sum_const, Finset.card_univ, Fintype.card_fin, nsmul_eq_mul]
  push_cast
  ring

/-- The gradient of a row as differentiation leaves it: through the centred row, the variance and the mean. -/
theorem ln_grad (i j : ℕ) :
    dhat y d g h i j * rv y i + (∑ k : Fin 512, yc y i k.val * dhat y d g h i k.val) * (-(1 / 2) * (rv y i / va y i)) / 512 * (2 * yc y i j)
      + ((∑ k : Fin 512, -(dhat y d g h i k.val * rv y i))
        + ∑ k : Fin 512, -((∑ l : Fin 512, yc y i l.val * dhat y d g h i l.val) * (-(1 / 2) * (rv y i / va y i)) / 512 * (2 * yc y i k.val))) / 512
      = dy y d g h i j := by
  have hv : rv y i * rv y i = 1 / va y i := inv_sqrt_sq (va_pos y i)
  have e0 : (∑ k : Fin 512, -((∑ l : Fin 512, yc y i l.val * dhat y d g h i l.val) * (-(1 / 2) * (rv y i / va y i)) / 512 * (2 * yc y i k.val))) = 0 := by
    rw [Finset.sum_neg_distrib, ← Finset.mul_sum, ← Finset.mul_sum, sum_yc]
    ring
  have e1 : (∑ k : Fin 512, -(dhat y d g h i k.val * rv y i)) = -((∑ k : Fin 512, dhat y d g h i k.val) * rv y i) := by
    rw [Finset.sum_neg_distrib, Finset.sum_mul]
  have e2 : (∑ k : Fin 512, dhat y d g h i k.val * yh y i k.val) = (∑ k : Fin 512, yc y i k.val * dhat y d g h i k.val) * rv y i := by
    rw [Finset.sum_mul]
    exact Finset.sum_congr rfl fun k _ => by unfold yh; ring
  rw [e0, e1, dy, e2, yh, div_eq_mul_one_div (rv y i) (va y i), ← hv]
  ring

end Cert.ConvSpec

end
-- ==== Proof.ConvBody.lean ====
/- What the body of the convolution's backward adds to its vector results, on blocks of real entries. -/
module

public import proofs.«01_k».proof.Proof.Gen.Kernel6Ideal.Skeleton
public import proofs.«01_k».proof.Proof.ConvSpec
public import Idealize.ShloMosaic.Lib.Pointwise

@[expose] public section

set_option maxRecDepth 16384

noncomputable section

namespace Cert.ConvBody

open Idealize.ShloMosaic Cert.Reals Cert.FfnSpec Cert.ConvSpec Cert.Kernel6Ideal Cert.Kernel6Ideal.Gen

variable {y d : ℕ → ℕ → ℝ} {g h : ℕ → ℝ} {R : ℕ}

/-- 512 is not zero. -/
theorem n_ne : (512 : ℝ) ≠ 0 := by norm_num

theorem ofBits_512 : Ideal.ofBits .f32 0x44000000#32 = ((512 : ℝ) : EReal) := by
  simp [Ideal.ofBits, Ideal.ieee, -EReal.coe_mul]; norm_num

theorem one32 : (Scalar.ofBits .f32 0x3F800000#32 : Ideal .f32) = (1 : EReal) :=
  Cert.Reals.ofBits_one.trans EReal.coe_one

variable {v3 v5 : Vec Ideal S1x512 .f32} {v7 : Vec Ideal S512x512 .bf16} {v10 : Vec Ideal S512x512 .f32}
  (h3 : ∀ k : Fin 512, v3 (ix2 0 k) = (g k.val : EReal))
  (h5 : ∀ k : Fin 512, v5 (ix2 0 k) = (h k.val : EReal))
  (h7 : ∀ r k : Fin 512, v7 (ix2 r k) = (d (R + r.val) k.val : EReal))
  (h10 : ∀ r k : Fin 512, v10 (ix2 r k) = (y (R + r.val) k.val : EReal))
  {o : Ideal .f32} (ho : o = (1 : EReal))

include h3 in
theorem pay44 (k : Fin 512) : k0_pay44 (F := Ideal) v3 (ix2 0 k) = (g k.val : EReal) := by
  pointwise [k0_pay44]
  rw [h3]

include h5 in
theorem pay45 (k : Fin 512) : k0_pay45 (F := Ideal) v5 (ix2 0 k) = (h k.val : EReal) := by
  pointwise [k0_pay45]
  rw [h5]

include h7 in
theorem pay46 (r k : Fin 512) : k0_pay46 (F := Ideal) v7 (ix2 r k) = (d (R + r.val) k.val : EReal) := by
  pointwise [k0_pay46]
  rw [h7]

include h10 in
theorem pay47 (r k : Fin 512) : k0_pay47 (F := Ideal) v10 (ix2 r k) = (yc y (R + r.val) k.val : EReal) := by
  pointwise [k0_pay47]
  simp only [h10, ofBits_512, coe_sum, div_coe_coe _ n_ne, ← EReal.coe_sub, yc, mu]

include h10 in
theorem pay48 (r : Fin 512) : k0_pay48 (F := Ideal) v10 (ix2 r 0) = (rv y (R + r.val) : EReal) := by
  pointwise [k0_pay48]
  simp only [pay47 h10, ofBits_512, ofBits_eps, ← EReal.coe_mul, coe_sum, div_coe_coe _ n_ne, ← EReal.coe_add]
  rw [← va, rsqrt_pos (va_pos _ _), rv]

include h10 in
theorem pay49 (r k : Fin 512) : k0_pay49 (F := Ideal) v10 (ix2 r k) = (yh y (R + r.val) k.val : EReal) := by
  pointwise [k0_pay49]
  rw [pay47 h10, pay48 h10, ← EReal.coe_mul, yh]

include h3 h5 h10 in
theorem pay50 (r k : Fin 512) : k0_pay50 (F := Ideal) v3 v5 v10 (ix2 r k) = (yn y g h (R + r.val) k.val : EReal) := by
  pointwise [k0_pay50]
  rw [pay49 h10, pay44 h3, pay45 h5, ← EReal.coe_mul, ← EReal.coe_add, yn]

include h3 h5 h10 in
theorem pay51 (r k : Fin 512) : k0_pay51 (F := Ideal) v3 v5 v10 (ix2 r k) = (sg (yn y g h (R + r.val) k.val) : EReal) := by
  pointwise [k0_pay51]
  rw [pay50 h3 h5 h10]
  simp only [← EReal.coe_zero, ← EReal.coe_sub, zero_sub, Ideal.exp_coe, ← EReal.coe_one, ← EReal.coe_add, div_coe_coe _ (sg_pos _), sg]

include h3 h5 h7 h10 ho in
/-- The gradient that reaches the block's scaled and shifted rows. -/
theorem pay52 (r k : Fin 512) : k0_pay52 (F := Ideal) (k0_pay46 v7) (k0_pay50 v3 v5 v10) (k0_pay51 v3 v5 v10) o (ix2 r k)
    = (dn y d g h (R + r.val) k.val : EReal) := by
  pointwise [k0_pay52]
  rw [pay46 h7, pay50 h3 h5 h10, pay51 h3 h5 h10, ho]
  simp only [← EReal.coe_one, ← EReal.coe_sub, ← EReal.coe_mul, ← EReal.coe_add, dn]

include h3 h5 h7 h10 ho in
/-- The gradient of the block's rows. -/
theorem pay53 (r k : Fin 512) : k0_pay53 (F := Ideal) (k0_pay44 v3) (k0_pay46 v7) (k0_pay48 v10) (k0_pay49 v10) (k0_pay50 v3 v5 v10) (k0_pay51 v3 v5 v10)
    o (ix2 r k) = (dy y d g h (R + r.val) k.val : EReal) := by
  pointwise [k0_pay53]
  simp only [pay44 h3, pay48 h10, pay49 h10, pay52 h3 h5 h7 h10 ho, ofBits_512, ← EReal.coe_mul, coe_sum, div_coe_coe _ n_ne, ← EReal.coe_sub, dy, dhat]

variable (u : Vec Ideal S1x512 .f32)

include h3 h5 h7 h10 ho in
/-- The bias's row with the block's part added. -/
theorem pay61 (k : Fin 512) : k0_pay61 (F := Ideal) (k0_pay53 (k0_pay44 v3) (k0_pay46 v7) (k0_pay48 v10) (k0_pay49 v10) (k0_pay50 v3 v5 v10) (k0_pay51 v3 v5 v10)
    o) u (ix2 0 k) = u (ix2 0 k) + ((∑ r : Fin 512, dy y d g h (R + r.val) k.val : ℝ) : EReal) := by
  pointwise [k0_pay61]
  simp only [pay53 h3 h5 h7 h10 ho, coe_sum]

include h3 h5 h7 h10 ho in
/-- The gain's row with the block's part added. -/
theorem pay62 (k : Fin 512) : k0_pay62 (F := Ideal) (k0_pay49 v10) (k0_pay52 (k0_pay46 v7) (k0_pay50 v3 v5 v10) (k0_pay51 v3 v5 v10) o) u (ix2 0 k)
    = u (ix2 0 k) + ((∑ r : Fin 512, dn y d g h (R + r.val) k.val * yh y (R + r.val) k.val : ℝ) : EReal) := by
  pointwise [k0_pay62]
  simp only [pay52 h3 h5 h7 h10 ho, pay49 h10, ← EReal.coe_mul, coe_sum]

include h3 h5 h7 h10 ho in
/-- The shift's row with the block's part added. -/
theorem pay63 (k : Fin 512) : k0_pay63 (F := Ideal) (k0_pay52 (k0_pay46 v7) (k0_pay50 v3 v5 v10) (k0_pay51 v3 v5 v10) o) u (ix2 0 k)
    = u (ix2 0 k) + ((∑ r : Fin 512, dn y d g h (R + r.val) k.val : ℝ) : EReal) := by
  pointwise [k0_pay63]
  simp only [pay52 h3 h5 h7 h10 ho, coe_sum]

theorem pay43 (j : Fin 8) (k : Fin 512) : k0_pay43 (F := Ideal) (ix2 j k) = 0 := by
  pointwise [k0_pay43]

end Cert.ConvBody

end
-- ==== Proof.ConvBlk.lean ====
/- The blocks the convolution's backward reads, on real arguments. -/
module

public import proofs.«01_k».proof.Proof.ConvBody
public import proofs.«01_k».proof.Proof.Gen.Kernel6Ideal.Frame.Runs
public import Idealize.ShloMosaic.Lib.Pipeline.ValueKit
public import Idealize.ShloMosaic.Lib.Pipeline.Value
public import Idealize.ShloMosaic.Lib.StableHlo.ReadAt

@[expose] public section

set_option maxRecDepth 65536

noncomputable section

namespace Cert.ConvBlk

open Idealize.ShloMosaic Idealize.ShloMosaic.TcCoe Idealize.SL.Sem Idealize.ShloMosaic.Pipeline
open Cert.Reals Cert.FfnSpec Cert.ConvSpec Cert.ConvBody Cert.Kernel6Ideal Cert.Kernel6Ideal.Gen

variable {m : (ℓ : Loc nD τ sig) → Buf (Elt Ideal) ℓ} {c : Dev nD} {y d : ℕ → ℕ → ℝ} {g h : ℕ → ℝ}

/-- The index maps of the windows, point by point. -/
theorem idx' : ∀ t : Fin grid0.N, win0_0.index t = ![t.val, 1] ∧ win0_2.index t = ![t.val, 0]
    ∧ win0_9.index t = ![0, 0] ∧ win0_10.index t = ![0, 0] ∧ win0_13.index t = ![0, 0] := by
  decide +kernel

/-- Row `r` of the block of grid point `t`. -/
def row (t : ℕ) (r : Fin 512) (h : t < 8) : Fin 4096 := ⟨t * 512 + r.val, by omega⟩

theorem row_val (t : ℕ) (r : Fin 512) (h : t < 8) : (row t r h : ℕ) = 512 * t + r.val := by
  show t * 512 + r.val = _
  omega

section
variable (hd : ∀ (i : Fin 4096) (j : Fin 1024), m (c, Proc.devRef .tc main_arg1) (ix2 i j) = (d i.val j.val : EReal))
include hd

set_option maxHeartbeats 4000000 in
theorem d_host (i : Fin 4096) (j : Fin 1024) : V m c main_v247 (ix2 i j) = (d i.val j.val : EReal) := by
  rw [← hd]
  unfold V
  repeat after_reads_at

theorem blk0 (t : Fin cfg0.N) (ht : t.val < 8) (r k : Fin 512) : iblk m c 0 t (ix2 r k) = (d (512 * t.val + r.val) (512 + k.val) : EReal) := by
  rw [← row_val t.val r ht]
  refine Eq.trans ?_ (d_host (m := m) (c := c) hd (row t.val r ht) ⟨512 + k.val, by omega⟩)
  blk_ext [iblk, idx' t, row]
end

section
variable (hy : ∀ (i : Fin 4096) (j : Fin 512), V m c main_v230 (ix2 i j) = (y i.val j.val : EReal))
include hy

theorem blk2 (t : Fin cfg0.N) (ht : t.val < 8) (r k : Fin 512) : iblk m c 2 t (ix2 r k) = (y (512 * t.val + r.val) k.val : EReal) := by
  rw [← row_val t.val r ht, ← hy]
  blk_ext [iblk, idx' t, row]
end

section
variable (hg : ∀ j : Fin 512, m (c, Proc.devRef .tc main_arg4) (ix1 j) = (g j.val : EReal))
include hg

set_option maxHeartbeats 4000000 in
theorem g_host (i : Fin 512) : V m c main_v248 (ix2 0 i) = (g i.val : EReal) := by
  rw [← hg]
  unfold V
  repeat after_reads_at

theorem blk9 (t : Fin cfg0.N) (k : Fin 512) : iblk m c 9 t (ix2 0 k) = (g k.val : EReal) := by
  rw [← g_host (m := m) (c := c) hg]
  blk_ext [iblk, idx' t]
end

section
variable (hh : ∀ j : Fin 512, m (c, Proc.devRef .tc main_arg5) (ix1 j) = (h j.val : EReal))
include hh

set_option maxHeartbeats 4000000 in
theorem h_host (i : Fin 512) : V m c main_v249 (ix2 0 i) = (h i.val : EReal) := by
  rw [← hh]
  unfold V
  repeat after_reads_at

theorem blk10 (t : Fin cfg0.N) (k : Fin 512) : iblk m c 10 t (ix2 0 k) = (h k.val : EReal) := by
  rw [← h_host (m := m) (c := c) hh]
  blk_ext [iblk, idx' t]
end

end Cert.ConvBlk

end
-- ==== Proof.ConvRows.lean ====
/- Rows stored into the convolution's vector results, read back. -/
module

public import proofs.«01_k».proof.Proof.ConvBlk
public import proofs.«01_k».proof.Proof.Gen.Kernel6Ideal.Frame
public import Idealize.ShloMosaic.Lib.Pipeline.ValueKit
public import Idealize.ShloMosaic.Lib.Pipeline.Value
public import Idealize.ShloMosaic.Lib.Pipeline.ReadBack

@[expose] public section

set_option maxRecDepth 65536

noncomputable section

namespace Cert.ConvKer

open Idealize.ShloMosaic Idealize.ShloMosaic.TcCoe Idealize.SL.Sem Idealize.ShloMosaic.Pipeline
open Cert.Reals Cert.FfnSpec Cert.ConvSpec Cert.ConvBody Cert.ConvBlk Cert.Kernel6Ideal Cert.Kernel6Ideal.Gen

/-- The place of a row's entry. -/
theorem emb_row {o : ℕ} (i : ∀ a, (![o, 0] : Fin 2 → ℕ) a + (![1, 512] : Fin 2 → ℕ) a ≤ S8x512.size a) (j : Fin 8) (h : j.val = o) (k : Fin 512) :
    (Rect.unit (s := S8x512) ![o, 0] ![1, 512] i).emb (ix2 0 k) = ix2 j k := by
  funext a
  refine Fin.ext ?_
  match a with
  | ⟨0, _⟩ => exact (ValueKit.rect_emb_unit_val _ _ _ _ _).trans h.symm
  | ⟨1, _⟩ => exact (ValueKit.rect_emb_unit_val _ _ _ _ _).trans (zero_add _)

/-- A row stored last reads as stored. -/
theorem hit {o : ℕ} (i : ∀ a, (![o, 0] : Fin 2 → ℕ) a + (![1, 512] : Fin 2 → ℕ) a ≤ S8x512.size a) (P : FVec Ideal S1x512 .f32) (L : List (View.Piece (Elt Ideal) S8x512 .f32))
    (j : Fin 8) (h : j.val = o) (k : Fin 512) : View.canon (⟨Rect.unit ![o, 0] ![1, 512] i, P⟩ :: L) (ix2 j k) = P (ix2 0 k) := by
  rw [← emb_row i j h k]
  exact View.canon_cons_emb (Val := Elt Ideal) (Rect.unit (s := S8x512) ![o, 0] ![1, 512] i) P L (ix2 0 k)

/-- Another row is not touched by it. -/
theorem miss {o : ℕ} (i : ∀ a, (![o, 0] : Fin 2 → ℕ) a + (![1, 512] : Fin 2 → ℕ) a ≤ S8x512.size a) (P : FVec Ideal S1x512 .f32) (L : List (View.Piece (Elt Ideal) S8x512 .f32))
    (j : Fin 8) (h : j.val ≠ o) (k : Fin 512) : View.canon (⟨Rect.unit ![o, 0] ![1, 512] i, P⟩ :: L) (ix2 j k) = View.canon L (ix2 j k) := by
  refine View.canon_cons_of_not_mem _ _ fun hm => h ?_
  have := (Rect.mem_set_unit (s := S8x512) (off := ![o, 0]) (size := ![1, 512]) (inb := i) (i := ix2 j k)).1 hm 0
  have h1 : o ≤ j.val := this.1
  have h2 : j.val < o + 1 := this.2
  omega

/-- The row's entry lies in the row. -/
theorem mem_row {o : ℕ} (i : ∀ a, (![o, 0] : Fin 2 → ℕ) a + (![1, 512] : Fin 2 → ℕ) a ≤ S8x512.size a) (j : Fin 8) (h : j.val = o) (k : Fin 512) :
    (ix2 j k : S8x512.Idx) ∈ (Rect.unit (s := S8x512) ![o, 0] ![1, 512] i).set := by
  rw [← emb_row i j h k, ← Rect.map_emb_univ]
  exact Finset.mem_map_of_mem _ (Finset.mem_univ _)

/-- The zeros stored first. -/
abbrev zeros : View.Piece (Elt Ideal) S8x512 .f32 := ⟨Rect.unit ![0, 0] ![8, 512] inb_S8x512_S8x512_0_0, k0_pay43 (F := Ideal)⟩

theorem zero (j : Fin 8) (k : Fin 512) : View.canon [zeros] (ix2 j k) = 0 := by
  have e := View.canon_cons_unit_lit (Val := Elt Ideal) (S := S8x512) (e := .f32) inb_S8x512_S8x512_0_0 (k0_pay43 (F := Ideal)) [] (by decide)
  exact (congrFun e (ix2 j k)).trans (pay43 j k)

/-- A row read back. -/
theorem cov {sp : Space} (v : View sig .tc sp S8x512 .f32) {o : ℕ} (i : ∀ a, (![o, 0] : Fin 2 → ℕ) a + (![1, 512] : Fin 2 → ℕ) a ≤ S8x512.size a) (L : List (View.Piece (Elt Ideal) S8x512 .f32))
    (j : Fin 8) (h : j.val = o) (k : Fin 512) : v.readCov L (Rect.unit (s := S8x512) ![o, 0] ![1, 512] i).toLoadRect (ix2 0 k) = View.canon L (ix2 j k) := by
  rw [View.readCov_eq_canon']
  exact congrArg (View.canon L) (emb_row i j h k)

theorem ldr (X : Vec Ideal S8x512 .f32) {o : ℕ} (i : ∀ a, (![o, 0] : Fin 2 → ℕ) a + (![1, 512] : Fin 2 → ℕ) a ≤ S8x512.size a) (j : Fin 8) (h : j.val = o) (k : Fin 512) :
    View.ld (Val := Elt Ideal) (e' := .f32) X (Rect.unit (s := S8x512) ![o, 0] ![1, 512] i) (ix2 0 k) = X (ix2 j k) :=
  congrArg X (emb_row i j h k)

/-- The three rows a block stores. -/
abbrev rows (P0 P1 P2 : FVec Ideal S1x512 .f32) (L : List (View.Piece (Elt Ideal) S8x512 .f32)) : List (View.Piece (Elt Ideal) S8x512 .f32) :=
  ⟨Rect.unit ![2, 0] ![1, 512] inb_S8x512_S1x512_2_0, P2⟩ :: ⟨Rect.unit ![1, 0] ![1, 512] inb_S8x512_S1x512_1_0, P1⟩
    :: ⟨Rect.unit ![0, 0] ![1, 512] inb_S8x512_S1x512_0_0, P0⟩ :: L

section
variable (P0 P1 P2 : FVec Ideal S1x512 .f32) (L : List (View.Piece (Elt Ideal) S8x512 .f32)) (k : Fin 512)

theorem rows0 : View.canon (rows P0 P1 P2 L) (ix2 0 k) = P0 (ix2 0 k) :=
  (miss _ _ _ 0 (by decide) k).trans ((miss _ _ _ 0 (by decide) k).trans (hit _ _ _ 0 rfl k))

theorem rows1 : View.canon (rows P0 P1 P2 L) (ix2 1 k) = P1 (ix2 0 k) :=
  (miss _ _ _ 1 (by decide) k).trans (hit _ _ _ 1 rfl k)

theorem rows2 : View.canon (rows P0 P1 P2 L) (ix2 2 k) = P2 (ix2 0 k) := hit _ _ _ 2 rfl k

variable {sp : Space} (v : View sig .tc sp S8x512 .f32) (f : v.ty.Contents (Elt Ideal))

theorem over0 : v.read (Elt Ideal) (v.writes (Elt Ideal) f (rows P0 P1 P2 [])) (ix2 0 k) = P0 (ix2 0 k) :=
  (View.read_writes_apply_eq_canon v f (ix2 0 k) (rows P0 P1 P2 []) ⟨(⟨Rect.unit ![0, 0] ![1, 512] inb_S8x512_S1x512_0_0, P0⟩ : View.Piece (Elt Ideal) S8x512 .f32),
    List.mem_cons_of_mem _ (List.mem_cons_of_mem _ List.mem_cons_self), mem_row inb_S8x512_S1x512_0_0 0 rfl k⟩).trans (rows0 P0 P1 P2 [] k)

theorem over1 : v.read (Elt Ideal) (v.writes (Elt Ideal) f (rows P0 P1 P2 [])) (ix2 1 k) = P1 (ix2 0 k) :=
  (View.read_writes_apply_eq_canon v f (ix2 1 k) (rows P0 P1 P2 []) ⟨(⟨Rect.unit ![1, 0] ![1, 512] inb_S8x512_S1x512_1_0, P1⟩ : View.Piece (Elt Ideal) S8x512 .f32),
    List.mem_cons_of_mem _ List.mem_cons_self, mem_row inb_S8x512_S1x512_1_0 1 rfl k⟩).trans (rows1 P0 P1 P2 [] k)

theorem over2 : v.read (Elt Ideal) (v.writes (Elt Ideal) f (rows P0 P1 P2 [])) (ix2 2 k) = P2 (ix2 0 k) :=
  (View.read_writes_apply_eq_canon v f (ix2 2 k) (rows P0 P1 P2 []) ⟨(⟨Rect.unit ![2, 0] ![1, 512] inb_S8x512_S1x512_2_0, P2⟩ : View.Piece (Elt Ideal) S8x512 .f32),
    List.mem_cons_self, mem_row inb_S8x512_S1x512_2_0 2 rfl k⟩).trans (rows2 P0 P1 P2 [] k)
end

variable (m : (ℓ : Loc nD τ sig) → Buf (Elt Ideal) ℓ) (c : Dev nD) {y d : ℕ → ℕ → ℝ} {g h : ℕ → ℝ}
  (hd : ∀ (i : Fin 4096) (j : Fin 1024), m (c, Proc.devRef .tc main_arg1) (ix2 i j) = (d i.val j.val : EReal))
  (hy : ∀ (i : Fin 4096) (j : Fin 512), V m c main_v230 (ix2 i j) = (y i.val j.val : EReal))
  (hg : ∀ j : Fin 512, m (c, Proc.devRef .tc main_arg4) (ix1 j) = (g j.val : EReal))
  (hh : ∀ j : Fin 512, m (c, Proc.devRef .tc main_arg5) (ix1 j) = (h j.val : EReal))

/-- The grid has eight points. -/
theorem lt8 (t : Fin cfg0.N) : t.val < 8 := lt_of_lt_of_eq t.isLt N_0

/-- Row sums over the blocks are sums over all rows. -/
theorem sum_rows {N : ℕ} (hN : N = 8) (f : ℕ → ℝ) : ∑ t : Fin N, ∑ r : Fin 512, f (512 * t.val + r.val) = ∑ i : Fin 4096, f i.val := by
  subst hN
  refine Eq.trans ?_ (Fin.sum_univ_univ_mul_add 8 512 f)
  simp only [Nat.mul_comm]

end Cert.ConvKer

end
-- ==== Proof.ConvKer.lean ====
/- What the convolution's backward leaves in its vector results, on real arguments. -/
module

public import proofs.«01_k».proof.Proof.ConvRows

@[expose] public section

set_option maxRecDepth 65536

noncomputable section

namespace Cert.ConvKer

open Idealize.ShloMosaic Idealize.ShloMosaic.TcCoe Idealize.SL.Sem Idealize.ShloMosaic.Pipeline
open Cert.Reals Cert.FfnSpec Cert.ConvSpec Cert.ConvBody Cert.ConvBlk Cert.Kernel6Ideal Cert.Kernel6Ideal.Gen

variable (m : (ℓ : Loc nD τ sig) → Buf (Elt Ideal) ℓ) (c : Dev nD) {y d : ℕ → ℕ → ℝ} {g h : ℕ → ℝ}
  (hd : ∀ (i : Fin 4096) (j : Fin 1024), m (c, Proc.devRef .tc main_arg1) (ix2 i j) = (d i.val j.val : EReal))
  (hy : ∀ (i : Fin 4096) (j : Fin 512), V m c main_v230 (ix2 i j) = (y i.val j.val : EReal))
  (hg : ∀ j : Fin 512, m (c, Proc.devRef .tc main_arg4) (ix1 j) = (g j.val : EReal))
  (hh : ∀ j : Fin 512, m (c, Proc.devRef .tc main_arg5) (ix1 j) = (h j.val : EReal))

section
include hd hy hg hh

/-- The first point stores its part of the bias's gradient. -/
theorem out_A0 (t : Fin cfg0.N) (h0 : t.val % 8 = 0) (k : Fin 512) :
    (outsAt0 m c t.val t.isLt).2.2.1 (ix2 0 k) = 0 + ((∑ r : Fin 512, dy y (fun i j => d i (512 + j)) g h (512 * t.val + r.val) k.val : ℝ) : EReal) := by
  rw [outsAt0_A m c t h0 (by omega)]
  frame_out
  refine (rows0 _ _ _ _ k).trans ?_
  refine (pay61 (d := fun i j => d i (512 + j)) (blk9 hg t) (blk10 hh t) (fun r k => blk0 hd t (lt8 t) r k) (blk2 hy t (lt8 t)) one32 _ k).trans ?_
  exact congrArg (fun z : EReal => z + _) ((cov _ _ _ 0 rfl k).trans (zero 0 k))

/-- The middle points add their part. -/
theorem out_B0 (t : Fin cfg0.N) (h0 : ¬t.val % 8 = 0) (h1 : ¬t.val % 8 = 7) (k : Fin 512) :
    (outsAt0 m c t.val t.isLt).2.2.1 (ix2 0 k) = (outsAt0 m c (t.val - 1) (Nat.lt_of_le_of_lt (Nat.sub_le _ _) t.isLt)).2.2.1 (ix2 0 k)
      + ((∑ r : Fin 512, dy y (fun i j => d i (512 + j)) g h (512 * t.val + r.val) k.val : ℝ) : EReal) := by
  rw [outsAt0_B m c t h0 h1]
  frame_out
  refine (over0 _ _ _ k _ _).trans ?_
  refine (pay61 (d := fun i j => d i (512 + j)) (blk9 hg t) (blk10 hh t) (fun r k => blk0 hd t (lt8 t) r k) (blk2 hy t (lt8 t)) one32 _ k).trans ?_
  exact congrArg (fun z : EReal => z + _) (ldr _ _ 0 rfl k)

/-- The last points add their part. -/
theorem out_C0 (t : Fin cfg0.N) (h0 : ¬t.val % 8 = 0) (h1 : t.val % 8 = 7) (k : Fin 512) :
    (outsAt0 m c t.val t.isLt).2.2.1 (ix2 0 k) = (outsAt0 m c (t.val - 1) (Nat.lt_of_le_of_lt (Nat.sub_le _ _) t.isLt)).2.2.1 (ix2 0 k)
      + ((∑ r : Fin 512, dy y (fun i j => d i (512 + j)) g h (512 * t.val + r.val) k.val : ℝ) : EReal) := by
  rw [outsAt0_C m c t h0 h1]
  frame_out
  refine (over0 _ _ _ k _ _).trans ?_
  refine (pay61 (d := fun i j => d i (512 + j)) (blk9 hg t) (blk10 hh t) (fun r k => blk0 hd t (lt8 t) r k) (blk2 hy t (lt8 t)) one32 _ k).trans ?_
  exact congrArg (fun z : EReal => z + _) (ldr _ _ 0 rfl k)

/-- The first point stores its part of the gain's gradient. -/
theorem out_A1 (t : Fin cfg0.N) (h0 : t.val % 8 = 0) (k : Fin 512) :
    (outsAt0 m c t.val t.isLt).2.2.1 (ix2 1 k) = 0 + ((∑ r : Fin 512, dn y (fun i j => d i (512 + j)) g h (512 * t.val + r.val) k.val * yh y (512 * t.val + r.val) k.val : ℝ) : EReal) := by
  rw [outsAt0_A m c t h0 (by omega)]
  frame_out
  refine (rows1 _ _ _ _ k).trans ?_
  refine (pay62 (d := fun i j => d i (512 + j)) (blk9 hg t) (blk10 hh t) (fun r k => blk0 hd t (lt8 t) r k) (blk2 hy t (lt8 t)) one32 _ k).trans ?_
  exact congrArg (fun z : EReal => z + _) ((cov _ _ _ 1 rfl k).trans ((miss _ _ _ 1 (by decide) k).trans (zero 1 k)))

/-- The middle points add their part. -/
theorem out_B1 (t : Fin cfg0.N) (h0 : ¬t.val % 8 = 0) (h1 : ¬t.val % 8 = 7) (k : Fin 512) :
    (outsAt0 m c t.val t.isLt).2.2.1 (ix2 1 k) = (outsAt0 m c (t.val - 1) (Nat.lt_of_le_of_lt (Nat.sub_le _ _) t.isLt)).2.2.1 (ix2 1 k)
      + ((∑ r : Fin 512, dn y (fun i j => d i (512 + j)) g h (512 * t.val + r.val) k.val * yh y (512 * t.val + r.val) k.val : ℝ) : EReal) := by
  rw [outsAt0_B m c t h0 h1]
  frame_out
  refine (over1 _ _ _ k _ _).trans ?_
  refine (pay62 (d := fun i j => d i (512 + j)) (blk9 hg t) (blk10 hh t) (fun r k => blk0 hd t (lt8 t) r k) (blk2 hy t (lt8 t)) one32 _ k).trans ?_
  exact congrArg (fun z : EReal => z + _) (ldr _ _ 1 rfl k)

/-- The last points add their part. -/
theorem out_C1 (t : Fin cfg0.N) (h0 : ¬t.val % 8 = 0) (h1 : t.val % 8 = 7) (k : Fin 512) :
    (outsAt0 m c t.val t.isLt).2.2.1 (ix2 1 k) = (outsAt0 m c (t.val - 1) (Nat.lt_of_le_of_lt (Nat.sub_le _ _) t.isLt)).2.2.1 (ix2 1 k)
      + ((∑ r : Fin 512, dn y (fun i j => d i (512 + j)) g h (512 * t.val + r.val) k.val * yh y (512 * t.val + r.val) k.val : ℝ) : EReal) := by
  rw [outsAt0_C m c t h0 h1]
  frame_out
  refine (over1 _ _ _ k _ _).trans ?_
  refine (pay62 (d := fun i j => d i (512 + j)) (blk9 hg t) (blk10 hh t) (fun r k => blk0 hd t (lt8 t) r k) (blk2 hy t (lt8 t)) one32 _ k).trans ?_
  exact congrArg (fun z : EReal => z + _) (ldr _ _ 1 rfl k)

/-- The first point stores its part of the shift's gradient. -/
theorem out_A2 (t : Fin cfg0.N) (h0 : t.val % 8 = 0) (k : Fin 512) :
    (outsAt0 m c t.val t.isLt).2.2.1 (ix2 2 k) = 0 + ((∑ r : Fin 512, dn y (fun i j => d i (512 + j)) g h (512 * t.val + r.val) k.val : ℝ) : EReal) := by
  rw [outsAt0_A m c t h0 (by omega)]
  frame_out
  refine (rows2 _ _ _ _ k).trans ?_
  refine (pay63 (d := fun i j => d i (512 + j)) (blk9 hg t) (blk10 hh t) (fun r k => blk0 hd t (lt8 t) r k) (blk2 hy t (lt8 t)) one32 _ k).trans ?_
  exact congrArg (fun z : EReal => z + _) ((cov _ _ _ 2 rfl k).trans ((miss _ _ _ 2 (by decide) k).trans ((miss _ _ _ 2 (by decide) k).trans (zero 2 k))))

/-- The middle points add their part. -/
theorem out_B2 (t : Fin cfg0.N) (h0 : ¬t.val % 8 = 0) (h1 : ¬t.val % 8 = 7) (k : Fin 512) :
    (outsAt0 m c t.val t.isLt).2.2.1 (ix2 2 k) = (outsAt0 m c (t.val - 1) (Nat.lt_of_le_of_lt (Nat.sub_le _ _) t.isLt)).2.2.1 (ix2 2 k)
      + ((∑ r : Fin 512, dn y (fun i j => d i (512 + j)) g h (512 * t.val + r.val) k.val : ℝ) : EReal) := by
  rw [outsAt0_B m c t h0 h1]
  frame_out
  refine (over2 _ _ _ k _ _).trans ?_
  refine (pay63 (d := fun i j => d i (512 + j)) (blk9 hg t) (blk10 hh t) (fun r k => blk0 hd t (lt8 t) r k) (blk2 hy t (lt8 t)) one32 _ k).trans ?_
  exact congrArg (fun z : EReal => z + _) (ldr _ _ 2 rfl k)

/-- The last points add their part. -/
theorem out_C2 (t : Fin cfg0.N) (h0 : ¬t.val % 8 = 0) (h1 : t.val % 8 = 7) (k : Fin 512) :
    (outsAt0 m c t.val t.isLt).2.2.1 (ix2 2 k) = (outsAt0 m c (t.val - 1) (Nat.lt_of_le_of_lt (Nat.sub_le _ _) t.isLt)).2.2.1 (ix2 2 k)
      + ((∑ r : Fin 512, dn y (fun i j => d i (512 + j)) g h (512 * t.val + r.val) k.val : ℝ) : EReal) := by
  rw [outsAt0_C m c t h0 h1]
  frame_out
  refine (over2 _ _ _ k _ _).trans ?_
  refine (pay63 (d := fun i j => d i (512 + j)) (blk9 hg t) (blk10 hh t) (fun r k => blk0 hd t (lt8 t) r k) (blk2 hy t (lt8 t)) one32 _ k).trans ?_
  exact congrArg (fun z : EReal => z + _) (ldr _ _ 2 rfl k)

end

/-- A row of the vector results after the last point: the blocks' parts added. -/
theorem out13 (j : Fin 8) (f : ℕ → ℕ → ℝ)
    (hA : ∀ (t : Fin cfg0.N) (_ : t.val % 8 = 0) (k : Fin 512), (outsAt0 m c t.val t.isLt).2.2.1 (ix2 j k) = 0 + ((∑ r : Fin 512, f (512 * t.val + r.val) k.val : ℝ) : EReal))
    (hB : ∀ (t : Fin cfg0.N) (_ : ¬t.val % 8 = 0) (k : Fin 512), (outsAt0 m c t.val t.isLt).2.2.1 (ix2 j k)
      = (outsAt0 m c (t.val - 1) (Nat.lt_of_le_of_lt (Nat.sub_le _ _) t.isLt)).2.2.1 (ix2 j k) + ((∑ r : Fin 512, f (512 * t.val + r.val) k.val : ℝ) : EReal)) (k : Fin 512) :
    (outsAt0 m c t0_7.val t0_7.isLt).2.2.1 (ix2 j k) = ((∑ i : Fin 4096, f i.val k.val : ℝ) : EReal) := by
  have hN : cfg0.N = 8 := N_0
  have key := Pipeline.eq_sum_fin_of_reset_step_apply_last (fun n hn (k : Fin 512) => (outsAt0 m c n hn).2.2.1 (ix2 j k)) 8 (fun _ => (0 : EReal))
    (fun t k => ((∑ r : Fin 512, f (512 * t.val + r.val) k.val : ℝ) : EReal)) hA hB (by decide) t0_7 (by decide) k
  refine key.trans ?_
  rw [zero_add, coe_sum]
  exact congrArg _ (sum_rows hN fun i => f i k.val)

/-- The vector results after the run. -/
theorem arr13 : (dats m 0 c).arrAt 13 cfg0.N = ((outsAt0 m c t0_7.val t0_7.isLt).2.2.1 : FVec Ideal S8x512 .f32) := by
  refine (dats m 0 c).arrAt_eq_of_after_last 13 t0_7 (by decide +kernel) _ fun y => ?_
  rw [after0_13]
  refine congrArg (outsAt0 m c t0_7.val t0_7.isLt).2.2.1 ?_
  blk_ext []

/-- No other window has the vector results' array. -/
theorem own : ∀ w, Pipeline.arrRef (sig := sig) spec0 w = Pipeline.arrRef (sig := sig) spec0 13 → w = 13 := by decide

/-- A window's array, shared with no other window, is read as that window leaves it. -/
theorem arr_own (U : Valuation τ sig (Elt Ideal)) (A : (w : Fin 14) → Buf (Elt Ideal) ((spec0 w).arr.view.loc (c.tc : Thread nD τ))) :
    Pipeline.withArrays spec0 c U A (Proc.devRef .tc (Pipeline.arrRef spec0 13)) = A 13 := by
  unfold Pipeline.withArrays
  have h : ∃ w', Proc.devRef .tc (Pipeline.arrRef spec0 w') = Proc.devRef (τ := τ) .tc (Pipeline.arrRef spec0 13) := ⟨13, rfl⟩
  rw [dif_pos h]
  suffices ∀ (w' : Fin 14) (e : Proc.devRef .tc (Pipeline.arrRef spec0 w') = Proc.devRef (τ := τ) .tc (Pipeline.arrRef spec0 13)),
      cast (congrArg (fun b' : DevRef τ sig => b'.ty.Contents (Elt Ideal)) e) (A w') = A 13 from this _ h.choose_spec
  intro w' e
  have hw : w' = 13 := own _ (Proc.devRef_injective _ e)
  subst hw
  rfl

/-- The host's rows of the vector results. -/
theorem host (W : Valuation τ sig (Elt Ideal)) (k : Fin 512) :
    StableHlo.after hostOps1 W (Proc.devRef .tc main_v252) (ix1 k) = W (Proc.devRef .tc main_v250_2) (ix2 0 k)
    ∧ StableHlo.after hostOps1 W (Proc.devRef .tc main_v254) (ix1 k) = W (Proc.devRef .tc main_v250_2) (ix2 1 k)
    ∧ StableHlo.after hostOps1 W (Proc.devRef .tc main_v256) (ix1 k) = W (Proc.devRef .tc main_v250_2) (ix2 2 k) := by
  refine ⟨?_, ?_, ?_⟩ <;> repeat after_reads_at

theorem last (j : Fin 8) (k : Fin 512) :
    Pipeline.withArrays (cfgs 0).spec c (V0 m c) (fun w => (dats m 0 c).arrAt w (cfgs 0).N) (Proc.devRef .tc main_v250_2) (ix2 j k) = (outsAt0 m c t0_7.val t0_7.isLt).2.2.1 (ix2 j k) :=
  congrFun ((arr_own c (V0 m c) (fun w => (dats m 0 c).arrAt w (cfgs 0).N)).trans (arr13 m c)) (ix2 j k)

include hd hy hg hh

/-- The gradient of the bias. -/
theorem tail252 (k : Fin 512) : Pipeline.afterTail₀ cfgs (dats m) 0 (V0 m) [hostOps1] c main_v252 (ix1 k)
    = ((∑ i : Fin 4096, dy y (fun i j => d i (512 + j)) g h (i.val) k.val : ℝ) : EReal) :=
  (host (Pipeline.withArrays (cfgs 0).spec c (V0 m c) (fun w => (dats m 0 c).arrAt w (cfgs 0).N)) k).1.trans ((last m c 0 k).trans
    (out13 m c 0 (fun i k => dy y (fun i j => d i (512 + j)) g h (i) k) (fun t h0 k => out_A0 m c hd hy hg hh t h0 k)
      (fun t h0 k => if h1 : t.val % 8 = 7 then out_C0 m c hd hy hg hh t h0 h1 k else out_B0 m c hd hy hg hh t h0 h1 k) k))

/-- The gradient of the gain. -/
theorem tail254 (k : Fin 512) : Pipeline.afterTail₀ cfgs (dats m) 0 (V0 m) [hostOps1] c main_v254 (ix1 k)
    = ((∑ i : Fin 4096, dn y (fun i j => d i (512 + j)) g h (i.val) k.val * yh y (i.val) k.val : ℝ) : EReal) :=
  (host (Pipeline.withArrays (cfgs 0).spec c (V0 m c) (fun w => (dats m 0 c).arrAt w (cfgs 0).N)) k).2.1.trans ((last m c 1 k).trans
    (out13 m c 1 (fun i k => dn y (fun i j => d i (512 + j)) g h (i) k * yh y (i) k) (fun t h0 k => out_A1 m c hd hy hg hh t h0 k)
      (fun t h0 k => if h1 : t.val % 8 = 7 then out_C1 m c hd hy hg hh t h0 h1 k else out_B1 m c hd hy hg hh t h0 h1 k) k))

/-- The gradient of the shift. -/
theorem tail256 (k : Fin 512) : Pipeline.afterTail₀ cfgs (dats m) 0 (V0 m) [hostOps1] c main_v256 (ix1 k)
    = ((∑ i : Fin 4096, dn y (fun i j => d i (512 + j)) g h (i.val) k.val : ℝ) : EReal) :=
  (host (Pipeline.withArrays (cfgs 0).spec c (V0 m c) (fun w => (dats m 0 c).arrAt w (cfgs 0).N)) k).2.2.trans ((last m c 2 k).trans
    (out13 m c 2 (fun i k => dn y (fun i j => d i (512 + j)) g h (i) k) (fun t h0 k => out_A2 m c hd hy hg hh t h0 k)
      (fun t h0 k => if h1 : t.val % 8 = 7 then out_C2 m c hd hy hg hh t h0 h1 k else out_B2 m c hd hy hg hh t h0 h1 k) k))

end Cert.ConvKer

end
-- ==== Proof.ConvHost.lean ====
/- The rows the host convolves for the backward. -/
module

public import proofs.«01_k».proof.Proof.Gen.Kernel6Ideal.Frame.Runs
public import proofs.«01_k».proof.Proof.Gen.Reference6Ideal.Read
public import Idealize.ShloMosaic.Lib.Pipeline.ValueKit
public import Idealize.ShloMosaic.Lib.StableHlo.ReadAt

@[expose] public section

set_option maxRecDepth 65536

noncomputable section

namespace Cert.ConvHost

open Idealize.ShloMosaic Idealize.ShloMosaic.TcCoe Idealize.SL.Sem Idealize.ShloMosaic.Pipeline
open Cert.Kernel6Ideal Cert.Kernel6Ideal.Gen

variable (m : (ℓ : Loc nD τ sig) → Buf (Elt Ideal) ℓ) (c : Dev nD)

set_option maxHeartbeats 40000000 in
/-- The convolved rows of the host are the reference's. -/
theorem y_host : V m c main_v230 = Cert.Reference6Ideal.Read.val_main_v230 (F := Ideal) (m (c, Proc.devRef .tc main_arg0)) (m (c, Proc.devRef .tc main_arg2)) (m (c, Proc.devRef .tc main_arg3)) := by
  unfold V V0
  simp only [hostOps0, List.flatten_cons, List.flatten_nil, List.cons_append, List.nil_append, List.append_nil]
  after_results
  rfl

end Cert.ConvHost

end
-- ==== Proof.ConvReal.lean ====
/- The convolved rows of real arguments are real. -/
module

public import proofs.«01_k».proof.Proof.Gen.Reference6Ideal.Read
public import proofs.«01_k».proof.Proof.FfnSpec
public import Idealize.ShloMosaic.Lib.Pointwise

@[expose] public section

set_option maxRecDepth 65536

noncomputable section

namespace Cert.ConvReal

open Idealize.ShloMosaic Cert.Reals Cert.FfnSpec Cert.Reference6Ideal Cert.Reference6Ideal.Read

variable {A : FVec Ideal S4096x1792 .f32} {W : FVec Ideal S31x512 .f32} {B : FVec Ideal S512 .f32}

/-- A gated row, or a row of zeros before the first, is real. -/
theorem v11 (hA : ∀ (i : Fin 4096) (j : Fin 1792), ∃ a : ℝ, A (ix2 i j) = (a : EReal)) (i : Fin 4126) (j : Fin 512) :
    ∃ z : ℝ, val_main_v11 (F := Ideal) A (ix2 i j) = (z : EReal) := by
  pointwise [val_main_v11, val_main_v10, val_main_v9, val_main_v8, val_main_v7, val_main_v6, val_main_v5, val_main_v4, val_main_v3, val_main_v2, val_main_v1, val_main_v0, val_main_cst, val_main_cst_0, val_main_cst_1]
  split_ifs
  all_goals first
    | exact ⟨0, EReal.coe_zero.symm⟩
    | choose a ha using hA
      simp only [ha, ← EReal.coe_neg, Ideal.exp_coe, ← EReal.coe_one, ← EReal.coe_add, div_coe_coe _ (sg_pos _), ← EReal.coe_mul]
      exact ⟨_, rfl⟩

set_option maxHeartbeats 4000000 in
/-- The convolved rows are real. -/
theorem v230 (hA : ∀ (i : Fin 4096) (j : Fin 1792), ∃ a : ℝ, A (ix2 i j) = (a : EReal)) (hW : ∀ (i : Fin 31) (j : Fin 512), ∃ w : ℝ, W (ix2 i j) = (w : EReal))
    (hB : ∀ j : Fin 512, ∃ b : ℝ, B (ix1 j) = (b : EReal)) (i : Fin 4096) (j : Fin 512) :
    ∃ y : ℝ, val_main_v230 (F := Ideal) A W B (ix2 i j) = (y : EReal) := by
  choose z hz using v11 hA
  choose w hw using hW
  choose b hb using hB
  pointwise [val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230]
  simp only [hz, hw, hb, ← EReal.coe_mul, ← EReal.coe_add]
  exact ⟨_, rfl⟩

end Cert.ConvReal

end
-- ==== Proof.ConvRef.lean ====
/- What the reference of the convolution's vectors computes, on real arguments. -/
module

public import proofs.«01_k».proof.Proof.ConvSpec
public import proofs.«01_k».proof.Proof.Gen.Reference6Ideal.Read
public import Idealize.ShloMosaic.Lib.Pipeline.ValueKit

@[expose] public section

set_option maxRecDepth 16384

noncomputable section

namespace Cert.ConvRef

open Idealize.ShloMosaic Cert.Reals Cert.FfnSpec Cert.ConvSpec Cert.Reference6Ideal Cert.Reference6Ideal.Gen Cert.Reference6Ideal.Read

variable {A : FVec Ideal S4096x1792 .f32} {D : FVec Ideal S4096x1024 .f32} {W : FVec Ideal S31x512 .f32} {B G H : FVec Ideal S512 .f32}
  {y d : ℕ → ℕ → ℝ} {g h : ℕ → ℝ}

/-- 512 is not zero. -/
theorem n_ne : (512 : ℝ) ≠ 0 := by norm_num

theorem ofBits_512 : Ideal.ofBits .f32 0x44000000#32 = ((512 : ℝ) : EReal) := by
  simp [Ideal.ofBits, Ideal.ieee, -EReal.coe_mul]; norm_num

section
variable (hY : ∀ (i : Fin 4096) (j : Fin 512), val_main_v230 (F := Ideal) A W B (ix2 i j) = (y i.val j.val : EReal))
include hY

theorem v234 (i : Fin 4096) : val_main_v234 (F := Ideal) A W B (ix2 i 0) = (mu y i.val : EReal) := by
  pointwise [val_main_v234, val_main_v233, val_main_v232, val_main_v231, val_main_cst_2, val_main_cst_3]
  simp only [hY, ofBits_512, coe_sum, div_coe_coe _ n_ne, mu]

theorem v236 (i : Fin 4096) (j : Fin 512) : val_main_v236 (F := Ideal) A W B (ix2 i j) = (yc y i.val j.val : EReal) := by
  pointwise [val_main_v236, val_main_v235]
  simp only [hY, v234 hY, ← EReal.coe_sub, yc]

theorem v239 (i : Fin 4096) (j : Fin 512) : val_main_v239 (F := Ideal) A W B (ix2 i j) = ((2 * yc y i.val j.val : ℝ) : EReal) := by
  pointwise [val_main_v239, val_main_v238, val_main_cst_4]
  simp only [v236 hY, ofBits_two, ← EReal.coe_mul]

theorem v245 (i : Fin 4096) (j : Fin 512) : val_main_v245 (F := Ideal) A W B (ix2 i j) = (yc y i.val j.val : EReal) := by
  pointwise [val_main_v245, val_main_v244]
  simp only [hY, v234 hY, ← EReal.coe_sub, yc]

theorem v247 (i : Fin 4096) : val_main_v247 (F := Ideal) A W B (ix2 i 0) = (va y i.val : EReal) := by
  pointwise [val_main_v247, val_main_v246, val_main_cst_7, val_main_v243, val_main_v242, val_main_cst_6, val_main_v241, val_main_v240, val_main_cst_5, val_main_v237]
  simp only [v236 hY, ofBits_512, ofBits_eps, ← EReal.coe_mul, coe_sum, div_coe_coe _ n_ne, ← EReal.coe_add, va]

theorem v248 (i : Fin 4096) : val_main_v248 (F := Ideal) A W B (ix2 i 0) = (rv y i.val : EReal) := by
  unfold val_main_v248
  pointwise
  rw [v247 hY, rsqrt_pos (va_pos _ _), rv]

theorem v251 (i : Fin 4096) : val_main_v251 (F := Ideal) A W B (ix2 i 0) = ((-(1 / 2) * (rv y i.val / va y i.val) : ℝ) : EReal) := by
  pointwise [val_main_v251, val_main_v250, val_main_v249, val_main_cst_8]
  simp only [v247 hY, v248 hY, ofBits_neg_half, div_coe_coe _ (va_pos _ _).ne', ← EReal.coe_mul]

theorem v253 (i : Fin 4096) (j : Fin 512) : val_main_v253 (F := Ideal) A W B (ix2 i j) = (yh y i.val j.val : EReal) := by
  pointwise [val_main_v253, val_main_v252]
  simp only [v245 hY, v248 hY, ← EReal.coe_mul, yh]

variable (hG : ∀ j : Fin 512, G (ix1 j) = (g j.val : EReal)) (hH : ∀ j : Fin 512, H (ix1 j) = (h j.val : EReal))
include hG hH

theorem v259 (i : Fin 4096) (j : Fin 512) : val_main_v259 (F := Ideal) A W B G H (ix2 i j) = (yn y g h i.val j.val : EReal) := by
  pointwise [val_main_v259, val_main_v258, val_main_v257, val_main_v256, val_main_v255, val_main_v254]
  simp only [v253 hY, hG, hH, ← EReal.coe_mul, ← EReal.coe_add, yn]

theorem v260_2 (i : Fin 4096) (j : Fin 512) : val_main_v260_2 (F := Ideal) A W B G H (ix2 i j) = (sg (yn y g h i.val j.val) : EReal) := by
  pointwise [val_main_v260_2, val_main_call0_v4, val_main_call0_v3, val_main_call0_v2, val_main_call0_v1, val_main_call0_v0, val_main_call0_cst, val_main_call0_cst_0]
  rw [v259 hY hG hH]
  simp only [← EReal.coe_neg, Ideal.exp_coe, ← EReal.coe_one, ← EReal.coe_add, div_coe_coe _ (sg_pos _), sg]

variable (hD : ∀ (i : Fin 4096) (j : Fin 1024), D (ix2 i j) = (d i.val j.val : EReal))
include hD

theorem v262 (i : Fin 4096) (j : Fin 512) : val_main_v262 (F := Ideal) A D W B G H (ix2 i j) = (dn y (fun i j => d i (512 + j)) g h i.val j.val : EReal) := by
  pointwise [val_main_v262, val_main_call1_v2, val_main_call1_v1, val_main_call1_v0, val_main_v260_1, val_main_call0_v7, val_main_call0_v6, val_main_call0_cst_1, val_main_v261]
  rw [v260_2 hY hG hH, v259 hY hG hH, hD]
  simp only [← EReal.coe_one, ← EReal.coe_sub, ← EReal.coe_mul, ← EReal.coe_add]
  refine congrArg _ ?_
  unfold dn
  ring

/-- The gradient of the shift. -/
theorem v265 (j : Fin 512) : val_main_v265 (F := Ideal) A D W B G H (ix1 j) = ((∑ i : Fin 4096, dn y (fun i j => d i (512 + j)) g h i.val j.val : ℝ) : EReal) := by
  pointwise [val_main_v265, val_main_v264, val_main_v263, val_main_cst_9, val_main_cst_10]
  simp only [v262 hY hG hH hD, coe_sum, Fin.sum_univ_one]

/-- The gradient of the gain. -/
theorem v271 (j : Fin 512) : val_main_v271 (F := Ideal) A D W B G H (ix1 j)
    = ((∑ i : Fin 4096, dn y (fun i j => d i (512 + j)) g h i.val j.val * yh y i.val j.val : ℝ) : EReal) := by
  pointwise [val_main_v271, val_main_v268, val_main_v267, val_main_v266, val_main_cst_11, val_main_cst_12]
  simp only [v262 hY hG hH hD, v253 hY, ← EReal.coe_mul, coe_sum, Fin.sum_univ_one, mul_comm]

theorem v270 (i : Fin 4096) (j : Fin 512) : val_main_v270 (F := Ideal) A D W B G H (ix2 i j) = (dhat y (fun i j => d i (512 + j)) g h i.val j.val : EReal) := by
  pointwise [val_main_v270, val_main_v269, val_main_v254]
  simp only [v262 hY hG hH hD, hG, ← EReal.coe_mul, dhat]

theorem v276 (i : Fin 4096) (j : Fin 512) : val_main_v276 (F := Ideal) A D W B G H (ix2 i j)
    = ((dhat y (fun i j => d i (512 + j)) g h i.val j.val * rv y i.val : ℝ) : EReal) := by
  pointwise [val_main_v276, val_main_v275]
  simp only [v270 hY hG hH hD, v248 hY, ← EReal.coe_mul]

theorem v282 (i : Fin 4096) : val_main_v282 (F := Ideal) A D W B G H (ix2 i 0)
    = (((∑ k : Fin 512, yc y i.val k.val * dhat y (fun i j => d i (512 + j)) g h i.val k.val) * (-(1 / 2) * (rv y i.val / va y i.val)) / 512 : ℝ) : EReal) := by
  pointwise [val_main_v282, val_main_v281, val_main_cst_15, val_main_v277, val_main_v274, val_main_v273, val_main_cst_13, val_main_v272]
  simp only [v270 hY hG hH hD, v245 hY, v251 hY, ofBits_512, ← EReal.coe_mul, coe_sum, div_coe_coe _ n_ne]

theorem v285 (i : Fin 4096) (j : Fin 512) : val_main_v285 (F := Ideal) A D W B G H (ix2 i j)
    = (((∑ k : Fin 512, yc y i.val k.val * dhat y (fun i j => d i (512 + j)) g h i.val k.val) * (-(1 / 2) * (rv y i.val / va y i.val)) / 512 * (2 * yc y i.val j.val) : ℝ) : EReal) := by
  pointwise [val_main_v285, val_main_v284, val_main_v283, val_main_cst_16]
  simp only [Fin.sum_univ_one, v282 hY hG hH hD, v239 hY, ← EReal.coe_mul]

theorem v295 (i : Fin 4096) (j : Fin 512) : val_main_v295 (F := Ideal) A D W B G H (ix2 i j) = (dy y (fun i j => d i (512 + j)) g h i.val j.val : EReal) := by
  pointwise [val_main_v295, val_main_v294, val_main_v293, val_main_cst_19, val_main_v292, val_main_v291, val_main_cst_18, val_main_v290, val_main_v289, val_main_v288, val_main_v287,
    val_main_cst_17, val_main_v286, val_main_v280, val_main_v279, val_main_cst_14, val_main_v278]
  simp only [Fin.sum_univ_one, v276 hY hG hH hD, v285 hY hG hH hD, ofBits_512, ← EReal.coe_neg, coe_sum, ← EReal.coe_add, div_coe_coe _ n_ne]
  exact congrArg _ (ln_grad y (fun i j => d i (512 + j)) g h i.val j.val)

/-- The gradient of the bias. -/
theorem v298 (j : Fin 512) : val_main_v298 (F := Ideal) A D W B G H (ix1 j) = ((∑ i : Fin 4096, dy y (fun i j => d i (512 + j)) g h i.val j.val : ℝ) : EReal) := by
  pointwise [val_main_v298, val_main_v297, val_main_v296, val_main_cst_20, val_main_cst_21]
  simp only [v295 hY hG hH hD, coe_sum, Fin.sum_univ_one]
end

end Cert.ConvRef

end
-- ==== Proof.ConvClaim.lean ====
/- The claims of the vector results of the convolution's backward: its reference's frame and the equality of their results on finite arguments. -/
module

public import proofs.«01_k».proof.Defs
public import proofs.«01_k».proof.Proof.Gen.Pre_conv_finite
public import proofs.«01_k».proof.Proof.ConvKer
public import proofs.«01_k».proof.Proof.ConvHost
public import proofs.«01_k».proof.Proof.ConvReal
public import proofs.«01_k».proof.Proof.ConvRef
public import proofs.«01_k».proof.Proof.Finite
public import Idealize.ShloMosaic.Lib.Quiescent

@[expose] public section

set_option maxRecDepth 16384

noncomputable section

namespace Cert.ConvClaim

open Idealize.ShloMosaic Idealize.ShloMosaic.TcCoe Idealize.SL.Sem
open Cert.Reals Cert.ConvSpec

/-- The reference runs, keeps its arguments and leaves every counter at zero. -/
theorem frame_ri : Cert.quiescent_Reference6Ideal := fun m ρ _ =>
  (θ_run Cert.Reference6Ideal.defs _ _).mono
    (fun r h => ⟨fun c => (h c).2.2.2, Idealize.ShloMosaic.sem_eq_zero_of_no_sems (by decide) r.2⟩)
    (Cert.Reference6Ideal.Value.run (F := Ideal) m ρ)

/-- The entries of finite arguments are reals, and so are the convolved rows. -/
theorem entries (m : (ℓ : Loc Cert.Kernel6Ideal.nD Cert.Kernel6Ideal.τ Cert.Kernel6Ideal.sig) → Buf (Elt Ideal) ℓ)
    (h : Cert.Pre_Kernel6Ideal_conv_finite m) (c : Dev Cert.Kernel6Ideal.nD) :
    ∃ (y d : ℕ → ℕ → ℝ) (g b : ℕ → ℝ),
      (∀ (i : Fin 4096) (j : Fin 512), Cert.Reference6Ideal.Read.val_main_v230 (F := Ideal) (m ((c.tc : Thread Cert.Kernel6Ideal.nD Cert.Kernel6Ideal.τ).loc Cert.Kernel6Ideal.main_arg0))
          (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (ix2 i j) = (y i.val j.val : EReal))
      ∧ (∀ (i : Fin 4096) (j : Fin 1024), m ((c.tc : Thread Cert.Kernel6Ideal.nD Cert.Kernel6Ideal.τ).loc Cert.Kernel6Ideal.main_arg1) (ix2 i j) = (d i.val j.val : EReal))
      ∧ (∀ j : Fin 512, m ((c.tc : Thread Cert.Kernel6Ideal.nD Cert.Kernel6Ideal.τ).loc Cert.Kernel6Ideal.main_arg4) (ix1 j) = (g j.val : EReal))
      ∧ (∀ j : Fin 512, m ((c.tc : Thread Cert.Kernel6Ideal.nD Cert.Kernel6Ideal.τ).loc Cert.Kernel6Ideal.main_arg5) (ix1 j) = (b j.val : EReal)) := by
  have h := congrFun (h c) ix0
  unfold Cert.Pre_conv_finite.fn at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton Cert.Pre_conv_finite.S_.Idx := ⟨fun a b => funext fun x => x.elim0⟩
  obtain ⟨x, hx⟩ := Finite.reals2 (Finite.all _ _ (fun _ => by pointwise) _ _ _ _ h0)
  obtain ⟨d, hd⟩ := Finite.reals2 (Finite.all _ _ (fun _ => by pointwise) _ _ _ _ h1)
  obtain ⟨w, hw⟩ := Finite.reals2 (Finite.all _ _ (fun _ => by pointwise) _ _ _ _ h2)
  obtain ⟨p, hp⟩ := Finite.reals1 (Finite.all _ _ (fun _ => by pointwise) _ _ _ _ h3)
  obtain ⟨g, hg⟩ := Finite.reals1 (Finite.all _ _ (fun _ => by pointwise) _ _ _ _ h4)
  obtain ⟨b, hb⟩ := Finite.reals1 (Finite.all _ _ (fun _ => by pointwise) _ _ _ _ h5)
  have real := ConvReal.v230 (fun i j => ⟨_, hx i j⟩) (fun i j => ⟨_, hw i j⟩) (fun j => ⟨_, hp j⟩)
  obtain ⟨y, hy⟩ := Finite.reals2 (X := Cert.Reference6Ideal.Read.val_main_v230 (F := Ideal) (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) fun i => by
      idx_vars i
      obtain ⟨r, hr⟩ := real i0 i1
      rw [hr]
      exact ⟨EReal.coe_ne_top r, EReal.coe_ne_bot r⟩
  exact ⟨y, d, g, b, hy, hd, hg, hb⟩

/-- On finite arguments the kernel's results are the reference's. -/
theorem value : Cert.algebraic_Kernel6Ideal_Reference6Ideal_pre_conv_finite := by
  intro m ρ m' ρ' h ha
  let A (c : Dev Cert.Reference6Ideal.nD) (b : Ref Cert.Reference6Ideal.sig .tc) := m' ((c.tc : Thread Cert.Reference6Ideal.nD Cert.Reference6Ideal.τ).loc b)
  refine ⟨fun c => Cert.Reference6Ideal.Read.val_main_v298 (F := Ideal) (A c Cert.Reference6Ideal.main_arg0) (A c Cert.Reference6Ideal.main_arg1) (A c Cert.Reference6Ideal.main_arg2) (A c Cert.Reference6Ideal.main_arg3) (A c Cert.Reference6Ideal.main_arg4) (A c Cert.Reference6Ideal.main_arg5),
    fun c => Cert.Reference6Ideal.Read.val_main_v271 (F := Ideal) (A c Cert.Reference6Ideal.main_arg0) (A c Cert.Reference6Ideal.main_arg1) (A c Cert.Reference6Ideal.main_arg2) (A c Cert.Reference6Ideal.main_arg3) (A c Cert.Reference6Ideal.main_arg4) (A c Cert.Reference6Ideal.main_arg5),
    fun c => Cert.Reference6Ideal.Read.val_main_v265 (F := Ideal) (A c Cert.Reference6Ideal.main_arg0) (A c Cert.Reference6Ideal.main_arg1) (A c Cert.Reference6Ideal.main_arg2) (A c Cert.Reference6Ideal.main_arg3) (A c Cert.Reference6Ideal.main_arg4) (A c Cert.Reference6Ideal.main_arg5), ?_,
    (θ_run Cert.Reference6Ideal.defs _ _).mono (fun r h c => ⟨(h c).1.trans (Cert.Reference6Ideal.Read.val_main_v298_eq _),
      (h c).2.1.trans (Cert.Reference6Ideal.Read.val_main_v271_eq _), (h c).2.2.1.trans (Cert.Reference6Ideal.Read.val_main_v265_eq _), (h c).2.2.2⟩)
      (Cert.Reference6Ideal.Value.run (F := Ideal) m' ρ')⟩
  refine (θ_run Cert.Kernel6Ideal.defs _ _).mono (fun r hr c => ?_) (θ_run_and (Cert.Kernel6Ideal.Gen.run_main (F := Ideal) m ρ) (Cert.Kernel6Ideal.Gen.unchanged (F := Ideal) m ρ))
  obtain ⟨y, d, g, b, hy, hd, hg, hb⟩ := entries m h c
  obtain ⟨a0, a1, a2, a3, a4, a5⟩ := ha c
  have vy : ∀ (i : Fin 4096) (j : Fin 512), Cert.Kernel6Ideal.Gen.V m c Cert.Kernel6Ideal.main_v230 (ix2 i j) = (y i.val j.val : EReal) := fun i j =>
    (congrFun (ConvHost.y_host m c) _).trans (hy i j)
  have ky : ∀ (i : Fin 4096) (j : Fin 512), Cert.Reference6Ideal.Read.val_main_v230 (F := Ideal) (A c Cert.Reference6Ideal.main_arg0) (A c Cert.Reference6Ideal.main_arg2) (A c Cert.Reference6Ideal.main_arg3) (ix2 i j) = (y i.val j.val : EReal) := fun i j => by
    rw [show A c Cert.Reference6Ideal.main_arg0 = _ from a0, show A c Cert.Reference6Ideal.main_arg2 = _ from a2, show A c Cert.Reference6Ideal.main_arg3 = _ from a3]
    exact hy i j
  have kd : ∀ (i : Fin 4096) (j : Fin 1024), A c Cert.Reference6Ideal.main_arg1 (ix2 i j) = (d i.val j.val : EReal) := fun i j => (congrFun a1 _).trans (hd i j)
  have kg : ∀ j : Fin 512, A c Cert.Reference6Ideal.main_arg4 (ix1 j) = (g j.val : EReal) := fun j => (congrFun a4 _).trans (hg j)
  have kb : ∀ j : Fin 512, A c Cert.Reference6Ideal.main_arg5 (ix1 j) = (b j.val : EReal) := fun j => (congrFun a5 _).trans (hb j)
  refine ⟨((hr.1 c).2 Cert.Kernel6Ideal.main_v252 (Pipeline.mem_restRefs_of _ (by decide) (by decide))).trans ?_,
    ((hr.1 c).2 Cert.Kernel6Ideal.main_v254 (Pipeline.mem_restRefs_of _ (by decide) (by decide))).trans ?_,
    ((hr.1 c).2 Cert.Kernel6Ideal.main_v256 (Pipeline.mem_restRefs_of _ (by decide) (by decide))).trans ?_, hr.2 c⟩ <;> funext i <;> idx_vars i
  · exact (ConvKer.tail252 m c hd vy hg hb _).trans (ConvRef.v298 ky kg kb kd _).symm
  · exact (ConvKer.tail254 m c hd vy hg hb _).trans (ConvRef.v271 ky kg kb kd _).symm
  · exact (ConvKer.tail256 m c hd vy hg hb _).trans (ConvRef.v265 ky kg kb kd _).symm

end Cert.ConvClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_loss_finite
public import proofs.«01_k».proof.Proof.Gen.ReferenceIdeal.Run
public import proofs.«01_k».proof.Proof.Gen.ReferenceIdeal.Read
public import proofs.«01_k».proof.Proof.LossClaim
public import proofs.«01_k».proof.Proof.Gen.Pre_attn_finite
public import proofs.«01_k».proof.Proof.Gen.Kernel2
public import proofs.«01_k».proof.Proof.Gen.Kernel2Ideal
public import proofs.«01_k».proof.Proof.Gen.Reference2Ideal
public import proofs.«01_k».proof.Proof.AttnFrame
public import proofs.«01_k».proof.Proof.AttnSame
public import proofs.«01_k».proof.Proof.AttnClaim
public import proofs.«01_k».proof.Proof.Gen.Reference2Ideal.Run
public import proofs.«01_k».proof.Proof.Gen.Reference2Ideal.Read
public import proofs.«01_k».proof.Proof.Gen.Pre_ffn_finite
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.FfnClaim
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.FfnWClaim
public import proofs.«01_k».proof.Proof.Gen.Pre_mix_finite
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.MixClaim
public import proofs.«01_k».proof.Proof.ConvClaim
public import proofs.«01_k».proof.Proof.Gen.Pre_conv_finite
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_loss_finite.Gen.facts, Cert.Pre_attn_finite.Gen.facts, Cert.Pre_ffn_finite.Gen.facts, Cert.Pre_mix_finite.Gen.facts,
    Cert.Pre_conv_finite.Gen.facts,
    fun m ρ _ => Cert.Kernel.Gen.frame m ρ,
    fun m ρ _ => Cert.KernelIdeal.Gen.frame m ρ, fun m ρ _ => Cert.KernelIdeal.Gen.frame m ρ,
    Cert.LossClaim.frame_ri, fun m ρ _ => Cert.LossClaim.frame_ri m ρ trivial,
    Cert.Attn.frame_bits,
    fun m ρ _ => Cert.Attn.frame m ρ, fun m ρ _ => Cert.Attn.frame m ρ,
    Cert.AttnClaim.frame_ri, fun m ρ _ => Cert.AttnClaim.frame_ri m ρ trivial,
    fun m ρ _ => Cert.Kernel3.Gen.frame m ρ,
    fun m ρ _ => Cert.Kernel3Ideal.Gen.frame m ρ, fun m ρ _ => Cert.Kernel3Ideal.Gen.frame m ρ,
    Cert.FfnClaim.frame_ri, fun m ρ _ => Cert.FfnClaim.frame_ri m ρ trivial,
    fun m ρ _ => Cert.Kernel4.Gen.frame m ρ, fun m ρ _ => Cert.Kernel4Ideal.Gen.frame m ρ, Cert.FfnWClaim.frame_ri,
    fun m ρ _ => Cert.Kernel5.Gen.frame m ρ,
    fun m ρ _ => Cert.Kernel5Ideal.Gen.frame m ρ, fun m ρ _ => Cert.Kernel5Ideal.Gen.frame m ρ,
    Cert.MixClaim.frame_ri, fun m ρ _ => Cert.MixClaim.frame_ri m ρ trivial,
    fun m ρ _ => Cert.Kernel6.Gen.frame m ρ,
    fun m ρ _ => Cert.Kernel6Ideal.Gen.frame m ρ, fun m ρ _ => Cert.Kernel6Ideal.Gen.frame m ρ,
    Cert.ConvClaim.frame_ri, fun m ρ _ => Cert.ConvClaim.frame_ri m ρ trivial,
    trivial, Cert.LossClaim.value,
    trivial, Cert.AttnClaim.value,
    trivial, Cert.FfnClaim.value,
    trivial, Cert.FfnWClaim.value,
    trivial, Cert.MixClaim.value,
    trivial, Cert.ConvClaim.value⟩

end Cert.Proof

end
